-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qk [hPre_finite_qk : Cert.Pre_finite_qk.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qk.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite_qk.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qk [hPre_finite_qk : Cert.Pre_finite_qk.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qk.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite_qk.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_qk [hKernel3Ideal : Cert.Kernel3Ideal.Facts] [hPre_finite_qk : Cert.Pre_finite_qk.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qk m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_qk [hReference3Ideal : Cert.Reference3Ideal.Facts] [hPre_finite_qk : Cert.Pre_finite_qk.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qk m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38)
      ∧ r.2.mem ((c.tc : Thread Cert.Kernel11.nD Cert.Kernel11.τ).loc Cert.Kernel11.main_arg39) = m ((c.tc : Thread Cert.Kernel11.nD Cert.Kernel11.τ).loc Cert.Kernel11.main_arg39)
      ∧ r.2.mem ((c.tc : Thread Cert.Kernel11.nD Cert.Kernel11.τ).loc Cert.Kernel11.main_arg40) = m ((c.tc : Thread Cert.Kernel11.nD Cert.Kernel11.τ).loc Cert.Kernel11.main_arg40)
      ∧ r.2.mem ((c.tc : Thread Cert.Kernel11.nD Cert.Kernel11.τ).loc Cert.Kernel11.main_arg41) = m ((c.tc : Thread Cert.Kernel11.nD Cert.Kernel11.τ).loc Cert.Kernel11.main_arg41)
      ∧ r.2.mem ((c.tc : Thread Cert.Kernel11.nD Cert.Kernel11.τ).loc Cert.Kernel11.main_arg42) = m ((c.tc : Thread Cert.Kernel11.nD Cert.Kernel11.τ).loc Cert.Kernel11.main_arg42)
      ∧ r.2.mem ((c.tc : Thread Cert.Kernel11.nD Cert.Kernel11.τ).loc Cert.Kernel11.main_arg43) = m ((c.tc : Thread Cert.Kernel11.nD Cert.Kernel11.τ).loc Cert.Kernel11.main_arg43)
      ∧ r.2.mem ((c.tc : Thread Cert.Kernel11.nD Cert.Kernel11.τ).loc Cert.Kernel11.main_arg44) = m ((c.tc : Thread Cert.Kernel11.nD Cert.Kernel11.τ).loc Cert.Kernel11.main_arg44)
      ∧ r.2.mem ((c.tc : Thread Cert.Kernel11.nD Cert.Kernel11.τ).loc Cert.Kernel11.main_arg45) = m ((c.tc : Thread Cert.Kernel11.nD Cert.Kernel11.τ).loc Cert.Kernel11.main_arg45)
      ∧ r.2.mem ((c.tc : Thread Cert.Kernel11.nD Cert.Kernel11.τ).loc Cert.Kernel11.main_arg46) = m ((c.tc : Thread Cert.Kernel11.nD Cert.Kernel11.τ).loc Cert.Kernel11.main_arg46)
      ∧ r.2.mem ((c.tc : Thread Cert.Kernel11.nD Cert.Kernel11.τ).loc Cert.Kernel11.main_arg47) = m ((c.tc : Thread Cert.Kernel11.nD Cert.Kernel11.τ).loc Cert.Kernel11.main_arg47)
      ∧ r.2.mem ((c.tc : Thread Cert.Kernel11.nD Cert.Kernel11.τ).loc Cert.Kernel11.main_arg48) = m ((c.tc : Thread Cert.Kernel11.nD Cert.Kernel11.τ).loc Cert.Kernel11.main_arg48)
      ∧ r.2.mem ((c.tc : Thread Cert.Kernel11.nD Cert.Kernel11.τ).loc Cert.Kernel11.main_arg49) = m ((c.tc : Thread Cert.Kernel11.nD Cert.Kernel11.τ).loc Cert.Kernel11.main_arg49)
      ∧ r.2.mem ((c.tc : Thread Cert.Kernel11.nD Cert.Kernel11.τ).loc Cert.Kernel11.main_arg50) = m ((c.tc : Thread Cert.Kernel11.nD Cert.Kernel11.τ).loc Cert.Kernel11.main_arg50)
      ∧ r.2.mem ((c.tc : Thread Cert.Kernel11.nD Cert.Kernel11.τ).loc Cert.Kernel11.main_arg51) = m ((c.tc : Thread Cert.Kernel11.nD Cert.Kernel11.τ).loc Cert.Kernel11.main_arg51)
      ∧ r.2.mem ((c.tc : Thread Cert.Kernel11.nD Cert.Kernel11.τ).loc Cert.Kernel11.main_arg52) = m ((c.tc : Thread Cert.Kernel11.nD Cert.Kernel11.τ).loc Cert.Kernel11.main_arg52)
      ∧ r.2.mem ((c.tc : Thread Cert.Kernel11.nD Cert.Kernel11.τ).loc Cert.Kernel11.main_arg53) = m ((c.tc : Thread Cert.Kernel11.nD Cert.Kernel11.τ).loc Cert.Kernel11.main_arg53)
      ∧ r.2.mem ((c.tc : Thread Cert.Kernel11.nD Cert.Kernel11.τ).loc Cert.Kernel11.main_arg54) = m ((c.tc : Thread Cert.Kernel11.nD Cert.Kernel11.τ).loc Cert.Kernel11.main_arg54)
      ∧ r.2.mem ((c.tc : Thread Cert.Kernel11.nD Cert.Kernel11.τ).loc Cert.Kernel11.main_arg55) = m ((c.tc : Thread Cert.Kernel11.nD Cert.Kernel11.τ).loc Cert.Kernel11.main_arg55)
      ∧ r.2.mem ((c.tc : Thread Cert.Kernel11.nD Cert.Kernel11.τ).loc Cert.Kernel11.main_arg56) = m ((c.tc : Thread Cert.Kernel11.nD Cert.Kernel11.τ).loc Cert.Kernel11.main_arg56)
      ∧ r.2.mem ((c.tc : Thread Cert.Kernel11.nD Cert.Kernel11.τ).loc Cert.Kernel11.main_arg57) = m ((c.tc : Thread Cert.Kernel11.nD Cert.Kernel11.τ).loc Cert.Kernel11.main_arg57)
      ∧ r.2.mem ((c.tc : Thread Cert.Kernel11.nD Cert.Kernel11.τ).loc Cert.Kernel11.main_arg58) = m ((c.tc : Thread Cert.Kernel11.nD Cert.Kernel11.τ).loc Cert.Kernel11.main_arg58)
      ∧ r.2.mem ((c.tc : Thread Cert.Kernel11.nD Cert.Kernel11.τ).loc Cert.Kernel11.main_arg59) = m ((c.tc : Thread Cert.Kernel11.nD Cert.Kernel11.τ).loc Cert.Kernel11.main_arg59)
      ∧ r.2.mem ((c.tc : Thread Cert.Kernel11.nD Cert.Kernel11.τ).loc Cert.Kernel11.main_arg60) = m ((c.tc : Thread Cert.Kernel11.nD Cert.Kernel11.τ).loc Cert.Kernel11.main_arg60)
      ∧ r.2.mem ((c.tc : Thread Cert.Kernel11.nD Cert.Kernel11.τ).loc Cert.Kernel11.main_arg61) = m ((c.tc : Thread Cert.Kernel11.nD Cert.Kernel11.τ).loc Cert.Kernel11.main_arg61)
      ∧ r.2.mem ((c.tc : Thread Cert.Kernel11.nD Cert.Kernel11.τ).loc Cert.Kernel11.main_arg62) = m ((c.tc : Thread Cert.Kernel11.nD Cert.Kernel11.τ).loc Cert.Kernel11.main_arg62)
      ∧ r.2.mem ((c.tc : Thread Cert.Kernel11.nD Cert.Kernel11.τ).loc Cert.Kernel11.main_arg63) = m ((c.tc : Thread Cert.Kernel11.nD Cert.Kernel11.τ).loc Cert.Kernel11.main_arg63)
      ∧ r.2.mem ((c.tc : Thread Cert.Kernel11.nD Cert.Kernel11.τ).loc Cert.Kernel11.main_arg64) = m ((c.tc : Thread Cert.Kernel11.nD Cert.Kernel11.τ).loc Cert.Kernel11.main_arg64)
      ∧ r.2.mem ((c.tc : Thread Cert.Kernel11.nD Cert.Kernel11.τ).loc Cert.Kernel11.main_arg65) = m ((c.tc : Thread Cert.Kernel11.nD Cert.Kernel11.τ).loc Cert.Kernel11.main_arg65)
      ∧ r.2.mem ((c.tc : Thread Cert.Kernel11.nD Cert.Kernel11.τ).loc Cert.Kernel11.main_arg66) = m ((c.tc : Thread Cert.Kernel11.nD Cert.Kernel11.τ).loc Cert.Kernel11.main_arg66)
      ∧ r.2.mem ((c.tc : Thread Cert.Kernel11.nD Cert.Kernel11.τ).loc Cert.Kernel11.main_arg67) = m ((c.tc : Thread Cert.Kernel11.nD Cert.Kernel11.τ).loc Cert.Kernel11.main_arg67)
      ∧ r.2.mem ((c.tc : Thread Cert.Kernel11.nD Cert.Kernel11.τ).loc Cert.Kernel11.main_arg68) = m ((c.tc : Thread Cert.Kernel11.nD Cert.Kernel11.τ).loc Cert.Kernel11.main_arg68)
      ∧ r.2.mem ((c.tc : Thread Cert.Kernel11.nD Cert.Kernel11.τ).loc Cert.Kernel11.main_arg69) = m ((c.tc : Thread Cert.Kernel11.nD Cert.Kernel11.τ).loc Cert.Kernel11.main_arg69)
      ∧ r.2.mem ((c.tc : Thread Cert.Kernel11.nD Cert.Kernel11.τ).loc Cert.Kernel11.main_arg70) = m ((c.tc : Thread Cert.Kernel11.nD Cert.Kernel11.τ).loc Cert.Kernel11.main_arg70)
      ∧ r.2.mem ((c.tc : Thread Cert.Kernel11.nD Cert.Kernel11.τ).loc Cert.Kernel11.main_arg71) = m ((c.tc : Thread Cert.Kernel11.nD Cert.Kernel11.τ).loc Cert.Kernel11.main_arg71))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
      ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
      ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
      ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
      ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
      ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
      ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
      ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
      ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
      ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
      ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
      ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
      ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
      ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
      ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
      ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
      ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51)
      ∧ r.2.mem ((c.tc : Thread Cert.Kernel11Ideal.nD Cert.Kernel11Ideal.τ).loc Cert.Kernel11Ideal.main_arg52) = m ((c.tc : Thread Cert.Kernel11Ideal.nD Cert.Kernel11Ideal.τ).loc Cert.Kernel11Ideal.main_arg52)
      ∧ r.2.mem ((c.tc : Thread Cert.Kernel11Ideal.nD Cert.Kernel11Ideal.τ).loc Cert.Kernel11Ideal.main_arg53) = m ((c.tc : Thread Cert.Kernel11Ideal.nD Cert.Kernel11Ideal.τ).loc Cert.Kernel11Ideal.main_arg53)
      ∧ r.2.mem ((c.tc : Thread Cert.Kernel11Ideal.nD Cert.Kernel11Ideal.τ).loc Cert.Kernel11Ideal.main_arg54) = m ((c.tc : Thread Cert.Kernel11Ideal.nD Cert.Kernel11Ideal.τ).loc Cert.Kernel11Ideal.main_arg54)
      ∧ r.2.mem ((c.tc : Thread Cert.Kernel11Ideal.nD Cert.Kernel11Ideal.τ).loc Cert.Kernel11Ideal.main_arg55) = m ((c.tc : Thread Cert.Kernel11Ideal.nD Cert.Kernel11Ideal.τ).loc Cert.Kernel11Ideal.main_arg55)
      ∧ r.2.mem ((c.tc : Thread Cert.Kernel11Ideal.nD Cert.Kernel11Ideal.τ).loc Cert.Kernel11Ideal.main_arg56) = m ((c.tc : Thread Cert.Kernel11Ideal.nD Cert.Kernel11Ideal.τ).loc Cert.Kernel11Ideal.main_arg56)
      ∧ r.2.mem ((c.tc : Thread Cert.Kernel11Ideal.nD Cert.Kernel11Ideal.τ).loc Cert.Kernel11Ideal.main_arg57) = m ((c.tc : Thread Cert.Kernel11Ideal.nD Cert.Kernel11Ideal.τ).loc Cert.Kernel11Ideal.main_arg57)
      ∧ r.2.mem ((c.tc : Thread Cert.Kernel11Ideal.nD Cert.Kernel11Ideal.τ).loc Cert.Kernel11Ideal.main_arg58) = m ((c.tc : Thread Cert.Kernel11Ideal.nD Cert.Kernel11Ideal.τ).loc Cert.Kernel11Ideal.main_arg58)
      ∧ r.2.mem ((c.tc : Thread Cert.Kernel11Ideal.nD Cert.Kernel11Ideal.τ).loc Cert.Kernel11Ideal.main_arg59) = m ((c.tc : Thread Cert.Kernel11Ideal.nD Cert.Kernel11Ideal.τ).loc Cert.Kernel11Ideal.main_arg59)
      ∧ r.2.mem ((c.tc : Thread Cert.Kernel11Ideal.nD Cert.Kernel11Ideal.τ).loc Cert.Kernel11Ideal.main_arg60) = m ((c.tc : Thread Cert.Kernel11Ideal.nD Cert.Kernel11Ideal.τ).loc Cert.Kernel11Ideal.main_arg60)
      ∧ r.2.mem ((c.tc : Thread Cert.Kernel11Ideal.nD Cert.Kernel11Ideal.τ).loc Cert.Kernel11Ideal.main_arg61) = m ((c.tc : Thread Cert.Kernel11Ideal.nD Cert.Kernel11Ideal.τ).loc Cert.Kernel11Ideal.main_arg61)
      ∧ r.2.mem ((c.tc : Thread Cert.Kernel11Ideal.nD Cert.Kernel11Ideal.τ).loc Cert.Kernel11Ideal.main_arg62) = m ((c.tc : Thread Cert.Kernel11Ideal.nD Cert.Kernel11Ideal.τ).loc Cert.Kernel11Ideal.main_arg62)
      ∧ r.2.mem ((c.tc : Thread Cert.Kernel11Ideal.nD Cert.Kernel11Ideal.τ).loc Cert.Kernel11Ideal.main_arg63) = m ((c.tc : Thread Cert.Kernel11Ideal.nD Cert.Kernel11Ideal.τ).loc Cert.Kernel11Ideal.main_arg63)
      ∧ r.2.mem ((c.tc : Thread Cert.Kernel11Ideal.nD Cert.Kernel11Ideal.τ).loc Cert.Kernel11Ideal.main_arg64) = m ((c.tc : Thread Cert.Kernel11Ideal.nD Cert.Kernel11Ideal.τ).loc Cert.Kernel11Ideal.main_arg64)
      ∧ r.2.mem ((c.tc : Thread Cert.Kernel11Ideal.nD Cert.Kernel11Ideal.τ).loc Cert.Kernel11Ideal.main_arg65) = m ((c.tc : Thread Cert.Kernel11Ideal.nD Cert.Kernel11Ideal.τ).loc Cert.Kernel11Ideal.main_arg65)
      ∧ r.2.mem ((c.tc : Thread Cert.Kernel11Ideal.nD Cert.Kernel11Ideal.τ).loc Cert.Kernel11Ideal.main_arg66) = m ((c.tc : Thread Cert.Kernel11Ideal.nD Cert.Kernel11Ideal.τ).loc Cert.Kernel11Ideal.main_arg66)
      ∧ r.2.mem ((c.tc : Thread Cert.Kernel11Ideal.nD Cert.Kernel11Ideal.τ).loc Cert.Kernel11Ideal.main_arg67) = m ((c.tc : Thread Cert.Kernel11Ideal.nD Cert.Kernel11Ideal.τ).loc Cert.Kernel11Ideal.main_arg67)
      ∧ r.2.mem ((c.tc : Thread Cert.Kernel11Ideal.nD Cert.Kernel11Ideal.τ).loc Cert.Kernel11Ideal.main_arg68) = m ((c.tc : Thread Cert.Kernel11Ideal.nD Cert.Kernel11Ideal.τ).loc Cert.Kernel11Ideal.main_arg68)
      ∧ r.2.mem ((c.tc : Thread Cert.Kernel11Ideal.nD Cert.Kernel11Ideal.τ).loc Cert.Kernel11Ideal.main_arg69) = m ((c.tc : Thread Cert.Kernel11Ideal.nD Cert.Kernel11Ideal.τ).loc Cert.Kernel11Ideal.main_arg69)
      ∧ r.2.mem ((c.tc : Thread Cert.Kernel11Ideal.nD Cert.Kernel11Ideal.τ).loc Cert.Kernel11Ideal.main_arg70) = m ((c.tc : Thread Cert.Kernel11Ideal.nD Cert.Kernel11Ideal.τ).loc Cert.Kernel11Ideal.main_arg70)
      ∧ r.2.mem ((c.tc : Thread Cert.Kernel11Ideal.nD Cert.Kernel11Ideal.τ).loc Cert.Kernel11Ideal.main_arg71) = m ((c.tc : Thread Cert.Kernel11Ideal.nD Cert.Kernel11Ideal.τ).loc Cert.Kernel11Ideal.main_arg71))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35)
      ∧ r.2.mem ((c.tc : Thread Cert.Reference11Ideal.nD Cert.Reference11Ideal.τ).loc Cert.Reference11Ideal.main_arg36) = m ((c.tc : Thread Cert.Reference11Ideal.nD Cert.Reference11Ideal.τ).loc Cert.Reference11Ideal.main_arg36)
      ∧ r.2.mem ((c.tc : Thread Cert.Reference11Ideal.nD Cert.Reference11Ideal.τ).loc Cert.Reference11Ideal.main_arg37) = m ((c.tc : Thread Cert.Reference11Ideal.nD Cert.Reference11Ideal.τ).loc Cert.Reference11Ideal.main_arg37)
      ∧ r.2.mem ((c.tc : Thread Cert.Reference11Ideal.nD Cert.Reference11Ideal.τ).loc Cert.Reference11Ideal.main_arg38) = m ((c.tc : Thread Cert.Reference11Ideal.nD Cert.Reference11Ideal.τ).loc Cert.Reference11Ideal.main_arg38)
      ∧ r.2.mem ((c.tc : Thread Cert.Reference11Ideal.nD Cert.Reference11Ideal.τ).loc Cert.Reference11Ideal.main_arg39) = m ((c.tc : Thread Cert.Reference11Ideal.nD Cert.Reference11Ideal.τ).loc Cert.Reference11Ideal.main_arg39)
      ∧ r.2.mem ((c.tc : Thread Cert.Reference11Ideal.nD Cert.Reference11Ideal.τ).loc Cert.Reference11Ideal.main_arg40) = m ((c.tc : Thread Cert.Reference11Ideal.nD Cert.Reference11Ideal.τ).loc Cert.Reference11Ideal.main_arg40)
      ∧ r.2.mem ((c.tc : Thread Cert.Reference11Ideal.nD Cert.Reference11Ideal.τ).loc Cert.Reference11Ideal.main_arg41) = m ((c.tc : Thread Cert.Reference11Ideal.nD Cert.Reference11Ideal.τ).loc Cert.Reference11Ideal.main_arg41)
      ∧ r.2.mem ((c.tc : Thread Cert.Reference11Ideal.nD Cert.Reference11Ideal.τ).loc Cert.Reference11Ideal.main_arg42) = m ((c.tc : Thread Cert.Reference11Ideal.nD Cert.Reference11Ideal.τ).loc Cert.Reference11Ideal.main_arg42)
      ∧ r.2.mem ((c.tc : Thread Cert.Reference11Ideal.nD Cert.Reference11Ideal.τ).loc Cert.Reference11Ideal.main_arg43) = m ((c.tc : Thread Cert.Reference11Ideal.nD Cert.Reference11Ideal.τ).loc Cert.Reference11Ideal.main_arg43)
      ∧ r.2.mem ((c.tc : Thread Cert.Reference11Ideal.nD Cert.Reference11Ideal.τ).loc Cert.Reference11Ideal.main_arg44) = m ((c.tc : Thread Cert.Reference11Ideal.nD Cert.Reference11Ideal.τ).loc Cert.Reference11Ideal.main_arg44)
      ∧ r.2.mem ((c.tc : Thread Cert.Reference11Ideal.nD Cert.Reference11Ideal.τ).loc Cert.Reference11Ideal.main_arg45) = m ((c.tc : Thread Cert.Reference11Ideal.nD Cert.Reference11Ideal.τ).loc Cert.Reference11Ideal.main_arg45)
      ∧ r.2.mem ((c.tc : Thread Cert.Reference11Ideal.nD Cert.Reference11Ideal.τ).loc Cert.Reference11Ideal.main_arg46) = m ((c.tc : Thread Cert.Reference11Ideal.nD Cert.Reference11Ideal.τ).loc Cert.Reference11Ideal.main_arg46)
      ∧ r.2.mem ((c.tc : Thread Cert.Reference11Ideal.nD Cert.Reference11Ideal.τ).loc Cert.Reference11Ideal.main_arg47) = m ((c.tc : Thread Cert.Reference11Ideal.nD Cert.Reference11Ideal.τ).loc Cert.Reference11Ideal.main_arg47)
      ∧ r.2.mem ((c.tc : Thread Cert.Reference11Ideal.nD Cert.Reference11Ideal.τ).loc Cert.Reference11Ideal.main_arg48) = m ((c.tc : Thread Cert.Reference11Ideal.nD Cert.Reference11Ideal.τ).loc Cert.Reference11Ideal.main_arg48)
      ∧ r.2.mem ((c.tc : Thread Cert.Reference11Ideal.nD Cert.Reference11Ideal.τ).loc Cert.Reference11Ideal.main_arg49) = m ((c.tc : Thread Cert.Reference11Ideal.nD Cert.Reference11Ideal.τ).loc Cert.Reference11Ideal.main_arg49)
      ∧ r.2.mem ((c.tc : Thread Cert.Reference11Ideal.nD Cert.Reference11Ideal.τ).loc Cert.Reference11Ideal.main_arg50) = m ((c.tc : Thread Cert.Reference11Ideal.nD Cert.Reference11Ideal.τ).loc Cert.Reference11Ideal.main_arg50)
      ∧ r.2.mem ((c.tc : Thread Cert.Reference11Ideal.nD Cert.Reference11Ideal.τ).loc Cert.Reference11Ideal.main_arg51) = m ((c.tc : Thread Cert.Reference11Ideal.nD Cert.Reference11Ideal.τ).loc Cert.Reference11Ideal.main_arg51)
      ∧ r.2.mem ((c.tc : Thread Cert.Reference11Ideal.nD Cert.Reference11Ideal.τ).loc Cert.Reference11Ideal.main_arg52) = m ((c.tc : Thread Cert.Reference11Ideal.nD Cert.Reference11Ideal.τ).loc Cert.Reference11Ideal.main_arg52)
      ∧ r.2.mem ((c.tc : Thread Cert.Reference11Ideal.nD Cert.Reference11Ideal.τ).loc Cert.Reference11Ideal.main_arg53) = m ((c.tc : Thread Cert.Reference11Ideal.nD Cert.Reference11Ideal.τ).loc Cert.Reference11Ideal.main_arg53)
      ∧ r.2.mem ((c.tc : Thread Cert.Reference11Ideal.nD Cert.Reference11Ideal.τ).loc Cert.Reference11Ideal.main_arg54) = m ((c.tc : Thread Cert.Reference11Ideal.nD Cert.Reference11Ideal.τ).loc Cert.Reference11Ideal.main_arg54)
      ∧ r.2.mem ((c.tc : Thread Cert.Reference11Ideal.nD Cert.Reference11Ideal.τ).loc Cert.Reference11Ideal.main_arg55) = m ((c.tc : Thread Cert.Reference11Ideal.nD Cert.Reference11Ideal.τ).loc Cert.Reference11Ideal.main_arg55)
      ∧ r.2.mem ((c.tc : Thread Cert.Reference11Ideal.nD Cert.Reference11Ideal.τ).loc Cert.Reference11Ideal.main_arg56) = m ((c.tc : Thread Cert.Reference11Ideal.nD Cert.Reference11Ideal.τ).loc Cert.Reference11Ideal.main_arg56)
      ∧ r.2.mem ((c.tc : Thread Cert.Reference11Ideal.nD Cert.Reference11Ideal.τ).loc Cert.Reference11Ideal.main_arg57) = m ((c.tc : Thread Cert.Reference11Ideal.nD Cert.Reference11Ideal.τ).loc Cert.Reference11Ideal.main_arg57)
      ∧ r.2.mem ((c.tc : Thread Cert.Reference11Ideal.nD Cert.Reference11Ideal.τ).loc Cert.Reference11Ideal.main_arg58) = m ((c.tc : Thread Cert.Reference11Ideal.nD Cert.Reference11Ideal.τ).loc Cert.Reference11Ideal.main_arg58)
      ∧ r.2.mem ((c.tc : Thread Cert.Reference11Ideal.nD Cert.Reference11Ideal.τ).loc Cert.Reference11Ideal.main_arg59) = m ((c.tc : Thread Cert.Reference11Ideal.nD Cert.Reference11Ideal.τ).loc Cert.Reference11Ideal.main_arg59)
      ∧ r.2.mem ((c.tc : Thread Cert.Reference11Ideal.nD Cert.Reference11Ideal.τ).loc Cert.Reference11Ideal.main_arg60) = m ((c.tc : Thread Cert.Reference11Ideal.nD Cert.Reference11Ideal.τ).loc Cert.Reference11Ideal.main_arg60)
      ∧ r.2.mem ((c.tc : Thread Cert.Reference11Ideal.nD Cert.Reference11Ideal.τ).loc Cert.Reference11Ideal.main_arg61) = m ((c.tc : Thread Cert.Reference11Ideal.nD Cert.Reference11Ideal.τ).loc Cert.Reference11Ideal.main_arg61)
      ∧ r.2.mem ((c.tc : Thread Cert.Reference11Ideal.nD Cert.Reference11Ideal.τ).loc Cert.Reference11Ideal.main_arg62) = m ((c.tc : Thread Cert.Reference11Ideal.nD Cert.Reference11Ideal.τ).loc Cert.Reference11Ideal.main_arg62)
      ∧ r.2.mem ((c.tc : Thread Cert.Reference11Ideal.nD Cert.Reference11Ideal.τ).loc Cert.Reference11Ideal.main_arg63) = m ((c.tc : Thread Cert.Reference11Ideal.nD Cert.Reference11Ideal.τ).loc Cert.Reference11Ideal.main_arg63)
      ∧ r.2.mem ((c.tc : Thread Cert.Reference11Ideal.nD Cert.Reference11Ideal.τ).loc Cert.Reference11Ideal.main_arg64) = m ((c.tc : Thread Cert.Reference11Ideal.nD Cert.Reference11Ideal.τ).loc Cert.Reference11Ideal.main_arg64)
      ∧ r.2.mem ((c.tc : Thread Cert.Reference11Ideal.nD Cert.Reference11Ideal.τ).loc Cert.Reference11Ideal.main_arg65) = m ((c.tc : Thread Cert.Reference11Ideal.nD Cert.Reference11Ideal.τ).loc Cert.Reference11Ideal.main_arg65)
      ∧ r.2.mem ((c.tc : Thread Cert.Reference11Ideal.nD Cert.Reference11Ideal.τ).loc Cert.Reference11Ideal.main_arg66) = m ((c.tc : Thread Cert.Reference11Ideal.nD Cert.Reference11Ideal.τ).loc Cert.Reference11Ideal.main_arg66)
      ∧ r.2.mem ((c.tc : Thread Cert.Reference11Ideal.nD Cert.Reference11Ideal.τ).loc Cert.Reference11Ideal.main_arg67) = m ((c.tc : Thread Cert.Reference11Ideal.nD Cert.Reference11Ideal.τ).loc Cert.Reference11Ideal.main_arg67)
      ∧ r.2.mem ((c.tc : Thread Cert.Reference11Ideal.nD Cert.Reference11Ideal.τ).loc Cert.Reference11Ideal.main_arg68) = m ((c.tc : Thread Cert.Reference11Ideal.nD Cert.Reference11Ideal.τ).loc Cert.Reference11Ideal.main_arg68)
      ∧ r.2.mem ((c.tc : Thread Cert.Reference11Ideal.nD Cert.Reference11Ideal.τ).loc Cert.Reference11Ideal.main_arg69) = m ((c.tc : Thread Cert.Reference11Ideal.nD Cert.Reference11Ideal.τ).loc Cert.Reference11Ideal.main_arg69)
      ∧ r.2.mem ((c.tc : Thread Cert.Reference11Ideal.nD Cert.Reference11Ideal.τ).loc Cert.Reference11Ideal.main_arg70) = m ((c.tc : Thread Cert.Reference11Ideal.nD Cert.Reference11Ideal.τ).loc Cert.Reference11Ideal.main_arg70)
      ∧ r.2.mem ((c.tc : Thread Cert.Reference11Ideal.nD Cert.Reference11Ideal.τ).loc Cert.Reference11Ideal.main_arg71) = m ((c.tc : Thread Cert.Reference11Ideal.nD Cert.Reference11Ideal.τ).loc Cert.Reference11Ideal.main_arg71))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_qk [hKernel3Ideal : Cert.Kernel3Ideal.Facts] [hReference3Ideal : Cert.Reference3Ideal.Facts] [hPre_finite_qk : Cert.Pre_finite_qk.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qk m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v34)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)
      ∧ m' ((c.tc : Thread Cert.Reference11Ideal.nD Cert.Reference11Ideal.τ).loc Cert.Reference11Ideal.main_arg36) = m ((c.tc : Thread Cert.Kernel11Ideal.nD Cert.Kernel11Ideal.τ).loc Cert.Kernel11Ideal.main_arg36)
      ∧ m' ((c.tc : Thread Cert.Reference11Ideal.nD Cert.Reference11Ideal.τ).loc Cert.Reference11Ideal.main_arg37) = m ((c.tc : Thread Cert.Kernel11Ideal.nD Cert.Kernel11Ideal.τ).loc Cert.Kernel11Ideal.main_arg37)
      ∧ m' ((c.tc : Thread Cert.Reference11Ideal.nD Cert.Reference11Ideal.τ).loc Cert.Reference11Ideal.main_arg38) = m ((c.tc : Thread Cert.Kernel11Ideal.nD Cert.Kernel11Ideal.τ).loc Cert.Kernel11Ideal.main_arg38)
      ∧ m' ((c.tc : Thread Cert.Reference11Ideal.nD Cert.Reference11Ideal.τ).loc Cert.Reference11Ideal.main_arg39) = m ((c.tc : Thread Cert.Kernel11Ideal.nD Cert.Kernel11Ideal.τ).loc Cert.Kernel11Ideal.main_arg39)
      ∧ m' ((c.tc : Thread Cert.Reference11Ideal.nD Cert.Reference11Ideal.τ).loc Cert.Reference11Ideal.main_arg40) = m ((c.tc : Thread Cert.Kernel11Ideal.nD Cert.Kernel11Ideal.τ).loc Cert.Kernel11Ideal.main_arg40)
      ∧ m' ((c.tc : Thread Cert.Reference11Ideal.nD Cert.Reference11Ideal.τ).loc Cert.Reference11Ideal.main_arg41) = m ((c.tc : Thread Cert.Kernel11Ideal.nD Cert.Kernel11Ideal.τ).loc Cert.Kernel11Ideal.main_arg41)
      ∧ m' ((c.tc : Thread Cert.Reference11Ideal.nD Cert.Reference11Ideal.τ).loc Cert.Reference11Ideal.main_arg42) = m ((c.tc : Thread Cert.Kernel11Ideal.nD Cert.Kernel11Ideal.τ).loc Cert.Kernel11Ideal.main_arg42)
      ∧ m' ((c.tc : Thread Cert.Reference11Ideal.nD Cert.Reference11Ideal.τ).loc Cert.Reference11Ideal.main_arg43) = m ((c.tc : Thread Cert.Kernel11Ideal.nD Cert.Kernel11Ideal.τ).loc Cert.Kernel11Ideal.main_arg43)
      ∧ m' ((c.tc : Thread Cert.Reference11Ideal.nD Cert.Reference11Ideal.τ).loc Cert.Reference11Ideal.main_arg44) = m ((c.tc : Thread Cert.Kernel11Ideal.nD Cert.Kernel11Ideal.τ).loc Cert.Kernel11Ideal.main_arg44)
      ∧ m' ((c.tc : Thread Cert.Reference11Ideal.nD Cert.Reference11Ideal.τ).loc Cert.Reference11Ideal.main_arg45) = m ((c.tc : Thread Cert.Kernel11Ideal.nD Cert.Kernel11Ideal.τ).loc Cert.Kernel11Ideal.main_arg45)
      ∧ m' ((c.tc : Thread Cert.Reference11Ideal.nD Cert.Reference11Ideal.τ).loc Cert.Reference11Ideal.main_arg46) = m ((c.tc : Thread Cert.Kernel11Ideal.nD Cert.Kernel11Ideal.τ).loc Cert.Kernel11Ideal.main_arg46)
      ∧ m' ((c.tc : Thread Cert.Reference11Ideal.nD Cert.Reference11Ideal.τ).loc Cert.Reference11Ideal.main_arg47) = m ((c.tc : Thread Cert.Kernel11Ideal.nD Cert.Kernel11Ideal.τ).loc Cert.Kernel11Ideal.main_arg47)
      ∧ m' ((c.tc : Thread Cert.Reference11Ideal.nD Cert.Reference11Ideal.τ).loc Cert.Reference11Ideal.main_arg48) = m ((c.tc : Thread Cert.Kernel11Ideal.nD Cert.Kernel11Ideal.τ).loc Cert.Kernel11Ideal.main_arg48)
      ∧ m' ((c.tc : Thread Cert.Reference11Ideal.nD Cert.Reference11Ideal.τ).loc Cert.Reference11Ideal.main_arg49) = m ((c.tc : Thread Cert.Kernel11Ideal.nD Cert.Kernel11Ideal.τ).loc Cert.Kernel11Ideal.main_arg49)
      ∧ m' ((c.tc : Thread Cert.Reference11Ideal.nD Cert.Reference11Ideal.τ).loc Cert.Reference11Ideal.main_arg50) = m ((c.tc : Thread Cert.Kernel11Ideal.nD Cert.Kernel11Ideal.τ).loc Cert.Kernel11Ideal.main_arg50)
      ∧ m' ((c.tc : Thread Cert.Reference11Ideal.nD Cert.Reference11Ideal.τ).loc Cert.Reference11Ideal.main_arg51) = m ((c.tc : Thread Cert.Kernel11Ideal.nD Cert.Kernel11Ideal.τ).loc Cert.Kernel11Ideal.main_arg51)
      ∧ m' ((c.tc : Thread Cert.Reference11Ideal.nD Cert.Reference11Ideal.τ).loc Cert.Reference11Ideal.main_arg52) = m ((c.tc : Thread Cert.Kernel11Ideal.nD Cert.Kernel11Ideal.τ).loc Cert.Kernel11Ideal.main_arg52)
      ∧ m' ((c.tc : Thread Cert.Reference11Ideal.nD Cert.Reference11Ideal.τ).loc Cert.Reference11Ideal.main_arg53) = m ((c.tc : Thread Cert.Kernel11Ideal.nD Cert.Kernel11Ideal.τ).loc Cert.Kernel11Ideal.main_arg53)
      ∧ m' ((c.tc : Thread Cert.Reference11Ideal.nD Cert.Reference11Ideal.τ).loc Cert.Reference11Ideal.main_arg54) = m ((c.tc : Thread Cert.Kernel11Ideal.nD Cert.Kernel11Ideal.τ).loc Cert.Kernel11Ideal.main_arg54)
      ∧ m' ((c.tc : Thread Cert.Reference11Ideal.nD Cert.Reference11Ideal.τ).loc Cert.Reference11Ideal.main_arg55) = m ((c.tc : Thread Cert.Kernel11Ideal.nD Cert.Kernel11Ideal.τ).loc Cert.Kernel11Ideal.main_arg55)
      ∧ m' ((c.tc : Thread Cert.Reference11Ideal.nD Cert.Reference11Ideal.τ).loc Cert.Reference11Ideal.main_arg56) = m ((c.tc : Thread Cert.Kernel11Ideal.nD Cert.Kernel11Ideal.τ).loc Cert.Kernel11Ideal.main_arg56)
      ∧ m' ((c.tc : Thread Cert.Reference11Ideal.nD Cert.Reference11Ideal.τ).loc Cert.Reference11Ideal.main_arg57) = m ((c.tc : Thread Cert.Kernel11Ideal.nD Cert.Kernel11Ideal.τ).loc Cert.Kernel11Ideal.main_arg57)
      ∧ m' ((c.tc : Thread Cert.Reference11Ideal.nD Cert.Reference11Ideal.τ).loc Cert.Reference11Ideal.main_arg58) = m ((c.tc : Thread Cert.Kernel11Ideal.nD Cert.Kernel11Ideal.τ).loc Cert.Kernel11Ideal.main_arg58)
      ∧ m' ((c.tc : Thread Cert.Reference11Ideal.nD Cert.Reference11Ideal.τ).loc Cert.Reference11Ideal.main_arg59) = m ((c.tc : Thread Cert.Kernel11Ideal.nD Cert.Kernel11Ideal.τ).loc Cert.Kernel11Ideal.main_arg59)
      ∧ m' ((c.tc : Thread Cert.Reference11Ideal.nD Cert.Reference11Ideal.τ).loc Cert.Reference11Ideal.main_arg60) = m ((c.tc : Thread Cert.Kernel11Ideal.nD Cert.Kernel11Ideal.τ).loc Cert.Kernel11Ideal.main_arg60)
      ∧ m' ((c.tc : Thread Cert.Reference11Ideal.nD Cert.Reference11Ideal.τ).loc Cert.Reference11Ideal.main_arg61) = m ((c.tc : Thread Cert.Kernel11Ideal.nD Cert.Kernel11Ideal.τ).loc Cert.Kernel11Ideal.main_arg61)
      ∧ m' ((c.tc : Thread Cert.Reference11Ideal.nD Cert.Reference11Ideal.τ).loc Cert.Reference11Ideal.main_arg62) = m ((c.tc : Thread Cert.Kernel11Ideal.nD Cert.Kernel11Ideal.τ).loc Cert.Kernel11Ideal.main_arg62)
      ∧ m' ((c.tc : Thread Cert.Reference11Ideal.nD Cert.Reference11Ideal.τ).loc Cert.Reference11Ideal.main_arg63) = m ((c.tc : Thread Cert.Kernel11Ideal.nD Cert.Kernel11Ideal.τ).loc Cert.Kernel11Ideal.main_arg63)
      ∧ m' ((c.tc : Thread Cert.Reference11Ideal.nD Cert.Reference11Ideal.τ).loc Cert.Reference11Ideal.main_arg64) = m ((c.tc : Thread Cert.Kernel11Ideal.nD Cert.Kernel11Ideal.τ).loc Cert.Kernel11Ideal.main_arg64)
      ∧ m' ((c.tc : Thread Cert.Reference11Ideal.nD Cert.Reference11Ideal.τ).loc Cert.Reference11Ideal.main_arg65) = m ((c.tc : Thread Cert.Kernel11Ideal.nD Cert.Kernel11Ideal.τ).loc Cert.Kernel11Ideal.main_arg65)
      ∧ m' ((c.tc : Thread Cert.Reference11Ideal.nD Cert.Reference11Ideal.τ).loc Cert.Reference11Ideal.main_arg66) = m ((c.tc : Thread Cert.Kernel11Ideal.nD Cert.Kernel11Ideal.τ).loc Cert.Kernel11Ideal.main_arg66)
      ∧ m' ((c.tc : Thread Cert.Reference11Ideal.nD Cert.Reference11Ideal.τ).loc Cert.Reference11Ideal.main_arg67) = m ((c.tc : Thread Cert.Kernel11Ideal.nD Cert.Kernel11Ideal.τ).loc Cert.Kernel11Ideal.main_arg67)
      ∧ m' ((c.tc : Thread Cert.Reference11Ideal.nD Cert.Reference11Ideal.τ).loc Cert.Reference11Ideal.main_arg68) = m ((c.tc : Thread Cert.Kernel11Ideal.nD Cert.Kernel11Ideal.τ).loc Cert.Kernel11Ideal.main_arg68)
      ∧ m' ((c.tc : Thread Cert.Reference11Ideal.nD Cert.Reference11Ideal.τ).loc Cert.Reference11Ideal.main_arg69) = m ((c.tc : Thread Cert.Kernel11Ideal.nD Cert.Kernel11Ideal.τ).loc Cert.Kernel11Ideal.main_arg69)
      ∧ m' ((c.tc : Thread Cert.Reference11Ideal.nD Cert.Reference11Ideal.τ).loc Cert.Reference11Ideal.main_arg70) = m ((c.tc : Thread Cert.Kernel11Ideal.nD Cert.Kernel11Ideal.τ).loc Cert.Kernel11Ideal.main_arg70)
      ∧ m' ((c.tc : Thread Cert.Reference11Ideal.nD Cert.Reference11Ideal.τ).loc Cert.Reference11Ideal.main_arg71) = m ((c.tc : Thread Cert.Kernel11Ideal.nD Cert.Kernel11Ideal.τ).loc Cert.Kernel11Ideal.main_arg71)) →
    ∃ (v0 : (c : Dev Cert.Kernel11Ideal.nD) → Buf (Elt Ideal) ((c.tc : Thread Cert.Kernel11Ideal.nD Cert.Kernel11Ideal.τ).loc Cert.Kernel11Ideal.main_v88_0)) (v1 : (c : Dev Cert.Kernel11Ideal.nD) → Buf (Elt Ideal) ((c.tc : Thread Cert.Kernel11Ideal.nD Cert.Kernel11Ideal.τ).loc Cert.Kernel11Ideal.main_v88_1)) (v2 : (c : Dev Cert.Kernel11Ideal.nD) → Buf (Elt Ideal) ((c.tc : Thread Cert.Kernel11Ideal.nD Cert.Kernel11Ideal.τ).loc Cert.Kernel11Ideal.main_v88_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v88_0) = v0 c
          ∧ r.2.mem ((c.tc : Thread Cert.Kernel11Ideal.nD Cert.Kernel11Ideal.τ).loc Cert.Kernel11Ideal.main_v88_1) = v1 c
          ∧ r.2.mem ((c.tc : Thread Cert.Kernel11Ideal.nD Cert.Kernel11Ideal.τ).loc Cert.Kernel11Ideal.main_v88_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
          ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
          ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
          ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
          ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
          ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
          ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
          ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
          ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
          ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
          ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
          ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
          ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
          ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
          ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
          ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
          ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51)
          ∧ r.2.mem ((c.tc : Thread Cert.Kernel11Ideal.nD Cert.Kernel11Ideal.τ).loc Cert.Kernel11Ideal.main_arg52) = m ((c.tc : Thread Cert.Kernel11Ideal.nD Cert.Kernel11Ideal.τ).loc Cert.Kernel11Ideal.main_arg52)
          ∧ r.2.mem ((c.tc : Thread Cert.Kernel11Ideal.nD Cert.Kernel11Ideal.τ).loc Cert.Kernel11Ideal.main_arg53) = m ((c.tc : Thread Cert.Kernel11Ideal.nD Cert.Kernel11Ideal.τ).loc Cert.Kernel11Ideal.main_arg53)
          ∧ r.2.mem ((c.tc : Thread Cert.Kernel11Ideal.nD Cert.Kernel11Ideal.τ).loc Cert.Kernel11Ideal.main_arg54) = m ((c.tc : Thread Cert.Kernel11Ideal.nD Cert.Kernel11Ideal.τ).loc Cert.Kernel11Ideal.main_arg54)
          ∧ r.2.mem ((c.tc : Thread Cert.Kernel11Ideal.nD Cert.Kernel11Ideal.τ).loc Cert.Kernel11Ideal.main_arg55) = m ((c.tc : Thread Cert.Kernel11Ideal.nD Cert.Kernel11Ideal.τ).loc Cert.Kernel11Ideal.main_arg55)
          ∧ r.2.mem ((c.tc : Thread Cert.Kernel11Ideal.nD Cert.Kernel11Ideal.τ).loc Cert.Kernel11Ideal.main_arg56) = m ((c.tc : Thread Cert.Kernel11Ideal.nD Cert.Kernel11Ideal.τ).loc Cert.Kernel11Ideal.main_arg56)
          ∧ r.2.mem ((c.tc : Thread Cert.Kernel11Ideal.nD Cert.Kernel11Ideal.τ).loc Cert.Kernel11Ideal.main_arg57) = m ((c.tc : Thread Cert.Kernel11Ideal.nD Cert.Kernel11Ideal.τ).loc Cert.Kernel11Ideal.main_arg57)
          ∧ r.2.mem ((c.tc : Thread Cert.Kernel11Ideal.nD Cert.Kernel11Ideal.τ).loc Cert.Kernel11Ideal.main_arg58) = m ((c.tc : Thread Cert.Kernel11Ideal.nD Cert.Kernel11Ideal.τ).loc Cert.Kernel11Ideal.main_arg58)
          ∧ r.2.mem ((c.tc : Thread Cert.Kernel11Ideal.nD Cert.Kernel11Ideal.τ).loc Cert.Kernel11Ideal.main_arg59) = m ((c.tc : Thread Cert.Kernel11Ideal.nD Cert.Kernel11Ideal.τ).loc Cert.Kernel11Ideal.main_arg59)
          ∧ r.2.mem ((c.tc : Thread Cert.Kernel11Ideal.nD Cert.Kernel11Ideal.τ).loc Cert.Kernel11Ideal.main_arg60) = m ((c.tc : Thread Cert.Kernel11Ideal.nD Cert.Kernel11Ideal.τ).loc Cert.Kernel11Ideal.main_arg60)
          ∧ r.2.mem ((c.tc : Thread Cert.Kernel11Ideal.nD Cert.Kernel11Ideal.τ).loc Cert.Kernel11Ideal.main_arg61) = m ((c.tc : Thread Cert.Kernel11Ideal.nD Cert.Kernel11Ideal.τ).loc Cert.Kernel11Ideal.main_arg61)
          ∧ r.2.mem ((c.tc : Thread Cert.Kernel11Ideal.nD Cert.Kernel11Ideal.τ).loc Cert.Kernel11Ideal.main_arg62) = m ((c.tc : Thread Cert.Kernel11Ideal.nD Cert.Kernel11Ideal.τ).loc Cert.Kernel11Ideal.main_arg62)
          ∧ r.2.mem ((c.tc : Thread Cert.Kernel11Ideal.nD Cert.Kernel11Ideal.τ).loc Cert.Kernel11Ideal.main_arg63) = m ((c.tc : Thread Cert.Kernel11Ideal.nD Cert.Kernel11Ideal.τ).loc Cert.Kernel11Ideal.main_arg63)
          ∧ r.2.mem ((c.tc : Thread Cert.Kernel11Ideal.nD Cert.Kernel11Ideal.τ).loc Cert.Kernel11Ideal.main_arg64) = m ((c.tc : Thread Cert.Kernel11Ideal.nD Cert.Kernel11Ideal.τ).loc Cert.Kernel11Ideal.main_arg64)
          ∧ r.2.mem ((c.tc : Thread Cert.Kernel11Ideal.nD Cert.Kernel11Ideal.τ).loc Cert.Kernel11Ideal.main_arg65) = m ((c.tc : Thread Cert.Kernel11Ideal.nD Cert.Kernel11Ideal.τ).loc Cert.Kernel11Ideal.main_arg65)
          ∧ r.2.mem ((c.tc : Thread Cert.Kernel11Ideal.nD Cert.Kernel11Ideal.τ).loc Cert.Kernel11Ideal.main_arg66) = m ((c.tc : Thread Cert.Kernel11Ideal.nD Cert.Kernel11Ideal.τ).loc Cert.Kernel11Ideal.main_arg66)
          ∧ r.2.mem ((c.tc : Thread Cert.Kernel11Ideal.nD Cert.Kernel11Ideal.τ).loc Cert.Kernel11Ideal.main_arg67) = m ((c.tc : Thread Cert.Kernel11Ideal.nD Cert.Kernel11Ideal.τ).loc Cert.Kernel11Ideal.main_arg67)
          ∧ r.2.mem ((c.tc : Thread Cert.Kernel11Ideal.nD Cert.Kernel11Ideal.τ).loc Cert.Kernel11Ideal.main_arg68) = m ((c.tc : Thread Cert.Kernel11Ideal.nD Cert.Kernel11Ideal.τ).loc Cert.Kernel11Ideal.main_arg68)
          ∧ r.2.mem ((c.tc : Thread Cert.Kernel11Ideal.nD Cert.Kernel11Ideal.τ).loc Cert.Kernel11Ideal.main_arg69) = m ((c.tc : Thread Cert.Kernel11Ideal.nD Cert.Kernel11Ideal.τ).loc Cert.Kernel11Ideal.main_arg69)
          ∧ r.2.mem ((c.tc : Thread Cert.Kernel11Ideal.nD Cert.Kernel11Ideal.τ).loc Cert.Kernel11Ideal.main_arg70) = m ((c.tc : Thread Cert.Kernel11Ideal.nD Cert.Kernel11Ideal.τ).loc Cert.Kernel11Ideal.main_arg70)
          ∧ r.2.mem ((c.tc : Thread Cert.Kernel11Ideal.nD Cert.Kernel11Ideal.τ).loc Cert.Kernel11Ideal.main_arg71) = m ((c.tc : Thread Cert.Kernel11Ideal.nD Cert.Kernel11Ideal.τ).loc Cert.Kernel11Ideal.main_arg71))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v453) = v0 c
          ∧ r.2.mem ((c.tc : Thread Cert.Reference11Ideal.nD Cert.Reference11Ideal.τ).loc Cert.Reference11Ideal.main_v475) = v1 c
          ∧ r.2.mem ((c.tc : Thread Cert.Reference11Ideal.nD Cert.Reference11Ideal.τ).loc Cert.Reference11Ideal.main_v497) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35)
          ∧ r.2.mem ((c.tc : Thread Cert.Reference11Ideal.nD Cert.Reference11Ideal.τ).loc Cert.Reference11Ideal.main_arg36) = m' ((c.tc : Thread Cert.Reference11Ideal.nD Cert.Reference11Ideal.τ).loc Cert.Reference11Ideal.main_arg36)
          ∧ r.2.mem ((c.tc : Thread Cert.Reference11Ideal.nD Cert.Reference11Ideal.τ).loc Cert.Reference11Ideal.main_arg37) = m' ((c.tc : Thread Cert.Reference11Ideal.nD Cert.Reference11Ideal.τ).loc Cert.Reference11Ideal.main_arg37)
          ∧ r.2.mem ((c.tc : Thread Cert.Reference11Ideal.nD Cert.Reference11Ideal.τ).loc Cert.Reference11Ideal.main_arg38) = m' ((c.tc : Thread Cert.Reference11Ideal.nD Cert.Reference11Ideal.τ).loc Cert.Reference11Ideal.main_arg38)
          ∧ r.2.mem ((c.tc : Thread Cert.Reference11Ideal.nD Cert.Reference11Ideal.τ).loc Cert.Reference11Ideal.main_arg39) = m' ((c.tc : Thread Cert.Reference11Ideal.nD Cert.Reference11Ideal.τ).loc Cert.Reference11Ideal.main_arg39)
          ∧ r.2.mem ((c.tc : Thread Cert.Reference11Ideal.nD Cert.Reference11Ideal.τ).loc Cert.Reference11Ideal.main_arg40) = m' ((c.tc : Thread Cert.Reference11Ideal.nD Cert.Reference11Ideal.τ).loc Cert.Reference11Ideal.main_arg40)
          ∧ r.2.mem ((c.tc : Thread Cert.Reference11Ideal.nD Cert.Reference11Ideal.τ).loc Cert.Reference11Ideal.main_arg41) = m' ((c.tc : Thread Cert.Reference11Ideal.nD Cert.Reference11Ideal.τ).loc Cert.Reference11Ideal.main_arg41)
          ∧ r.2.mem ((c.tc : Thread Cert.Reference11Ideal.nD Cert.Reference11Ideal.τ).loc Cert.Reference11Ideal.main_arg42) = m' ((c.tc : Thread Cert.Reference11Ideal.nD Cert.Reference11Ideal.τ).loc Cert.Reference11Ideal.main_arg42)
          ∧ r.2.mem ((c.tc : Thread Cert.Reference11Ideal.nD Cert.Reference11Ideal.τ).loc Cert.Reference11Ideal.main_arg43) = m' ((c.tc : Thread Cert.Reference11Ideal.nD Cert.Reference11Ideal.τ).loc Cert.Reference11Ideal.main_arg43)
          ∧ r.2.mem ((c.tc : Thread Cert.Reference11Ideal.nD Cert.Reference11Ideal.τ).loc Cert.Reference11Ideal.main_arg44) = m' ((c.tc : Thread Cert.Reference11Ideal.nD Cert.Reference11Ideal.τ).loc Cert.Reference11Ideal.main_arg44)
          ∧ r.2.mem ((c.tc : Thread Cert.Reference11Ideal.nD Cert.Reference11Ideal.τ).loc Cert.Reference11Ideal.main_arg45) = m' ((c.tc : Thread Cert.Reference11Ideal.nD Cert.Reference11Ideal.τ).loc Cert.Reference11Ideal.main_arg45)
          ∧ r.2.mem ((c.tc : Thread Cert.Reference11Ideal.nD Cert.Reference11Ideal.τ).loc Cert.Reference11Ideal.main_arg46) = m' ((c.tc : Thread Cert.Reference11Ideal.nD Cert.Reference11Ideal.τ).loc Cert.Reference11Ideal.main_arg46)
          ∧ r.2.mem ((c.tc : Thread Cert.Reference11Ideal.nD Cert.Reference11Ideal.τ).loc Cert.Reference11Ideal.main_arg47) = m' ((c.tc : Thread Cert.Reference11Ideal.nD Cert.Reference11Ideal.τ).loc Cert.Reference11Ideal.main_arg47)
          ∧ r.2.mem ((c.tc : Thread Cert.Reference11Ideal.nD Cert.Reference11Ideal.τ).loc Cert.Reference11Ideal.main_arg48) = m' ((c.tc : Thread Cert.Reference11Ideal.nD Cert.Reference11Ideal.τ).loc Cert.Reference11Ideal.main_arg48)
          ∧ r.2.mem ((c.tc : Thread Cert.Reference11Ideal.nD Cert.Reference11Ideal.τ).loc Cert.Reference11Ideal.main_arg49) = m' ((c.tc : Thread Cert.Reference11Ideal.nD Cert.Reference11Ideal.τ).loc Cert.Reference11Ideal.main_arg49)
          ∧ r.2.mem ((c.tc : Thread Cert.Reference11Ideal.nD Cert.Reference11Ideal.τ).loc Cert.Reference11Ideal.main_arg50) = m' ((c.tc : Thread Cert.Reference11Ideal.nD Cert.Reference11Ideal.τ).loc Cert.Reference11Ideal.main_arg50)
          ∧ r.2.mem ((c.tc : Thread Cert.Reference11Ideal.nD Cert.Reference11Ideal.τ).loc Cert.Reference11Ideal.main_arg51) = m' ((c.tc : Thread Cert.Reference11Ideal.nD Cert.Reference11Ideal.τ).loc Cert.Reference11Ideal.main_arg51)
          ∧ r.2.mem ((c.tc : Thread Cert.Reference11Ideal.nD Cert.Reference11Ideal.τ).loc Cert.Reference11Ideal.main_arg52) = m' ((c.tc : Thread Cert.Reference11Ideal.nD Cert.Reference11Ideal.τ).loc Cert.Reference11Ideal.main_arg52)
          ∧ r.2.mem ((c.tc : Thread Cert.Reference11Ideal.nD Cert.Reference11Ideal.τ).loc Cert.Reference11Ideal.main_arg53) = m' ((c.tc : Thread Cert.Reference11Ideal.nD Cert.Reference11Ideal.τ).loc Cert.Reference11Ideal.main_arg53)
          ∧ r.2.mem ((c.tc : Thread Cert.Reference11Ideal.nD Cert.Reference11Ideal.τ).loc Cert.Reference11Ideal.main_arg54) = m' ((c.tc : Thread Cert.Reference11Ideal.nD Cert.Reference11Ideal.τ).loc Cert.Reference11Ideal.main_arg54)
          ∧ r.2.mem ((c.tc : Thread Cert.Reference11Ideal.nD Cert.Reference11Ideal.τ).loc Cert.Reference11Ideal.main_arg55) = m' ((c.tc : Thread Cert.Reference11Ideal.nD Cert.Reference11Ideal.τ).loc Cert.Reference11Ideal.main_arg55)
          ∧ r.2.mem ((c.tc : Thread Cert.Reference11Ideal.nD Cert.Reference11Ideal.τ).loc Cert.Reference11Ideal.main_arg56) = m' ((c.tc : Thread Cert.Reference11Ideal.nD Cert.Reference11Ideal.τ).loc Cert.Reference11Ideal.main_arg56)
          ∧ r.2.mem ((c.tc : Thread Cert.Reference11Ideal.nD Cert.Reference11Ideal.τ).loc Cert.Reference11Ideal.main_arg57) = m' ((c.tc : Thread Cert.Reference11Ideal.nD Cert.Reference11Ideal.τ).loc Cert.Reference11Ideal.main_arg57)
          ∧ r.2.mem ((c.tc : Thread Cert.Reference11Ideal.nD Cert.Reference11Ideal.τ).loc Cert.Reference11Ideal.main_arg58) = m' ((c.tc : Thread Cert.Reference11Ideal.nD Cert.Reference11Ideal.τ).loc Cert.Reference11Ideal.main_arg58)
          ∧ r.2.mem ((c.tc : Thread Cert.Reference11Ideal.nD Cert.Reference11Ideal.τ).loc Cert.Reference11Ideal.main_arg59) = m' ((c.tc : Thread Cert.Reference11Ideal.nD Cert.Reference11Ideal.τ).loc Cert.Reference11Ideal.main_arg59)
          ∧ r.2.mem ((c.tc : Thread Cert.Reference11Ideal.nD Cert.Reference11Ideal.τ).loc Cert.Reference11Ideal.main_arg60) = m' ((c.tc : Thread Cert.Reference11Ideal.nD Cert.Reference11Ideal.τ).loc Cert.Reference11Ideal.main_arg60)
          ∧ r.2.mem ((c.tc : Thread Cert.Reference11Ideal.nD Cert.Reference11Ideal.τ).loc Cert.Reference11Ideal.main_arg61) = m' ((c.tc : Thread Cert.Reference11Ideal.nD Cert.Reference11Ideal.τ).loc Cert.Reference11Ideal.main_arg61)
          ∧ r.2.mem ((c.tc : Thread Cert.Reference11Ideal.nD Cert.Reference11Ideal.τ).loc Cert.Reference11Ideal.main_arg62) = m' ((c.tc : Thread Cert.Reference11Ideal.nD Cert.Reference11Ideal.τ).loc Cert.Reference11Ideal.main_arg62)
          ∧ r.2.mem ((c.tc : Thread Cert.Reference11Ideal.nD Cert.Reference11Ideal.τ).loc Cert.Reference11Ideal.main_arg63) = m' ((c.tc : Thread Cert.Reference11Ideal.nD Cert.Reference11Ideal.τ).loc Cert.Reference11Ideal.main_arg63)
          ∧ r.2.mem ((c.tc : Thread Cert.Reference11Ideal.nD Cert.Reference11Ideal.τ).loc Cert.Reference11Ideal.main_arg64) = m' ((c.tc : Thread Cert.Reference11Ideal.nD Cert.Reference11Ideal.τ).loc Cert.Reference11Ideal.main_arg64)
          ∧ r.2.mem ((c.tc : Thread Cert.Reference11Ideal.nD Cert.Reference11Ideal.τ).loc Cert.Reference11Ideal.main_arg65) = m' ((c.tc : Thread Cert.Reference11Ideal.nD Cert.Reference11Ideal.τ).loc Cert.Reference11Ideal.main_arg65)
          ∧ r.2.mem ((c.tc : Thread Cert.Reference11Ideal.nD Cert.Reference11Ideal.τ).loc Cert.Reference11Ideal.main_arg66) = m' ((c.tc : Thread Cert.Reference11Ideal.nD Cert.Reference11Ideal.τ).loc Cert.Reference11Ideal.main_arg66)
          ∧ r.2.mem ((c.tc : Thread Cert.Reference11Ideal.nD Cert.Reference11Ideal.τ).loc Cert.Reference11Ideal.main_arg67) = m' ((c.tc : Thread Cert.Reference11Ideal.nD Cert.Reference11Ideal.τ).loc Cert.Reference11Ideal.main_arg67)
          ∧ r.2.mem ((c.tc : Thread Cert.Reference11Ideal.nD Cert.Reference11Ideal.τ).loc Cert.Reference11Ideal.main_arg68) = m' ((c.tc : Thread Cert.Reference11Ideal.nD Cert.Reference11Ideal.τ).loc Cert.Reference11Ideal.main_arg68)
          ∧ r.2.mem ((c.tc : Thread Cert.Reference11Ideal.nD Cert.Reference11Ideal.τ).loc Cert.Reference11Ideal.main_arg69) = m' ((c.tc : Thread Cert.Reference11Ideal.nD Cert.Reference11Ideal.τ).loc Cert.Reference11Ideal.main_arg69)
          ∧ r.2.mem ((c.tc : Thread Cert.Reference11Ideal.nD Cert.Reference11Ideal.τ).loc Cert.Reference11Ideal.main_arg70) = m' ((c.tc : Thread Cert.Reference11Ideal.nD Cert.Reference11Ideal.τ).loc Cert.Reference11Ideal.main_arg70)
          ∧ r.2.mem ((c.tc : Thread Cert.Reference11Ideal.nD Cert.Reference11Ideal.τ).loc Cert.Reference11Ideal.main_arg71) = m' ((c.tc : Thread Cert.Reference11Ideal.nD Cert.Reference11Ideal.τ).loc Cert.Reference11Ideal.main_arg71))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel : Cert.Kernel.Facts) (hKernelIdeal : Cert.KernelIdeal.Facts) (hReferenceIdeal : Cert.ReferenceIdeal.Facts) (hPre_finite : Cert.Pre_finite.Facts) (hPre_finite_qk : Cert.Pre_finite_qk.Facts),
    quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite_qk (hKernel3Ideal := hKernel3Ideal) (hPre_finite_qk := hPre_finite_qk)
    ∧ quiescent_Reference3Ideal (hReference3Ideal := hReference3Ideal)
    ∧ quiescent_Reference3Ideal_pre_finite_qk (hReference3Ideal := hReference3Ideal) (hPre_finite_qk := hPre_finite_qk)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_qk (hKernel3Ideal := hKernel3Ideal) (hReference3Ideal := hReference3Ideal) (hPre_finite_qk := hPre_finite_qk)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) (main_arg3 : FVec F S8192x1024 .f32) : IVec S8192x1024 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_qk.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) : IVec S8192x1024 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  (main_v2, main_v5)
-- ==== Kernel2.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x2x4 : Shape := ⟨3, ![8192, 2, 4]⟩
abbrev S8192x2x4x1 : Shape := ⟨4, ![8192, 2, 4, 1]⟩
abbrev S8192x8x128 : Shape := ⟨3, ![8192, 8, 128]⟩
abbrev S8192x8 : Shape := ⟨2, ![8192, 8]⟩
abbrev S8192x8x1 : Shape := ⟨3, ![8192, 8, 1]⟩
abbrev S512x512 : Shape := ⟨2, ![512, 512]⟩
abbrev S1024x128 : Shape := ⟨2, ![1024, 128]⟩
abbrev S512x128 : Shape := ⟨2, ![512, 128]⟩
abbrev S512x1024 : Shape := ⟨2, ![512, 1024]⟩
abbrev S512x1 : Shape := ⟨2, ![512, 1]⟩

abbrev nBuf : Space → Nat
  | .hbm => 57
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S_, .f32⟩
  | .hbm, ⟨11, _⟩ => ⟨S2x4x8192, .f32⟩
  | .hbm, ⟨12, _⟩ => ⟨S2x4x8192, .f32⟩
  | .hbm, ⟨13, _⟩ => ⟨S2x4x8192x1, .f32⟩
  | .hbm, ⟨14, _⟩ => ⟨S2x4x8192x8192, .f32⟩
  | .hbm, ⟨15, _⟩ => ⟨S2x4x8192x8192, .f32⟩
  | .hbm, ⟨16, _⟩ => ⟨S2x4x8192x8192, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x8192, .f32⟩
  | .hbm, ⟨21, _⟩ => ⟨S2x4x8192x8192, .f32⟩
  | .hbm, ⟨22, _⟩ => ⟨S8192x2x128, .f32⟩
  | .hbm, ⟨23, _⟩ => ⟨S2x128x4x8192, .f32⟩
  | .hbm, ⟨24, _⟩ => ⟨S8192x2x4x128, .f32⟩
  | .hbm, ⟨25, _⟩ => ⟨S8192x1024, .f32⟩
  | .hbm, ⟨26, _⟩ => ⟨S8192x2x4x128, .f32⟩
  | .hbm, ⟨27, _⟩ => ⟨S8192x2x128, .f32⟩
  | .hbm, ⟨28, _⟩ => ⟨S2x8192x8192x4, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192, .f32⟩
  | .hbm, ⟨40, _⟩ => ⟨S8192x2x4, .f32⟩
  | .hbm, ⟨41, _⟩ => ⟨S8192x2x4x1, .f32⟩
  | .hbm, ⟨42, _⟩ => ⟨S8192x2x4x128, .f32⟩
  | .hbm, ⟨43, _⟩ => ⟨S8192x1024, .f32⟩
  | .hbm, ⟨44, _⟩ => ⟨S8192x1024, .f32⟩
  | .hbm, ⟨45, _⟩ => ⟨S8192x8x128, .f32⟩
  | .hbm, ⟨46, _⟩ => ⟨S_, .f32⟩
  | .hbm, ⟨47, _⟩ => ⟨S8192x8, .f32⟩
  | .hbm, ⟨48, _⟩ => ⟨S8192x8x1, .f32⟩
  | .hbm, ⟨49, _⟩ => ⟨S8192x8x128, .f32⟩
  | .hbm, ⟨50, _⟩ => ⟨S8192x1024, .f32⟩
  | .hbm, ⟨51, _⟩ => ⟨S8192x1024, .bf16⟩
  | .hbm, ⟨52, _⟩ => ⟨S8192x256, .bf16⟩
  | .hbm, ⟨53, _⟩ => ⟨S8192x256, .bf16⟩
  | .hbm, ⟨54, _⟩ => ⟨S8192x1024, .bf16⟩
  | .hbm, ⟨55, _⟩ => ⟨S8192x256, .f32⟩
  | .hbm, ⟨56, _⟩ => ⟨S8192x256, .f32⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 16], ![false, false, false]⟩

def k0_cond2 (i : grid0.Coords) : BitVec 1 :=
  let arg2 : BitVec 32 := BitVec.ofNat 32 (i 2).val
  let c15_i32 : BitVec 32 := 15#32
  let v147 : BitVec 1 := Scalar.cmpi .eq arg2 c15_i32
  let v148 : BitVec 32 := Scalar.extui v147
  let c0_i32_92 : BitVec 32 := 0#32
  let v149 : BitVec 1 := Scalar.cmpi .ne v148 c0_i32_92
  v149

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg0 c1_i32_3
  let c16_i32_4 : BitVec 32 := 16#32
  let v11 : BitVec 32 := Scalar.divsi arg2 c16_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c16_i32_4 c0_i32_7
  let v18 : BitVec 32 := Scalar.extui v17
  let c0_i32_8 : BitVec 32 := 0#32
  let v19 : BitVec 1 := Scalar.cmpi .slt c16_i32_4 c0_i32_8
  let v20 : BitVec 32 := Scalar.extui v19
  let v21 : BitVec 32 := Scalar.subi v18 v20
  let v22 : BitVec 1 := Scalar.cmpi .ne v16 v21
  let v23 : BitVec 32 := Scalar.remsi arg2 c16_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg0 c1_i32_3
  let c16_i32_4 : BitVec 32 := 16#32
  let v11 : BitVec 32 := Scalar.divsi arg2 c16_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c16_i32_4 c0_i32_7
  let v18 : BitVec 32 := Scalar.extui v17
  let c0_i32_8 : BitVec 32 := 0#32
  let v19 : BitVec 1 := Scalar.cmpi .slt c16_i32_4 c0_i32_8
  let v20 : BitVec 32 := Scalar.extui v19
  let v21 : BitVec 32 := Scalar.subi v18 v20
  let v22 : BitVec 1 := Scalar.cmpi .ne v16 v21
  let v23 : BitVec 32 := Scalar.remsi arg2 c16_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg0 c1_i32_3
  let c16_i32_4 : BitVec 32 := 16#32
  let v11 : BitVec 32 := Scalar.divsi arg2 c16_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c16_i32_4 c0_i32_7
  let v18 : BitVec 32 := Scalar.extui v17
  let c0_i32_8 : BitVec 32 := 0#32
  let v19 : BitVec 1 := Scalar.cmpi .slt c16_i32_4 c0_i32_8
  let v20 : BitVec 32 := Scalar.extui v19
  let v21 : BitVec 32 := Scalar.subi v18 v20
  let v22 : BitVec 1 := Scalar.cmpi .ne v16 v21
  let v23 : BitVec 32 := Scalar.remsi arg2 c16_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.muli arg0 c1_i32_3
  let c16_i32_4 : BitVec 32 := 16#32
  let v11 : BitVec 32 := Scalar.divsi arg2 c16_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c16_i32_4 c0_i32_7
  let v18 : BitVec 32 := Scalar.extui v17
  let c0_i32_8 : BitVec 32 := 0#32
  let v19 : BitVec 1 := Scalar.cmpi .slt c16_i32_4 c0_i32_8
  let v20 : BitVec 32 := Scalar.extui v19
  let v21 : BitVec 32 := Scalar.subi v18 v20
  let v22 : BitVec 1 := Scalar.cmpi .ne v16 v21
  let v23 : BitVec 32 := Scalar.remsi arg2 c16_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8192 : Shape := ⟨3, ![2, 128, 8192]⟩
abbrev S2x8192x4x128 : Shape := ⟨4, ![2, 8192, 4, 128]⟩
abbrev S2x8192x128 : Shape := ⟨3, ![2, 8192, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8192, .f32⟩
  | .hbm, ⟨12, _⟩ => ⟨S2x4x8192x8192, .i1⟩
  | .hbm, ⟨13, _⟩ => ⟨S2x4x8192x8192, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .i1⟩
  | .hbm, ⟨22, _⟩ => ⟨S_, .f32⟩
  | .hbm, ⟨23, _⟩ => ⟨S2x4x8192, .f32⟩
  | .hbm, ⟨24, _⟩ => ⟨S2x4x8192, .i1⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S8192x2x128, .f32⟩
  | .hbm, ⟨47, _⟩ => ⟨S2x128x4x8192, .f32⟩
  | .hbm, ⟨48, _⟩ => ⟨S8192x2x4x128, .f32⟩
  | .hbm, ⟨49, _⟩ => ⟨S8192x1024, .f32⟩
  | .hbm, ⟨50, _⟩ => ⟨S8192x2x4x128, .f32⟩
  | .hbm, ⟨51, _⟩ => ⟨S2x128x4x8192, .f32⟩
  | .hbm, ⟨52, _⟩ => ⟨S2x4x8192x8192, .f32⟩
  | .hbm, ⟨53, _⟩ => ⟨S2x128x8192, .f32⟩
  | .hbm, ⟨54, _⟩ => ⟨S8192x2x128, .f32⟩
  | .hbm, ⟨55, _⟩ => ⟨S8192x256, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x1, .f32⟩
  | .hbm, ⟨62, _⟩ => ⟨S2x4x8192x1, .f32⟩
  | .hbm, ⟨63, _⟩ => ⟨S2x4x8192x8192, .f32⟩
  | .hbm, ⟨64, _⟩ => ⟨S2x4x8192x8192, .f32⟩
  | .hbm, ⟨65, _⟩ => ⟨S_, .f32⟩
  | .hbm, ⟨66, _⟩ => ⟨S2x4x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S2x8192x8192x4, .f32⟩
  | .hbm, ⟨71, _⟩ => ⟨S2x8192x4x128, .f32⟩
  | .hbm, ⟨72, _⟩ => ⟨S8192x2x4x128, .f32⟩
  | .hbm, ⟨73, _⟩ => ⟨S2x8192x128, .f32⟩
  | .hbm, ⟨74, _⟩ => ⟨S8192x2x128, .f32⟩
  | .hbm, ⟨75, _⟩ => ⟨S8192x256, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S512x512 : Shape := ⟨2, ![512, 512]⟩
abbrev S1024x128 : Shape := ⟨2, ![1024, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .bf16⟩
  | .hbm, ⟨4, _⟩ => ⟨S8192x256, .bf16⟩
  | .hbm, ⟨5, _⟩ => ⟨S8192x256, .bf16⟩
  | .hbm, ⟨6, _⟩ => ⟨S8192x1024, .f32⟩
  | .hbm, ⟨7, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v163 : BitVec 1 := Scalar.cmpi .eq arg2 c7_i32
  let v164 : BitVec 32 := Scalar.extui v163
  let c0_i32_84 : BitVec 32 := 0#32
  let v165 : BitVec 1 := Scalar.cmpi .ne v164 c0_i32_84
  v165

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg2.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg2.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x2x4x128, .f32⟩
  | .hbm, ⟨4, _⟩ => ⟨S8192x2x128, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192, .f32⟩
  | .hbm, ⟨9, _⟩ => ⟨S_, .f32⟩
  | .hbm, ⟨10, _⟩ => ⟨S2x4x8192, .f32⟩
  | .hbm, ⟨11, _⟩ => ⟨S2x4x8192, .f32⟩
  | .hbm, ⟨12, _⟩ => ⟨S2x4x8192x1, .f32⟩
  | .hbm, ⟨13, _⟩ => ⟨S2x4x8192x8192, .f32⟩
  | .hbm, ⟨14, _⟩ => ⟨S2x4x8192x8192, .f32⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S2x4x8192x1, .f32⟩
  | .hbm, ⟨19, _⟩ => ⟨S2x4x8192x8192, .f32⟩
  | .hbm, ⟨20, _⟩ => ⟨S2x4x8192x8192, .f32⟩
  | .hbm, ⟨21, _⟩ => ⟨S8192x2x128, .f32⟩
  | .hbm, ⟨22, _⟩ => ⟨S2x128x4x8192, .f32⟩
  | .hbm, ⟨23, _⟩ => ⟨S8192x2x4x128, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S8192x2048 : Shape := ⟨2, ![8192, 2048]⟩
abbrev S2048x16408 : Shape := ⟨2, ![2048, 16408]⟩
abbrev S2048x768 : Shape := ⟨2, ![2048, 768]⟩
abbrev S2048x24 : Shape := ⟨2, ![2048, 24]⟩
abbrev S_ : Shape := ⟨0, ![]⟩
abbrev S2048x512 : Shape := ⟨2, ![2048, 512]⟩
abbrev S2048x1024 : Shape := ⟨2, ![2048, 1024]⟩
abbrev S2048x256 : Shape := ⟨2, ![2048, 256]⟩
abbrev S2048x8192 : Shape := ⟨2, ![2048, 8192]⟩
abbrev S2048x16896 : Shape := ⟨2, ![2048, 16896]⟩
abbrev S8192x16896 : Shape := ⟨2, ![8192, 16896]⟩
abbrev S2048x2048 : Shape := ⟨2, ![2048, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x16408, .f32⟩
  | .hbm, ⟨2, _⟩ => ⟨S8192x2048, .bf16⟩
  | .hbm, ⟨3, _⟩ => ⟨S2048x16408, .bf16⟩
  | .hbm, ⟨4, _⟩ => ⟨S2048x768, .bf16⟩
  | .hbm, ⟨5, _⟩ => ⟨S2048x768, .bf16⟩
  | .hbm, ⟨6, _⟩ => ⟨S2048x768, .bf16⟩
  | .hbm, ⟨7, _⟩ => ⟨S2048x768, .bf16⟩
  | .hbm, ⟨8, _⟩ => ⟨S2048x768, .bf16⟩
  | .hbm, ⟨9, _⟩ => ⟨S2048x24, .bf16⟩
  | .hbm, ⟨10, _⟩ => ⟨S_, .i32⟩
  | .hbm, ⟨11, _⟩ => ⟨S_, .bf16⟩
  | .hbm, ⟨12, _⟩ => ⟨S2048x512, .bf16⟩
  | .hbm, ⟨13, _⟩ => ⟨S2048x768, .bf16⟩
  | .hbm, ⟨14, _⟩ => ⟨S2048x1024, .bf16⟩
  | .hbm, ⟨15, _⟩ => ⟨S2048x256, .bf16⟩
  | .hbm, ⟨16, _⟩ => ⟨S2048x256, .bf16⟩
  | .hbm, ⟨17, _⟩ => ⟨S2048x1024, .bf16⟩
  | .hbm, ⟨18, _⟩ => ⟨S2048x512, .bf16⟩
  | .hbm, ⟨19, _⟩ => ⟨S2048x512, .bf16⟩
  | .hbm, ⟨20, _⟩ => ⟨S2048x8192, .bf16⟩
  | .hbm, ⟨21, _⟩ => ⟨S2048x16896, .bf16⟩
  | .hbm, ⟨22, _⟩ => ⟨S8192x16896, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x16408 : Shape := ⟨2, ![2048, 16408]⟩
abbrev S8192x16408 : Shape := ⟨2, ![8192, 16408]⟩
abbrev S8192x3864 : Shape := ⟨2, ![8192, 3864]⟩
abbrev S_ : Shape := ⟨0, ![]⟩
abbrev S8192x488 : Shape := ⟨2, ![8192, 488]⟩
abbrev S8192x12544 : Shape := ⟨2, ![8192, 12544]⟩
abbrev S8192x16896 : Shape := ⟨2, ![8192, 16896]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16408, .f32⟩
  | .hbm, ⟨2, _⟩ => ⟨S8192x16408, .f32⟩
  | .hbm, ⟨3, _⟩ => ⟨S8192x3864, .f32⟩
  | .hbm, ⟨4, _⟩ => ⟨S_, .f32⟩
  | .hbm, ⟨5, _⟩ => ⟨S8192x488, .f32⟩
  | .hbm, ⟨6, _⟩ => ⟨S8192x12544, .f32⟩
  | .hbm, ⟨7, _⟩ => ⟨S8192x16896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S8192x16408 : Shape := ⟨2, ![8192, 16408]⟩
abbrev S8192x768 : Shape := ⟨2, ![8192, 768]⟩
abbrev S8192x24 : Shape := ⟨2, ![8192, 24]⟩
abbrev S_ : Shape := ⟨0, ![]⟩
abbrev S8192x512 : Shape := ⟨2, ![8192, 512]⟩
abbrev S8192x1024 : Shape := ⟨2, ![8192, 1024]⟩
abbrev S8192x256 : Shape := ⟨2, ![8192, 256]⟩
abbrev S8192x8192 : Shape := ⟨2, ![8192, 8192]⟩
abbrev S8192x16896 : Shape := ⟨2, ![8192, 16896]⟩
abbrev S2048x16896 : Shape := ⟨2, ![2048, 16896]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 23
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x16408, .f32⟩
  | .hbm, ⟨2, _⟩ => ⟨S8192x2048, .bf16⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x24, .f32⟩
  | .hbm, ⟨9, _⟩ => ⟨S_, .i32⟩
  | .hbm, ⟨10, _⟩ => ⟨S_, .f32⟩
  | .hbm, ⟨11, _⟩ => ⟨S8192x512, .f32⟩
  | .hbm, ⟨12, _⟩ => ⟨S8192x768, .f32⟩
  | .hbm, ⟨13, _⟩ => ⟨S8192x1024, .f32⟩
  | .hbm, ⟨14, _⟩ => ⟨S8192x256, .f32⟩
  | .hbm, ⟨15, _⟩ => ⟨S8192x256, .f32⟩
  | .hbm, ⟨16, _⟩ => ⟨S8192x1024, .f32⟩
  | .hbm, ⟨17, _⟩ => ⟨S8192x512, .f32⟩
  | .hbm, ⟨18, _⟩ => ⟨S8192x512, .f32⟩
  | .hbm, ⟨19, _⟩ => ⟨S8192x8192, .f32⟩
  | .hbm, ⟨20, _⟩ => ⟨S8192x16896, .f32⟩
  | .hbm, ⟨21, _⟩ => ⟨S8192x16896, .bf16⟩
  | .hbm, ⟨22, _⟩ => ⟨S2048x16896, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 33, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x16408 : Shape := ⟨2, ![8192, 16408]⟩
abbrev S_ : Shape := ⟨0, ![]⟩
abbrev S2048x16408 : Shape := ⟨2, ![2048, 16408]⟩
abbrev S16408x2048 : Shape := ⟨2, ![16408, 2048]⟩
abbrev S2048x3864 : Shape := ⟨2, ![2048, 3864]⟩
abbrev S2048x488 : Shape := ⟨2, ![2048, 488]⟩
abbrev S2048x12544 : Shape := ⟨2, ![2048, 12544]⟩
abbrev S2048x16896 : Shape := ⟨2, ![2048, 16896]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x16408, .f32⟩
  | .hbm, ⟨2, _⟩ => ⟨S_, .f32⟩
  | .hbm, ⟨3, _⟩ => ⟨S2048x16408, .f32⟩
  | .hbm, ⟨4, _⟩ => ⟨S8192x16408, .f32⟩
  | .hbm, ⟨5, _⟩ => ⟨S16408x2048, .f32⟩
  | .hbm, ⟨6, _⟩ => ⟨S2048x16408, .f32⟩
  | .hbm, ⟨7, _⟩ => ⟨S2048x3864, .f32⟩
  | .hbm, ⟨8, _⟩ => ⟨S_, .f32⟩
  | .hbm, ⟨9, _⟩ => ⟨S2048x488, .f32⟩
  | .hbm, ⟨10, _⟩ => ⟨S2048x12544, .f32⟩
  | .hbm, ⟨11, _⟩ => ⟨S2048x16896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S2048x16408 : Shape := ⟨2, ![2048, 16408]⟩
abbrev S8192x16408 : Shape := ⟨2, ![8192, 16408]⟩
abbrev S8192x768 : Shape := ⟨2, ![8192, 768]⟩
abbrev S8192x24 : Shape := ⟨2, ![8192, 24]⟩
abbrev S_ : Shape := ⟨0, ![]⟩
abbrev S8192x512 : Shape := ⟨2, ![8192, 512]⟩
abbrev S8192x1024 : Shape := ⟨2, ![8192, 1024]⟩
abbrev S8192x256 : Shape := ⟨2, ![8192, 256]⟩
abbrev S8192x8192 : Shape := ⟨2, ![8192, 8192]⟩
abbrev S8192x16896 : Shape := ⟨2, ![8192, 16896]⟩
abbrev S2048x768 : Shape := ⟨2, ![2048, 768]⟩
abbrev S2048x24 : Shape := ⟨2, ![2048, 24]⟩
abbrev S2048x512 : Shape := ⟨2, ![2048, 512]⟩
abbrev S2048x1024 : Shape := ⟨2, ![2048, 1024]⟩
abbrev S2048x256 : Shape := ⟨2, ![2048, 256]⟩
abbrev S2048x8192 : Shape := ⟨2, ![2048, 8192]⟩
abbrev S2048x16896 : Shape := ⟨2, ![2048, 16896]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 41
  | .vmem => 7
  | .smem => 0
  | _ => 0

abbrev bufTy : (tb : Table) → Fin (tcTables nBuf tb) → BufTy
  | .hbm, ⟨0, _⟩ => ⟨S2048x16408, .f32⟩
  | .hbm, ⟨1, _⟩ => ⟨S8192x16408, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x24, .f32⟩
  | .hbm, ⟨8, _⟩ => ⟨S_, .i32⟩
  | .hbm, ⟨9, _⟩ => ⟨S_, .f32⟩
  | .hbm, ⟨10, _⟩ => ⟨S8192x512, .f32⟩
  | .hbm, ⟨11, _⟩ => ⟨S8192x768, .f32⟩
  | .hbm, ⟨12, _⟩ => ⟨S8192x1024, .f32⟩
  | .hbm, ⟨13, _⟩ => ⟨S8192x256, .f32⟩
  | .hbm, ⟨14, _⟩ => ⟨S8192x256, .f32⟩
  | .hbm, ⟨15, _⟩ => ⟨S8192x1024, .f32⟩
  | .hbm, ⟨16, _⟩ => ⟨S8192x512, .f32⟩
  | .hbm, ⟨17, _⟩ => ⟨S8192x512, .f32⟩
  | .hbm, ⟨18, _⟩ => ⟨S8192x8192, .f32⟩
  | .hbm, ⟨19, _⟩ => ⟨S8192x16896, .f32⟩
  | .hbm, ⟨20, _⟩ => ⟨S8192x16896, .bf16⟩
  | .hbm, ⟨21, _⟩ => ⟨S2048x16408, .bf16⟩
  | .hbm, ⟨22, _⟩ => ⟨S2048x768, .bf16⟩
  | .hbm, ⟨23, _⟩ => ⟨S2048x768, .bf16⟩
  | .hbm, ⟨24, _⟩ => ⟨S2048x768, .bf16⟩
  | .hbm, ⟨25, _⟩ => ⟨S2048x768, .bf16⟩
  | .hbm, ⟨26, _⟩ => ⟨S2048x768, .bf16⟩
  | .hbm, ⟨27, _⟩ => ⟨S2048x24, .bf16⟩
  | .hbm, ⟨28, _⟩ => ⟨S_, .i32⟩
  | .hbm, ⟨29, _⟩ => ⟨S_, .bf16⟩
  | .hbm, ⟨30, _⟩ => ⟨S2048x512, .bf16⟩
  | .hbm, ⟨31, _⟩ => ⟨S2048x768, .bf16⟩
  | .hbm, ⟨32, _⟩ => ⟨S2048x1024, .bf16⟩
  | .hbm, ⟨33, _⟩ => ⟨S2048x256, .bf16⟩
  | .hbm, ⟨34, _⟩ => ⟨S2048x256, .bf16⟩
  | .hbm, ⟨35, _⟩ => ⟨S2048x1024, .bf16⟩
  | .hbm, ⟨36, _⟩ => ⟨S2048x512, .bf16⟩
  | .hbm, ⟨37, _⟩ => ⟨S2048x512, .bf16⟩
  | .hbm, ⟨38, _⟩ => ⟨S2048x8192, .bf16⟩
  | .hbm, ⟨39, _⟩ => ⟨S2048x16896, .bf16⟩
  | .hbm, ⟨40, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x16408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_call1_v0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x16408 : Shape := ⟨2, ![2048, 16408]⟩
abbrev S8192x16408 : Shape := ⟨2, ![8192, 16408]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x16408, .f32⟩
  | .hbm, ⟨1, _⟩ => ⟨S8192x16408, .f32⟩
  | .hbm, ⟨2, _⟩ => ⟨S_, .f32⟩
  | .hbm, ⟨3, _⟩ => ⟨S8192x2048, .f32⟩
  | .hbm, ⟨4, _⟩ => ⟨S8192x16408, .f32⟩
  | .hbm, ⟨5, _⟩ => ⟨S8192x2048, .f32⟩
  | _, _ => ⟨S2048x16408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x2048 : Shape := ⟨2, ![2048, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8x6656x128 : Shape := ⟨3, ![8, 6656, 128]⟩
abbrev S6656x128 : Shape := ⟨2, ![6656, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x6656x128, .f32⟩
  | .hbm, ⟨1, _⟩ => ⟨S6656x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x6656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S8x6656x128 : Shape := ⟨3, ![8, 6656, 128]⟩
abbrev S_ : Shape := ⟨0, ![]⟩
abbrev S6656x128 : Shape := ⟨2, ![6656, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x6656x128, .f32⟩
  | .hbm, ⟨1, _⟩ => ⟨S_, .f32⟩
  | .hbm, ⟨2, _⟩ => ⟨S6656x128, .f32⟩
  | _, _ => ⟨S8x6656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S2x2048 : Shape := ⟨2, ![2, 2048]⟩
abbrev S2x2x48x64 : Shape := ⟨4, ![2, 2, 48, 64]⟩
abbrev S2x2x48 : Shape := ⟨3, ![2, 2, 48]⟩
abbrev S2x2x48x64x16 : Shape := ⟨5, ![2, 2, 48, 64, 16]⟩
abbrev S2x2x48x16x64 : Shape := ⟨5, ![2, 2, 48, 16, 64]⟩
abbrev S2x768 : Shape := ⟨2, ![2, 768]⟩
abbrev S2x576x5 : Shape := ⟨3, ![2, 576, 5]⟩
abbrev S2x2x6 : Shape := ⟨3, ![2, 2, 6]⟩
abbrev S2x128 : Shape := ⟨2, ![2, 128]⟩
abbrev S2048 : Shape := ⟨1, ![2048]⟩
abbrev S4096 : Shape := ⟨1, ![4096]⟩
abbrev S12288 : Shape := ⟨1, ![12288]⟩
abbrev S192 : Shape := ⟨1, ![192]⟩
abbrev S196608 : Shape := ⟨1, ![196608]⟩
abbrev S1536 : Shape := ⟨1, ![1536]⟩
abbrev S5760 : Shape := ⟨1, ![5760]⟩
abbrev S24 : Shape := ⟨1, ![24]⟩
abbrev S256 : Shape := ⟨1, ![256]⟩
abbrev S824944 : Shape := ⟨1, ![824944]⟩
abbrev S6144 : Shape := ⟨1, ![6144]⟩
abbrev S831088 : Shape := ⟨1, ![831088]⟩
abbrev S_ : Shape := ⟨0, ![]⟩
abbrev S851968 : Shape := ⟨1, ![851968]⟩
abbrev S6656x128 : Shape := ⟨2, ![6656, 128]⟩
abbrev S512x128 : Shape := ⟨2, ![512, 128]⟩

abbrev nBuf : Space → Nat
  | .hbm => 171
  | .vmem => 14
  | .smem => 0
  | _ => 0

abbrev hbmTy0_0 (i : Nat) : BufTy := match i % 128 with
  | 0 => ⟨S2x2048, .f32⟩
  | 1 => ⟨S2x2x48x64, .f32⟩
  | 2 => ⟨S2x2x48x64, .f32⟩
  | 3 => ⟨S2x2x48, .f32⟩
  | 4 => ⟨S2x2x48x64x16, .f32⟩
  | 5 => ⟨S2x2x48x64x16, .f32⟩
  | 6 => ⟨S2x2x48x16x64, .f32⟩
  | 7 => ⟨S2x2x48x16x64, .f32⟩
  | 8 => ⟨S2x768, .f32⟩
  | 9 => ⟨S2x768, .f32⟩
  | 10 => ⟨S2x576x5, .f32⟩
  | 11 => ⟨S2x2x6, .f32⟩
  | 12 => ⟨S2x2x6, .f32⟩
  | 13 => ⟨S2x128, .f32⟩
  | 14 => ⟨S2x128, .f32⟩
  | 15 => ⟨S2x128, .f32⟩
  | 16 => ⟨S2x2048, .f32⟩
  | 17 => ⟨S2048, .f32⟩
  | 18 => ⟨S2x2048, .f32⟩
  | 19 => ⟨S2x2x48x64, .f32⟩
  | 20 => ⟨S2x2x48x64, .f32⟩
  | 21 => ⟨S2x2x48, .f32⟩
  | 22 => ⟨S2x2x48x64x16, .f32⟩
  | 23 => ⟨S2x2x48x64x16, .f32⟩
  | 24 => ⟨S2x2x48x16x64, .f32⟩
  | 25 => ⟨S2x2x48x16x64, .f32⟩
  | 26 => ⟨S2x768, .f32⟩
  | 27 => ⟨S2x768, .f32⟩
  | 28 => ⟨S2x576x5, .f32⟩
  | 29 => ⟨S2x2x6, .f32⟩
  | 30 => ⟨S2x2x6, .f32⟩
  | 31 => ⟨S2x128, .f32⟩
  | 32 => ⟨S2x128, .f32⟩
  | 33 => ⟨S2x128, .f32⟩
  | 34 => ⟨S2x2048, .f32⟩
  | 35 => ⟨S2048, .f32⟩
  | 36 => ⟨S2x2048, .f32⟩
  | 37 => ⟨S2x2x48x64, .f32⟩
  | 38 => ⟨S2x2x48x64, .f32⟩
  | 39 => ⟨S2x2x48, .f32⟩
  | 40 => ⟨S2x2x48x64x16, .f32⟩
  | 41 => ⟨S2x2x48x64x16, .f32⟩
  | 42 => ⟨S2x2x48x16x64, .f32⟩
  | 43 => ⟨S2x2x48x16x64, .f32⟩
  | 44 => ⟨S2x768, .f32⟩
  | 45 => ⟨S2x768, .f32⟩
  | 46 => ⟨S2x576x5, .f32⟩
  | 47 => ⟨S2x2x6, .f32⟩
  | 48 => ⟨S2x2x6, .f32⟩
  | 49 => ⟨S2x128, .f32⟩
  | 50 => ⟨S2x128, .f32⟩
  | 51 => ⟨S2x128, .f32⟩
  | 52 => ⟨S2x2048, .f32⟩
  | 53 => ⟨S2048, .f32⟩
  | 54 => ⟨S2x2048, .f32⟩
  | 55 => ⟨S2x2x48x64, .f32⟩
  | 56 => ⟨S2x2x48x64, .f32⟩
  | 57 => ⟨S2x2x48, .f32⟩
  | 58 => ⟨S2x2x48x64x16, .f32⟩
  | 59 => ⟨S2x2x48x64x16, .f32⟩
  | 60 => ⟨S2x2x48x16x64, .f32⟩
  | 61 => ⟨S2x2x48x16x64, .f32⟩
  | 62 => ⟨S2x768, .f32⟩
  | 63 => ⟨S2x768, .f32⟩
  | 64 => ⟨S2x576x5, .f32⟩
  | 65 => ⟨S2x2x6, .f32⟩
  | 66 => ⟨S2x2x6, .f32⟩
  | 67 => ⟨S2x128, .f32⟩
  | 68 => ⟨S2x128, .f32⟩
  | 69 => ⟨S2x128, .f32⟩
  | 70 => ⟨S2x2048, .f32⟩
  | 71 => ⟨S2048, .f32⟩
  | 72 => ⟨S4096, .f32⟩
  | 73 => ⟨S12288, .f32⟩
  | 74 => ⟨S12288, .f32⟩
  | 75 => ⟨S192, .f32⟩
  | 76 => ⟨S196608, .f32⟩
  | 77 => ⟨S196608, .f32⟩
  | 78 => ⟨S196608, .f32⟩
  | 79 => ⟨S196608, .f32⟩
  | 80 => ⟨S1536, .f32⟩
  | 81 => ⟨S1536, .f32⟩
  | 82 => ⟨S5760, .f32⟩
  | 83 => ⟨S24, .f32⟩
  | 84 => ⟨S24, .f32⟩
  | 85 => ⟨S256, .f32⟩
  | 86 => ⟨S256, .f32⟩
  | 87 => ⟨S256, .f32⟩
  | 88 => ⟨S4096, .f32⟩
  | 89 => ⟨S824944, .f32⟩
  | 90 => ⟨S6144, .f32⟩
  | 91 => ⟨S831088, .f32⟩
  | 92 => ⟨S_, .i32⟩
  | 93 => ⟨S_, .f32⟩
  | 94 => ⟨S851968, .f32⟩
  | 95 => ⟨S6656x128, .f32⟩
  | 96 => ⟨S4096, .f32⟩
  | 97 => ⟨S12288, .f32⟩
  | 98 => ⟨S12288, .f32⟩
  | 99 => ⟨S192, .f32⟩
  | 100 => ⟨S196608, .f32⟩
  | 101 => ⟨S196608, .f32⟩
  | 102 => ⟨S196608, .f32⟩
  | 103 => ⟨S196608, .f32⟩
  | 104 => ⟨S1536, .f32⟩
  | 105 => ⟨S1536, .f32⟩
  | 106 => ⟨S5760, .f32⟩
  | 107 => ⟨S24, .f32⟩
  | 108 => ⟨S24, .f32⟩
  | 109 => ⟨S256, .f32⟩
  | 110 => ⟨S256, .f32⟩
  | 111 => ⟨S256, .f32⟩
  | 112 => ⟨S4096, .f32⟩
  | 113 => ⟨S824944, .f32⟩
  | 114 => ⟨S6144, .f32⟩
  | 115 => ⟨S831088, .f32⟩
  | 116 => ⟨S_, .i32⟩
  | 117 => ⟨S_, .f32⟩
  | 118 => ⟨S851968, .f32⟩
  | 119 => ⟨S6656x128, .f32⟩
  | 120 => ⟨S4096, .f32⟩
  | 121 => ⟨S12288, .f32⟩
  | 122 => ⟨S12288, .f32⟩
  | 123 => ⟨S192, .f32⟩
  | 124 => ⟨S196608, .f32⟩
  | 125 => ⟨S196608, .f32⟩
  | 126 => ⟨S196608, .f32⟩
  | 127 => ⟨S196608, .f32⟩
  | _ => ⟨S2x2048, .f32⟩

abbrev hbmTy0_1 (i : Nat) : BufTy := match i % 128 with
  | 0 => ⟨S1536, .f32⟩
  | 1 => ⟨S1536, .f32⟩
  | 2 => ⟨S5760, .f32⟩
  | 3 => ⟨S24, .f32⟩
  | 4 => ⟨S24, .f32⟩
  | 5 => ⟨S256, .f32⟩
  | 6 => ⟨S256, .f32⟩
  | 7 => ⟨S256, .f32⟩
  | 8 => ⟨S4096, .f32⟩
  | 9 => ⟨S824944, .f32⟩
  | 10 => ⟨S6144, .f32⟩
  | 11 => ⟨S831088, .f32⟩
  | 12 => ⟨S_, .i32⟩
  | 13 => ⟨S_, .f32⟩
  | 14 => ⟨S851968, .f32⟩
  | 15 => ⟨S6656x128, .f32⟩
  | 16 => ⟨S4096, .f32⟩
  | 17 => ⟨S12288, .f32⟩
  | 18 => ⟨S12288, .f32⟩
  | 19 => ⟨S192, .f32⟩
  | 20 => ⟨S196608, .f32⟩
  | 21 => ⟨S196608, .f32⟩
  | 22 => ⟨S196608, .f32⟩
  | 23 => ⟨S196608, .f32⟩
  | 24 => ⟨S1536, .f32⟩
  | 25 => ⟨S1536, .f32⟩
  | 26 => ⟨S5760, .f32⟩
  | 27 => ⟨S24, .f32⟩
  | 28 => ⟨S24, .f32⟩
  | 29 => ⟨S256, .f32⟩
  | 30 => ⟨S256, .f32⟩
  | 31 => ⟨S256, .f32⟩
  | 32 => ⟨S4096, .f32⟩
  | 33 => ⟨S824944, .f32⟩
  | 34 => ⟨S6144, .f32⟩
  | 35 => ⟨S831088, .f32⟩
  | 36 => ⟨S_, .i32⟩
  | 37 => ⟨S_, .f32⟩
  | 38 => ⟨S851968, .f32⟩
  | 39 => ⟨S6656x128, .f32⟩
  | 40 => ⟨S6656x128, .f32⟩
  | 41 => ⟨S6656x128, .f32⟩
  | 42 => ⟨S6656x128, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_v1 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_c : Ref sig .tc := ⟨.hbm, 92, rfl⟩
abbrev main_call0_v0 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_c_0 : Ref sig .tc := ⟨.hbm, 116, rfl⟩
abbrev main_call1_v0 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_c_1 : Ref sig .tc := ⟨.hbm, 140, rfl⟩
abbrev main_call2_v0 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_c_2 : Ref sig .tc := ⟨.hbm, 164, rfl⟩
abbrev main_call3_v0 : Ref sig .tc := ⟨.hbm, 165, rfl⟩
abbrev main_v86 : Ref sig .tc := ⟨.hbm, 166, rfl⟩
abbrev main_v87 : Ref sig .tc := ⟨.hbm, 167, rfl⟩
abbrev main_v88_0 : Ref sig .tc := ⟨.hbm, 168, rfl⟩
abbrev main_v88_1 : Ref sig .tc := ⟨.hbm, 169, rfl⟩
abbrev main_v88_2 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2x2048 : Shape := ⟨2, ![2, 2048]⟩
abbrev S2x2x48x64 : Shape := ⟨4, ![2, 2, 48, 64]⟩
abbrev S2x2x48 : Shape := ⟨3, ![2, 2, 48]⟩
abbrev S2x2x48x64x16 : Shape := ⟨5, ![2, 2, 48, 64, 16]⟩
abbrev S2x2x48x16x64 : Shape := ⟨5, ![2, 2, 48, 16, 64]⟩
abbrev S2x768 : Shape := ⟨2, ![2, 768]⟩
abbrev S2x576x5 : Shape := ⟨3, ![2, 576, 5]⟩
abbrev S2x2x6 : Shape := ⟨3, ![2, 2, 6]⟩
abbrev S2x128 : Shape := ⟨2, ![2, 128]⟩
abbrev S2048 : Shape := ⟨1, ![2048]⟩
abbrev S_ : Shape := ⟨0, ![]⟩
abbrev S4096 : Shape := ⟨1, ![4096]⟩
abbrev S12288 : Shape := ⟨1, ![12288]⟩
abbrev S192 : Shape := ⟨1, ![192]⟩
abbrev S196608 : Shape := ⟨1, ![196608]⟩
abbrev S1536 : Shape := ⟨1, ![1536]⟩
abbrev S5760 : Shape := ⟨1, ![5760]⟩
abbrev S24 : Shape := ⟨1, ![24]⟩
abbrev S256 : Shape := ⟨1, ![256]⟩
abbrev S20880 : Shape := ⟨1, ![20880]⟩
abbrev S824944 : Shape := ⟨1, ![824944]⟩
abbrev S27024 : Shape := ⟨1, ![27024]⟩
abbrev S851968 : Shape := ⟨1, ![851968]⟩
abbrev S6656x128 : Shape := ⟨2, ![6656, 128]⟩

abbrev nBuf : Space → Nat
  | .hbm => 735
  | .vmem => 0
  | .smem => 0
  | _ => 0

abbrev hbmTy0_0 (i : Nat) : BufTy := match i % 128 with
  | 0 => ⟨S2x2048, .f32⟩
  | 1 => ⟨S2x2x48x64, .f32⟩
  | 2 => ⟨S2x2x48x64, .f32⟩
  | 3 => ⟨S2x2x48, .f32⟩
  | 4 => ⟨S2x2x48x64x16, .f32⟩
  | 5 => ⟨S2x2x48x64x16, .f32⟩
  | 6 => ⟨S2x2x48x16x64, .f32⟩
  | 7 => ⟨S2x2x48x16x64, .f32⟩
  | 8 => ⟨S2x768, .f32⟩
  | 9 => ⟨S2x768, .f32⟩
  | 10 => ⟨S2x576x5, .f32⟩
  | 11 => ⟨S2x2x6, .f32⟩
  | 12 => ⟨S2x2x6, .f32⟩
  | 13 => ⟨S2x128, .f32⟩
  | 14 => ⟨S2x128, .f32⟩
  | 15 => ⟨S2x128, .f32⟩
  | 16 => ⟨S2x2048, .f32⟩
  | 17 => ⟨S2048, .f32⟩
  | 18 => ⟨S2x2048, .f32⟩
  | 19 => ⟨S2x2x48x64, .f32⟩
  | 20 => ⟨S2x2x48x64, .f32⟩
  | 21 => ⟨S2x2x48, .f32⟩
  | 22 => ⟨S2x2x48x64x16, .f32⟩
  | 23 => ⟨S2x2x48x64x16, .f32⟩
  | 24 => ⟨S2x2x48x16x64, .f32⟩
  | 25 => ⟨S2x2x48x16x64, .f32⟩
  | 26 => ⟨S2x768, .f32⟩
  | 27 => ⟨S2x768, .f32⟩
  | 28 => ⟨S2x576x5, .f32⟩
  | 29 => ⟨S2x2x6, .f32⟩
  | 30 => ⟨S2x2x6, .f32⟩
  | 31 => ⟨S2x128, .f32⟩
  | 32 => ⟨S2x128, .f32⟩
  | 33 => ⟨S2x128, .f32⟩
  | 34 => ⟨S2x2048, .f32⟩
  | 35 => ⟨S2048, .f32⟩
  | 36 => ⟨S2x2048, .f32⟩
  | 37 => ⟨S2x2x48x64, .f32⟩
  | 38 => ⟨S2x2x48x64, .f32⟩
  | 39 => ⟨S2x2x48, .f32⟩
  | 40 => ⟨S2x2x48x64x16, .f32⟩
  | 41 => ⟨S2x2x48x64x16, .f32⟩
  | 42 => ⟨S2x2x48x16x64, .f32⟩
  | 43 => ⟨S2x2x48x16x64, .f32⟩
  | 44 => ⟨S2x768, .f32⟩
  | 45 => ⟨S2x768, .f32⟩
  | 46 => ⟨S2x576x5, .f32⟩
  | 47 => ⟨S2x2x6, .f32⟩
  | 48 => ⟨S2x2x6, .f32⟩
  | 49 => ⟨S2x128, .f32⟩
  | 50 => ⟨S2x128, .f32⟩
  | 51 => ⟨S2x128, .f32⟩
  | 52 => ⟨S2x2048, .f32⟩
  | 53 => ⟨S2048, .f32⟩
  | 54 => ⟨S2x2048, .f32⟩
  | 55 => ⟨S2x2x48x64, .f32⟩
  | 56 => ⟨S2x2x48x64, .f32⟩
  | 57 => ⟨S2x2x48, .f32⟩
  | 58 => ⟨S2x2x48x64x16, .f32⟩
  | 59 => ⟨S2x2x48x64x16, .f32⟩
  | 60 => ⟨S2x2x48x16x64, .f32⟩
  | 61 => ⟨S2x2x48x16x64, .f32⟩
  | 62 => ⟨S2x768, .f32⟩
  | 63 => ⟨S2x768, .f32⟩
  | 64 => ⟨S2x576x5, .f32⟩
  | 65 => ⟨S2x2x6, .f32⟩
  | 66 => ⟨S2x2x6, .f32⟩
  | 67 => ⟨S2x128, .f32⟩
  | 68 => ⟨S2x128, .f32⟩
  | 69 => ⟨S2x128, .f32⟩
  | 70 => ⟨S2x2048, .f32⟩
  | 71 => ⟨S2048, .f32⟩
  | 72 => ⟨S_, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .f32⟩
  | 94 => ⟨S_, .f32⟩
  | 95 => ⟨S2x2048, .f32⟩
  | 96 => ⟨S2x2048, .f32⟩
  | 97 => ⟨S2x2048, .f32⟩
  | 98 => ⟨S_, .f32⟩
  | 99 => ⟨S2x2048, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S2x2x48x64, .f32⟩
  | 107 => ⟨S2x2x48x64, .f32⟩
  | 108 => ⟨S_, .f32⟩
  | 109 => ⟨S2x2x48x64, .f32⟩
  | 110 => ⟨S2x2x48x64, .f32⟩
  | 111 => ⟨S2x2x48x64, .f32⟩
  | 112 => ⟨S_, .f32⟩
  | 113 => ⟨S2x2x48x64, .f32⟩
  | 114 => ⟨S2x2x48x64, .f32⟩
  | 115 => ⟨S2x2x48x64, .f32⟩
  | 116 => ⟨S_, .f32⟩
  | 117 => ⟨S2x2x48x64, .f32⟩
  | 118 => ⟨S2x2x48x64, .f32⟩
  | 119 => ⟨S2x2x48x64, .f32⟩
  | 120 => ⟨S_, .f32⟩
  | 121 => ⟨S2x2x48x64, .f32⟩
  | 122 => ⟨S2x2x48x64, .f32⟩
  | 123 => ⟨S_, .f32⟩
  | 124 => ⟨S2x2x48x64, .f32⟩
  | 125 => ⟨S2x2x48x64, .f32⟩
  | 126 => ⟨S2x2x48x64, .f32⟩
  | 127 => ⟨S_, .f32⟩
  | _ => ⟨S2x2048, .f32⟩

abbrev hbmTy0_1 (i : Nat) : BufTy := match i % 128 with
  | 0 => ⟨S2x2x48x64, .f32⟩
  | 1 => ⟨S2x2x48x64, .f32⟩
  | 2 => ⟨S2x2x48x64, .f32⟩
  | 3 => ⟨S_, .f32⟩
  | 4 => ⟨S2x2x48x64, .f32⟩
  | 5 => ⟨S2x2x48x64, .f32⟩
  | 6 => ⟨S2x2x48x64, .f32⟩
  | 7 => ⟨S_, .f32⟩
  | 8 => ⟨S2x2x48x64, .f32⟩
  | 9 => ⟨S2x2x48x64, .f32⟩
  | 10 => ⟨S_, .f32⟩
  | 11 => ⟨S2x2x48x64, .f32⟩
  | 12 => ⟨S2x2x48x64, .f32⟩
  | 13 => ⟨S_, .f32⟩
  | 14 => ⟨S2x2x48x64, .f32⟩
  | 15 => ⟨S2x2x48x64, .f32⟩
  | 16 => ⟨S2x2x48x64, .f32⟩
  | 17 => ⟨S_, .f32⟩
  | 18 => ⟨S2x2x48x64, .f32⟩
  | 19 => ⟨S2x2x48x64, .f32⟩
  | 20 => ⟨S2x2x48x64, .f32⟩
  | 21 => ⟨S_, .f32⟩
  | 22 => ⟨S2x2x48x64, .f32⟩
  | 23 => ⟨S2x2x48x64, .f32⟩
  | 24 => ⟨S2x2x48x64, .f32⟩
  | 25 => ⟨S_, .f32⟩
  | 26 => ⟨S2x2x48x64, .f32⟩
  | 27 => ⟨S2x2x48x64, .f32⟩
  | 28 => ⟨S_, .f32⟩
  | 29 => ⟨S2x2x48x64, .f32⟩
  | 30 => ⟨S2x2x48x64, .f32⟩
  | 31 => ⟨S2x2x48x64, .f32⟩
  | 32 => ⟨S_, .f32⟩
  | 33 => ⟨S2x2x48x64, .f32⟩
  | 34 => ⟨S2x2x48x64, .f32⟩
  | 35 => ⟨S2x2x48x64, .f32⟩
  | 36 => ⟨S_, .f32⟩
  | 37 => ⟨S2x2x48x64, .f32⟩
  | 38 => ⟨S2x2x48x64, .f32⟩
  | 39 => ⟨S2x2x48x64, .f32⟩
  | 40 => ⟨S_, .f32⟩
  | 41 => ⟨S2x2x48x64, .f32⟩
  | 42 => ⟨S2x2x48x64, .f32⟩
  | 43 => ⟨S_, .f32⟩
  | 44 => ⟨S2x2x48, .f32⟩
  | 45 => ⟨S2x2x48, .f32⟩
  | 46 => ⟨S_, .f32⟩
  | 47 => ⟨S2x2x48, .f32⟩
  | 48 => ⟨S2x2x48, .f32⟩
  | 49 => ⟨S2x2x48, .f32⟩
  | 50 => ⟨S_, .f32⟩
  | 51 => ⟨S2x2x48, .f32⟩
  | 52 => ⟨S2x2x48, .f32⟩
  | 53 => ⟨S2x2x48, .f32⟩
  | 54 => ⟨S_, .f32⟩
  | 55 => ⟨S2x2x48, .f32⟩
  | 56 => ⟨S2x2x48, .f32⟩
  | 57 => ⟨S2x2x48, .f32⟩
  | 58 => ⟨S_, .f32⟩
  | 59 => ⟨S2x2x48, .f32⟩
  | 60 => ⟨S2x2x48, .f32⟩
  | 61 => ⟨S_, .f32⟩
  | 62 => ⟨S2x2x48, .f32⟩
  | 63 => ⟨S2x2x48, .f32⟩
  | 64 => ⟨S2x2x48, .f32⟩
  | 65 => ⟨S_, .f32⟩
  | 66 => ⟨S2x2x48, .f32⟩
  | 67 => ⟨S2x2x48, .f32⟩
  | 68 => ⟨S2x2x48, .f32⟩
  | 69 => ⟨S_, .f32⟩
  | 70 => ⟨S2x2x48, .f32⟩
  | 71 => ⟨S2x2x48, .f32⟩
  | 72 => ⟨S2x2x48, .f32⟩
  | 73 => ⟨S_, .f32⟩
  | 74 => ⟨S2x2x48, .f32⟩
  | 75 => ⟨S2x2x48, .f32⟩
  | 76 => ⟨S_, .f32⟩
  | 77 => ⟨S2x2x48x64x16, .f32⟩
  | 78 => ⟨S2x2x48x64x16, .f32⟩
  | 79 => ⟨S_, .f32⟩
  | 80 => ⟨S2x2x48x64x16, .f32⟩
  | 81 => ⟨S2x2x48x64x16, .f32⟩
  | 82 => ⟨S2x2x48x64x16, .f32⟩
  | 83 => ⟨S_, .f32⟩
  | 84 => ⟨S2x2x48x64x16, .f32⟩
  | 85 => ⟨S2x2x48x64x16, .f32⟩
  | 86 => ⟨S2x2x48x64x16, .f32⟩
  | 87 => ⟨S_, .f32⟩
  | 88 => ⟨S2x2x48x64x16, .f32⟩
  | 89 => ⟨S2x2x48x64x16, .f32⟩
  | 90 => ⟨S2x2x48x64x16, .f32⟩
  | 91 => ⟨S_, .f32⟩
  | 92 => ⟨S2x2x48x64x16, .f32⟩
  | 93 => ⟨S2x2x48x64x16, .f32⟩
  | 94 => ⟨S_, .f32⟩
  | 95 => ⟨S2x2x48x64x16, .f32⟩
  | 96 => ⟨S2x2x48x64x16, .f32⟩
  | 97 => ⟨S2x2x48x64x16, .f32⟩
  | 98 => ⟨S_, .f32⟩
  | 99 => ⟨S2x2x48x64x16, .f32⟩
  | 100 => ⟨S2x2x48x64x16, .f32⟩
  | 101 => ⟨S2x2x48x64x16, .f32⟩
  | 102 => ⟨S_, .f32⟩
  | 103 => ⟨S2x2x48x64x16, .f32⟩
  | 104 => ⟨S2x2x48x64x16, .f32⟩
  | 105 => ⟨S2x2x48x64x16, .f32⟩
  | 106 => ⟨S_, .f32⟩
  | 107 => ⟨S2x2x48x64x16, .f32⟩
  | 108 => ⟨S2x2x48x64x16, .f32⟩
  | 109 => ⟨S_, .f32⟩
  | 110 => ⟨S2x2x48x64x16, .f32⟩
  | 111 => ⟨S2x2x48x64x16, .f32⟩
  | 112 => ⟨S_, .f32⟩
  | 113 => ⟨S2x2x48x64x16, .f32⟩
  | 114 => ⟨S2x2x48x64x16, .f32⟩
  | 115 => ⟨S2x2x48x64x16, .f32⟩
  | 116 => ⟨S_, .f32⟩
  | 117 => ⟨S2x2x48x64x16, .f32⟩
  | 118 => ⟨S2x2x48x64x16, .f32⟩
  | 119 => ⟨S2x2x48x64x16, .f32⟩
  | 120 => ⟨S_, .f32⟩
  | 121 => ⟨S2x2x48x64x16, .f32⟩
  | 122 => ⟨S2x2x48x64x16, .f32⟩
  | 123 => ⟨S2x2x48x64x16, .f32⟩
  | 124 => ⟨S_, .f32⟩
  | 125 => ⟨S2x2x48x64x16, .f32⟩
  | 126 => ⟨S2x2x48x64x16, .f32⟩
  | 127 => ⟨S_, .f32⟩
  | _ => ⟨S2x2048, .f32⟩

abbrev hbmTy0_2 (i : Nat) : BufTy := match i % 128 with
  | 0 => ⟨S2x2x48x64x16, .f32⟩
  | 1 => ⟨S2x2x48x64x16, .f32⟩
  | 2 => ⟨S2x2x48x64x16, .f32⟩
  | 3 => ⟨S_, .f32⟩
  | 4 => ⟨S2x2x48x64x16, .f32⟩
  | 5 => ⟨S2x2x48x64x16, .f32⟩
  | 6 => ⟨S2x2x48x64x16, .f32⟩
  | 7 => ⟨S_, .f32⟩
  | 8 => ⟨S2x2x48x64x16, .f32⟩
  | 9 => ⟨S2x2x48x64x16, .f32⟩
  | 10 => ⟨S2x2x48x64x16, .f32⟩
  | 11 => ⟨S_, .f32⟩
  | 12 => ⟨S2x2x48x64x16, .f32⟩
  | 13 => ⟨S2x2x48x64x16, .f32⟩
  | 14 => ⟨S_, .f32⟩
  | 15 => ⟨S2x2x48x16x64, .f32⟩
  | 16 => ⟨S2x2x48x16x64, .f32⟩
  | 17 => ⟨S_, .f32⟩
  | 18 => ⟨S2x2x48x16x64, .f32⟩
  | 19 => ⟨S2x2x48x16x64, .f32⟩
  | 20 => ⟨S2x2x48x16x64, .f32⟩
  | 21 => ⟨S_, .f32⟩
  | 22 => ⟨S2x2x48x16x64, .f32⟩
  | 23 => ⟨S2x2x48x16x64, .f32⟩
  | 24 => ⟨S2x2x48x16x64, .f32⟩
  | 25 => ⟨S_, .f32⟩
  | 26 => ⟨S2x2x48x16x64, .f32⟩
  | 27 => ⟨S2x2x48x16x64, .f32⟩
  | 28 => ⟨S2x2x48x16x64, .f32⟩
  | 29 => ⟨S_, .f32⟩
  | 30 => ⟨S2x2x48x16x64, .f32⟩
  | 31 => ⟨S2x2x48x16x64, .f32⟩
  | 32 => ⟨S_, .f32⟩
  | 33 => ⟨S2x2x48x16x64, .f32⟩
  | 34 => ⟨S2x2x48x16x64, .f32⟩
  | 35 => ⟨S2x2x48x16x64, .f32⟩
  | 36 => ⟨S_, .f32⟩
  | 37 => ⟨S2x2x48x16x64, .f32⟩
  | 38 => ⟨S2x2x48x16x64, .f32⟩
  | 39 => ⟨S2x2x48x16x64, .f32⟩
  | 40 => ⟨S_, .f32⟩
  | 41 => ⟨S2x2x48x16x64, .f32⟩
  | 42 => ⟨S2x2x48x16x64, .f32⟩
  | 43 => ⟨S2x2x48x16x64, .f32⟩
  | 44 => ⟨S_, .f32⟩
  | 45 => ⟨S2x2x48x16x64, .f32⟩
  | 46 => ⟨S2x2x48x16x64, .f32⟩
  | 47 => ⟨S_, .f32⟩
  | 48 => ⟨S2x2x48x16x64, .f32⟩
  | 49 => ⟨S2x2x48x16x64, .f32⟩
  | 50 => ⟨S_, .f32⟩
  | 51 => ⟨S2x2x48x16x64, .f32⟩
  | 52 => ⟨S2x2x48x16x64, .f32⟩
  | 53 => ⟨S2x2x48x16x64, .f32⟩
  | 54 => ⟨S_, .f32⟩
  | 55 => ⟨S2x2x48x16x64, .f32⟩
  | 56 => ⟨S2x2x48x16x64, .f32⟩
  | 57 => ⟨S2x2x48x16x64, .f32⟩
  | 58 => ⟨S_, .f32⟩
  | 59 => ⟨S2x2x48x16x64, .f32⟩
  | 60 => ⟨S2x2x48x16x64, .f32⟩
  | 61 => ⟨S2x2x48x16x64, .f32⟩
  | 62 => ⟨S_, .f32⟩
  | 63 => ⟨S2x2x48x16x64, .f32⟩
  | 64 => ⟨S2x2x48x16x64, .f32⟩
  | 65 => ⟨S_, .f32⟩
  | 66 => ⟨S2x2x48x16x64, .f32⟩
  | 67 => ⟨S2x2x48x16x64, .f32⟩
  | 68 => ⟨S2x2x48x16x64, .f32⟩
  | 69 => ⟨S_, .f32⟩
  | 70 => ⟨S2x2x48x16x64, .f32⟩
  | 71 => ⟨S2x2x48x16x64, .f32⟩
  | 72 => ⟨S2x2x48x16x64, .f32⟩
  | 73 => ⟨S_, .f32⟩
  | 74 => ⟨S2x2x48x16x64, .f32⟩
  | 75 => ⟨S2x2x48x16x64, .f32⟩
  | 76 => ⟨S2x2x48x16x64, .f32⟩
  | 77 => ⟨S_, .f32⟩
  | 78 => ⟨S2x2x48x16x64, .f32⟩
  | 79 => ⟨S2x2x48x16x64, .f32⟩
  | 80 => ⟨S_, .f32⟩
  | 81 => ⟨S2x768, .f32⟩
  | 82 => ⟨S2x768, .f32⟩
  | 83 => ⟨S_, .f32⟩
  | 84 => ⟨S2x768, .f32⟩
  | 85 => ⟨S2x768, .f32⟩
  | 86 => ⟨S2x768, .f32⟩
  | 87 => ⟨S_, .f32⟩
  | 88 => ⟨S2x768, .f32⟩
  | 89 => ⟨S2x768, .f32⟩
  | 90 => ⟨S2x768, .f32⟩
  | 91 => ⟨S_, .f32⟩
  | 92 => ⟨S2x768, .f32⟩
  | 93 => ⟨S2x768, .f32⟩
  | 94 => ⟨S2x768, .f32⟩
  | 95 => ⟨S_, .f32⟩
  | 96 => ⟨S2x768, .f32⟩
  | 97 => ⟨S2x768, .f32⟩
  | 98 => ⟨S_, .f32⟩
  | 99 => ⟨S2x768, .f32⟩
  | 100 => ⟨S2x768, .f32⟩
  | 101 => ⟨S2x768, .f32⟩
  | 102 => ⟨S_, .f32⟩
  | 103 => ⟨S2x768, .f32⟩
  | 104 => ⟨S2x768, .f32⟩
  | 105 => ⟨S2x768, .f32⟩
  | 106 => ⟨S_, .f32⟩
  | 107 => ⟨S2x768, .f32⟩
  | 108 => ⟨S2x768, .f32⟩
  | 109 => ⟨S2x768, .f32⟩
  | 110 => ⟨S_, .f32⟩
  | 111 => ⟨S2x768, .f32⟩
  | 112 => ⟨S2x768, .f32⟩
  | 113 => ⟨S_, .f32⟩
  | 114 => ⟨S2x768, .f32⟩
  | 115 => ⟨S2x768, .f32⟩
  | 116 => ⟨S_, .f32⟩
  | 117 => ⟨S2x768, .f32⟩
  | 118 => ⟨S2x768, .f32⟩
  | 119 => ⟨S2x768, .f32⟩
  | 120 => ⟨S_, .f32⟩
  | 121 => ⟨S2x768, .f32⟩
  | 122 => ⟨S2x768, .f32⟩
  | 123 => ⟨S2x768, .f32⟩
  | 124 => ⟨S_, .f32⟩
  | 125 => ⟨S2x768, .f32⟩
  | 126 => ⟨S2x768, .f32⟩
  | 127 => ⟨S2x768, .f32⟩
  | _ => ⟨S2x2048, .f32⟩

abbrev hbmTy0_3 (i : Nat) : BufTy := match i % 128 with
  | 0 => ⟨S_, .f32⟩
  | 1 => ⟨S2x768, .f32⟩
  | 2 => ⟨S2x768, .f32⟩
  | 3 => ⟨S_, .f32⟩
  | 4 => ⟨S2x768, .f32⟩
  | 5 => ⟨S2x768, .f32⟩
  | 6 => ⟨S2x768, .f32⟩
  | 7 => ⟨S_, .f32⟩
  | 8 => ⟨S2x768, .f32⟩
  | 9 => ⟨S2x768, .f32⟩
  | 10 => ⟨S2x768, .f32⟩
  | 11 => ⟨S_, .f32⟩
  | 12 => ⟨S2x768, .f32⟩
  | 13 => ⟨S2x768, .f32⟩
  | 14 => ⟨S2x768, .f32⟩
  | 15 => ⟨S_, .f32⟩
  | 16 => ⟨S2x768, .f32⟩
  | 17 => ⟨S2x768, .f32⟩
  | 18 => ⟨S_, .f32⟩
  | 19 => ⟨S2x576x5, .f32⟩
  | 20 => ⟨S2x576x5, .f32⟩
  | 21 => ⟨S_, .f32⟩
  | 22 => ⟨S2x576x5, .f32⟩
  | 23 => ⟨S2x576x5, .f32⟩
  | 24 => ⟨S2x576x5, .f32⟩
  | 25 => ⟨S_, .f32⟩
  | 26 => ⟨S2x576x5, .f32⟩
  | 27 => ⟨S2x576x5, .f32⟩
  | 28 => ⟨S2x576x5, .f32⟩
  | 29 => ⟨S_, .f32⟩
  | 30 => ⟨S2x576x5, .f32⟩
  | 31 => ⟨S2x576x5, .f32⟩
  | 32 => ⟨S2x576x5, .f32⟩
  | 33 => ⟨S_, .f32⟩
  | 34 => ⟨S2x576x5, .f32⟩
  | 35 => ⟨S2x576x5, .f32⟩
  | 36 => ⟨S_, .f32⟩
  | 37 => ⟨S2x576x5, .f32⟩
  | 38 => ⟨S2x576x5, .f32⟩
  | 39 => ⟨S2x576x5, .f32⟩
  | 40 => ⟨S_, .f32⟩
  | 41 => ⟨S2x576x5, .f32⟩
  | 42 => ⟨S2x576x5, .f32⟩
  | 43 => ⟨S2x576x5, .f32⟩
  | 44 => ⟨S_, .f32⟩
  | 45 => ⟨S2x576x5, .f32⟩
  | 46 => ⟨S2x576x5, .f32⟩
  | 47 => ⟨S2x576x5, .f32⟩
  | 48 => ⟨S_, .f32⟩
  | 49 => ⟨S2x576x5, .f32⟩
  | 50 => ⟨S2x576x5, .f32⟩
  | 51 => ⟨S_, .f32⟩
  | 52 => ⟨S2x2x6, .f32⟩
  | 53 => ⟨S2x2x6, .f32⟩
  | 54 => ⟨S_, .f32⟩
  | 55 => ⟨S2x2x6, .f32⟩
  | 56 => ⟨S2x2x6, .f32⟩
  | 57 => ⟨S2x2x6, .f32⟩
  | 58 => ⟨S_, .f32⟩
  | 59 => ⟨S2x2x6, .f32⟩
  | 60 => ⟨S2x2x6, .f32⟩
  | 61 => ⟨S2x2x6, .f32⟩
  | 62 => ⟨S_, .f32⟩
  | 63 => ⟨S2x2x6, .f32⟩
  | 64 => ⟨S2x2x6, .f32⟩
  | 65 => ⟨S2x2x6, .f32⟩
  | 66 => ⟨S_, .f32⟩
  | 67 => ⟨S2x2x6, .f32⟩
  | 68 => ⟨S2x2x6, .f32⟩
  | 69 => ⟨S_, .f32⟩
  | 70 => ⟨S2x2x6, .f32⟩
  | 71 => ⟨S2x2x6, .f32⟩
  | 72 => ⟨S2x2x6, .f32⟩
  | 73 => ⟨S_, .f32⟩
  | 74 => ⟨S2x2x6, .f32⟩
  | 75 => ⟨S2x2x6, .f32⟩
  | 76 => ⟨S2x2x6, .f32⟩
  | 77 => ⟨S_, .f32⟩
  | 78 => ⟨S2x2x6, .f32⟩
  | 79 => ⟨S2x2x6, .f32⟩
  | 80 => ⟨S2x2x6, .f32⟩
  | 81 => ⟨S_, .f32⟩
  | 82 => ⟨S2x2x6, .f32⟩
  | 83 => ⟨S2x2x6, .f32⟩
  | 84 => ⟨S_, .f32⟩
  | 85 => ⟨S2x2x6, .f32⟩
  | 86 => ⟨S2x2x6, .f32⟩
  | 87 => ⟨S_, .f32⟩
  | 88 => ⟨S2x2x6, .f32⟩
  | 89 => ⟨S2x2x6, .f32⟩
  | 90 => ⟨S2x2x6, .f32⟩
  | 91 => ⟨S_, .f32⟩
  | 92 => ⟨S2x2x6, .f32⟩
  | 93 => ⟨S2x2x6, .f32⟩
  | 94 => ⟨S2x2x6, .f32⟩
  | 95 => ⟨S_, .f32⟩
  | 96 => ⟨S2x2x6, .f32⟩
  | 97 => ⟨S2x2x6, .f32⟩
  | 98 => ⟨S2x2x6, .f32⟩
  | 99 => ⟨S_, .f32⟩
  | 100 => ⟨S2x2x6, .f32⟩
  | 101 => ⟨S2x2x6, .f32⟩
  | 102 => ⟨S_, .f32⟩
  | 103 => ⟨S2x2x6, .f32⟩
  | 104 => ⟨S2x2x6, .f32⟩
  | 105 => ⟨S2x2x6, .f32⟩
  | 106 => ⟨S_, .f32⟩
  | 107 => ⟨S2x2x6, .f32⟩
  | 108 => ⟨S2x2x6, .f32⟩
  | 109 => ⟨S2x2x6, .f32⟩
  | 110 => ⟨S_, .f32⟩
  | 111 => ⟨S2x2x6, .f32⟩
  | 112 => ⟨S2x2x6, .f32⟩
  | 113 => ⟨S2x2x6, .f32⟩
  | 114 => ⟨S_, .f32⟩
  | 115 => ⟨S2x2x6, .f32⟩
  | 116 => ⟨S2x2x6, .f32⟩
  | 117 => ⟨S_, .f32⟩
  | 118 => ⟨S2x128, .f32⟩
  | 119 => ⟨S2x128, .f32⟩
  | 120 => ⟨S_, .f32⟩
  | 121 => ⟨S2x128, .f32⟩
  | 122 => ⟨S2x128, .f32⟩
  | 123 => ⟨S2x128, .f32⟩
  | 124 => ⟨S_, .f32⟩
  | 125 => ⟨S2x128, .f32⟩
  | 126 => ⟨S2x128, .f32⟩
  | 127 => ⟨S2x128, .f32⟩
  | _ => ⟨S2x2048, .f32⟩

abbrev hbmTy0_4 (i : Nat) : BufTy := match i % 128 with
  | 0 => ⟨S_, .f32⟩
  | 1 => ⟨S2x128, .f32⟩
  | 2 => ⟨S2x128, .f32⟩
  | 3 => ⟨S2x128, .f32⟩
  | 4 => ⟨S_, .f32⟩
  | 5 => ⟨S2x128, .f32⟩
  | 6 => ⟨S2x128, .f32⟩
  | 7 => ⟨S_, .f32⟩
  | 8 => ⟨S2x128, .f32⟩
  | 9 => ⟨S2x128, .f32⟩
  | 10 => ⟨S2x128, .f32⟩
  | 11 => ⟨S_, .f32⟩
  | 12 => ⟨S2x128, .f32⟩
  | 13 => ⟨S2x128, .f32⟩
  | 14 => ⟨S2x128, .f32⟩
  | 15 => ⟨S_, .f32⟩
  | 16 => ⟨S2x128, .f32⟩
  | 17 => ⟨S2x128, .f32⟩
  | 18 => ⟨S2x128, .f32⟩
  | 19 => ⟨S_, .f32⟩
  | 20 => ⟨S2x128, .f32⟩
  | 21 => ⟨S2x128, .f32⟩
  | 22 => ⟨S_, .f32⟩
  | 23 => ⟨S2x128, .f32⟩
  | 24 => ⟨S2x128, .f32⟩
  | 25 => ⟨S_, .f32⟩
  | 26 => ⟨S2x128, .f32⟩
  | 27 => ⟨S2x128, .f32⟩
  | 28 => ⟨S2x128, .f32⟩
  | 29 => ⟨S_, .f32⟩
  | 30 => ⟨S2x128, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S2x128, .f32⟩
  | 37 => ⟨S_, .f32⟩
  | 38 => ⟨S2x128, .f32⟩
  | 39 => ⟨S2x128, .f32⟩
  | 40 => ⟨S_, .f32⟩
  | 41 => ⟨S2x128, .f32⟩
  | 42 => ⟨S2x128, .f32⟩
  | 43 => ⟨S2x128, .f32⟩
  | 44 => ⟨S_, .f32⟩
  | 45 => ⟨S2x128, .f32⟩
  | 46 => ⟨S2x128, .f32⟩
  | 47 => ⟨S2x128, .f32⟩
  | 48 => ⟨S_, .f32⟩
  | 49 => ⟨S2x128, .f32⟩
  | 50 => ⟨S2x128, .f32⟩
  | 51 => ⟨S2x128, .f32⟩
  | 52 => ⟨S_, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S_, .f32⟩
  | 59 => ⟨S2x128, .f32⟩
  | 60 => ⟨S2x128, .f32⟩
  | 61 => ⟨S2x128, .f32⟩
  | 62 => ⟨S_, .f32⟩
  | 63 => ⟨S2x128, .f32⟩
  | 64 => ⟨S2x128, .f32⟩
  | 65 => ⟨S2x128, .f32⟩
  | 66 => ⟨S_, .f32⟩
  | 67 => ⟨S2x128, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S_, .f32⟩
  | 74 => ⟨S2x128, .f32⟩
  | 75 => ⟨S2x128, .f32⟩
  | 76 => ⟨S2x128, .f32⟩
  | 77 => ⟨S_, .f32⟩
  | 78 => ⟨S2x128, .f32⟩
  | 79 => ⟨S2x128, .f32⟩
  | 80 => ⟨S2x128, .f32⟩
  | 81 => ⟨S_, .f32⟩
  | 82 => ⟨S2x128, .f32⟩
  | 83 => ⟨S2x128, .f32⟩
  | 84 => ⟨S2x128, .f32⟩
  | 85 => ⟨S_, .f32⟩
  | 86 => ⟨S2x128, .f32⟩
  | 87 => ⟨S2x128, .f32⟩
  | 88 => ⟨S_, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S_, .f32⟩
  | 107 => ⟨S2x2048, .f32⟩
  | 108 => ⟨S2x2048, .f32⟩
  | 109 => ⟨S2x2048, .f32⟩
  | 110 => ⟨S_, .f32⟩
  | 111 => ⟨S2x2048, .f32⟩
  | 112 => ⟨S2x2048, .f32⟩
  | 113 => ⟨S2x2048, .f32⟩
  | 114 => ⟨S_, .f32⟩
  | 115 => ⟨S2x2048, .f32⟩
  | 116 => ⟨S2x2048, .f32⟩
  | 117 => ⟨S2x2048, .f32⟩
  | 118 => ⟨S_, .f32⟩
  | 119 => ⟨S2x2048, .f32⟩
  | 120 => ⟨S2x2048, .f32⟩
  | 121 => ⟨S_, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S2x2048, .f32⟩

abbrev hbmTy0_5 (i : Nat) : BufTy := match i % 128 with
  | 0 => ⟨S_, .f32⟩
  | 1 => ⟨S2048, .f32⟩
  | 2 => ⟨S2048, .f32⟩
  | 3 => ⟨S2048, .f32⟩
  | 4 => ⟨S_, .f32⟩
  | 5 => ⟨S2048, .f32⟩
  | 6 => ⟨S2048, .f32⟩
  | 7 => ⟨S2048, .f32⟩
  | 8 => ⟨S_, .f32⟩
  | 9 => ⟨S2048, .f32⟩
  | 10 => ⟨S2048, .f32⟩
  | 11 => ⟨S_, .f32⟩
  | 12 => ⟨S2048, .f32⟩
  | 13 => ⟨S2048, .f32⟩
  | 14 => ⟨S2048, .f32⟩
  | 15 => ⟨S_, .f32⟩
  | 16 => ⟨S2048, .f32⟩
  | 17 => ⟨S2048, .f32⟩
  | 18 => ⟨S2048, .f32⟩
  | 19 => ⟨S_, .f32⟩
  | 20 => ⟨S2048, .f32⟩
  | 21 => ⟨S2048, .f32⟩
  | 22 => ⟨S2048, .f32⟩
  | 23 => ⟨S_, .f32⟩
  | 24 => ⟨S2048, .f32⟩
  | 25 => ⟨S2048, .f32⟩
  | 26 => ⟨S4096, .f32⟩
  | 27 => ⟨S12288, .f32⟩
  | 28 => ⟨S12288, .f32⟩
  | 29 => ⟨S192, .f32⟩
  | 30 => ⟨S196608, .f32⟩
  | 31 => ⟨S196608, .f32⟩
  | 32 => ⟨S196608, .f32⟩
  | 33 => ⟨S196608, .f32⟩
  | 34 => ⟨S1536, .f32⟩
  | 35 => ⟨S1536, .f32⟩
  | 36 => ⟨S5760, .f32⟩
  | 37 => ⟨S24, .f32⟩
  | 38 => ⟨S24, .f32⟩
  | 39 => ⟨S256, .f32⟩
  | 40 => ⟨S256, .f32⟩
  | 41 => ⟨S256, .f32⟩
  | 42 => ⟨S4096, .f32⟩
  | 43 => ⟨S_, .f32⟩
  | 44 => ⟨S20880, .f32⟩
  | 45 => ⟨S824944, .f32⟩
  | 46 => ⟨S27024, .f32⟩
  | 47 => ⟨S851968, .f32⟩
  | 48 => ⟨S6656x128, .f32⟩
  | 49 => ⟨S4096, .f32⟩
  | 50 => ⟨S12288, .f32⟩
  | 51 => ⟨S12288, .f32⟩
  | 52 => ⟨S192, .f32⟩
  | 53 => ⟨S196608, .f32⟩
  | 54 => ⟨S196608, .f32⟩
  | 55 => ⟨S196608, .f32⟩
  | 56 => ⟨S196608, .f32⟩
  | 57 => ⟨S1536, .f32⟩
  | 58 => ⟨S1536, .f32⟩
  | 59 => ⟨S5760, .f32⟩
  | 60 => ⟨S24, .f32⟩
  | 61 => ⟨S24, .f32⟩
  | 62 => ⟨S256, .f32⟩
  | 63 => ⟨S256, .f32⟩
  | 64 => ⟨S256, .f32⟩
  | 65 => ⟨S4096, .f32⟩
  | 66 => ⟨S_, .f32⟩
  | 67 => ⟨S20880, .f32⟩
  | 68 => ⟨S824944, .f32⟩
  | 69 => ⟨S27024, .f32⟩
  | 70 => ⟨S851968, .f32⟩
  | 71 => ⟨S6656x128, .f32⟩
  | 72 => ⟨S4096, .f32⟩
  | 73 => ⟨S12288, .f32⟩
  | 74 => ⟨S12288, .f32⟩
  | 75 => ⟨S192, .f32⟩
  | 76 => ⟨S196608, .f32⟩
  | 77 => ⟨S196608, .f32⟩
  | 78 => ⟨S196608, .f32⟩
  | 79 => ⟨S196608, .f32⟩
  | 80 => ⟨S1536, .f32⟩
  | 81 => ⟨S1536, .f32⟩
  | 82 => ⟨S5760, .f32⟩
  | 83 => ⟨S24, .f32⟩
  | 84 => ⟨S24, .f32⟩
  | 85 => ⟨S256, .f32⟩
  | 86 => ⟨S256, .f32⟩
  | 87 => ⟨S256, .f32⟩
  | 88 => ⟨S4096, .f32⟩
  | 89 => ⟨S_, .f32⟩
  | 90 => ⟨S20880, .f32⟩
  | 91 => ⟨S824944, .f32⟩
  | 92 => ⟨S27024, .f32⟩
  | 93 => ⟨S851968, .f32⟩
  | 94 => ⟨S6656x128, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩
abbrev main_v432 : Ref sig .tc := ⟨.hbm, 666, rfl⟩
abbrev main_v433 : Ref sig .tc := ⟨.hbm, 667, rfl⟩
abbrev main_v434 : Ref sig .tc := ⟨.hbm, 668, rfl⟩
abbrev main_v435 : Ref sig .tc := ⟨.hbm, 669, rfl⟩
abbrev main_v436 : Ref sig .tc := ⟨.hbm, 670, rfl⟩
abbrev main_v437 : Ref sig .tc := ⟨.hbm, 671, rfl⟩
abbrev main_v438 : Ref sig .tc := ⟨.hbm, 672, rfl⟩
abbrev main_v439 : Ref sig .tc := ⟨.hbm, 673, rfl⟩
abbrev main_v440 : Ref sig .tc := ⟨.hbm, 674, rfl⟩
abbrev main_v441 : Ref sig .tc := ⟨.hbm, 675, rfl⟩
abbrev main_v442 : Ref sig .tc := ⟨.hbm, 676, rfl⟩
abbrev main_v443 : Ref sig .tc := ⟨.hbm, 677, rfl⟩
abbrev main_v444 : Ref sig .tc := ⟨.hbm, 678, rfl⟩
abbrev main_v445 : Ref sig .tc := ⟨.hbm, 679, rfl⟩
abbrev main_v446 : Ref sig .tc := ⟨.hbm, 680, rfl⟩
abbrev main_v447 : Ref sig .tc := ⟨.hbm, 681, rfl⟩
abbrev main_v448 : Ref sig .tc := ⟨.hbm, 682, rfl⟩
abbrev main_cst_161 : Ref sig .tc := ⟨.hbm, 683, rfl⟩
abbrev main_v449 : Ref sig .tc := ⟨.hbm, 684, rfl⟩
abbrev main_v450 : Ref sig .tc := ⟨.hbm, 685, rfl⟩
abbrev main_v451 : Ref sig .tc := ⟨.hbm, 686, rfl⟩
abbrev main_v452 : Ref sig .tc := ⟨.hbm, 687, rfl⟩
abbrev main_v453 : Ref sig .tc := ⟨.hbm, 688, rfl⟩
abbrev main_v454 : Ref sig .tc := ⟨.hbm, 689, rfl⟩
abbrev main_v455 : Ref sig .tc := ⟨.hbm, 690, rfl⟩
abbrev main_v456 : Ref sig .tc := ⟨.hbm, 691, rfl⟩
abbrev main_v457 : Ref sig .tc := ⟨.hbm, 692, rfl⟩
abbrev main_v458 : Ref sig .tc := ⟨.hbm, 693, rfl⟩
abbrev main_v459 : Ref sig .tc := ⟨.hbm, 694, rfl⟩
abbrev main_v460 : Ref sig .tc := ⟨.hbm, 695, rfl⟩
abbrev main_v461 : Ref sig .tc := ⟨.hbm, 696, rfl⟩
abbrev main_v462 : Ref sig .tc := ⟨.hbm, 697, rfl⟩
abbrev main_v463 : Ref sig .tc := ⟨.hbm, 698, rfl⟩
abbrev main_v464 : Ref sig .tc := ⟨.hbm, 699, rfl⟩
abbrev main_v465 : Ref sig .tc := ⟨.hbm, 700, rfl⟩
abbrev main_v466 : Ref sig .tc := ⟨.hbm, 701, rfl⟩
abbrev main_v467 : Ref sig .tc := ⟨.hbm, 702, rfl⟩
abbrev main_v468 : Ref sig .tc := ⟨.hbm, 703, rfl⟩
abbrev main_v469 : Ref sig .tc := ⟨.hbm, 704, rfl⟩
abbrev main_v470 : Ref sig .tc := ⟨.hbm, 705, rfl⟩
abbrev main_cst_162 : Ref sig .tc := ⟨.hbm, 706, rfl⟩
abbrev main_v471 : Ref sig .tc := ⟨.hbm, 707, rfl⟩
abbrev main_v472 : Ref sig .tc := ⟨.hbm, 708, rfl⟩
abbrev main_v473 : Ref sig .tc := ⟨.hbm, 709, rfl⟩
abbrev main_v474 : Ref sig .tc := ⟨.hbm, 710, rfl⟩
abbrev main_v475 : Ref sig .tc := ⟨.hbm, 711, rfl⟩
abbrev main_v476 : Ref sig .tc := ⟨.hbm, 712, rfl⟩
abbrev main_v477 : Ref sig .tc := ⟨.hbm, 713, rfl⟩
abbrev main_v478 : Ref sig .tc := ⟨.hbm, 714, rfl⟩
abbrev main_v479 : Ref sig .tc := ⟨.hbm, 715, rfl⟩
abbrev main_v480 : Ref sig .tc := ⟨.hbm, 716, rfl⟩
abbrev main_v481 : Ref sig .tc := ⟨.hbm, 717, rfl⟩
abbrev main_v482 : Ref sig .tc := ⟨.hbm, 718, rfl⟩
abbrev main_v483 : Ref sig .tc := ⟨.hbm, 719, rfl⟩
abbrev main_v484 : Ref sig .tc := ⟨.hbm, 720, rfl⟩
abbrev main_v485 : Ref sig .tc := ⟨.hbm, 721, rfl⟩
abbrev main_v486 : Ref sig .tc := ⟨.hbm, 722, rfl⟩
abbrev main_v487 : Ref sig .tc := ⟨.hbm, 723, rfl⟩
abbrev main_v488 : Ref sig .tc := ⟨.hbm, 724, rfl⟩
abbrev main_v489 : Ref sig .tc := ⟨.hbm, 725, rfl⟩
abbrev main_v490 : Ref sig .tc := ⟨.hbm, 726, rfl⟩
abbrev main_v491 : Ref sig .tc := ⟨.hbm, 727, rfl⟩
abbrev main_v492 : Ref sig .tc := ⟨.hbm, 728, rfl⟩
abbrev main_cst_163 : Ref sig .tc := ⟨.hbm, 729, rfl⟩
abbrev main_v493 : Ref sig .tc := ⟨.hbm, 730, rfl⟩
abbrev main_v494 : Ref sig .tc := ⟨.hbm, 731, rfl⟩
abbrev main_v495 : Ref sig .tc := ⟨.hbm, 732, rfl⟩
abbrev main_v496 : Ref sig .tc := ⟨.hbm, 733, rfl⟩
abbrev main_v497 : Ref sig .tc := ⟨.hbm, 734, rfl⟩

abbrev nD : Nat := 1
abbrev τ : Topo := Topo.v7x

variable {F : FTy → Type} [FloatOps F]
-- ==== Kernel12.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S768x2048, .bf16⟩
  | .hbm, ⟨3, _⟩ => ⟨S8192x2048, .f32⟩
  | .local _ .vmem, ⟨0, _⟩ => ⟨S1024x768, .f32⟩
  | .local _ .vmem, ⟨1, _⟩ => ⟨S1024x768, .f32⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S768x2048, .bf16⟩
  | .hbm, ⟨3, _⟩ => ⟨S8192x2048, .f32⟩
  | .local _ .vmem, ⟨0, _⟩ => ⟨S1024x768, .f32⟩
  | .local _ .vmem, ⟨1, _⟩ => ⟨S1024x768, .f32⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x768 : Shape := ⟨2, ![8192, 768]⟩
abbrev S768x2048 : Shape := ⟨2, ![768, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S768x2048 : Shape := ⟨2, ![768, 2048]⟩
abbrev S8192x2048 : Shape := ⟨2, ![8192, 2048]⟩
abbrev S8192x768 : Shape := ⟨2, ![8192, 768]⟩
abbrev S1024x2048 : Shape := ⟨2, ![1024, 2048]⟩
abbrev S384x2048 : Shape := ⟨2, ![384, 2048]⟩
abbrev S1024x384 : Shape := ⟨2, ![1024, 384]⟩

abbrev nBuf : Space → Nat
  | .hbm => 4
  | .vmem => 6
  | .smem => 0
  | _ => 0

abbrev bufTy : (tb : Table) → Fin (tcTables nBuf tb) → BufTy
  | .hbm, ⟨0, _⟩ => ⟨S768x2048, .f32⟩
  | .hbm, ⟨1, _⟩ => ⟨S8192x2048, .f32⟩
  | .hbm, ⟨2, _⟩ => ⟨S768x2048, .bf16⟩
  | .hbm, ⟨3, _⟩ => ⟨S8192x768, .f32⟩
  | .local _ .vmem, ⟨0, _⟩ => ⟨S1024x2048, .f32⟩
  | .local _ .vmem, ⟨1, _⟩ => ⟨S1024x2048, .f32⟩
  | .local _ .vmem, ⟨2, _⟩ => ⟨S384x2048, .bf16⟩
  | .local _ .vmem, ⟨3, _⟩ => ⟨S384x2048, .bf16⟩
  | .local _ .vmem, ⟨4, _⟩ => ⟨S1024x384, .f32⟩
  | .local _ .vmem, ⟨5, _⟩ => ⟨S1024x384, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S768x2048 : Shape := ⟨2, ![768, 2048]⟩
abbrev S8192x2048 : Shape := ⟨2, ![8192, 2048]⟩
abbrev S8192x768 : Shape := ⟨2, ![8192, 768]⟩
abbrev S1024x2048 : Shape := ⟨2, ![1024, 2048]⟩
abbrev S384x2048 : Shape := ⟨2, ![384, 2048]⟩
abbrev S1024x384 : Shape := ⟨2, ![1024, 384]⟩

abbrev nBuf : Space → Nat
  | .hbm => 4
  | .vmem => 6
  | .smem => 0
  | _ => 0

abbrev bufTy : (tb : Table) → Fin (tcTables nBuf tb) → BufTy
  | .hbm, ⟨0, _⟩ => ⟨S768x2048, .f32⟩
  | .hbm, ⟨1, _⟩ => ⟨S8192x2048, .f32⟩
  | .hbm, ⟨2, _⟩ => ⟨S768x2048, .bf16⟩
  | .hbm, ⟨3, _⟩ => ⟨S8192x768, .f32⟩
  | .local _ .vmem, ⟨0, _⟩ => ⟨S1024x2048, .f32⟩
  | .local _ .vmem, ⟨1, _⟩ => ⟨S1024x2048, .f32⟩
  | .local _ .vmem, ⟨2, _⟩ => ⟨S384x2048, .bf16⟩
  | .local _ .vmem, ⟨3, _⟩ => ⟨S384x2048, .bf16⟩
  | .local _ .vmem, ⟨4, _⟩ => ⟨S1024x384, .f32⟩
  | .local _ .vmem, ⟨5, _⟩ => ⟨S1024x384, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S768x2048 : Shape := ⟨2, ![768, 2048]⟩
abbrev S8192x2048 : Shape := ⟨2, ![8192, 2048]⟩
abbrev S_ : Shape := ⟨0, ![]⟩
abbrev S8192x768 : Shape := ⟨2, ![8192, 768]⟩

abbrev nBuf : Space → Nat
  | .hbm => 6
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S8192x2048, .f32⟩
  | .hbm, ⟨2, _⟩ => ⟨S_, .f32⟩
  | .hbm, ⟨3, _⟩ => ⟨S8192x768, .f32⟩
  | .hbm, ⟨4, _⟩ => ⟨S8192x2048, .f32⟩
  | .hbm, ⟨5, _⟩ => ⟨S8192x768, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x768 : Shape := ⟨2, ![8192, 768]⟩
abbrev S8192x2048 : Shape := ⟨2, ![8192, 2048]⟩
abbrev S768x2048 : Shape := ⟨2, ![768, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x2048, .f32⟩
  | .hbm, ⟨2, _⟩ => ⟨S768x2048, .f32⟩
  | .local _ .vmem, ⟨0, _⟩ => ⟨S1024x768, .f32⟩
  | .local _ .vmem, ⟨1, _⟩ => ⟨S1024x768, .f32⟩
  | .local _ .vmem, ⟨2, _⟩ => ⟨S1024x1024, .f32⟩
  | .local _ .vmem, ⟨3, _⟩ => ⟨S1024x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x768 : Shape := ⟨2, ![8192, 768]⟩
abbrev S8192x2048 : Shape := ⟨2, ![8192, 2048]⟩
abbrev S768x2048 : Shape := ⟨2, ![768, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x2048, .f32⟩
  | .hbm, ⟨2, _⟩ => ⟨S768x2048, .f32⟩
  | .local _ .vmem, ⟨0, _⟩ => ⟨S1024x768, .f32⟩
  | .local _ .vmem, ⟨1, _⟩ => ⟨S1024x768, .f32⟩
  | .local _ .vmem, ⟨2, _⟩ => ⟨S1024x1024, .f32⟩
  | .local _ .vmem, ⟨3, _⟩ => ⟨S1024x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x768 : Shape := ⟨2, ![8192, 768]⟩
abbrev S8192x2048 : Shape := ⟨2, ![8192, 2048]⟩
abbrev S_ : Shape := ⟨0, ![]⟩
abbrev S768x2048 : Shape := ⟨2, ![768, 2048]⟩
abbrev S2048x768 : Shape := ⟨2, ![2048, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x2048, .f32⟩
  | .hbm, ⟨2, _⟩ => ⟨S_, .f32⟩
  | .hbm, ⟨3, _⟩ => ⟨S768x2048, .f32⟩
  | .hbm, ⟨4, _⟩ => ⟨S8192x2048, .f32⟩
  | .hbm, ⟨5, _⟩ => ⟨S2048x768, .f32⟩
  | .hbm, ⟨6, _⟩ => ⟨S768x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S1024x2048 : Shape := ⟨2, ![1024, 2048]⟩
abbrev S8192x2048 : Shape := ⟨2, ![8192, 2048]⟩
abbrev S8192x1024 : Shape := ⟨2, ![8192, 1024]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S1024x2048, .bf16⟩
  | .hbm, ⟨3, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S1024x2048 : Shape := ⟨2, ![1024, 2048]⟩
abbrev S8192x2048 : Shape := ⟨2, ![8192, 2048]⟩
abbrev S8192x1024 : Shape := ⟨2, ![8192, 1024]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S1024x2048, .bf16⟩
  | .hbm, ⟨3, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S512x2048, .bf16⟩
  | .hbm, ⟨3, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S512x2048 : Shape := ⟨2, ![512, 2048]⟩
abbrev S8192x2048 : Shape := ⟨2, ![8192, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S512x2048, .bf16⟩
  | .hbm, ⟨3, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S512x2048 : Shape := ⟨2, ![512, 2048]⟩
abbrev S8192x2048 : Shape := ⟨2, ![8192, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S512x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x2x4 : Shape := ⟨3, ![8192, 2, 4]⟩
abbrev S8192x2x4x1 : Shape := ⟨4, ![8192, 2, 4, 1]⟩
abbrev S512x512 : Shape := ⟨2, ![512, 512]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 50
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S_, .f32⟩
  | .hbm, ⟨11, _⟩ => ⟨S2x4x8192, .f32⟩
  | .hbm, ⟨12, _⟩ => ⟨S2x4x8192, .f32⟩
  | .hbm, ⟨13, _⟩ => ⟨S2x4x8192x1, .f32⟩
  | .hbm, ⟨14, _⟩ => ⟨S2x4x8192x8192, .f32⟩
  | .hbm, ⟨15, _⟩ => ⟨S2x4x8192x8192, .f32⟩
  | .hbm, ⟨16, _⟩ => ⟨S2x4x8192x8192, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x8192, .f32⟩
  | .hbm, ⟨21, _⟩ => ⟨S2x4x8192x8192, .f32⟩
  | .hbm, ⟨22, _⟩ => ⟨S8192x2x128, .f32⟩
  | .hbm, ⟨23, _⟩ => ⟨S2x128x4x8192, .f32⟩
  | .hbm, ⟨24, _⟩ => ⟨S8192x2x4x128, .f32⟩
  | .hbm, ⟨25, _⟩ => ⟨S8192x1024, .f32⟩
  | .hbm, ⟨26, _⟩ => ⟨S8192x2x4x128, .f32⟩
  | .hbm, ⟨27, _⟩ => ⟨S8192x2x128, .f32⟩
  | .hbm, ⟨28, _⟩ => ⟨S2x8192x8192x4, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192, .f32⟩
  | .hbm, ⟨40, _⟩ => ⟨S8192x2x4, .f32⟩
  | .hbm, ⟨41, _⟩ => ⟨S8192x2x4x1, .f32⟩
  | .hbm, ⟨42, _⟩ => ⟨S8192x2x4x128, .f32⟩
  | .hbm, ⟨43, _⟩ => ⟨S8192x1024, .f32⟩
  | .hbm, ⟨44, _⟩ => ⟨S8192x1024, .bf16⟩
  | .hbm, ⟨45, _⟩ => ⟨S8192x256, .bf16⟩
  | .hbm, ⟨46, _⟩ => ⟨S8192x256, .bf16⟩
  | .hbm, ⟨47, _⟩ => ⟨S8192x1024, .f32⟩
  | .hbm, ⟨48, _⟩ => ⟨S8192x1024, .bf16⟩
  | .hbm, ⟨49, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v119 : BitVec 1 := Scalar.cmpi .eq arg2 c7_i32
  let v120 : BitVec 32 := Scalar.extui v119
  let c0_i32_72 : BitVec 32 := 0#32
  let v121 : BitVec 1 := Scalar.cmpi .ne v120 c0_i32_72
  v121

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg2.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg2.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8192 : Shape := ⟨3, ![2, 128, 8192]⟩
abbrev S2x8192x4x128 : Shape := ⟨4, ![2, 8192, 4, 128]⟩
abbrev S2x8192x128 : Shape := ⟨3, ![2, 8192, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8192, .f32⟩
  | .hbm, ⟨12, _⟩ => ⟨S2x4x8192x8192, .i1⟩
  | .hbm, ⟨13, _⟩ => ⟨S2x4x8192x8192, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .i1⟩
  | .hbm, ⟨22, _⟩ => ⟨S_, .f32⟩
  | .hbm, ⟨23, _⟩ => ⟨S2x4x8192, .f32⟩
  | .hbm, ⟨24, _⟩ => ⟨S2x4x8192, .i1⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S8192x2x128, .f32⟩
  | .hbm, ⟨47, _⟩ => ⟨S2x128x4x8192, .f32⟩
  | .hbm, ⟨48, _⟩ => ⟨S8192x2x4x128, .f32⟩
  | .hbm, ⟨49, _⟩ => ⟨S8192x1024, .f32⟩
  | .hbm, ⟨50, _⟩ => ⟨S8192x2x4x128, .f32⟩
  | .hbm, ⟨51, _⟩ => ⟨S2x128x4x8192, .f32⟩
  | .hbm, ⟨52, _⟩ => ⟨S2x4x8192x8192, .f32⟩
  | .hbm, ⟨53, _⟩ => ⟨S2x128x8192, .f32⟩
  | .hbm, ⟨54, _⟩ => ⟨S8192x2x128, .f32⟩
  | .hbm, ⟨55, _⟩ => ⟨S8192x256, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x1, .f32⟩
  | .hbm, ⟨62, _⟩ => ⟨S2x4x8192x1, .f32⟩
  | .hbm, ⟨63, _⟩ => ⟨S2x4x8192x8192, .f32⟩
  | .hbm, ⟨64, _⟩ => ⟨S2x4x8192x8192, .f32⟩
  | .hbm, ⟨65, _⟩ => ⟨S_, .f32⟩
  | .hbm, ⟨66, _⟩ => ⟨S2x4x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S2x8192x8192x4, .f32⟩
  | .hbm, ⟨71, _⟩ => ⟨S2x8192x4x128, .f32⟩
  | .hbm, ⟨72, _⟩ => ⟨S8192x2x4x128, .f32⟩
  | .hbm, ⟨73, _⟩ => ⟨S2x8192x128, .f32⟩
  | .hbm, ⟨74, _⟩ => ⟨S8192x2x128, .f32⟩
  | .hbm, ⟨75, _⟩ => ⟨S8192x256, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Finite.lean ====
/-
  The precondition read at one element: the arguments hold real numbers only.
-/
module
public import proofs.«01_k».proof.Defs
public import Idealize.ShloMosaic.Lib.Pipeline.ValueKit
@[expose] public section
set_option maxRecDepth 16384
noncomputable section
open Idealize.ShloMosaic Idealize.ShloMosaic.TcCoe Idealize.SL.Sem
namespace Cert.Finite

theorem real_of_abs_lt (x : EReal) (h : BitVec.ofBool (decide (FloatOps.absf (F := Ideal) (φ := .f32) x < Ideal.ofBits .f32 0x7F800000#32)) = 1#1) :
    ∃ r : ℝ, x = (r : EReal) := by
  have e : Ideal.ofBits .f32 0x7F800000#32 = ⊤ := by simp [Ideal.ofBits, Ideal.ieee]
  rw [e] at h
  induction x with
  | bot => exact absurd h (by simp [FloatOps.absf])
  | top => exact absurd h (by simp [FloatOps.absf])
  | coe r => exact ⟨r, rfl⟩

section
variable [Cert.Pre_finite.Facts] (q w : FVec Ideal ⟨2, ![8192, 1024]⟩ .f32) (k v : FVec Ideal ⟨2, ![8192, 256]⟩ .f32) (i : Fin 8192) (j : Fin 1024) (a : Fin 256)
theorem a0 (h : (Cert.Pre_finite.fn (F := Ideal) q k v w).1 = fun _ => 1#1) : ∃ r : ℝ, q (ix2 i j) = (r : EReal) := by
  have e := congrFun h (ix2 i j)
  revert e
  pointwise [Cert.Pre_finite.fn]
  exact real_of_abs_lt _
theorem a1 (h : (Cert.Pre_finite.fn (F := Ideal) q k v w).2.1 = fun _ => 1#1) : ∃ r : ℝ, k (ix2 i a) = (r : EReal) := by
  have e := congrFun h (ix2 i a)
  revert e
  pointwise [Cert.Pre_finite.fn]
  exact real_of_abs_lt _
theorem a2 (h : (Cert.Pre_finite.fn (F := Ideal) q k v w).2.2.1 = fun _ => 1#1) : ∃ r : ℝ, v (ix2 i a) = (r : EReal) := by
  have e := congrFun h (ix2 i a)
  revert e
  pointwise [Cert.Pre_finite.fn]
  exact real_of_abs_lt _
theorem a3 (h : (Cert.Pre_finite.fn (F := Ideal) q k v w).2.2.2 = fun _ => 1#1) : ∃ r : ℝ, w (ix2 i j) = (r : EReal) := by
  have e := congrFun h (ix2 i j)
  revert e
  pointwise [Cert.Pre_finite.fn]
  exact real_of_abs_lt _
end
/-- The side conditions the precondition's operations take. -/
instance facts : Cert.Pre_finite.Facts where
  bcast_S_S8192x1024 := by decide
  bcast_S_S8192x256 := by decide
/-- An array whose elements are real is an array of reals. -/
theorem choose {A B : ℕ} (x : FVec Ideal ⟨2, ![A, B]⟩ .f32) (h : ∀ i j, ∃ r : ℝ, x (ix2 i j) = (r : EReal)) :
    ∃ f : Fin A → Fin B → ℝ, ∀ i j, x (ix2 i j) = (f i j : EReal) :=
  ⟨fun i j => (h i j).choose, fun i j => (h i j).choose_spec⟩
end Cert.Finite
end
-- ==== Proof.Softmax.lean ====
/-
  The algebra of one softmax row over the extended reals, for finite scores: the quotient form, the form with the
  logarithm of the row sum, and the gradient of the row.
-/
module
public import Idealize.ShloMosaic.Lib.Pipeline.ValueKit
@[expose] public section
noncomputable section
open Idealize.ShloMosaic
namespace Cert.Softmax

/-- A sum of real numbers is a real number. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl
theorem log_coe {r : ℝ} (h : 0 < r) : Ideal.log (r : EReal) = ((Real.log r : ℝ) : EReal) := by
  show (if r ≤ 0 then (⊥ : EReal) else _) = _
  rw [if_neg (not_le.mpr h)]
theorem div_coe_coe (x : ℝ) {y : ℝ} (h : y ≠ 0) : Ideal.div (x : EReal) (y : EReal) = ((x / y : ℝ) : EReal) := by
  rw [Ideal.div_coe h, ← EReal.coe_mul, mul_one_div]

/-- The greatest of finitely many real numbers, at least one of them, over the least element: a real number. -/
theorem fold_max_real {n : ℕ} [NeZero n] (f : Fin n → EReal) (hf : ∀ i, ∃ r : ℝ, f i = (r : EReal)) :
    ∃ r : ℝ, (Finset.univ : Finset (Fin n)).fold max (⊥ : EReal) f = (r : EReal) := by
  have ht : (Finset.univ : Finset (Fin n)).fold max (⊥ : EReal) f < ⊤ := by
    rw [Finset.fold_max_lt]
    exact ⟨bot_lt_top, fun i _ => by obtain ⟨r, hr⟩ := hf i; rw [hr]; exact EReal.coe_lt_top r⟩
  have hb : ⊥ < (Finset.univ : Finset (Fin n)).fold max (⊥ : EReal) f := by
    rw [Finset.lt_fold_max]
    exact .inr ⟨0, Finset.mem_univ _, by obtain ⟨r, hr⟩ := hf 0; rw [hr]; exact EReal.bot_lt_coe r⟩
  exact ⟨_, (EReal.coe_toReal ht.ne hb.ne').symm⟩

variable {n : ℕ} [NeZero n]

/-- The softmax of a row of real scores. -/
def P (s : Fin n → ℝ) (j : Fin n) : ℝ := Real.exp (s j) / ∑ t, Real.exp (s t)

theorem sum_exp_pos (s : Fin n → ℝ) : 0 < ∑ t, Real.exp (s t) :=
  Finset.sum_pos (fun _ _ => Real.exp_pos _) ⟨0, Finset.mem_univ _⟩

/-- Subtracting one number from all the scores changes no quotient. -/
theorem P_shift (s : Fin n → ℝ) (M : ℝ) (j : Fin n) : Real.exp (s j - M) / ∑ t, Real.exp (s t - M) = P s j := by
  simp only [P, Real.exp_sub, ← Finset.sum_div]
  rw [div_div_div_cancel_right₀ (Real.exp_pos M).ne']

theorem sum_exp_coe (s : Fin n → ℝ) (M : ℝ) :
    (∑ t, Ideal.exp ((s t : EReal) - (M : EReal))) = ((∑ t, Real.exp (s t - M) : ℝ) : EReal) := by
  rw [← coe_sum]
  exact Finset.sum_congr rfl fun t _ => by rw [← EReal.coe_sub, exp_coe]

/-- The quotient form of the softmax. -/
theorem div_row (s : Fin n → ℝ) (M : ℝ) (j : Fin n) :
    Ideal.div (Ideal.exp ((s j : EReal) - (M : EReal))) (∑ t, Ideal.exp ((s t : EReal) - (M : EReal))) = ((P s j : ℝ) : EReal) := by
  rw [sum_exp_coe, ← EReal.coe_sub, exp_coe, div_coe_coe _ (sum_exp_pos fun t => s t - M).ne', P_shift]

/-- The softmax from the score and the logarithm of the row sum. -/
theorem lse_row (s : Fin n → ℝ) (M : ℝ) (j : Fin n) :
    Ideal.exp ((s j : EReal) - ((M : EReal) + Ideal.log (∑ t, Ideal.exp ((s t : EReal) - (M : EReal))))) = ((P s j : ℝ) : EReal) := by
  have hp := sum_exp_pos fun t => s t - M
  rw [sum_exp_coe, log_coe hp, ← EReal.coe_add, ← EReal.coe_sub, exp_coe, ← sub_sub, Real.exp_sub, Real.exp_log hp, P_shift]

/-- The gradient of a row's scores, as differentiating the quotient gives it. -/
theorem ds_row (s dp : Fin n → ℝ) (M : ℝ) (j : Fin n) :
    (Ideal.div (dp j : EReal) (∑ t, Ideal.exp ((s t : EReal) - (M : EReal)))
        + -∑ x, (dp x : EReal) * Ideal.div 1 ((∑ t, Ideal.exp ((s t : EReal) - (M : EReal))) * ∑ t, Ideal.exp ((s t : EReal) - (M : EReal)))
            * Ideal.exp ((s x : EReal) - (M : EReal)))
      * Ideal.exp ((s j : EReal) - (M : EReal))
      = ((P s j * (dp j - ∑ x, dp x * P s x) : ℝ) : EReal) := by
  have hp := sum_exp_pos fun t => s t - M
  rw [sum_exp_coe]
  have h1 : ∀ x : Fin n, (dp x : EReal) * Ideal.div 1 (((∑ t, Real.exp (s t - M) : ℝ) : EReal) * ((∑ t, Real.exp (s t - M) : ℝ) : EReal)) * Ideal.exp ((s x : EReal) - (M : EReal))
      = ((dp x * (1 / ((∑ t, Real.exp (s t - M)) * ∑ t, Real.exp (s t - M))) * Real.exp (s x - M) : ℝ) : EReal) := fun x => by
    rw [← EReal.coe_mul, ← EReal.coe_one, div_coe_coe _ (mul_pos hp hp).ne', ← EReal.coe_sub, exp_coe, ← EReal.coe_mul, ← EReal.coe_mul]
  rw [Finset.sum_congr rfl fun x _ => h1 x, coe_sum, div_coe_coe _ hp.ne', ← EReal.coe_neg, ← EReal.coe_add, ← EReal.coe_sub, exp_coe, ← EReal.coe_mul]
  refine congrArg _ ?_
  have h2 : ∀ x, P s x = Real.exp (s x - M) / ∑ t, Real.exp (s t - M) := fun x => (P_shift s M x).symm
  simp only [h2]
  generalize (∑ t, Real.exp (s t - M)) = l at hp ⊢
  rw [← sub_eq_add_neg]
  have h3 : (∑ x, dp x * (1 / (l * l)) * Real.exp (s x - M)) = (∑ x, dp x * (Real.exp (s x - M) / l)) / l := by
    rw [Finset.sum_div]; exact Finset.sum_congr rfl fun x _ => by field_simp
  rw [h3]; field_simp

/-- The row's product with the output is the row's product with the gradient of the probabilities. -/
theorem delta_row {κ : Type*} [Fintype κ] (p : Fin n → ℝ) (w : κ → ℝ) (v : Fin n → κ → ℝ) :
    (∑ d, w d * ∑ x, v x d * p x) = ∑ x, (∑ d, w d * v x d) * p x := by
  simp only [Finset.mul_sum, Finset.sum_mul]
  rw [Finset.sum_comm]
  exact Finset.sum_congr rfl fun x _ => Finset.sum_congr rfl fun d _ => by ring

end Cert.Softmax
end
-- ==== Proof.AttnHost.lean ====
/-
  The host lines of the attention's programs — scores, row maxima, softmax, its gradient, the two products of the keys'
  and values' gradients, the logarithms of the row sums and the row products with the output — as named functions of
  the arguments, each read at an index.
-/
module
public import proofs.«01_k».proof.Proof.Gen.Reference2Ideal.Run
public import proofs.«01_k».proof.Proof.Gen.Kernel2Ideal
public import proofs.«01_k».proof.Proof.Softmax
public import Idealize.ShloMosaic.Lib.Pipeline.ValueKit
@[expose] public section
set_option maxRecDepth 16384
noncomputable section
open Idealize.ShloMosaic Idealize.ShloMosaic.TcCoe Idealize.SL.Sem
namespace Cert.Attn
open Cert.Reference2Ideal Cert.Reference2Ideal.Gen

abbrev Q2 := FVec Ideal S8192x1024 .f32
abbrev K2 := FVec Ideal S8192x256 .f32
abbrev S4 := FVec Ideal S2x4x8192x8192 .f32
abbrev S3 := FVec Ideal S2x4x8192 .f32

def SC (q : Q2) (k : K2) : S4 := transpose S2x4x8192x8192 [0, 3, 2, 1] (Host.dotGeneral dot_S8192x2x128_S8192x2x4x128_S2x8192x8192x4_2_3_0_02_1_1 none (shapeCast _ k shapeCasts_S8192x256_S8192x2x128) (shapeCast _ q shapeCasts_S8192x1024_S8192x2x4x128)) transposes_S2x8192x8192x4_S2x4x8192x8192_0_3_2_1
/-- The row maximum. -/
def MK (s : S4) : S3 := Host.reduce FloatOps.maximumf s (constant S_ .f32 0xFF800000#32) reducesTo_S2x4x8192x8192_S2x4x8192_d3 h_S_
def MAXB (x : S3) : S3 := maximumf (broadcastInDim S2x4x8192 ![] bcast_S_S2x4x8192 (constant S_ .f32 0xFF800000#32)) x
def MX (s : S4) : S3 := MAXB (MK s)
def BC (x : S3) : S4 := broadcastInDim S2x4x8192x8192 ![0, 1, 2, 3] bcast_S2x4x8192x1_S2x4x8192x8192_0_1_2_3 (broadcastInDim S2x4x8192x1 ![0, 1, 2] bcast_S2x4x8192_S2x4x8192x1_0_1_2 x)
def EX (s : S4) : S4 := Host.exp (subf s (BC (MX s)))
def SM (e : S4) : S3 := Host.reduceAdd e (constant S_ .f32 0x00000000#32) reducesTo_S2x4x8192x8192_S2x4x8192_d3 h_S_
def PR (e : S4) : S4 := Host.divf e (BC (SM e))
def DP (w : Q2) (v : K2) : S4 := Host.dotGeneral dot_S2x128x4x8192_S8192x2x128_S2x4x8192x8192_1_2_23_0_0_1 none (transpose S2x128x4x8192 [1, 3, 2, 0] (shapeCast _ w shapeCasts_S8192x1024_S8192x2x4x128) transposes_S8192x2x4x128_S2x128x4x8192_1_3_2_0) (shapeCast _ v shapeCasts_S8192x256_S8192x2x128)
def NEG (dp e : S4) : S4 := broadcastInDim S2x4x8192x8192 ![0, 1, 2] bcast_S2x4x8192_S2x4x8192x8192_0_1_2 (Host.reduceAdd (Host.negf (shapeCast _ (Host.reduceAdd (mulf (mulf dp (broadcastInDim S2x4x8192x8192 ![0, 1, 2, 3] bcast_S2x4x8192x1_S2x4x8192x8192_0_1_2_3 (Host.divf (broadcastInDim S2x4x8192x1 ![] bcast_S_S2x4x8192x1 (constant S_ .f32 0x3F800000#32)) (mulf (broadcastInDim S2x4x8192x1 ![0, 1, 2] bcast_S2x4x8192_S2x4x8192x1_0_1_2 (SM e)) (broadcastInDim S2x4x8192x1 ![0, 1, 2] bcast_S2x4x8192_S2x4x8192x1_0_1_2 (SM e)))))) e) (constant S_ .f32 0x00000000#32) reducesTo_S2x4x8192x8192_S2x4x8192_d3 h_S_) shapeCasts_S2x4x8192_S2x4x8192x1)) (constant S_ .f32 0x00000000#32) reducesTo_S2x4x8192x1_S2x4x8192_d3 h_S_)
def DS (dp e : S4) : S4 := mulf (addf (Host.divf dp (BC (SM e))) (NEG dp e)) e
def DK (ds : S4) (q : Q2) : K2 := shapeCast _ (transpose S8192x2x128 [1, 0, 2] (Host.dotGeneral dot_S2x8192x8192x4_S8192x2x4x128_S2x8192x128_23_02_1_3_0_1 none (transpose S2x8192x8192x4 [0, 3, 2, 1] ds transposes_S2x4x8192x8192_S2x8192x8192x4_0_3_2_1) (shapeCast _ q shapeCasts_S8192x1024_S8192x2x4x128)) transposes_S2x8192x128_S8192x2x128_1_0_2) shapeCasts_S8192x2x128_S8192x256
def DV (p : S4) (w : Q2) : K2 := shapeCast _ (transpose S8192x2x128 [2, 0, 1] (Host.dotGeneral dot_S2x128x4x8192_S2x4x8192x8192_S2x128x8192_23_12_1_3_0_0 none (transpose S2x128x4x8192 [1, 3, 2, 0] (shapeCast _ w shapeCasts_S8192x1024_S8192x2x4x128) transposes_S8192x2x4x128_S2x128x4x8192_1_3_2_0) p) transposes_S2x128x8192_S8192x2x128_2_0_1) shapeCasts_S8192x2x128_S8192x256

def EK (s : S4) : S4 := Host.exp (subf s (BC (MK s)))
/-- The logarithms of the row sums, one row per query, every head's repeated over its lanes. -/
def LANES (x : S3) : Q2 := shapeCast _ (broadcastInDim Cert.Kernel2Ideal.S8192x2x4x128 ![0, 1, 2, 3] Cert.Kernel2Ideal.Gen.bcast_S8192x2x4x1_S8192x2x4x128_0_1_2_3
  (broadcastInDim Cert.Kernel2Ideal.S8192x2x4x1 ![0, 1, 2] Cert.Kernel2Ideal.Gen.bcast_S8192x2x4_S8192x2x4x1_0_1_2
    (transpose Cert.Kernel2Ideal.S8192x2x4 [2, 0, 1] x Cert.Kernel2Ideal.Gen.transposes_S2x4x8192_S8192x2x4_2_0_1)))
  Cert.Kernel2Ideal.Gen.shapeCasts_S8192x2x4x128_S8192x1024
def ADDLOG (x y : S3) : S3 := addf x (Host.log y)
def LSE (s : S4) : Q2 := LANES (ADDLOG (MK s) (SM (EK s)))
/-- The attention's output. -/
def OUT (p : S4) (v : K2) : Q2 := shapeCast _ (transpose Cert.Kernel2Ideal.S8192x2x4x128 [3, 0, 2, 1] (Host.dotGeneral Cert.Kernel2Ideal.dot_S8192x2x128_S2x4x8192x8192_S2x128x4x8192_0_3_2_12_1_0 none (shapeCast _ v shapeCasts_S8192x256_S8192x2x128) p) Cert.Kernel2Ideal.Gen.transposes_S2x128x4x8192_S8192x2x4x128_3_0_2_1) Cert.Kernel2Ideal.Gen.shapeCasts_S8192x2x4x128_S8192x1024
/-- The rows' products with the output, every head's repeated over its lanes. -/
def DELTA (w o : Q2) : Q2 := shapeCast _ (broadcastInDim Cert.Kernel2Ideal.S8192x8x128 ![0, 1, 2] Cert.Kernel2Ideal.Gen.bcast_S8192x8x1_S8192x8x128_0_1_2
  (broadcastInDim Cert.Kernel2Ideal.S8192x8x1 ![0, 1] Cert.Kernel2Ideal.Gen.bcast_S8192x8_S8192x8x1_0_1
    (Host.reduceAdd (shapeCast Cert.Kernel2Ideal.S8192x8x128 (mulf w o) Cert.Kernel2Ideal.Gen.shapeCasts_S8192x1024_S8192x8x128) (constant S_ .f32 0x00000000#32) Cert.Kernel2Ideal.Gen.reducesTo_S8192x8x128_S8192x8_d2 h_S_)))
  Cert.Kernel2Ideal.Gen.shapeCasts_S8192x8x128_S8192x1024

variable (m : (ℓ : Loc nD τ sig) → Buf (Elt Ideal) ℓ)
theorem res_dk (c : Dev nD) : Value.res_main_v59 (F := Ideal) m c =
   DK (DS (DP (m ((c.tc : Thread nD τ).loc main_arg3)) (m ((c.tc : Thread nD τ).loc main_arg2))) (EX (SC (m ((c.tc : Thread nD τ).loc main_arg0)) (m ((c.tc : Thread nD τ).loc main_arg1))))) (m ((c.tc : Thread nD τ).loc main_arg0)) := rfl

section
variable (q w o : Q2) (k v : K2) (s e dp ds p : S4) (x y : S3) (g : Fin 2) (h : Fin 4) (i j : Fin 8192)
theorem SC_at : SC q k (ix4 g h i j) = ∑ x : Fin 128, k (ix2 j ⟨↑g * 128 + ↑x, by omega⟩) * q (ix2 i ⟨↑g * 512 + ↑h * 128 + ↑x, by omega⟩) := by
  pointwise [SC]
theorem red_at (z : FVec Ideal S_ .f32) : Host.reduce FloatOps.maximumf s z reducesTo_S2x4x8192x8192_S2x4x8192_d3 h_S_ (ix3 g h i)
    = (Finset.univ : Finset (Fin 8192)).fold max (z (Shape.Idx.first h_S_)) (fun x => s (ix4 g h i x)) := by
  refine (Host.reduce_eq_fold (FloatOps.maximumf (F := Ideal) (φ := .f32)) s z reducesTo_S2x4x8192x8192_S2x4x8192_d3 h_S_ (ix3 g h i)).trans ?_
  exact Shape.ReducesTo.fold_fiber_r4_a3 _ _ _ _ _
theorem BC_at : BC x (ix4 g h i j) = x (ix3 g h i) := by
  pointwise [BC]
theorem EX_at : EX s (ix4 g h i j) = Ideal.exp (s (ix4 g h i j) - MX s (ix3 g h i)) := by
  pointwise [EX, BC]
theorem EK_at : EK s (ix4 g h i j) = Ideal.exp (s (ix4 g h i j) - MK s (ix3 g h i)) := by
  pointwise [EK, BC]
theorem SM_at : SM e (ix3 g h i) = ∑ t : Fin 8192, e (ix4 g h i t) := by
  pointwise [SM]
theorem PR_at : PR e (ix4 g h i j) = Ideal.div (e (ix4 g h i j)) (SM e (ix3 g h i)) := by
  pointwise [PR, BC]
theorem DP_at : DP w v (ix4 g h i j) = ∑ x : Fin 128, w (ix2 i ⟨↑g * 512 + ↑h * 128 + ↑x, by omega⟩) * v (ix2 j ⟨↑g * 128 + ↑x, by omega⟩) := by
  pointwise [DP]
theorem NEG_at : NEG dp e (ix4 g h i j) = -∑ x : Fin 8192, dp (ix4 g h i x) * Ideal.div 1 (SM e (ix3 g h i) * SM e (ix3 g h i)) * e (ix4 g h i x) := by
  pointwise [NEG]
  exact Fin.sum_univ_one _
theorem DS_at : DS dp e (ix4 g h i j) = (Ideal.div (dp (ix4 g h i j)) (SM e (ix3 g h i)) + NEG dp e (ix4 g h i j)) * e (ix4 g h i j) := by
  pointwise [DS, BC]
theorem DK_at (r : Fin 8192) (a : Fin 256) : DK ds q (ix2 r a)
    = ∑ x : Fin 8192, ∑ y : Fin 4, ds (ix4 ⟨↑a / 128, by omega⟩ y x r) * q (ix2 x ⟨↑a / 128 * 512 + ↑y * 128 + ↑a % 128, by omega⟩) := by
  pointwise [DK]
theorem DV_at (r : Fin 8192) (a : Fin 256) : DV p w (ix2 r a)
    = ∑ y : Fin 4, ∑ x : Fin 8192, w (ix2 x ⟨↑a / 128 * 512 + ↑y * 128 + ↑a % 128, by omega⟩) * p (ix4 ⟨↑a / 128, by omega⟩ y x r) := by
  pointwise [DV]
theorem MAXB_at : MAXB x (ix3 g h i) = max ⊥ (x (ix3 g h i)) := by
  have e : Ideal.ofBits .f32 0xFF800000#32 = ⊥ := by simp [Ideal.ofBits, Ideal.ieee]
  rw [← e]
  pointwise [MAXB]
theorem LANES_at (r : Fin 8192) (a : Fin 1024) : LANES x (ix2 r a) = x (ix3 ⟨↑a / 512, by omega⟩ ⟨↑a / 128 % 4, by omega⟩ r) := by
  pointwise [LANES]
theorem ADDLOG_at : ADDLOG x y (ix3 g h i) = x (ix3 g h i) + Ideal.log (y (ix3 g h i)) := by
  pointwise [ADDLOG]
theorem OUT_at (r : Fin 8192) (a : Fin 1024) : OUT p v (ix2 r a)
    = ∑ x : Fin 8192, v (ix2 x ⟨↑a / 512 * 128 + ↑a % 128, by omega⟩) * p (ix4 ⟨↑a / 512, by omega⟩ ⟨↑a / 128 % 4, by omega⟩ r x) := by
  pointwise [OUT]
theorem DELTA_at (r : Fin 8192) (a : Fin 1024) : DELTA w o (ix2 r a)
    = ∑ x : Fin 128, w (ix2 r ⟨↑a / 128 * 128 + ↑x, by omega⟩) * o (ix2 r ⟨↑a / 128 * 128 + ↑x, by omega⟩) := by
  pointwise [DELTA]
theorem bot_bits : Ideal.ofBits .f32 0xFF800000#32 = ⊥ := by
  simp [Ideal.ofBits, Ideal.ieee]
theorem MK_real (hs : ∀ i, ∃ r : ℝ, s i = (r : EReal)) : ∃ r : ℝ, MK s (ix3 g h i) = (r : EReal) := by
  unfold MK
  rw [red_at]
  obtain ⟨r, hr⟩ := Softmax.fold_max_real (fun x : Fin 8192 => s (ix4 g h i x)) fun _ => hs _
  exact ⟨r, hr ▸ congrArg (fun b => Finset.fold max b _ Finset.univ) bot_bits⟩
theorem MX_real (hs : ∀ i, ∃ r : ℝ, s i = (r : EReal)) : ∃ r : ℝ, MX s (ix3 g h i) = (r : EReal) := by
  obtain ⟨r, hr⟩ := MK_real s g h i hs
  exact ⟨r, (MAXB_at (MK s) g h i).trans ((congrArg (max ⊥) hr).trans (max_eq_right bot_le))⟩
end
end Cert.Attn
end
-- ==== Proof.DkvEntry.lean ====
/-
  The gradients of keys and values: the arrays the kernel is called with, as functions of the program's arguments.
-/
module
public import proofs.«01_k».proof.Proof.AttnHost
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
open Idealize.ShloMosaic.StableHlo
namespace Cert.Kernel2Ideal.Value
open Cert.Kernel2Ideal Cert.Kernel2Ideal.Gen Cert.Attn
variable (m : (ℓ : Loc nD τ sig) → Buf (Elt Ideal) ℓ)

abbrev A0 (c : Dev nD) : Q2 := m ((c.tc : Thread nD τ).loc main_arg0)
abbrev A1 (c : Dev nD) : K2 := m ((c.tc : Thread nD τ).loc main_arg1)
abbrev A2 (c : Dev nD) : K2 := m ((c.tc : Thread nD τ).loc main_arg2)
abbrev A3 (c : Dev nD) : Q2 := m ((c.tc : Thread nD τ).loc main_arg3)

set_option maxHeartbeats 8000000 in
theorem V34 (c : Dev nD) : (show FVec Ideal S8192x1024 .f32 from V m c main_v34) = LSE (SC (A0 m c) (A1 m c)) := by
  show StableHlo.after hostOps0 (fun b => m (c, b)) main_v34 = _
  unfold hostOps0
  after_results_simp
  rfl
set_option maxHeartbeats 8000000 in
theorem V40 (c : Dev nD) : (show FVec Ideal S8192x1024 .f32 from V m c main_v40)
    = DELTA (A3 m c) (OUT (PR (EX (SC (A0 m c) (A1 m c)))) (A2 m c)) := by
  show StableHlo.after hostOps0 (fun b => m (c, b)) main_v40 = _
  unfold hostOps0
  after_results_simp
  rfl
set_option maxHeartbeats 8000000 in
theorem V41 (c : Dev nD) : (show FVec Ideal S8192x1024 .bf16 from V m c main_v41) = A0 m c := by
  show StableHlo.after hostOps0 (fun b => m (c, b)) main_v41 = _
  unfold hostOps0
  after_results_simp
  rfl
set_option maxHeartbeats 8000000 in
theorem V42 (c : Dev nD) : (show FVec Ideal S8192x256 .bf16 from V m c main_v42) = A1 m c := by
  show StableHlo.after hostOps0 (fun b => m (c, b)) main_v42 = _
  unfold hostOps0
  after_results_simp
  rfl
set_option maxHeartbeats 8000000 in
theorem V43 (c : Dev nD) : (show FVec Ideal S8192x256 .bf16 from V m c main_v43) = A2 m c := by
  show StableHlo.after hostOps0 (fun b => m (c, b)) main_v43 = _
  unfold hostOps0
  after_results_simp
  rfl
set_option maxHeartbeats 8000000 in
theorem V44 (c : Dev nD) : (show FVec Ideal S8192x1024 .bf16 from V m c main_v44) = A3 m c := by
  show StableHlo.after hostOps0 (fun b => m (c, b)) main_v44 = _
  unfold hostOps0
  after_results_simp
  rfl
end Cert.Kernel2Ideal.Value
end
-- ==== Proof.DkvPay.lean ====
/-
  The gradients of keys and values: what one head's part of a block's body computes, read at an index.
-/
module
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
namespace Cert.Kernel2Ideal.Value
open Cert.Kernel2Ideal Cert.Kernel2Ideal.Gen

section
variable (q w : FVec Ideal S512x128 .bf16) (k v : FVec Ideal S1024x128 .bf16) (l e : FVec Ideal S512x128 .f32) (a : FVec Ideal S1024x128 .f32)
  (p : FVec Ideal S512x1024 .f32) (i : Fin 512) (j : Fin 1024) (d : Fin 128)
/-- The probabilities. -/
theorem pay7_at : k0_pay7 (F := Ideal) q k l (ix2 i j) = Ideal.exp ((∑ x : Fin 128, q (ix2 i x) * k (ix2 j x)) - l (ix2 i 0)) := by
  pointwise [k0_pay7, k0_pay5]
theorem pay8_at : k0_pay8 (F := Ideal) q w k l v e (ix2 i j) = k0_pay7 (F := Ideal) q k l (ix2 i j) * ((∑ x : Fin 128, w (ix2 i x) * v (ix2 j x)) - e (ix2 i 0)) := by
  pointwise [k0_pay8, k0_pay6]
theorem pay9_at : k0_pay9 (F := Ideal) q w k l a (ix2 j d) = a (ix2 j d) + ∑ i : Fin 512, k0_pay7 (F := Ideal) q k l (ix2 i j) * w (ix2 i d) := by
  pointwise [k0_pay9, k0_pay6]
theorem pay10_at : k0_pay10 (F := Ideal) (k0_pay5 q) p a (ix2 j d) = a (ix2 j d) + ∑ i : Fin 512, p (ix2 i j) * q (ix2 i d) := by
  pointwise [k0_pay10, k0_pay5]
theorem pay3_at : (k0_pay3 : FVec Ideal S1024x128 .f32) (ix2 j d) = 0 := by
  pointwise [k0_pay3]
theorem pay4_at : (k0_pay4 : FVec Ideal S1024x128 .f32) (ix2 j d) = 0 := by
  pointwise [k0_pay4]
/-! The other heads' parts are the same functions. -/
theorem pay15_eq : k0_pay15 (F := Ideal) q w k l a = k0_pay9 (F := Ideal) q w k l a := rfl
theorem pay16_eq : k0_pay16 (F := Ideal) (k0_pay11 q) p a = k0_pay10 (F := Ideal) (k0_pay5 q) p a := rfl
theorem pay14_eq : k0_pay14 (F := Ideal) q w k l v e = k0_pay8 (F := Ideal) q w k l v e := rfl
theorem pay22_eq : k0_pay22 (F := Ideal) (k0_pay21 (F := Ideal) q w k l a) = k0_pay9 (F := Ideal) q w k l a := rfl
theorem pay23_eq : k0_pay23 (F := Ideal) (k0_pay17 q) p a = k0_pay10 (F := Ideal) (k0_pay5 q) p a := rfl
theorem pay20_eq : k0_pay20 (F := Ideal) q w k l v e = k0_pay8 (F := Ideal) q w k l v e := rfl
theorem pay1_eq : k0_pay1 (F := Ideal) (k0_pay28 (F := Ideal) q w k l a) = k0_pay9 (F := Ideal) q w k l a := rfl
theorem pay2_eq : k0_pay2 (F := Ideal) (k0_pay24 q) p a = k0_pay10 (F := Ideal) (k0_pay5 q) p a := rfl
theorem pay27_eq : k0_pay27 (F := Ideal) q w k l v e = k0_pay8 (F := Ideal) q w k l v e := rfl
end
end Cert.Kernel2Ideal.Value
end
-- ==== Proof.DkvBlocks.lean ====
/-
  The gradients of keys and values: the blocks a grid point reads, as parts of the arrays the kernel is called with.
-/
module
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
variable (m : (ℓ : Loc nD τ sig) → Buf (Elt Ideal) ℓ)
theorem idx : ∀ t : Fin cfg0.N, win0_0.index t = ![t.val % 16, t.val / 128] ∧ win0_1.index t = ![t.val / 16 % 8, t.val / 128] ∧ win0_2.index t = ![t.val / 16 % 8, t.val / 128]
   ∧ win0_3.index t = ![t.val % 16, t.val / 128] ∧ win0_4.index t = ![t.val % 16, t.val / 128] ∧ win0_5.index t = ![t.val % 16, t.val / 128] :=
  (by decide +kernel : ∀ t : Fin grid0.N, _)

abbrev X0 (c : Dev nD) : FVec Ideal S8192x1024 .f32 := V m c (Pipeline.arrRef spec0 0)
abbrev X1 (c : Dev nD) : FVec Ideal S8192x256 .f32 := V m c (Pipeline.arrRef spec0 1)
abbrev X2 (c : Dev nD) : FVec Ideal S8192x256 .f32 := V m c (Pipeline.arrRef spec0 2)
abbrev X3 (c : Dev nD) : FVec Ideal S8192x1024 .f32 := V m c (Pipeline.arrRef spec0 3)
abbrev X4 (c : Dev nD) : FVec Ideal S8192x1024 .f32 := V m c (Pipeline.arrRef spec0 4)
abbrev X5 (c : Dev nD) : FVec Ideal S8192x1024 .f32 := V m c (Pipeline.arrRef spec0 5)
theorem t_lt (t : Fin cfg0.N) : t.val < 256 := lt_of_lt_of_eq t.isLt (by decide +kernel)
theorem blk0 (c : Dev nD) (t : Fin cfg0.N) (z : Buf (Elt Ideal) ((c.tc : Thread nD τ).loc (Pipeline.arrRef spec0 0))) (i : Fin 512) (x : Fin 512) :
    (View.read (Elt Ideal) ((cfg0.win 0).blk t).view z : FVec Ideal S512x512 .bf16) (ix2 i x)
      = (z : FVec Ideal S8192x1024 .bf16) (ix2 ⟨t.val % 16 * 512 + i.val, by have := t_lt t; omega⟩ ⟨t.val / 128 * 512 + x.val, by have := t_lt t; omega⟩) := by
  have := t_lt t
  blk_point [idx t]
theorem B0 (c : Dev nD) (t : Fin cfg0.N) (i : Fin 512) (x : Fin 512) : (iblk m c 0 t : FVec Ideal S512x512 .bf16) (ix2 i x)
    = X0 m c (ix2 ⟨t.val % 16 * 512 + i.val, by have := t_lt t; omega⟩ ⟨t.val / 128 * 512 + x.val, by have := t_lt t; omega⟩) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 128) :
    (View.read (Elt Ideal) ((cfg0.win 1).blk t).view z : FVec Ideal S1024x128 .bf16) (ix2 i x)
      = (z : FVec Ideal S8192x256 .bf16) (ix2 ⟨t.val / 16 % 8 * 1024 + i.val, by have := t_lt t; omega⟩ ⟨t.val / 128 * 128 + x.val, by have := t_lt t; omega⟩) := by
  have := t_lt t
  blk_point [idx t]
theorem B1 (c : Dev nD) (t : Fin cfg0.N) (i : Fin 1024) (x : Fin 128) : (iblk m c 1 t : FVec Ideal S1024x128 .bf16) (ix2 i x)
    = X1 m c (ix2 ⟨t.val / 16 % 8 * 1024 + i.val, by have := t_lt t; omega⟩ ⟨t.val / 128 * 128 + x.val, by have := t_lt t; omega⟩) :=
  blk1 c t (V m c (Pipeline.arrRef spec0 1)) i x
theorem blk2 (c : Dev nD) (t : Fin cfg0.N) (z : Buf (Elt Ideal) ((c.tc : Thread nD τ).loc (Pipeline.arrRef spec0 2))) (i : Fin 1024) (x : Fin 128) :
    (View.read (Elt Ideal) ((cfg0.win 2).blk t).view z : FVec Ideal S1024x128 .bf16) (ix2 i x)
      = (z : FVec Ideal S8192x256 .bf16) (ix2 ⟨t.val / 16 % 8 * 1024 + i.val, by have := t_lt t; omega⟩ ⟨t.val / 128 * 128 + x.val, by have := t_lt t; omega⟩) := by
  have := t_lt t
  blk_point [idx t]
theorem B2 (c : Dev nD) (t : Fin cfg0.N) (i : Fin 1024) (x : Fin 128) : (iblk m c 2 t : FVec Ideal S1024x128 .bf16) (ix2 i x)
    = X2 m c (ix2 ⟨t.val / 16 % 8 * 1024 + i.val, by have := t_lt t; omega⟩ ⟨t.val / 128 * 128 + x.val, by have := t_lt t; omega⟩) :=
  blk2 c t (V m c (Pipeline.arrRef spec0 2)) i x
theorem blk3 (c : Dev nD) (t : Fin cfg0.N) (z : Buf (Elt Ideal) ((c.tc : Thread nD τ).loc (Pipeline.arrRef spec0 3))) (i : Fin 512) (x : Fin 512) :
    (View.read (Elt Ideal) ((cfg0.win 3).blk t).view z : FVec Ideal S512x512 .f32) (ix2 i x)
      = (z : FVec Ideal S8192x1024 .f32) (ix2 ⟨t.val % 16 * 512 + i.val, by have := t_lt t; omega⟩ ⟨t.val / 128 * 512 + x.val, by have := t_lt t; omega⟩) := by
  have := t_lt t
  blk_point [idx t]
theorem B3 (c : Dev nD) (t : Fin cfg0.N) (i : Fin 512) (x : Fin 512) : (iblk m c 3 t : FVec Ideal S512x512 .f32) (ix2 i x)
    = X3 m c (ix2 ⟨t.val % 16 * 512 + i.val, by have := t_lt t; omega⟩ ⟨t.val / 128 * 512 + x.val, by have := t_lt t; omega⟩) :=
  blk3 c t (V m c (Pipeline.arrRef spec0 3)) i x
theorem blk4 (c : Dev nD) (t : Fin cfg0.N) (z : Buf (Elt Ideal) ((c.tc : Thread nD τ).loc (Pipeline.arrRef spec0 4))) (i : Fin 512) (x : Fin 512) :
    (View.read (Elt Ideal) ((cfg0.win 4).blk t).view z : FVec Ideal S512x512 .bf16) (ix2 i x)
      = (z : FVec Ideal S8192x1024 .bf16) (ix2 ⟨t.val % 16 * 512 + i.val, by have := t_lt t; omega⟩ ⟨t.val / 128 * 512 + x.val, by have := t_lt t; omega⟩) := by
  have := t_lt t
  blk_point [idx t]
theorem B4 (c : Dev nD) (t : Fin cfg0.N) (i : Fin 512) (x : Fin 512) : (iblk m c 4 t : FVec Ideal S512x512 .bf16) (ix2 i x)
    = X4 m c (ix2 ⟨t.val % 16 * 512 + i.val, by have := t_lt t; omega⟩ ⟨t.val / 128 * 512 + x.val, by have := t_lt t; omega⟩) :=
  blk4 c t (V m c (Pipeline.arrRef spec0 4)) i x
theorem blk5 (c : Dev nD) (t : Fin cfg0.N) (z : Buf (Elt Ideal) ((c.tc : Thread nD τ).loc (Pipeline.arrRef spec0 5))) (i : Fin 512) (x : Fin 512) :
    (View.read (Elt Ideal) ((cfg0.win 5).blk t).view z : FVec Ideal S512x512 .f32) (ix2 i x)
      = (z : FVec Ideal S8192x1024 .f32) (ix2 ⟨t.val % 16 * 512 + i.val, by have := t_lt t; omega⟩ ⟨t.val / 128 * 512 + x.val, by have := t_lt t; omega⟩) := by
  have := t_lt t
  blk_point [idx t]
theorem B5 (c : Dev nD) (t : Fin cfg0.N) (i : Fin 512) (x : Fin 512) : (iblk m c 5 t : FVec Ideal S512x512 .f32) (ix2 i x)
    = X5 m c (ix2 ⟨t.val % 16 * 512 + i.val, by have := t_lt t; omega⟩ ⟨t.val / 128 * 512 + x.val, by have := t_lt t; omega⟩) :=
  blk5 c t (V m c (Pipeline.arrRef spec0 5)) i x
end Cert.Kernel2Ideal.Value
end
-- ==== Proof.DkvStep.lean ====
/-
  The gradients of keys and values: one grid point adds, for each of the group's four heads, a sum over the block's
  queries; a run of sixteen points sums over all the queries.
-/
module
public import proofs.«01_k».proof.Proof.DkvPay
public import proofs.«01_k».proof.Proof.DkvBlocks
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
variable (m : (ℓ : Loc nD τ sig) → Buf (Elt Ideal) ℓ)
/-- The probability of key `j` for query `i` of head `h` of group `g`, from the score and the logarithm of the row sum. -/
def pr (q l : FVec Ideal S8192x1024 .f32) (k : FVec Ideal S8192x256 .f32) (g : Fin 2) (h : Fin 4) (i j : Fin 8192) : EReal :=
  Ideal.exp ((∑ x : Fin 128, q (ix2 i ⟨↑g * 512 + ↑h * 128 + ↑x, by omega⟩) * k (ix2 j ⟨↑g * 128 + ↑x, by omega⟩)) - l (ix2 i ⟨↑g * 512 + ↑h * 128, by omega⟩))
/-- One term of the values' gradient. -/
def tv (q l w : FVec Ideal S8192x1024 .f32) (k : FVec Ideal S8192x256 .f32) (g : Fin 2) (h : Fin 4) (i j : Fin 8192) (d : Fin 128) : EReal :=
  pr q l k g h i j * w (ix2 i ⟨↑g * 512 + ↑h * 128 + ↑d, by omega⟩)
/-- One term of the keys' gradient. -/
def tk (q l w e : FVec Ideal S8192x1024 .f32) (k v : FVec Ideal S8192x256 .f32) (g : Fin 2) (h : Fin 4) (i j : Fin 8192) (d : Fin 128) : EReal :=
  (pr q l k g h i j * ((∑ x : Fin 128, w (ix2 i ⟨↑g * 512 + ↑h * 128 + ↑x, by omega⟩) * v (ix2 j ⟨↑g * 128 + ↑x, by omega⟩)) - e (ix2 i ⟨↑g * 512 + ↑h * 128, by omega⟩)))
    * q (ix2 i ⟨↑g * 512 + ↑h * 128 + ↑d, by omega⟩)

section
variable (q0 q1 q2 q3 w0 w1 w2 w3 : FVec Ideal S512x128 .bf16) (k v : FVec Ideal S1024x128 .bf16) (l0 l1 l2 l3 e0 e1 e2 e3 : FVec Ideal S512x128 .f32)
  (a : FVec Ideal S1024x128 .f32) (j : Fin 1024) (d : Fin 128)
/-- One head's part of the values' gradient. -/
def hv (q w : FVec Ideal S512x128 .bf16) (k : FVec Ideal S1024x128 .bf16) (l : FVec Ideal S512x128 .f32) (j : Fin 1024) (d : Fin 128) : EReal :=
  ∑ i : Fin 512, Ideal.exp ((∑ x : Fin 128, q (ix2 i x) * k (ix2 j x)) - l (ix2 i 0)) * w (ix2 i d)
/-- One head's part of the keys' gradient. -/
def hk (q w : FVec Ideal S512x128 .bf16) (k v : FVec Ideal S1024x128 .bf16) (l e : FVec Ideal S512x128 .f32) (j : Fin 1024) (d : Fin 128) : EReal :=
  ∑ i : Fin 512, (Ideal.exp ((∑ x : Fin 128, q (ix2 i x) * k (ix2 j x)) - l (ix2 i 0)) * ((∑ x : Fin 128, w (ix2 i x) * v (ix2 j x)) - e (ix2 i 0))) * q (ix2 i d)
theorem four_v : k0_pay9 (F := Ideal) q3 w3 k l3 (k0_pay9 (F := Ideal) q2 w2 k l2 (k0_pay9 (F := Ideal) q1 w1 k l1 (k0_pay9 (F := Ideal) q0 w0 k l0 a))) (ix2 j d)
    = a (ix2 j d) + (hv q0 w0 k l0 j d + hv q1 w1 k l1 j d + hv q2 w2 k l2 j d + hv q3 w3 k l3 j d) := by
  simp only [pay9_at, pay7_at, hv, add_assoc]
theorem four_k : k0_pay10 (F := Ideal) (k0_pay5 q3) (k0_pay8 (F := Ideal) q3 w3 k l3 v e3) (k0_pay10 (F := Ideal) (k0_pay5 q2) (k0_pay8 (F := Ideal) q2 w2 k l2 v e2)
      (k0_pay10 (F := Ideal) (k0_pay5 q1) (k0_pay8 (F := Ideal) q1 w1 k l1 v e1) (k0_pay10 (F := Ideal) (k0_pay5 q0) (k0_pay8 (F := Ideal) q0 w0 k l0 v e0) a))) (ix2 j d)
    = a (ix2 j d) + (hk q0 w0 k v l0 e0 j d + hk q1 w1 k v l1 e1 j d + hk q2 w2 k v l2 e2 j d + hk q3 w3 k v l3 e3 j d) := by
  simp only [pay10_at, pay8_at, pay7_at, hk, add_assoc]
end

/-- What point `t` adds to the values' gradient. -/
def TV (c : Dev nD) (t : Fin cfg0.N) (j : S1024x128.Idx) : EReal :=
  have := t_lt t
  ∑ h : Fin 4, ∑ i : Fin 512, tv (X0 m c) (X3 m c) (X4 m c) (X1 m c) ⟨t.val / 128, by omega⟩ h ⟨t.val % 16 * 512 + i.val, by omega⟩ ⟨t.val / 16 % 8 * 1024 + (j 0).val, by idx_bounds; omega⟩ (j 1)
/-- What point `t` adds to the keys' gradient. -/
def TK (c : Dev nD) (t : Fin cfg0.N) (j : S1024x128.Idx) : EReal :=
  have := t_lt t
  ∑ h : Fin 4, ∑ i : Fin 512, tk (X0 m c) (X3 m c) (X4 m c) (X5 m c) (X1 m c) (X2 m c) ⟨t.val / 128, by omega⟩ h ⟨t.val % 16 * 512 + i.val, by omega⟩ ⟨t.val / 16 % 8 * 1024 + (j 0).val, by idx_bounds; omega⟩ (j 1)

theorem A_v (c : Dev nD) (t : Fin cfg0.N) (h0 : t.val % 16 = 0) (h1 : ¬ t.val % 16 = 15) (j : S1024x128.Idx) :
   (outsAt0 m c t.val t.isLt).2.2.2 j = 0 + TV m c t j := by
  rw [outsAt0_A m c t h0 h1]; frame_out
  idx_vars j
  rw [pay1_eq, pay22_eq, pay15_eq, four_v, pay4_at]
  refine congrArg (0 + ·) ?_
  rw [TV, Fin.sum_univ_four]
  refine congrArg₂ (· + ·) (congrArg₂ (· + ·) (congrArg₂ (· + ·) ?_ ?_) ?_) ?_
  all_goals
    refine Fin.sum_fin_congr fun i => ?_
    unfold tv pr
    pointwise
    simp only [B0, B1, B3, B4]
    generalize X0 m c = x0
    generalize X1 m c = x1
    generalize X3 m c = x3
    generalize X4 m c = x4
    blk_point
theorem B_v (c : Dev nD) (t : Fin cfg0.N) (h0 : ¬t.val % 16 = 0) (h1 : ¬ t.val % 16 = 15) (j : S1024x128.Idx) :
   (outsAt0 m c t.val t.isLt).2.2.2 j = (outsAt0 m c (t.val - 1) (Nat.lt_of_le_of_lt (Nat.sub_le _ _) t.isLt)).2.2.2 j + TV m c t j := by
  rw [outsAt0_B m c t h0 h1]; frame_out
  idx_vars j
  rw [pay1_eq, pay22_eq, pay15_eq, four_v]
  refine congrArg₂ (· + ·) (congrFun (Memref.IsWhole.read_unread _ _) _) ?_
  rw [TV, Fin.sum_univ_four]
  refine congrArg₂ (· + ·) (congrArg₂ (· + ·) (congrArg₂ (· + ·) ?_ ?_) ?_) ?_
  all_goals
    refine Fin.sum_fin_congr fun i => ?_
    unfold tv pr
    pointwise
    simp only [B0, B1, B3, B4]
    generalize X0 m c = x0
    generalize X1 m c = x1
    generalize X3 m c = x3
    generalize X4 m c = x4
    blk_point
theorem C_v (c : Dev nD) (t : Fin cfg0.N) (h0 : ¬t.val % 16 = 0) (h1 : t.val % 16 = 15) (j : S1024x128.Idx) :
   (outsAt0 m c t.val t.isLt).2.2.2 j = (outsAt0 m c (t.val - 1) (Nat.lt_of_le_of_lt (Nat.sub_le _ _) t.isLt)).2.2.2 j + TV m c t j := by
  rw [outsAt0_C m c t h0 h1]; frame_out
  idx_vars j
  rw [pay1_eq, pay22_eq, pay15_eq, four_v]
  refine congrArg₂ (· + ·) (congrFun (Memref.IsWhole.read_unread _ _) _) ?_
  rw [TV, Fin.sum_univ_four]
  refine congrArg₂ (· + ·) (congrArg₂ (· + ·) (congrArg₂ (· + ·) ?_ ?_) ?_) ?_
  all_goals
    refine Fin.sum_fin_congr fun i => ?_
    unfold tv pr
    pointwise
    simp only [B0, B1, B3, B4]
    generalize X0 m c = x0
    generalize X1 m c = x1
    generalize X3 m c = x3
    generalize X4 m c = x4
    blk_point
theorem A_k (c : Dev nD) (t : Fin cfg0.N) (h0 : t.val % 16 = 0) (h1 : ¬ t.val % 16 = 15) (j : S1024x128.Idx) :
   (outsAt0 m c t.val t.isLt).2.2.1 j = 0 + TK m c t j := by
  rw [outsAt0_A m c t h0 h1]; frame_out
  idx_vars j
  rw [pay2_eq, pay27_eq, pay23_eq, pay20_eq, pay16_eq, pay14_eq, four_k, pay3_at]
  refine congrArg (0 + ·) ?_
  rw [TK, Fin.sum_univ_four]
  refine congrArg₂ (· + ·) (congrArg₂ (· + ·) (congrArg₂ (· + ·) ?_ ?_) ?_) ?_
  all_goals
    refine Fin.sum_fin_congr fun i => ?_
    unfold tk pr
    pointwise
    simp only [B0, B1, B2, B3, B4, B5]
    generalize X0 m c = x0
    generalize X1 m c = x1
    generalize X2 m c = x2
    generalize X3 m c = x3
    generalize X4 m c = x4
    generalize X5 m c = x5
    blk_point
theorem B_k (c : Dev nD) (t : Fin cfg0.N) (h0 : ¬t.val % 16 = 0) (h1 : ¬ t.val % 16 = 15) (j : S1024x128.Idx) :
   (outsAt0 m c t.val t.isLt).2.2.1 j = (outsAt0 m c (t.val - 1) (Nat.lt_of_le_of_lt (Nat.sub_le _ _) t.isLt)).2.2.1 j + TK m c t j := by
  rw [outsAt0_B m c t h0 h1]; frame_out
  idx_vars j
  rw [pay2_eq, pay27_eq, pay23_eq, pay20_eq, pay16_eq, pay14_eq, four_k]
  refine congrArg₂ (· + ·) (congrFun (Memref.IsWhole.read_unread _ _) _) ?_
  rw [TK, Fin.sum_univ_four]
  refine congrArg₂ (· + ·) (congrArg₂ (· + ·) (congrArg₂ (· + ·) ?_ ?_) ?_) ?_
  all_goals
    refine Fin.sum_fin_congr fun i => ?_
    unfold tk pr
    pointwise
    simp only [B0, B1, B2, B3, B4, B5]
    generalize X0 m c = x0
    generalize X1 m c = x1
    generalize X2 m c = x2
    generalize X3 m c = x3
    generalize X4 m c = x4
    generalize X5 m c = x5
    blk_point
theorem C_k (c : Dev nD) (t : Fin cfg0.N) (h0 : ¬t.val % 16 = 0) (h1 : t.val % 16 = 15) (j : S1024x128.Idx) :
   (outsAt0 m c t.val t.isLt).2.2.1 j = (outsAt0 m c (t.val - 1) (Nat.lt_of_le_of_lt (Nat.sub_le _ _) t.isLt)).2.2.1 j + TK m c t j := by
  rw [outsAt0_C m c t h0 h1]; frame_out
  idx_vars j
  rw [pay2_eq, pay27_eq, pay23_eq, pay20_eq, pay16_eq, pay14_eq, four_k]
  refine congrArg₂ (· + ·) (congrFun (Memref.IsWhole.read_unread _ _) _) ?_
  rw [TK, Fin.sum_univ_four]
  refine congrArg₂ (· + ·) (congrArg₂ (· + ·) (congrArg₂ (· + ·) ?_ ?_) ?_) ?_
  all_goals
    refine Fin.sum_fin_congr fun i => ?_
    unfold tk pr
    pointwise
    simp only [B0, B1, B2, B3, B4, B5]
    generalize X0 m c = x0
    generalize X1 m c = x1
    generalize X2 m c = x2
    generalize X3 m c = x3
    generalize X4 m c = x4
    generalize X5 m c = x5
    blk_point
theorem out_k (c : Dev nD) (t : Fin cfg0.N) (h0 : ¬t.val % 16 = 0) (h1 : t.val % 16 = 15) :
    (outsAt0 m c t.val t.isLt).1 = (outsAt0 m c t.val t.isLt).2.2.1 := by
  rw [outsAt0_C m c t h0 h1]; frame_out
theorem out_v (c : Dev nD) (t : Fin cfg0.N) (h0 : ¬t.val % 16 = 0) (h1 : t.val % 16 = 15) :
    (outsAt0 m c t.val t.isLt).2.1 = (outsAt0 m c t.val t.isLt).2.2.2 := by
  rw [outsAt0_C m c t h0 h1]; frame_out
theorem s_v (c : Dev nD) (t : Fin cfg0.N) (h0 : ¬t.val % 16 = 0) (j : S1024x128.Idx) :
    (outsAt0 m c t.val t.isLt).2.2.2 j = (outsAt0 m c (t.val - 1) (Nat.lt_of_le_of_lt (Nat.sub_le _ _) t.isLt)).2.2.2 j + TV m c t j := by
  by_cases h1 : t.val % 16 = 15
  · exact C_v m c t h0 h1 j
  · exact B_v m c t h0 h1 j
theorem s_k (c : Dev nD) (t : Fin cfg0.N) (h0 : ¬t.val % 16 = 0) (j : S1024x128.Idx) :
    (outsAt0 m c t.val t.isLt).2.2.1 j = (outsAt0 m c (t.val - 1) (Nat.lt_of_le_of_lt (Nat.sub_le _ _) t.isLt)).2.2.1 j + TK m c t j := by
  by_cases h1 : t.val % 16 = 15
  · exact C_k m c t h0 h1 j
  · exact B_k m c t h0 h1 j
end Cert.Kernel2Ideal.Value
end
-- ==== Proof.AttnReal.lean ====
/-
  The attention's host lines over arrays of real numbers: scores, softmax, the gradient of the scores, and the two row
  quantities (the logarithm of the row sum, the row product with the output) as real numbers.
-/
module
public import proofs.«01_k».proof.Proof.AttnHost
@[expose] public section
set_option maxRecDepth 16384
noncomputable section
open Idealize.ShloMosaic Idealize.ShloMosaic.TcCoe Idealize.SL.Sem
namespace Cert.Attn
open Softmax

section
variable (Q W : Fin 8192 → Fin 1024 → ℝ) (K U : Fin 8192 → Fin 256 → ℝ) (g : Fin 2) (h : Fin 4) (i j : Fin 8192)
/-- The score of key `j` for query `i` in head `h` of group `g`. -/
def sR : ℝ := ∑ x : Fin 128, K j ⟨↑g * 128 + ↑x, by omega⟩ * Q i ⟨↑g * 512 + ↑h * 128 + ↑x, by omega⟩
/-- The gradient of the probability. -/
def dpR : ℝ := ∑ x : Fin 128, W i ⟨↑g * 512 + ↑h * 128 + ↑x, by omega⟩ * U j ⟨↑g * 128 + ↑x, by omega⟩
/-- The probability. -/
def pR : ℝ := P (fun j => sR Q K g h i j) j
/-- The gradient of the score. -/
def dsR : ℝ := pR Q K g h i j * (dpR W U g h i j - ∑ x, dpR W U g h i x * pR Q K g h i x)

theorem mul_sum_coe {κ : Type*} [Fintype κ] (a b : κ → EReal) (A B : κ → ℝ) (ha : ∀ x, a x = (A x : EReal)) (hb : ∀ x, b x = (B x : EReal)) :
    ∑ x, a x * b x = ((∑ x, A x * B x : ℝ) : EReal) := by
  rw [← coe_sum]
  exact Finset.sum_congr rfl fun x _ => by rw [ha, hb, EReal.coe_mul]

variable (q w : Q2) (k v : K2) {Q W K U} (hq : ∀ i a, q (ix2 i a) = (Q i a : EReal)) (hk : ∀ i a, k (ix2 i a) = (K i a : EReal))
  (hv : ∀ i a, v (ix2 i a) = (U i a : EReal)) (hw : ∀ i a, w (ix2 i a) = (W i a : EReal))
include hq hk
theorem SC_real : SC q k (ix4 g h i j) = (sR Q K g h i j : EReal) := by
  rw [SC_at]
  exact mul_sum_coe _ _ _ _ (fun x => hk _ _) (fun x => hq _ _)
theorem SC_all (y : Cert.Reference2Ideal.S2x4x8192x8192.Idx) : ∃ r : ℝ, SC q k y = (r : EReal) := by
  idx_vars y
  exact ⟨_, SC_real y0 y1 y2 y3 q k hq hk⟩
theorem EX_real : ∃ M : ℝ, ∀ j, EX (SC q k) (ix4 g h i j) = Ideal.exp ((sR Q K g h i j : EReal) - (M : EReal)) := by
  obtain ⟨M, hM⟩ := MX_real (SC q k) g h i (SC_all q k hq hk)
  exact ⟨M, fun j => by rw [EX_at, hM, SC_real g h i j q k hq hk]⟩
theorem PR_real : PR (EX (SC q k)) (ix4 g h i j) = (pR Q K g h i j : EReal) := by
  obtain ⟨M, hM⟩ := EX_real g h i q k hq hk
  rw [PR_at, SM_at]
  simp only [hM]
  exact div_row _ M j
theorem LSE_real (x : Fin 128) : ∃ M : ℝ, LSE (SC q k) (ix2 i ⟨↑g * 512 + ↑h * 128 + ↑x, by omega⟩)
    = (M : EReal) + Ideal.log (∑ j, Ideal.exp ((sR Q K g h i j : EReal) - (M : EReal))) := by
  obtain ⟨M, hM⟩ := MK_real (SC q k) g h i (SC_all q k hq hk)
  refine ⟨M, ?_⟩
  have e1 : (⟨(↑g * 512 + ↑h * 128 + ↑x) / 512, by omega⟩ : Fin 2) = g := Fin.ext (by simp only; omega)
  have e2 : (⟨(↑g * 512 + ↑h * 128 + ↑x) / 128 % 4, by omega⟩ : Fin 4) = h := Fin.ext (by simp only; omega)
  unfold LSE
  rw [LANES_at, ADDLOG_at]
  simp only [e1, e2, SM_at, EK_at, hM, SC_real _ _ _ _ q k hq hk]
theorem p_of_lse (x : Fin 128) : Ideal.exp ((sR Q K g h i j : EReal) - LSE (SC q k) (ix2 i ⟨↑g * 512 + ↑h * 128 + ↑x, by omega⟩)) = (pR Q K g h i j : EReal) := by
  obtain ⟨M, hM⟩ := LSE_real g h i q k hq hk x
  rw [hM]
  exact lse_row _ M j
include hv hw
omit hq hk in
theorem DP_real : DP w v (ix4 g h i j) = (dpR W U g h i j : EReal) := by
  rw [DP_at]
  exact mul_sum_coe _ _ _ _ (fun x => hw _ _) (fun x => hv _ _)
theorem DS_real : DS (DP w v) (EX (SC q k)) (ix4 g h i j) = (dsR Q W K U g h i j : EReal) := by
  obtain ⟨M, hM⟩ := EX_real g h i q k hq hk
  rw [DS_at, NEG_at, SM_at]
  simp only [hM, DP_real _ _ _ _ w v hv hw]
  exact ds_row _ _ M j
theorem DELTA_real (x : Fin 128) : DELTA w (OUT (PR (EX (SC q k))) v) (ix2 i ⟨↑g * 512 + ↑h * 128 + ↑x, by omega⟩)
    = ((∑ y, dpR W U g h i y * pR Q K g h i y : ℝ) : EReal) := by
  rw [DELTA_at]
  have e1 : ∀ z : Fin 128, (⟨(↑g * 512 + ↑h * 128 + ↑x) / 128 * 128 + ↑z, by omega⟩ : Fin 1024) = ⟨↑g * 512 + ↑h * 128 + ↑z, by omega⟩ := fun z => Fin.ext (by simp only; omega)
  have e2 : ∀ z : Fin 128, OUT (PR (EX (SC q k))) v (ix2 i ⟨↑g * 512 + ↑h * 128 + ↑z, by omega⟩)
      = ((∑ y, U y ⟨↑g * 128 + ↑z, by omega⟩ * pR Q K g h i y : ℝ) : EReal) := fun z => by
    rw [OUT_at]
    have e3 : (⟨(↑g * 512 + ↑h * 128 + ↑z) / 512, by omega⟩ : Fin 2) = g := Fin.ext (by simp only; omega)
    have e4 : (⟨(↑g * 512 + ↑h * 128 + ↑z) / 128 % 4, by omega⟩ : Fin 4) = h := Fin.ext (by simp only; omega)
    have e5 : (⟨(↑g * 512 + ↑h * 128 + ↑z) / 512 * 128 + (↑g * 512 + ↑h * 128 + ↑z) % 128, by omega⟩ : Fin 256) = ⟨↑g * 128 + ↑z, by omega⟩ := Fin.ext (by simp only; omega)
    simp only [e3, e4, e5]
    exact mul_sum_coe _ _ _ _ (fun y => hv _ _) (fun y => PR_real _ _ _ _ q k hq hk)
  simp only [e1]
  refine (mul_sum_coe _ _ _ _ (fun y => hw _ _) (fun y => e2 y)).trans (congrArg _ ?_)
  exact delta_row _ _ _
end
end Cert.Attn
end
-- ==== Proof.DkvFinal.lean ====
/-
  The gradients of keys and values: the arrays the kernel leaves are the reference's, for real arguments.
-/
module
public import proofs.«01_k».proof.Proof.DkvEntry
public import proofs.«01_k».proof.Proof.DkvStep
public import proofs.«01_k».proof.Proof.AttnReal
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Attn
variable (m : (ℓ : Loc nD τ sig) → Buf (Elt Ideal) ℓ)

/-- Sixteen blocks of 512 queries for each head are all the queries for each head. -/
theorem resum (f : Fin 4 → Fin 8192 → EReal) :
    ∑ s : Fin 16, ∑ h : Fin 4, ∑ i : Fin 512, f h ⟨s.val * 512 + i.val, by omega⟩ = ∑ h : Fin 4, ∑ x : Fin 8192, f h x := by
  rw [Finset.sum_comm]
  refine Finset.sum_congr rfl fun h _ => ?_
  refine Fin.sum_mul_add_congr fun s k hl => rfl

theorem idx7 : ∀ t : Fin cfg0.N, win0_6.index t = ![t.val / 16 % 8, t.val / 128] ∧ win0_7.index t = ![t.val / 16 % 8, t.val / 128] :=
  (by decide +kernel : ∀ t : Fin grid0.N, _)
section
variable {Q W : Fin 8192 → Fin 1024 → ℝ} {K U : Fin 8192 → Fin 256 → ℝ} (c : Dev nD)
  (hq : ∀ i a, A0 m c (ix2 i a) = (Q i a : EReal)) (hk : ∀ i a, A1 m c (ix2 i a) = (K i a : EReal))
  (hv : ∀ i a, A2 m c (ix2 i a) = (U i a : EReal)) (hw : ∀ i a, A3 m c (ix2 i a) = (W i a : EReal))
  (g : Fin 2) (h : Fin 4) (i j : Fin 8192) (d : Fin 128)
include hq hk hv hw
theorem pr_real : pr (X0 m c) (X3 m c) (X1 m c) g h i j = (pR Q K g h i j : EReal) := by
  rw [show X0 m c = A0 m c from V41 m c, show X1 m c = A1 m c from V42 m c, show X3 m c = LSE (SC (A0 m c) (A1 m c)) from V34 m c]
  generalize A0 m c = a0 at hq ⊢
  generalize A1 m c = a1 at hk ⊢
  unfold pr
  rw [← p_of_lse g h i j a0 a1 hq hk 0]
  refine congrArg (fun z => Ideal.exp (z - _)) ((mul_sum_coe _ _ _ _ (fun x => hq _ _) (fun x => hk _ _)).trans (congrArg _ ?_))
  exact Finset.sum_congr rfl fun x _ => mul_comm _ _
theorem tv_real : tv (X0 m c) (X3 m c) (X4 m c) (X1 m c) g h i j d
    = A3 m c (ix2 i ⟨↑g * 512 + ↑h * 128 + ↑d, by omega⟩) * PR (EX (SC (A0 m c) (A1 m c))) (ix4 g h i j) := by
  rw [tv, pr_real m c hq hk hv hw g h i j, show X4 m c = A3 m c from V44 m c, PR_real g h i j (A0 m c) (A1 m c) hq hk, mul_comm]
theorem tk_real : tk (X0 m c) (X3 m c) (X4 m c) (X5 m c) (X1 m c) (X2 m c) g h i j d
    = DS (DP (A3 m c) (A2 m c)) (EX (SC (A0 m c) (A1 m c))) (ix4 g h i j) * A0 m c (ix2 i ⟨↑g * 512 + ↑h * 128 + ↑d, by omega⟩) := by
  rw [tk, pr_real m c hq hk hv hw g h i j, show X4 m c = A3 m c from V44 m c, show X0 m c = A0 m c from V41 m c, show X2 m c = A2 m c from V43 m c,
    show X5 m c = DELTA (A3 m c) (OUT (PR (EX (SC (A0 m c) (A1 m c)))) (A2 m c)) from V40 m c, DS_real g h i j (A0 m c) (A3 m c) (A1 m c) (A2 m c) hq hk hv hw]
  refine congrArg (· * _) ?_
  have e := DELTA_real g h i (A0 m c) (A3 m c) (A1 m c) (A2 m c) hq hk hv hw 0
  have e' := mul_sum_coe (fun x : Fin 128 => A3 m c (ix2 i ⟨↑g * 512 + ↑h * 128 + ↑x, by omega⟩)) (fun x => A2 m c (ix2 j ⟨↑g * 128 + ↑x, by omega⟩)) _ _ (fun x => hw _ _) (fun x => hv _ _)
  refine (congrArg₂ (fun y z => (pR Q K g h i j : EReal) * (y - z)) e' e).trans ?_
  rw [← EReal.coe_sub, ← EReal.coe_mul]
  rfl

theorem sum_v (t : Fin cfg0.N) (hl : t.val % 16 = 16 - 1) (y0 : Fin 1024) (y1 : Fin 128) :
    ∑ s : Fin 16, TV m c ⟨16 * (t.val / 16) + s.val, Pipeline.run_point_lt_of_flush t hl s⟩ (ix2 y0 y1)
      = DV (PR (EX (SC (A0 m c) (A1 m c)))) (A3 m c)
          (ix2 ⟨t.val / 16 % 8 * 1024 + y0.val, by omega⟩ ⟨t.val / 128 * 128 + y1.val, by have := t_lt t; omega⟩) := by
  have ht := t_lt t
  have hg : (⟨(t.val / 128 * 128 + y1.val) / 128, by omega⟩ : Fin 2) = ⟨t.val / 128, by omega⟩ := Fin.ext (by simp only; omega)
  have ha : ∀ h : Fin 4, (⟨(t.val / 128 * 128 + y1.val) / 128 * 512 + h.val * 128 + (t.val / 128 * 128 + y1.val) % 128, by omega⟩ : Fin 1024)
      = ⟨t.val / 128 * 512 + h.val * 128 + y1.val, by omega⟩ := fun h => Fin.ext (by simp only; omega)
  rw [DV_at]
  simp only [hg, ha]
  refine Eq.trans (b := ∑ s : Fin 16, ∑ h : Fin 4, ∑ i : Fin 512, tv (X0 m c) (X3 m c) (X4 m c) (X1 m c) ⟨t.val / 128, by omega⟩ h
      ⟨s.val * 512 + i.val, by omega⟩ ⟨t.val / 16 % 8 * 1024 + y0.val, by omega⟩ y1) ?_ ?_
  · refine Finset.sum_congr rfl fun s _ => Finset.sum_congr rfl fun h _ => Finset.sum_congr rfl fun i _ => ?_
    have e1 : (⟨(16 * (t.val / 16) + s.val) / 128, by omega⟩ : Fin 2) = ⟨t.val / 128, by omega⟩ := Fin.ext (by simp only; omega)
    have e2 : (⟨(16 * (t.val / 16) + s.val) % 16 * 512 + i.val, by omega⟩ : Fin 8192) = ⟨s.val * 512 + i.val, by omega⟩ := Fin.ext (by simp only; omega)
    have e3 : (⟨(16 * (t.val / 16) + s.val) / 16 % 8 * 1024 + y0.val, by omega⟩ : Fin 8192) = ⟨t.val / 16 % 8 * 1024 + y0.val, by omega⟩ := Fin.ext (by simp only; omega)
    show tv (X0 m c) (X3 m c) (X4 m c) (X1 m c) ⟨(16 * (t.val / 16) + s.val) / 128, by omega⟩ h ⟨(16 * (t.val / 16) + s.val) % 16 * 512 + i.val, by omega⟩
      ⟨(16 * (t.val / 16) + s.val) / 16 % 8 * 1024 + y0.val, by omega⟩ y1 = _
    rw [e1, e2, e3]
  · refine (resum fun h i => tv (X0 m c) (X3 m c) (X4 m c) (X1 m c) ⟨t.val / 128, by omega⟩ h i ⟨t.val / 16 % 8 * 1024 + y0.val, by omega⟩ y1).trans ?_
    exact Finset.sum_congr rfl fun h _ => Finset.sum_congr rfl fun i _ => tv_real m c hq hk hv hw _ _ _ _ _
theorem final_v : (dats m 0 c).arrAt 7 cfg0.N = DV (PR (EX (SC (A0 m c) (A1 m c)))) (A3 m c) := by
  refine (dats m 0 c).arrAt_eq_of_covers 7 _ (by decide +kernel) fun t hf y => ?_
  have hl : t.val % 16 = 16 - 1 := (flush0_7 t).mp hf
  have ht := t_lt t
  blk_simp
  rw [after0_7, out_v m c t (by omega) hl, Pipeline.eq_sum_fin_of_reset_step_apply_of_flush (fun n h => (outsAt0 m c n h).2.2.2) 16 (fun _ => 0) (TV m c)
    (fun t h j => A_v m c t h (by omega) j) (fun t h j => s_v m c t h j) t hl _, zero_add]
  have e : ((View.whole main_v45_1).slice (win0_7.rect t)).emb y = ix2 (⟨t.val / 16 % 8 * 1024 + (y 0).val, by idx_bounds; omega⟩ : Fin 8192) (⟨t.val / 128 * 128 + (y 1).val, by idx_bounds; omega⟩ : Fin 256) := by
    funext a; fin_cases a <;> apply Fin.ext <;> blk_simp [idx7 t] <;> rfl
  rw [e]
  exact sum_v m c hq hk hv hw t hl (y 0) (y 1)
theorem sum_k (t : Fin cfg0.N) (hl : t.val % 16 = 16 - 1) (y0 : Fin 1024) (y1 : Fin 128) :
    ∑ s : Fin 16, TK m c ⟨16 * (t.val / 16) + s.val, Pipeline.run_point_lt_of_flush t hl s⟩ (ix2 y0 y1)
      = DK (DS (DP (A3 m c) (A2 m c)) (EX (SC (A0 m c) (A1 m c)))) (A0 m c)
          (ix2 ⟨t.val / 16 % 8 * 1024 + y0.val, by omega⟩ ⟨t.val / 128 * 128 + y1.val, by have := t_lt t; omega⟩) := by
  have ht := t_lt t
  have hg : (⟨(t.val / 128 * 128 + y1.val) / 128, by omega⟩ : Fin 2) = ⟨t.val / 128, by omega⟩ := Fin.ext (by simp only; omega)
  have ha : ∀ h : Fin 4, (⟨(t.val / 128 * 128 + y1.val) / 128 * 512 + h.val * 128 + (t.val / 128 * 128 + y1.val) % 128, by omega⟩ : Fin 1024)
      = ⟨t.val / 128 * 512 + h.val * 128 + y1.val, by omega⟩ := fun h => Fin.ext (by simp only; omega)
  rw [DK_at]
  simp only [hg, ha]
  refine Eq.trans (b := ∑ s : Fin 16, ∑ h : Fin 4, ∑ i : Fin 512, tk (X0 m c) (X3 m c) (X4 m c) (X5 m c) (X1 m c) (X2 m c) ⟨t.val / 128, by omega⟩ h
      ⟨s.val * 512 + i.val, by omega⟩ ⟨t.val / 16 % 8 * 1024 + y0.val, by omega⟩ y1) ?_ ?_
  · refine Finset.sum_congr rfl fun s _ => Finset.sum_congr rfl fun h _ => Finset.sum_congr rfl fun i _ => ?_
    have e1 : (⟨(16 * (t.val / 16) + s.val) / 128, by omega⟩ : Fin 2) = ⟨t.val / 128, by omega⟩ := Fin.ext (by simp only; omega)
    have e2 : (⟨(16 * (t.val / 16) + s.val) % 16 * 512 + i.val, by omega⟩ : Fin 8192) = ⟨s.val * 512 + i.val, by omega⟩ := Fin.ext (by simp only; omega)
    have e3 : (⟨(16 * (t.val / 16) + s.val) / 16 % 8 * 1024 + y0.val, by omega⟩ : Fin 8192) = ⟨t.val / 16 % 8 * 1024 + y0.val, by omega⟩ := Fin.ext (by simp only; omega)
    show tk (X0 m c) (X3 m c) (X4 m c) (X5 m c) (X1 m c) (X2 m c) ⟨(16 * (t.val / 16) + s.val) / 128, by omega⟩ h ⟨(16 * (t.val / 16) + s.val) % 16 * 512 + i.val, by omega⟩
      ⟨(16 * (t.val / 16) + s.val) / 16 % 8 * 1024 + y0.val, by omega⟩ y1 = _
    rw [e1, e2, e3]
  · refine (resum fun h i => tk (X0 m c) (X3 m c) (X4 m c) (X5 m c) (X1 m c) (X2 m c) ⟨t.val / 128, by omega⟩ h i ⟨t.val / 16 % 8 * 1024 + y0.val, by omega⟩ y1).trans ?_
    rw [Finset.sum_comm]
    exact Finset.sum_congr rfl fun h _ => Finset.sum_congr rfl fun i _ => tk_real m c hq hk hv hw _ _ _ _ _
theorem final_k : (dats m 0 c).arrAt 6 cfg0.N = DK (DS (DP (A3 m c) (A2 m c)) (EX (SC (A0 m c) (A1 m c)))) (A0 m c) := by
  refine (dats m 0 c).arrAt_eq_of_covers 6 _ (by decide +kernel) fun t hf y => ?_
  have hl : t.val % 16 = 16 - 1 := (flush0_6 t).mp hf
  have ht := t_lt t
  blk_simp
  rw [after0_6, out_k m c t (by omega) hl, Pipeline.eq_sum_fin_of_reset_step_apply_of_flush (fun n h => (outsAt0 m c n h).2.2.1) 16 (fun _ => 0) (TK m c)
    (fun t h j => A_k m c t h (by omega) j) (fun t h j => s_k m c t h j) t hl _, zero_add]
  have e : ((View.whole main_v45_0).slice (win0_6.rect t)).emb y = ix2 (⟨t.val / 16 % 8 * 1024 + (y 0).val, by idx_bounds; omega⟩ : Fin 8192) (⟨t.val / 128 * 128 + (y 1).val, by idx_bounds; omega⟩ : Fin 256) := by
    funext a; fin_cases a <;> apply Fin.ext <;> blk_simp [idx7 t] <;> rfl
  rw [e]
  exact sum_k m c hq hk hv hw t hl (y 0) (y 1)
end
end Cert.Kernel2Ideal.Value
end
-- ==== Proof.DkvAlg.lean ====
/-
  The gradients of keys and values: kernel and reference leave equal results.
-/
module
public import proofs.«01_k».proof.Proof.Finite
public import proofs.«01_k».proof.Proof.DkvFinal
@[expose] public section
set_option maxRecDepth 16384
noncomputable section
open Idealize.ShloMosaic Idealize.ShloMosaic.TcCoe Idealize.SL.Sem
namespace Cert.Proof

theorem dkv : Cert.algebraic_Kernel2Ideal_Reference2Ideal_pre_finite (hPre_finite := Cert.Finite.facts) := by
  intro m ρ m' ρ' hpre hag
  refine ⟨_, _, Cert.Kernel2Ideal.Value.run m ρ, (θ_run Cert.Reference2Ideal.defs _ _).mono (fun r h c => ?_) (Cert.Reference2Ideal.Value.run m' ρ')⟩
  obtain ⟨hk, hv, h0, h1, h2, h3⟩ := h c
  obtain ⟨f0, f1, f2, f3⟩ := hpre c
  obtain ⟨g0, g1, g2, g3⟩ := hag c
  obtain ⟨Q, hQ⟩ := Cert.Finite.choose _ fun i j => Cert.Finite.a0 _ _ _ _ i j f0
  obtain ⟨K, hK⟩ := Cert.Finite.choose _ fun i j => Cert.Finite.a1 _ _ _ _ i j f1
  obtain ⟨U, hU⟩ := Cert.Finite.choose _ fun i j => Cert.Finite.a2 _ _ _ _ i j f2
  obtain ⟨W, hW⟩ := Cert.Finite.choose _ fun i j => Cert.Finite.a3 _ _ _ _ i j f3
  refine ⟨hk.trans ?_, hv.trans ?_, h0, h1, h2, h3⟩
  · refine (Cert.Attn.res_dk m' c).trans (Eq.trans ?_ ((Cert.Kernel2Ideal.Value.final_k m c hQ hK hU hW).symm.trans (Cert.Kernel2Ideal.Value.final6 m c)))
    rw [g0, g1, g2, g3]
  · refine Eq.trans ?_ ((Cert.Kernel2Ideal.Value.final_v m c hQ hK hU hW).symm.trans (Cert.Kernel2Ideal.Value.final7 m c))
    rw [g0, g1, g3]
    rfl
end Cert.Proof
end
-- ==== Proof.Online.lean ====
/-
  The softmax of one row taken block by block: the weights, their sum and the weighted sum of the values, all relative to
  a real number that may change from block to block. Whatever that number is, the quotient in the end is the softmax.
-/
module
public import proofs.«01_k».proof.Proof.Softmax
@[expose] public section
noncomputable section
open Idealize.ShloMosaic
namespace Cert.Online
open Cert.Softmax

/-- A real number that is not negative distributes over a sum of extended reals. -/
theorem mul_sum_nonneg {ι : Type*} (s : Finset ι) {r : ℝ} (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The sum of the weights of the first `n` blocks. -/
def E (s : ℕ → ℝ) (μ : ℝ) (n : ℕ) : ℝ := ∑ b ∈ Finset.range n, ∑ k : Fin 1024, Real.exp (s (b * 1024 + k.val) - μ)
/-- The weighted sum of the values of the first `n` blocks. -/
def AV (s : ℕ → ℝ) (μ : ℝ) (v : ℕ → EReal) (n : ℕ) : EReal :=
  ∑ b ∈ Finset.range n, ∑ k : Fin 1024, ((Real.exp (s (b * 1024 + k.val) - μ) : ℝ) : EReal) * v (b * 1024 + k.val)

theorem E_succ (s : ℕ → ℝ) (μ μ' : ℝ) (n : ℕ) :
    Real.exp (μ - μ') * E s μ n + ∑ k : Fin 1024, Real.exp (s (n * 1024 + k.val) - μ') = E s μ' (n + 1) := by
  unfold E
  rw [Finset.sum_range_succ, Finset.mul_sum]
  refine congrArg (· + _) (Finset.sum_congr rfl fun b _ => ?_)
  rw [Finset.mul_sum]
  refine Finset.sum_congr rfl fun k _ => ?_
  rw [← Real.exp_add]
  congr 1; ring
theorem AV_succ (s : ℕ → ℝ) (μ μ' : ℝ) (v : ℕ → EReal) (n : ℕ) :
    ((Real.exp (μ - μ') : ℝ) : EReal) * AV s μ v n + ∑ k : Fin 1024, ((Real.exp (s (n * 1024 + k.val) - μ') : ℝ) : EReal) * v (n * 1024 + k.val) = AV s μ' v (n + 1) := by
  unfold AV
  rw [Finset.sum_range_succ, mul_sum_nonneg _ (Real.exp_pos _).le]
  refine congrArg (· + _) (Finset.sum_congr rfl fun b _ => ?_)
  rw [mul_sum_nonneg _ (Real.exp_pos _).le]
  refine Finset.sum_congr rfl fun k _ => ?_
  rw [← mul_assoc, ← EReal.coe_mul, ← Real.exp_add]
  congr 3; ring

/-- What the three running arrays hold of one row after `n` blocks. -/
def Inv (s : ℕ → ℝ) (v : Fin 128 → ℕ → EReal) (n : ℕ) (M L A : Fin 128 → EReal) : Prop :=
  ∃ μ : ℝ, (∀ x, M x = (μ : EReal)) ∧ (∀ x, L x = ((E s μ n : ℝ) : EReal)) ∧ ∀ d, A d = AV s μ (v d) n

section
variable {s : ℕ → ℝ} {v : Fin 128 → ℕ → EReal} {n : ℕ} {M L A M' L' A' : Fin 128 → EReal} (sc : Fin 1024 → EReal) (w : Fin 1024 → Fin 128 → EReal)
  (hM : ∀ x, M' x = max (M x) (Finset.univ.fold max ⊥ sc))
  (hL : ∀ x, L' x = Ideal.exp (M x - M' x) * L x + ∑ k, Ideal.exp (sc k - M' 0))
  (hA : ∀ d, A' d = A d * Ideal.exp (M 0 - M' 0) + ∑ k, Ideal.exp (sc k - M' 0) * w k d)
include hM hL hA
/-- One block more. -/
theorem Inv.step (h : Inv s v n M L A) (hsc : ∀ k, sc k = (s (n * 1024 + k.val) : EReal)) (hw : ∀ k d, w k d = v d (n * 1024 + k.val)) :
    Inv s v (n + 1) M' L' A' := by
  obtain ⟨μ, h1, h2, h3⟩ := h
  obtain ⟨ρ, hρ⟩ := fold_max_real sc fun k => ⟨_, hsc k⟩
  have e : ∀ x, M' x = ((max μ ρ : ℝ) : EReal) := fun x => by
    rw [hM, h1, hρ]; exact (EReal.coe_strictMono.monotone.map_max).symm
  refine ⟨max μ ρ, e, fun x => ?_, fun d => ?_⟩
  · rw [hL, e, e, h1, h2, ← EReal.coe_sub, exp_coe, ← EReal.coe_mul, ← E_succ s μ, EReal.coe_add, ← coe_sum]
    refine congrArg (_ + ·) (Finset.sum_congr rfl fun k _ => ?_)
    rw [hsc, ← EReal.coe_sub, exp_coe]
  · rw [hA, e, h1, h3, ← EReal.coe_sub, exp_coe, mul_comm, ← AV_succ s μ]
    refine congrArg₂ (fun y z : EReal => y + z) rfl (Finset.sum_congr rfl fun k _ => ?_)
    rw [hsc, hw, ← EReal.coe_sub, exp_coe]
/-- The first block. -/
theorem Inv.start (hM0 : ∀ x, M x = ⊥) (hL0 : ∀ x, L x = 0) (hA0 : ∀ x, A x = 0) (hsc : ∀ k, sc k = (s (0 * 1024 + k.val) : EReal))
    (hw : ∀ k d, w k d = v d (0 * 1024 + k.val)) : Inv s v 1 M' L' A' := by
  obtain ⟨ρ, hρ⟩ := fold_max_real sc fun k => ⟨_, hsc k⟩
  have e : ∀ x, M' x = (ρ : EReal) := fun x => by
    rw [hM, hM0, hρ]; exact max_eq_right bot_le
  refine ⟨ρ, e, fun x => ?_, fun d => ?_⟩
  · rw [hL, hL0, mul_zero, zero_add, e, E, Finset.sum_range_one, ← coe_sum]
    refine Finset.sum_congr rfl fun k _ => ?_
    rw [hsc, ← EReal.coe_sub, exp_coe]
  · rw [hA, hA0, zero_mul, zero_add, e, AV, Finset.sum_range_one]
    refine Finset.sum_congr rfl fun k _ => ?_
    rw [hsc, hw, ← EReal.coe_sub, exp_coe]
end

/-- After eight blocks the quotient is the softmax's weighted sum of the values. -/
theorem Inv.quot {s : ℕ → ℝ} {v : Fin 128 → ℕ → EReal} {M L A : Fin 128 → EReal} (h : Inv s v 8 M L A) (d : Fin 128) :
    Ideal.div (A d) (L 0) = ∑ j : Fin 8192, v d j.val * ((P (fun j : Fin 8192 => s j.val) j : ℝ) : EReal) := by
  obtain ⟨μ, h1, h2, h3⟩ := h
  have eE : E s μ 8 = ∑ j : Fin 8192, Real.exp (s j.val - μ) := by
    unfold E
    rw [← Fin.sum_univ_eq_sum_range (fun b => ∑ k : Fin 1024, Real.exp (s (b * 1024 + k.val) - μ)) 8]
    exact Fin.sum_mul_add_congr fun s k hl => rfl
  have eA : AV s μ (v d) 8 = ∑ j : Fin 8192, ((Real.exp (s j.val - μ) : ℝ) : EReal) * v d j.val := by
    unfold AV
    rw [← Fin.sum_univ_eq_sum_range (fun b => ∑ k : Fin 1024, ((Real.exp (s (b * 1024 + k.val) - μ) : ℝ) : EReal) * v d (b * 1024 + k.val)) 8]
    exact Fin.sum_mul_add_congr fun s k hl => rfl
  have hp : 0 < E s μ 8 := by rw [eE]; exact sum_exp_pos fun j : Fin 8192 => s j.val - μ
  rw [h2, h3, Ideal.div_coe hp.ne', eA, mul_comm, mul_sum_nonneg _ (one_div_nonneg.mpr hp.le)]
  refine Finset.sum_congr rfl fun j _ => ?_
  rw [← mul_assoc, ← EReal.coe_mul, mul_comm, eE, one_div_mul_eq_div, P_shift (fun j : Fin 8192 => s j.val) μ j]
end Cert.Online
end
-- ==== Proof.FwdPay.lean ====
/-
  The attention's forward pass: what one block of keys does to one row of a head's three running arrays.
-/
module
public import proofs.«01_k».proof.Proof.Gen.Kernel3Ideal.Value
public import proofs.«01_k».proof.Proof.Online
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Online

theorem bot_bits : Ideal.ofBits .f32 0xFF800000#32 = ⊥ := by simp [Ideal.ofBits, Ideal.ieee]
section
variable (a : Vec Ideal S512x128 .bf16) (b w : Vec Ideal S1024x128 .bf16) (m l r m0 l0 r0 : Vec Ideal S512x128 .f32) (i : Fin 512) (x : Fin 128)
/-- The scores of one row with a block's keys. -/
def sc (k : Fin 1024) : EReal := ∑ d : Fin 128, a (ix2 i d) * b (ix2 k d)
theorem m0_at : k0_pay34 (k0_pay26 (F := Ideal) a b m) (ix2 i x) = max (m (ix2 i x)) (Finset.univ.fold max ⊥ (sc a b i)) := by
  rw [← bot_bits]
  unfold sc
  pointwise [k0_pay34, k0_pay26, k0_pay25]
theorem l0_at : k0_pay29 (F := Ideal) a b m l (ix2 i x) = Ideal.exp (m (ix2 i x) - k0_pay34 (k0_pay26 (F := Ideal) a b m) (ix2 i x)) * l (ix2 i x)
    + ∑ k, Ideal.exp (sc a b i k - k0_pay34 (k0_pay26 (F := Ideal) a b m) (ix2 i 0)) := by
  unfold sc
  pointwise [k0_pay29, k0_pay27, k0_pay28, k0_pay25, k0_pay34]
theorem r0_at : k0_pay33 (F := Ideal) (k0_pay30 a b m r) (k0_pay31 a b m) (k0_pay32 w) (constant S512x128 .f32 0#32) (ix2 i x) = r (ix2 i x) * Ideal.exp (m (ix2 i 0) - k0_pay34 (k0_pay26 (F := Ideal) a b m) (ix2 i 0))
    + ∑ k, Ideal.exp (sc a b i k - k0_pay34 (k0_pay26 (F := Ideal) a b m) (ix2 i 0)) * w (ix2 k x) := by
  unfold sc
  pointwise [k0_pay33, k0_pay30, k0_pay31, k0_pay32, k0_pay27, k0_pay28, k0_pay25, k0_pay34]
/-- Head 0: one block more. -/
theorem row0 {s : ℕ → ℝ} {v : Fin 128 → ℕ → EReal} {n : ℕ} (hm : m = m0) (hl : l = l0) (hr : r = r0)
    (hs : ∀ k, sc a b i k = (s (n * 1024 + k.val) : EReal)) (hw : ∀ k d, w (ix2 k d) = v d (n * 1024 + k.val))
    (h : Inv s v n (fun x => m0 (ix2 i x)) (fun x => l0 (ix2 i x)) (fun x => r0 (ix2 i x))) :
    Inv s v (n + 1) (fun x => k0_pay34 (k0_pay26 (F := Ideal) a b m) (ix2 i x)) (fun x => k0_pay29 (F := Ideal) a b m l (ix2 i x)) (fun x => k0_pay33 (F := Ideal) (k0_pay30 a b m r) (k0_pay31 a b m) (k0_pay32 w) (constant S512x128 .f32 0#32) (ix2 i x)) := by
  subst hm hl hr
  exact h.step (sc a b i) (fun k d => w (ix2 k d)) (fun x => m0_at a b m i x) (fun x => l0_at a b m l i x) (fun x => r0_at a b w m r i x) hs hw
/-- Head 0: the first block. -/
theorem row0_start {s : ℕ → ℝ} {v : Fin 128 → ℕ → EReal} (hm : ∀ i x, m (ix2 i x) = ⊥) (hl : ∀ i x, l (ix2 i x) = 0) (hr : ∀ i x, r (ix2 i x) = 0)
    (hs : ∀ k, sc a b i k = (s (0 * 1024 + k.val) : EReal)) (hw : ∀ k d, w (ix2 k d) = v d (0 * 1024 + k.val)) :
    Inv s v 1 (fun x => k0_pay34 (k0_pay26 (F := Ideal) a b m) (ix2 i x)) (fun x => k0_pay29 (F := Ideal) a b m l (ix2 i x)) (fun x => k0_pay33 (F := Ideal) (k0_pay30 a b m r) (k0_pay31 a b m) (k0_pay32 w) (constant S512x128 .f32 0#32) (ix2 i x)) :=
  Inv.start (sc a b i) (fun k d => w (ix2 k d)) (fun x => m0_at a b m i x) (fun x => l0_at a b m l i x) (fun x => r0_at a b w m r i x)
    (fun x => hm i x) (fun x => hl i x) (fun x => hr i x) hs hw
theorem m1_at : k0_pay43 (k0_pay36 (F := Ideal) a b m) (ix2 i x) = max (m (ix2 i x)) (Finset.univ.fold max ⊥ (sc a b i)) := by
  rw [← bot_bits]
  unfold sc
  pointwise [k0_pay43, k0_pay36, k0_pay35]
theorem l1_at : k0_pay39 (F := Ideal) a b m l (ix2 i x) = Ideal.exp (m (ix2 i x) - k0_pay43 (k0_pay36 (F := Ideal) a b m) (ix2 i x)) * l (ix2 i x)
    + ∑ k, Ideal.exp (sc a b i k - k0_pay43 (k0_pay36 (F := Ideal) a b m) (ix2 i 0)) := by
  unfold sc
  pointwise [k0_pay39, k0_pay37, k0_pay38, k0_pay35, k0_pay43]
theorem r1_at : k0_pay42 (F := Ideal) (k0_pay40 a b m r) (k0_pay41 a b m) w (ix2 i x) = r (ix2 i x) * Ideal.exp (m (ix2 i 0) - k0_pay43 (k0_pay36 (F := Ideal) a b m) (ix2 i 0))
    + ∑ k, Ideal.exp (sc a b i k - k0_pay43 (k0_pay36 (F := Ideal) a b m) (ix2 i 0)) * w (ix2 k x) := by
  unfold sc
  pointwise [k0_pay42, k0_pay40, k0_pay41, k0_pay37, k0_pay38, k0_pay35, k0_pay43]
/-- Head 1: one block more. -/
theorem row1 {s : ℕ → ℝ} {v : Fin 128 → ℕ → EReal} {n : ℕ} (hm : m = m0) (hl : l = l0) (hr : r = r0)
    (hs : ∀ k, sc a b i k = (s (n * 1024 + k.val) : EReal)) (hw : ∀ k d, w (ix2 k d) = v d (n * 1024 + k.val))
    (h : Inv s v n (fun x => m0 (ix2 i x)) (fun x => l0 (ix2 i x)) (fun x => r0 (ix2 i x))) :
    Inv s v (n + 1) (fun x => k0_pay43 (k0_pay36 (F := Ideal) a b m) (ix2 i x)) (fun x => k0_pay39 (F := Ideal) a b m l (ix2 i x)) (fun x => k0_pay42 (F := Ideal) (k0_pay40 a b m r) (k0_pay41 a b m) w (ix2 i x)) := by
  subst hm hl hr
  exact h.step (sc a b i) (fun k d => w (ix2 k d)) (fun x => m1_at a b m i x) (fun x => l1_at a b m l i x) (fun x => r1_at a b w m r i x) hs hw
/-- Head 1: the first block. -/
theorem row1_start {s : ℕ → ℝ} {v : Fin 128 → ℕ → EReal} (hm : ∀ i x, m (ix2 i x) = ⊥) (hl : ∀ i x, l (ix2 i x) = 0) (hr : ∀ i x, r (ix2 i x) = 0)
    (hs : ∀ k, sc a b i k = (s (0 * 1024 + k.val) : EReal)) (hw : ∀ k d, w (ix2 k d) = v d (0 * 1024 + k.val)) :
    Inv s v 1 (fun x => k0_pay43 (k0_pay36 (F := Ideal) a b m) (ix2 i x)) (fun x => k0_pay39 (F := Ideal) a b m l (ix2 i x)) (fun x => k0_pay42 (F := Ideal) (k0_pay40 a b m r) (k0_pay41 a b m) w (ix2 i x)) :=
  Inv.start (sc a b i) (fun k d => w (ix2 k d)) (fun x => m1_at a b m i x) (fun x => l1_at a b m l i x) (fun x => r1_at a b w m r i x)
    (fun x => hm i x) (fun x => hl i x) (fun x => hr i x) hs hw
theorem m2_at : k0_pay50 (k0_pay45 (F := Ideal) a b m) (ix2 i x) = max (m (ix2 i x)) (Finset.univ.fold max ⊥ (sc a b i)) := by
  rw [← bot_bits]
  unfold sc
  pointwise [k0_pay50, k0_pay45, k0_pay44]
theorem l2_at : k0_pay48 (F := Ideal) a b m l (ix2 i x) = Ideal.exp (m (ix2 i x) - k0_pay50 (k0_pay45 (F := Ideal) a b m) (ix2 i x)) * l (ix2 i x)
    + ∑ k, Ideal.exp (sc a b i k - k0_pay50 (k0_pay45 (F := Ideal) a b m) (ix2 i 0)) := by
  unfold sc
  pointwise [k0_pay48, k0_pay46, k0_pay47, k0_pay44, k0_pay50]
theorem r2_at : k0_pay49 (F := Ideal) (k0_pay46 a b m) (k0_pay47 a b m) r w (ix2 i x) = r (ix2 i x) * Ideal.exp (m (ix2 i 0) - k0_pay50 (k0_pay45 (F := Ideal) a b m) (ix2 i 0))
    + ∑ k, Ideal.exp (sc a b i k - k0_pay50 (k0_pay45 (F := Ideal) a b m) (ix2 i 0)) * w (ix2 k x) := by
  unfold sc
  pointwise [k0_pay49, k0_pay46, k0_pay47, k0_pay44, k0_pay50]
/-- Head 2: one block more. -/
theorem row2 {s : ℕ → ℝ} {v : Fin 128 → ℕ → EReal} {n : ℕ} (hm : m = m0) (hl : l = l0) (hr : r = r0)
    (hs : ∀ k, sc a b i k = (s (n * 1024 + k.val) : EReal)) (hw : ∀ k d, w (ix2 k d) = v d (n * 1024 + k.val))
    (h : Inv s v n (fun x => m0 (ix2 i x)) (fun x => l0 (ix2 i x)) (fun x => r0 (ix2 i x))) :
    Inv s v (n + 1) (fun x => k0_pay50 (k0_pay45 (F := Ideal) a b m) (ix2 i x)) (fun x => k0_pay48 (F := Ideal) a b m l (ix2 i x)) (fun x => k0_pay49 (F := Ideal) (k0_pay46 a b m) (k0_pay47 a b m) r w (ix2 i x)) := by
  subst hm hl hr
  exact h.step (sc a b i) (fun k d => w (ix2 k d)) (fun x => m2_at a b m i x) (fun x => l2_at a b m l i x) (fun x => r2_at a b w m r i x) hs hw
/-- Head 2: the first block. -/
theorem row2_start {s : ℕ → ℝ} {v : Fin 128 → ℕ → EReal} (hm : ∀ i x, m (ix2 i x) = ⊥) (hl : ∀ i x, l (ix2 i x) = 0) (hr : ∀ i x, r (ix2 i x) = 0)
    (hs : ∀ k, sc a b i k = (s (0 * 1024 + k.val) : EReal)) (hw : ∀ k d, w (ix2 k d) = v d (0 * 1024 + k.val)) :
    Inv s v 1 (fun x => k0_pay50 (k0_pay45 (F := Ideal) a b m) (ix2 i x)) (fun x => k0_pay48 (F := Ideal) a b m l (ix2 i x)) (fun x => k0_pay49 (F := Ideal) (k0_pay46 a b m) (k0_pay47 a b m) r w (ix2 i x)) :=
  Inv.start (sc a b i) (fun k d => w (ix2 k d)) (fun x => m2_at a b m i x) (fun x => l2_at a b m l i x) (fun x => r2_at a b w m r i x)
    (fun x => hm i x) (fun x => hl i x) (fun x => hr i x) hs hw
theorem m3_at : k0_pay3 (k0_pay52 (F := Ideal) a b m) (ix2 i x) = max (m (ix2 i x)) (Finset.univ.fold max ⊥ (sc a b i)) := by
  rw [← bot_bits]
  unfold sc
  pointwise [k0_pay3, k0_pay52, k0_pay51]
theorem l3_at : k0_pay1 (k0_pay55 (F := Ideal) a b m l) (ix2 i x) = Ideal.exp (m (ix2 i x) - k0_pay3 (k0_pay52 (F := Ideal) a b m) (ix2 i x)) * l (ix2 i x)
    + ∑ k, Ideal.exp (sc a b i k - k0_pay3 (k0_pay52 (F := Ideal) a b m) (ix2 i 0)) := by
  unfold sc
  pointwise [k0_pay1, k0_pay55, k0_pay53, k0_pay54, k0_pay51, k0_pay3]
theorem r3_at : k0_pay2 (F := Ideal) (k0_pay53 a b m) (k0_pay54 a b m) r w (ix2 i x) = r (ix2 i x) * Ideal.exp (m (ix2 i 0) - k0_pay3 (k0_pay52 (F := Ideal) a b m) (ix2 i 0))
    + ∑ k, Ideal.exp (sc a b i k - k0_pay3 (k0_pay52 (F := Ideal) a b m) (ix2 i 0)) * w (ix2 k x) := by
  unfold sc
  pointwise [k0_pay2, k0_pay53, k0_pay54, k0_pay51, k0_pay3]
/-- Head 3: one block more. -/
theorem row3 {s : ℕ → ℝ} {v : Fin 128 → ℕ → EReal} {n : ℕ} (hm : m = m0) (hl : l = l0) (hr : r = r0)
    (hs : ∀ k, sc a b i k = (s (n * 1024 + k.val) : EReal)) (hw : ∀ k d, w (ix2 k d) = v d (n * 1024 + k.val))
    (h : Inv s v n (fun x => m0 (ix2 i x)) (fun x => l0 (ix2 i x)) (fun x => r0 (ix2 i x))) :
    Inv s v (n + 1) (fun x => k0_pay3 (k0_pay52 (F := Ideal) a b m) (ix2 i x)) (fun x => k0_pay1 (k0_pay55 (F := Ideal) a b m l) (ix2 i x)) (fun x => k0_pay2 (F := Ideal) (k0_pay53 a b m) (k0_pay54 a b m) r w (ix2 i x)) := by
  subst hm hl hr
  exact h.step (sc a b i) (fun k d => w (ix2 k d)) (fun x => m3_at a b m i x) (fun x => l3_at a b m l i x) (fun x => r3_at a b w m r i x) hs hw
/-- Head 3: the first block. -/
theorem row3_start {s : ℕ → ℝ} {v : Fin 128 → ℕ → EReal} (hm : ∀ i x, m (ix2 i x) = ⊥) (hl : ∀ i x, l (ix2 i x) = 0) (hr : ∀ i x, r (ix2 i x) = 0)
    (hs : ∀ k, sc a b i k = (s (0 * 1024 + k.val) : EReal)) (hw : ∀ k d, w (ix2 k d) = v d (0 * 1024 + k.val)) :
    Inv s v 1 (fun x => k0_pay3 (k0_pay52 (F := Ideal) a b m) (ix2 i x)) (fun x => k0_pay1 (k0_pay55 (F := Ideal) a b m l) (ix2 i x)) (fun x => k0_pay2 (F := Ideal) (k0_pay53 a b m) (k0_pay54 a b m) r w (ix2 i x)) :=
  Inv.start (sc a b i) (fun k d => w (ix2 k d)) (fun x => m3_at a b m i x) (fun x => l3_at a b m l i x) (fun x => r3_at a b w m r i x)
    (fun x => hm i x) (fun x => hl i x) (fun x => hr i x) hs hw
end
end Cert.Kernel3Ideal.Value
end
-- ==== Proof.FwdBlocks.lean ====
/-
  The attention's forward pass: the blocks a grid point reads, and the scores it forms of them.
-/
module
public import proofs.«01_k».proof.Proof.Gen.Kernel3Ideal.Value
public import Idealize.ShloMosaic.Lib.Pipeline.ValueKit
public import proofs.«01_k».proof.Proof.FwdPay
public import proofs.«01_k».proof.Proof.AttnReal
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Online
open Cert.Attn Softmax
variable (m : (ℓ : Loc nD τ sig) → Buf (Elt Ideal) ℓ)
abbrev A0 (c : Dev nD) : Q2 := m ((c.tc : Thread nD τ).loc main_arg0)
abbrev A1 (c : Dev nD) : K2 := m ((c.tc : Thread nD τ).loc main_arg1)
abbrev A2 (c : Dev nD) : K2 := m ((c.tc : Thread nD τ).loc main_arg2)
set_option maxHeartbeats 8000000 in
theorem V0 (c : Dev nD) : (show FVec Ideal S8192x1024 .bf16 from V m c main_v0) = A0 m c := by
  show StableHlo.after hostOps0 (fun b => m (c, b)) main_v0 = _
  unfold hostOps0
  after_results_simp
  rfl
set_option maxHeartbeats 8000000 in
theorem V1 (c : Dev nD) : (show FVec Ideal S8192x256 .bf16 from V m c main_v1) = A1 m c := by
  show StableHlo.after hostOps0 (fun b => m (c, b)) main_v1 = _
  unfold hostOps0
  after_results_simp
  rfl
set_option maxHeartbeats 8000000 in
theorem V2 (c : Dev nD) : (show FVec Ideal S8192x256 .bf16 from V m c main_v2) = A2 m c := by
  show StableHlo.after hostOps0 (fun b => m (c, b)) main_v2 = _
  unfold hostOps0
  after_results_simp
  rfl
theorem idx : ∀ t : Fin cfg0.N, win0_0.index t = ![t.val / 8 % 16, t.val / 128] ∧ win0_1.index t = ![t.val % 8, t.val / 128] ∧ win0_2.index t = ![t.val % 8, t.val / 128]
   ∧ win0_3.index t = ![t.val / 8 % 16, t.val / 128] :=
  (by decide +kernel : ∀ t : Fin grid0.N, _)
theorem t_lt (t : Fin cfg0.N) : t.val < 256 := lt_of_lt_of_eq t.isLt (by decide +kernel)
theorem blk0 (c : Dev nD) (t : Fin cfg0.N) (z : Buf (Elt Ideal) ((c.tc : Thread nD τ).loc (Pipeline.arrRef spec0 0))) (i : Fin 512) (x : Fin 512) :
    (View.read (Elt Ideal) ((cfg0.win 0).blk t).view z : FVec Ideal S512x512 .bf16) (ix2 i x)
      = (z : FVec Ideal S8192x1024 .bf16) (ix2 ⟨t.val / 8 % 16 * 512 + i.val, by have := t_lt t; omega⟩ ⟨t.val / 128 * 512 + x.val, by have := t_lt t; omega⟩) := by
  have := t_lt t
  blk_point [idx t]
theorem B0 (c : Dev nD) (t : Fin cfg0.N) (i : Fin 512) (x : Fin 512) : (iblk m c 0 t : FVec Ideal S512x512 .bf16) (ix2 i x)
    = A0 m c (ix2 ⟨t.val / 8 % 16 * 512 + i.val, by have := t_lt t; omega⟩ ⟨t.val / 128 * 512 + x.val, by have := t_lt t; omega⟩) :=
  (blk0 c t (V m c (Pipeline.arrRef spec0 0)) i x).trans (congrFun (V0 m c) _)
theorem blk1 (c : Dev nD) (t : Fin cfg0.N) (z : Buf (Elt Ideal) ((c.tc : Thread nD τ).loc (Pipeline.arrRef spec0 1))) (i : Fin 1024) (x : Fin 128) :
    (View.read (Elt Ideal) ((cfg0.win 1).blk t).view z : FVec Ideal S1024x128 .bf16) (ix2 i x)
      = (z : FVec Ideal S8192x256 .bf16) (ix2 ⟨t.val % 8 * 1024 + i.val, by have := t_lt t; omega⟩ ⟨t.val / 128 * 128 + x.val, by have := t_lt t; omega⟩) := by
  have := t_lt t
  blk_point [idx t]
theorem B1 (c : Dev nD) (t : Fin cfg0.N) (i : Fin 1024) (x : Fin 128) : (iblk m c 1 t : FVec Ideal S1024x128 .bf16) (ix2 i x)
    = A1 m c (ix2 ⟨t.val % 8 * 1024 + i.val, by have := t_lt t; omega⟩ ⟨t.val / 128 * 128 + x.val, by have := t_lt t; omega⟩) :=
  (blk1 c t (V m c (Pipeline.arrRef spec0 1)) i x).trans (congrFun (V1 m c) _)
theorem blk2 (c : Dev nD) (t : Fin cfg0.N) (z : Buf (Elt Ideal) ((c.tc : Thread nD τ).loc (Pipeline.arrRef spec0 2))) (i : Fin 1024) (x : Fin 128) :
    (View.read (Elt Ideal) ((cfg0.win 2).blk t).view z : FVec Ideal S1024x128 .bf16) (ix2 i x)
      = (z : FVec Ideal S8192x256 .bf16) (ix2 ⟨t.val % 8 * 1024 + i.val, by have := t_lt t; omega⟩ ⟨t.val / 128 * 128 + x.val, by have := t_lt t; omega⟩) := by
  have := t_lt t
  blk_point [idx t]
theorem B2 (c : Dev nD) (t : Fin cfg0.N) (i : Fin 1024) (x : Fin 128) : (iblk m c 2 t : FVec Ideal S1024x128 .bf16) (ix2 i x)
    = A2 m c (ix2 ⟨t.val % 8 * 1024 + i.val, by have := t_lt t; omega⟩ ⟨t.val / 128 * 128 + x.val, by have := t_lt t; omega⟩) :=
  (blk2 c t (V m c (Pipeline.arrRef spec0 2)) i x).trans (congrFun (V2 m c) _)

/-- The scores of row `i` of point `t`'s block of queries in head `h`, key by key. -/
def SN (Q : Fin 8192 → Fin 1024 → ℝ) (K : Fin 8192 → Fin 256 → ℝ) (t : Fin cfg0.N) (h : Fin 4) (i : Fin 512) (j : ℕ) : ℝ :=
  if hj : j < 8192 then sR Q K ⟨t.val / 128, by have := t_lt t; omega⟩ h ⟨t.val / 8 % 16 * 512 + i.val, by omega⟩ ⟨j, hj⟩ else 0
/-- The values of point `t`'s group, key by key. -/
def VN (c : Dev nD) (t : Fin cfg0.N) (d : Fin 128) (j : ℕ) : EReal :=
  if hj : j < 8192 then A2 m c (ix2 ⟨j, hj⟩ ⟨t.val / 128 * 128 + d.val, by have := t_lt t; omega⟩) else 0
theorem SN_pred (Q : Fin 8192 → Fin 1024 → ℝ) (K : Fin 8192 → Fin 256 → ℝ) (t t' : Fin cfg0.N) (e : t'.val = t.val - 1) (h0 : ¬ t.val % 8 = 0) (h : Fin 4) (i : Fin 512) :
    SN Q K t' h i = SN Q K t h i := by
  have e1 : t'.val / 128 = t.val / 128 := by omega
  have e2 : t'.val / 8 % 16 = t.val / 8 % 16 := by omega
  funext j
  unfold SN
  simp only [e1, e2]
theorem VN_pred (c : Dev nD) (t t' : Fin cfg0.N) (e : t'.val = t.val - 1) (h0 : ¬ t.val % 8 = 0) : VN m c t' = VN m c t := by
  have e1 : t'.val / 128 = t.val / 128 := by omega
  funext d j
  unfold VN
  simp only [e1]
theorem val_at (c : Dev nD) (t : Fin cfg0.N) (k : Fin 1024) (d : Fin 128) : (iblk m c 2 t : FVec Ideal S1024x128 .bf16) (ix2 k d) = VN m c t d (t.val % 8 * 1024 + k.val) := by
  rw [B2, VN, dif_pos (by omega)]
section
variable {m} {Q : Fin 8192 → Fin 1024 → ℝ} {K : Fin 8192 → Fin 256 → ℝ} (c : Dev nD) (hQ : ∀ i j, A0 m c (ix2 i j) = (Q i j : EReal)) (hK : ∀ i j, A1 m c (ix2 i j) = (K i j : EReal))
  (t : Fin cfg0.N) (i : Fin 512) (k : Fin 1024)
include hQ hK
theorem score0 : sc (View.ld (iblk m c 0 t) (Rect.unit ![0, 0] ![512, 128] inb_S512x512_S512x128_0_0)) (iblk m c 1 t) i k = (SN Q K t 0 i (t.val % 8 * 1024 + k.val) : EReal) := by
  rw [SN, dif_pos (by omega)]
  refine (Cert.Attn.mul_sum_coe _ _ (fun d => Q ⟨t.val / 8 % 16 * 512 + i.val, by omega⟩ ⟨t.val / 128 * 512 + 0 * 128 + d.val, by have := t_lt t; omega⟩)
    (fun d => K ⟨t.val % 8 * 1024 + k.val, by omega⟩ ⟨t.val / 128 * 128 + d.val, by have := t_lt t; omega⟩) (fun d => ?_) fun d => ?_).trans ?_
  · rw [← hQ]
    pointwise
    simp only [B0]
  · exact (B1 m c t k d).trans (hK _ _)
  · refine congrArg (fun r : ℝ => (r : EReal)) ?_
    exact Finset.sum_congr rfl fun d _ => mul_comm _ _
theorem score1 : sc (View.ld (iblk m c 0 t) (Rect.unit ![0, 128] ![512, 128] inb_S512x512_S512x128_0_128)) (iblk m c 1 t) i k = (SN Q K t 1 i (t.val % 8 * 1024 + k.val) : EReal) := by
  rw [SN, dif_pos (by omega)]
  refine (Cert.Attn.mul_sum_coe _ _ (fun d => Q ⟨t.val / 8 % 16 * 512 + i.val, by omega⟩ ⟨t.val / 128 * 512 + 1 * 128 + d.val, by have := t_lt t; omega⟩)
    (fun d => K ⟨t.val % 8 * 1024 + k.val, by omega⟩ ⟨t.val / 128 * 128 + d.val, by have := t_lt t; omega⟩) (fun d => ?_) fun d => ?_).trans ?_
  · rw [← hQ]
    pointwise
    simp only [B0]
    generalize A0 m c = x0
    blk_point
  · exact (B1 m c t k d).trans (hK _ _)
  · refine congrArg (fun r : ℝ => (r : EReal)) ?_
    exact Finset.sum_congr rfl fun d _ => mul_comm _ _
theorem score2 : sc (View.ld (iblk m c 0 t) (Rect.unit ![0, 256] ![512, 128] inb_S512x512_S512x128_0_256)) (iblk m c 1 t) i k = (SN Q K t 2 i (t.val % 8 * 1024 + k.val) : EReal) := by
  rw [SN, dif_pos (by omega)]
  refine (Cert.Attn.mul_sum_coe _ _ (fun d => Q ⟨t.val / 8 % 16 * 512 + i.val, by omega⟩ ⟨t.val / 128 * 512 + 2 * 128 + d.val, by have := t_lt t; omega⟩)
    (fun d => K ⟨t.val % 8 * 1024 + k.val, by omega⟩ ⟨t.val / 128 * 128 + d.val, by have := t_lt t; omega⟩) (fun d => ?_) fun d => ?_).trans ?_
  · rw [← hQ]
    pointwise
    simp only [B0]
    generalize A0 m c = x0
    blk_point
  · exact (B1 m c t k d).trans (hK _ _)
  · refine congrArg (fun r : ℝ => (r : EReal)) ?_
    exact Finset.sum_congr rfl fun d _ => mul_comm _ _
theorem score3 : sc (View.ld (iblk m c 0 t) (Rect.unit ![0, 384] ![512, 128] inb_S512x512_S512x128_0_384)) (iblk m c 1 t) i k = (SN Q K t 3 i (t.val % 8 * 1024 + k.val) : EReal) := by
  rw [SN, dif_pos (by omega)]
  refine (Cert.Attn.mul_sum_coe _ _ (fun d => Q ⟨t.val / 8 % 16 * 512 + i.val, by omega⟩ ⟨t.val / 128 * 512 + 3 * 128 + d.val, by have := t_lt t; omega⟩)
    (fun d => K ⟨t.val % 8 * 1024 + k.val, by omega⟩ ⟨t.val / 128 * 128 + d.val, by have := t_lt t; omega⟩) (fun d => ?_) fun d => ?_).trans ?_
  · rw [← hQ]
    pointwise
    simp only [B0]
    generalize A0 m c = x0
    blk_point
  · exact (B1 m c t k d).trans (hK _ _)
  · refine congrArg (fun r : ℝ => (r : EReal)) ?_
    exact Finset.sum_congr rfl fun d _ => mul_comm _ _
end
end Cert.Kernel3Ideal.Value
end
-- ==== Proof.FwdStep.lean ====
/-
  The attention's forward pass: after every grid point the three running arrays of a row are those of the keys seen so far.
-/
module
public import proofs.«01_k».proof.Proof.Gen.Kernel3Ideal.Value
public import proofs.«01_k».proof.Proof.FwdBlocks
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Online
open Cert.Attn Softmax
theorem init7 (i : Fin 512) (x : Fin 128) : k0_pay7 (F := Ideal) (ix2 i x) = ⊥ := by
  rw [← bot_bits]; pointwise [k0_pay7]
theorem init8 (i : Fin 512) (x : Fin 128) : k0_pay8 (F := Ideal) (ix2 i x) = 0 := by
  pointwise [k0_pay8]
theorem init9 (i : Fin 512) (x : Fin 128) : k0_pay9 (F := Ideal) (ix2 i x) = 0 := by
  pointwise [k0_pay9]
theorem init10 (i : Fin 512) (x : Fin 128) : k0_pay10 (F := Ideal) (ix2 i x) = ⊥ := by
  rw [← bot_bits]; pointwise [k0_pay10]
theorem init11 (i : Fin 512) (x : Fin 128) : k0_pay11 (F := Ideal) (ix2 i x) = 0 := by
  pointwise [k0_pay11]
theorem init12 (i : Fin 512) (x : Fin 128) : k0_pay12 (F := Ideal) (ix2 i x) = 0 := by
  pointwise [k0_pay12]
theorem init13 (i : Fin 512) (x : Fin 128) : k0_pay13 (F := Ideal) (ix2 i x) = ⊥ := by
  rw [← bot_bits]; pointwise [k0_pay13]
theorem init14 (i : Fin 512) (x : Fin 128) : k0_pay14 (F := Ideal) (ix2 i x) = 0 := by
  pointwise [k0_pay14]
theorem init21 (i : Fin 512) (x : Fin 128) : k0_pay21 (F := Ideal) (ix2 i x) = 0 := by
  pointwise [k0_pay21]
theorem init22 (i : Fin 512) (x : Fin 128) : k0_pay22 (F := Ideal) (ix2 i x) = ⊥ := by
  rw [← bot_bits]; pointwise [k0_pay22]
theorem init23 (i : Fin 512) (x : Fin 128) : k0_pay23 (F := Ideal) (ix2 i x) = 0 := by
  pointwise [k0_pay23]
theorem init24 (i : Fin 512) (x : Fin 128) : k0_pay24 (F := Ideal) (ix2 i x) = 0 := by
  pointwise [k0_pay24]
section
variable {m : (ℓ : Loc nD τ sig) → Buf (Elt Ideal) ℓ} {Q : Fin 8192 → Fin 1024 → ℝ} {K : Fin 8192 → Fin 256 → ℝ} (c : Dev nD)
  (hQ : ∀ i j, A0 m c (ix2 i j) = (Q i j : EReal)) (hK : ∀ i j, A1 m c (ix2 i j) = (K i j : EReal)) (i : Fin 512)
include hQ hK
/-- Head 0. -/
theorem inv0 : ∀ n (hn : n < cfg0.N), Inv (SN Q K ⟨n, hn⟩ 0 i) (VN m c ⟨n, hn⟩) (n % 8 + 1) (fun x => (outsAt0 m c n hn).2.2.1 (ix2 i x)) (fun x => (outsAt0 m c n hn).2.2.2.2.2.2.1 (ix2 i x)) (fun x => (outsAt0 m c n hn).2.2.2.2.2.2.2.2.2.2.1 (ix2 i x)) := by
  intro n
  induction n using Nat.strong_induction_on with | _ n ih => ?_
  intro hn
  have hs := fun k => score0 c hQ hK ⟨n, hn⟩ i k
  have hw := fun k d => val_at m c ⟨n, hn⟩ k d
  by_cases h0 : n % 8 = 0
  · have h1 : ¬ n % 8 = 7 := by omega
    simp only [h0] at hs hw
    rw [h0, outsAt0_A m c ⟨n, hn⟩ h0 h1]; frame_out
    exact row0_start _ _ _ _ _ _ i init7 init8 init9 hs hw
  · have hp := ih (n - 1) (by omega) (by omega)
    rw [SN_pred Q K ⟨n, hn⟩ ⟨n - 1, by omega⟩ rfl h0, VN_pred m c ⟨n, hn⟩ ⟨n - 1, by omega⟩ rfl h0, show (n - 1) % 8 + 1 = n % 8 by omega] at hp
    by_cases h1 : n % 8 = 7
    · rw [outsAt0_C m c ⟨n, hn⟩ h0 h1]; frame_out
      exact row0 _ _ _ _ _ _ _ _ _ i (Memref.IsWhole.read_unread _ _) (Memref.IsWhole.read_unread _ _) (Memref.IsWhole.read_unread _ _) hs hw hp
    · rw [outsAt0_B m c ⟨n, hn⟩ h0 h1]; frame_out
      exact row0 _ _ _ _ _ _ _ _ _ i (Memref.IsWhole.read_unread _ _) (Memref.IsWhole.read_unread _ _) (Memref.IsWhole.read_unread _ _) hs hw hp
/-- Head 1. -/
theorem inv1 : ∀ n (hn : n < cfg0.N), Inv (SN Q K ⟨n, hn⟩ 1 i) (VN m c ⟨n, hn⟩) (n % 8 + 1) (fun x => (outsAt0 m c n hn).2.2.2.1 (ix2 i x)) (fun x => (outsAt0 m c n hn).2.2.2.2.2.2.2.1 (ix2 i x)) (fun x => (outsAt0 m c n hn).2.2.2.2.2.2.2.2.2.2.2.1 (ix2 i x)) := by
  intro n
  induction n using Nat.strong_induction_on with | _ n ih => ?_
  intro hn
  have hs := fun k => score1 c hQ hK ⟨n, hn⟩ i k
  have hw := fun k d => val_at m c ⟨n, hn⟩ k d
  by_cases h0 : n % 8 = 0
  · have h1 : ¬ n % 8 = 7 := by omega
    simp only [h0] at hs hw
    rw [h0, outsAt0_A m c ⟨n, hn⟩ h0 h1]; frame_out
    exact row1_start _ _ _ _ _ _ i init10 init11 init12 hs hw
  · have hp := ih (n - 1) (by omega) (by omega)
    rw [SN_pred Q K ⟨n, hn⟩ ⟨n - 1, by omega⟩ rfl h0, VN_pred m c ⟨n, hn⟩ ⟨n - 1, by omega⟩ rfl h0, show (n - 1) % 8 + 1 = n % 8 by omega] at hp
    by_cases h1 : n % 8 = 7
    · rw [outsAt0_C m c ⟨n, hn⟩ h0 h1]; frame_out
      exact row1 _ _ _ _ _ _ _ _ _ i (Memref.IsWhole.read_unread _ _) (Memref.IsWhole.read_unread _ _) (Memref.IsWhole.read_unread _ _) hs hw hp
    · rw [outsAt0_B m c ⟨n, hn⟩ h0 h1]; frame_out
      exact row1 _ _ _ _ _ _ _ _ _ i (Memref.IsWhole.read_unread _ _) (Memref.IsWhole.read_unread _ _) (Memref.IsWhole.read_unread _ _) hs hw hp
/-- Head 2. -/
theorem inv2 : ∀ n (hn : n < cfg0.N), Inv (SN Q K ⟨n, hn⟩ 2 i) (VN m c ⟨n, hn⟩) (n % 8 + 1) (fun x => (outsAt0 m c n hn).2.2.2.2.1 (ix2 i x)) (fun x => (outsAt0 m c n hn).2.2.2.2.2.2.2.2.1 (ix2 i x)) (fun x => (outsAt0 m c n hn).2.2.2.2.2.2.2.2.2.2.2.2.1 (ix2 i x)) := by
  intro n
  induction n using Nat.strong_induction_on with | _ n ih => ?_
  intro hn
  have hs := fun k => score2 c hQ hK ⟨n, hn⟩ i k
  have hw := fun k d => val_at m c ⟨n, hn⟩ k d
  by_cases h0 : n % 8 = 0
  · have h1 : ¬ n % 8 = 7 := by omega
    simp only [h0] at hs hw
    rw [h0, outsAt0_A m c ⟨n, hn⟩ h0 h1]; frame_out
    exact row2_start _ _ _ _ _ _ i init13 init14 init21 hs hw
  · have hp := ih (n - 1) (by omega) (by omega)
    rw [SN_pred Q K ⟨n, hn⟩ ⟨n - 1, by omega⟩ rfl h0, VN_pred m c ⟨n, hn⟩ ⟨n - 1, by omega⟩ rfl h0, show (n - 1) % 8 + 1 = n % 8 by omega] at hp
    by_cases h1 : n % 8 = 7
    · rw [outsAt0_C m c ⟨n, hn⟩ h0 h1]; frame_out
      exact row2 _ _ _ _ _ _ _ _ _ i (Memref.IsWhole.read_unread _ _) (Memref.IsWhole.read_unread _ _) (Memref.IsWhole.read_unread _ _) hs hw hp
    · rw [outsAt0_B m c ⟨n, hn⟩ h0 h1]; frame_out
      exact row2 _ _ _ _ _ _ _ _ _ i (Memref.IsWhole.read_unread _ _) (Memref.IsWhole.read_unread _ _) (Memref.IsWhole.read_unread _ _) hs hw hp
/-- Head 3. -/
theorem inv3 : ∀ n (hn : n < cfg0.N), Inv (SN Q K ⟨n, hn⟩ 3 i) (VN m c ⟨n, hn⟩) (n % 8 + 1) (fun x => (outsAt0 m c n hn).2.2.2.2.2.1 (ix2 i x)) (fun x => (outsAt0 m c n hn).2.2.2.2.2.2.2.2.2.1 (ix2 i x)) (fun x => (outsAt0 m c n hn).2.2.2.2.2.2.2.2.2.2.2.2.2 (ix2 i x)) := by
  intro n
  induction n using Nat.strong_induction_on with | _ n ih => ?_
  intro hn
  have hs := fun k => score3 c hQ hK ⟨n, hn⟩ i k
  have hw := fun k d => val_at m c ⟨n, hn⟩ k d
  by_cases h0 : n % 8 = 0
  · have h1 : ¬ n % 8 = 7 := by omega
    simp only [h0] at hs hw
    rw [h0, outsAt0_A m c ⟨n, hn⟩ h0 h1]; frame_out
    exact row3_start _ _ _ _ _ _ i init22 init23 init24 hs hw
  · have hp := ih (n - 1) (by omega) (by omega)
    rw [SN_pred Q K ⟨n, hn⟩ ⟨n - 1, by omega⟩ rfl h0, VN_pred m c ⟨n, hn⟩ ⟨n - 1, by omega⟩ rfl h0, show (n - 1) % 8 + 1 = n % 8 by omega] at hp
    by_cases h1 : n % 8 = 7
    · rw [outsAt0_C m c ⟨n, hn⟩ h0 h1]; frame_out
      exact row3 _ _ _ _ _ _ _ _ _ i (Memref.IsWhole.read_unread _ _) (Memref.IsWhole.read_unread _ _) (Memref.IsWhole.read_unread _ _) hs hw hp
    · rw [outsAt0_B m c ⟨n, hn⟩ h0 h1]; frame_out
      exact row3 _ _ _ _ _ _ _ _ _ i (Memref.IsWhole.read_unread _ _) (Memref.IsWhole.read_unread _ _) (Memref.IsWhole.read_unread _ _) hs hw hp
end
end Cert.Kernel3Ideal.Value
end
-- ==== Proof.FiniteQk.lean ====
/-
  The precondition of the forward pass read at one element: the queries and keys are real numbers.
-/
module
public import proofs.«01_k».proof.Proof.Finite
public import Idealize.ShloMosaic.Lib.Pipeline.ValueKit
@[expose] public section
set_option maxRecDepth 16384
noncomputable section
open Idealize.ShloMosaic Idealize.ShloMosaic.TcCoe Idealize.SL.Sem
namespace Cert.Finite

section
variable [Cert.Pre_finite_qk.Facts] (q : FVec Ideal ⟨2, ![8192, 1024]⟩ .f32) (k v : FVec Ideal ⟨2, ![8192, 256]⟩ .f32) (i : Fin 8192) (j : Fin 1024) (a : Fin 256)
theorem b0 (h : (Cert.Pre_finite_qk.fn (F := Ideal) q k v).1 = fun _ => 1#1) : ∃ r : ℝ, q (ix2 i j) = (r : EReal) := by
  have e := congrFun h (ix2 i j)
  revert e
  pointwise [Cert.Pre_finite_qk.fn]
  exact real_of_abs_lt _
theorem b1 (h : (Cert.Pre_finite_qk.fn (F := Ideal) q k v).2 = fun _ => 1#1) : ∃ r : ℝ, k (ix2 i a) = (r : EReal) := by
  have e := congrFun h (ix2 i a)
  revert e
  pointwise [Cert.Pre_finite_qk.fn]
  exact real_of_abs_lt _
end
/-- The side conditions the precondition's operations take. -/
instance facts_qk : Cert.Pre_finite_qk.Facts where
  bcast_S_S8192x1024 := by decide
  bcast_S_S8192x256 := by decide
end Cert.Finite
end
-- ==== Proof.FwdFinal.lean ====
/-
  The attention's forward pass: what is written back is the attention's output, and it is what the reference leaves.
-/
module
public import proofs.«01_k».proof.Proof.Gen.Kernel3Ideal.Value
public import proofs.«01_k».proof.Proof.FwdStep
public import proofs.«01_k».proof.Proof.FiniteQk
public import proofs.«01_k».proof.Proof.Gen.Reference3Ideal.Run
public import proofs.«01_k».proof.Defs
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Online
open Cert.Attn Softmax
/-- The attention's output at row `r`, column `a`. -/
def FT (Q : Fin 8192 → Fin 1024 → ℝ) (K : Fin 8192 → Fin 256 → ℝ) (v : K2) (r : Fin 8192) (a : Fin 1024) : EReal :=
  ∑ j : Fin 8192, v (ix2 j ⟨↑a / 512 * 128 + ↑a % 128, by omega⟩) * (pR Q K ⟨↑a / 512, by omega⟩ ⟨↑a / 128 % 4, by omega⟩ r j : EReal)
theorem FT_of (Q : Fin 8192 → Fin 1024 → ℝ) (K : Fin 8192 → Fin 256 → ℝ) (v : K2) (r r' : Fin 8192) (a : Fin 1024) (g : Fin 2) (h : Fin 4) (b : Fin 256) (hr : r' = r)
    (hg : g.val = a.val / 512) (hh : h.val = a.val / 128 % 4) (hb : b.val = a.val / 512 * 128 + a.val % 128) :
    ∑ j : Fin 8192, v (ix2 j b) * (pR Q K g h r' j : EReal) = FT Q K v r a := by
  subst hr
  simp only [FT, show (⟨↑a / 512, by omega⟩ : Fin 2) = g from Fin.ext hg.symm, show (⟨↑a / 128 % 4, by omega⟩ : Fin 4) = h from Fin.ext hh.symm,
    show (⟨↑a / 512 * 128 + ↑a % 128, by omega⟩ : Fin 256) = b from Fin.ext hb.symm]
theorem SN_val (Q : Fin 8192 → Fin 1024 → ℝ) (K : Fin 8192 → Fin 256 → ℝ) (t : Fin cfg0.N) (h : Fin 4) (i : Fin 512) (j : Fin 8192) :
    SN Q K t h i j.val = sR Q K ⟨t.val / 128, by have := t_lt t; omega⟩ h ⟨t.val / 8 % 16 * 512 + i.val, by omega⟩ j := by
  rw [SN, dif_pos j.isLt]
theorem VN_val (m : (ℓ : Loc nD τ sig) → Buf (Elt Ideal) ℓ) (c : Dev nD) (t : Fin cfg0.N) (d : Fin 128) (j : Fin 8192) :
    VN m c t d j.val = A2 m c (ix2 j ⟨t.val / 128 * 128 + d.val, by have := t_lt t; omega⟩) := by
  rw [VN, dif_pos j.isLt]
/-- A row's quotient, summed over all keys, is the attention's output. -/
theorem quot_eq (m : (ℓ : Loc nD τ sig) → Buf (Elt Ideal) ℓ) (c : Dev nD) (Q : Fin 8192 → Fin 1024 → ℝ) (K : Fin 8192 → Fin 256 → ℝ) (t : Fin cfg0.N) (h : Fin 4) (i : Fin 512) (d : Fin 128)
    (r : Fin 8192) (a : Fin 1024) (hr : r.val = t.val / 8 % 16 * 512 + i.val) (ha : a.val = t.val / 128 * 512 + (h.val * 128 + d.val)) :
    ∑ j : Fin 8192, VN m c t d j.val * ((P (fun j : Fin 8192 => SN Q K t h i j.val) j : ℝ) : EReal) = FT Q K (A2 m c) r a := by
  have := t_lt t
  simp only [SN_val, VN_val]
  exact FT_of Q K (A2 m c) r _ a _ h _ (Fin.ext hr.symm) (by simp only; omega) (by omega) (by simp only; omega)
theorem div0_at (a b : Vec Ideal S512x128 .f32) (i : Fin 512) (x : Fin 128) : k0_pay15 (F := Ideal) a b (ix2 i x) = Ideal.div (a (ix2 i x)) (b (ix2 i 0)) := by
  pointwise [k0_pay15]
theorem div1_at (a b : Vec Ideal S512x128 .f32) (i : Fin 512) (x : Fin 128) : k0_pay17 (F := Ideal) a b (ix2 i x) = Ideal.div (a (ix2 i x)) (b (ix2 i 0)) := by
  pointwise [k0_pay17]
theorem div2_at (a b : Vec Ideal S512x128 .f32) (i : Fin 512) (x : Fin 128) : k0_pay19 (F := Ideal) a b (ix2 i x) = Ideal.div (a (ix2 i x)) (b (ix2 i 0)) := by
  pointwise [k0_pay19]
theorem div3_at (a b : Vec Ideal S512x128 .f32) (i : Fin 512) (x : Fin 128) : k0_pay5 (F := Ideal) a b (ix2 i x) = Ideal.div (a (ix2 i x)) (b (ix2 i 0)) := by
  pointwise [k0_pay5]
section
variable {m : (ℓ : Loc nD τ sig) → Buf (Elt Ideal) ℓ} {Q : Fin 8192 → Fin 1024 → ℝ} {K : Fin 8192 → Fin 256 → ℝ} (c : Dev nD)
  (hQ : ∀ i j, A0 m c (ix2 i j) = (Q i j : EReal)) (hK : ∀ i j, A1 m c (ix2 i j) = (K i j : EReal))
include hQ hK
theorem out_C (t : Fin cfg0.N) (h0 : ¬ t.val % 8 = 0) (h1 : t.val % 8 = 7) (y : S512x512.Idx) (r : Fin 8192) (a : Fin 1024)
    (hr : r.val = t.val / 8 % 16 * 512 + (y 0).val) (ha : a.val = t.val / 128 * 512 + (y 1).val) :
    (outsAt0 m c t.val t.isLt).1 y = FT Q K (A2 m c) r a := by
  have q0 := fun i => inv0 c hQ hK i (t.val - 1) (by omega)
  have q1 := fun i => inv1 c hQ hK i (t.val - 1) (by omega)
  have q2 := fun i => inv2 c hQ hK i (t.val - 1) (by omega)
  have q3 := fun i => inv3 c hQ hK i (t.val - 1) (by omega)
  simp only [SN_pred Q K t ⟨t.val - 1, by omega⟩ rfl h0, VN_pred m c t ⟨t.val - 1, by omega⟩ rfl h0, show (t.val - 1) % 8 + 1 = 7 by omega] at q0 q1 q2 q3
  have hs0 := fun i k => score0 c hQ hK t i k
  have hs1 := fun i k => score1 c hQ hK t i k
  have hs2 := fun i k => score2 c hQ hK t i k
  have hs3 := fun i k => score3 c hQ hK t i k
  have hw := fun k d => val_at m c t k d
  rw [h1] at hs0 hs1 hs2 hs3 hw
  rw [outsAt0_C m c t h0 h1]; frame_out
  canon_tiles x h
  case piece0 =>
    idx_vars x
    refine (div3_at _ _ _ _).trans ((Inv.quot (row3 _ _ _ _ _ _ _ _ _ _ (Memref.IsWhole.read_unread _ _) (Memref.IsWhole.read_unread _ _) (Memref.IsWhole.read_unread _ _) (hs3 _) hw (q3 _)) _).trans ?_)
    exact quot_eq m c Q K t 3 _ _ r a (by omega) (by omega)
  case piece1 =>
    idx_vars x
    refine (div2_at _ _ _ _).trans ((Inv.quot (row2 _ _ _ _ _ _ _ _ _ _ (Memref.IsWhole.read_unread _ _) (Memref.IsWhole.read_unread _ _) (Memref.IsWhole.read_unread _ _) (hs2 _) hw (q2 _)) _).trans ?_)
    exact quot_eq m c Q K t 2 _ _ r a (by omega) (by omega)
  case piece2 =>
    idx_vars x
    refine (div1_at _ _ _ _).trans ((Inv.quot (row1 _ _ _ _ _ _ _ _ _ _ (Memref.IsWhole.read_unread _ _) (Memref.IsWhole.read_unread _ _) (Memref.IsWhole.read_unread _ _) (hs1 _) hw (q1 _)) _).trans ?_)
    exact quot_eq m c Q K t 1 _ _ r a (by omega) (by omega)
  case piece3 =>
    idx_vars x
    refine (div0_at _ _ _ _).trans ((Inv.quot (row0 _ _ _ _ _ _ _ _ _ _ (Memref.IsWhole.read_unread _ _) (Memref.IsWhole.read_unread _ _) (Memref.IsWhole.read_unread _ _) (hs0 _) hw (q0 _)) _).trans ?_)
    exact quot_eq m c Q K t 0 _ _ r a (by omega) (by omega)
theorem out_ref (r : Fin 8192) (a : Fin 1024) : OUT (PR (EX (SC (A0 m c) (A1 m c)))) (A2 m c) (ix2 r a) = FT Q K (A2 m c) r a := by
  rw [OUT_at]
  exact Finset.sum_congr (M := EReal) rfl fun j _ => congrArg₂ (fun y z : EReal => y * z) rfl (PR_real _ _ _ _ _ _ hQ hK)
theorem final_out : (dats m 0 c).arrAt 3 cfg0.N = OUT (PR (EX (SC (A0 m c) (A1 m c)))) (A2 m c) := by
  refine (dats m 0 c).arrAt_eq_of_covers 3 _ (by decide +kernel) fun t hf y => ?_
  have hl : t.val % 8 = 7 := (flush0_3 t).mp hf
  have ht := t_lt t
  blk_simp
  have e : ((View.whole main_v3_0).slice (win0_3.rect t)).emb y = ix2 (⟨t.val / 8 % 16 * 512 + (y 0).val, by idx_bounds; omega⟩ : Fin 8192) (⟨t.val / 128 * 512 + (y 1).val, by idx_bounds; omega⟩ : Fin 1024) := by
    funext a; fin_cases a <;> apply Fin.ext <;> blk_simp [idx t] <;> rfl
  rw [after0_3, e, out_ref c hQ hK]
  exact out_C c hQ hK t (by omega) hl y _ _ rfl rfl
end
end Cert.Kernel3Ideal.Value

namespace Cert.Proof
/-- The attention's forward pass: kernel and reference leave equal results. -/
theorem fwd : Cert.algebraic_Kernel3Ideal_Reference3Ideal_pre_finite_qk (hPre_finite_qk := Cert.Finite.facts_qk) := by
  intro m ρ m' ρ' hpre hag
  refine ⟨_, (θ_run Cert.Kernel3Ideal.defs _ _).mono (fun r h c => ⟨(h c).1, (h c).2.2⟩) (Cert.Kernel3Ideal.Value.run_blocks m ρ), (θ_run Cert.Reference3Ideal.defs _ _).mono (fun r h c => ?_) (Cert.Reference3Ideal.Value.run m' ρ')⟩
  obtain ⟨ho, h0, h1, h2⟩ := h c
  obtain ⟨f0, f1⟩ := hpre c
  obtain ⟨g0, g1, g2⟩ := hag c
  obtain ⟨Q, hQ⟩ := Cert.Finite.choose _ fun i j => Cert.Finite.b0 _ _ _ i j f0
  obtain ⟨K, hK⟩ := Cert.Finite.choose _ fun i j => Cert.Finite.b1 _ _ _ i j f1
  refine ⟨ho.trans ?_, h0, h1, h2⟩
  refine Eq.trans ?_ (Cert.Kernel3Ideal.Value.final_out c hQ hK).symm
  rw [g0, g1, g2]
  rfl
end Cert.Proof
end
-- ==== Proof.Columns.lean ====
/-
  The layout of the combined input projection's columns: 488 columns of zeros behind the delta rule's narrow segment.
-/
module
public import proofs.«01_k».proof.Proof.Gen.Kernel6Ideal
public import proofs.«01_k».proof.Proof.Gen.Reference4Ideal
public import proofs.«01_k».proof.Proof.Gen.Reference5Ideal
public import Idealize.ShloMosaic.Lib.Pipeline.ValueKit
@[expose] public section
set_option maxRecDepth 16384
noncomputable section
open Idealize.ShloMosaic Idealize.ShloMosaic.TcCoe Idealize.SL.Sem
namespace Cert.Cols
open Cert.Kernel6Ideal Cert.Kernel6Ideal.Gen

/-- Column `n` of the wide layout of a row `f`. -/
def wide (f : Fin 16408 → EReal) (n : ℕ) : EReal :=
  if n < 3864 then (if h : n < 16408 then f ⟨n, h⟩ else 0) else if n < 4352 then 0 else (if h : n - 488 < 16408 then f ⟨n - 488, h⟩ else 0)

/-- A product whose right factor is laid out wide is the product laid out wide. -/
theorem wide_sum {ι : Type} [Fintype ι] (f : ι → EReal) (w : ι → Fin 16408 → EReal) (n : ℕ) :
    ∑ x, f x * wide (w x) n = wide (fun a => ∑ x, f x * w x a) n := by
  unfold wide
  split_ifs <;> simp only [mul_zero, Finset.sum_const_zero]
/-- The columns of zeros add nothing to a product over the wide layout. -/
theorem wide_dot (f g : Fin 16408 → EReal) : ∑ j : Fin 16896, wide f j.val * wide g j.val = ∑ a : Fin 16408, f a * g a := by
  let G : ℕ → EReal := fun n => if h : n < 16408 then f ⟨n, h⟩ * g ⟨n, h⟩ else 0
  have e : ∑ a : Fin 16408, f a * g a = ∑ n ∈ Finset.range 16408, G n := by
    rw [← Fin.sum_univ_eq_sum_range]
    exact Finset.sum_congr rfl fun a _ => by
      show _ = (if h : a.val < 16408 then f ⟨a.val, h⟩ * g ⟨a.val, h⟩ else 0)
      rw [dif_pos a.isLt]
  rw [e, Fin.sum_univ_eq_sum_range (fun n => wide f n * wide g n) 16896, show 16896 = 3864 + 488 + 12544 from rfl, show 16408 = 3864 + 12544 from rfl,
    Finset.sum_range_add, Finset.sum_range_add, Finset.sum_range_add]
  have z : ∑ x ∈ Finset.range 488, wide f (3864 + x) * wide g (3864 + x) = 0 := Finset.sum_eq_zero fun x hx => by
    have := Finset.mem_range.mp hx
    unfold wide
    rw [if_neg (by omega), if_pos (by omega), zero_mul]
  rw [z, add_zero]
  refine congrArg₂ (· + ·) (Finset.sum_congr rfl fun x hx => ?_) (Finset.sum_congr rfl fun x hx => ?_)
  · have := Finset.mem_range.mp hx
    unfold wide
    rw [if_pos (by omega), dif_pos (by omega), if_pos (by omega), dif_pos (by omega)]
    show _ = (if h : x < 16408 then f ⟨x, h⟩ * g ⟨x, h⟩ else 0)
    rw [dif_pos (by omega)]
  · have := Finset.mem_range.mp hx
    unfold wide
    rw [if_neg (by omega), if_neg (by omega), dif_pos (by omega), if_neg (by omega), if_neg (by omega), dif_pos (by omega)]
    refine Eq.trans ?_ (dif_pos (by omega)).symm
    exact congrArg₂ (· * ·) (congrArg f (Fin.ext (by simp only; omega))) (congrArg g (Fin.ext (by simp only; omega)))

/-- A concatenation's first piece, and then the rest, against a function of the column. -/
theorem cat_cons {R T W : ℕ} {φ : FTy} (i : Fin R) (j : Fin T) (x : FVec Ideal ⟨2, ![R, W]⟩ φ) (q : (s : Shape) × (s.Idx → Ideal φ))
    (xs : List ((s : Shape) × (s.Idx → Ideal φ))) (g : ℕ → EReal) (pre : ℕ) (hx : ∀ (c : ℕ) (h : c < W), x (ix2 i ⟨c, h⟩) = g (pre + c))
    (hr : ∀ hs (c : ℕ) hc, concatenateAt (⟨2, ![R, T]⟩ : Shape) 1 (ix2 i j) (q :: xs) hs c hc = g (pre + W + c)) :
    ∀ hs (c : ℕ) hc, concatenateAt (⟨2, ![R, T]⟩ : Shape) 1 (ix2 i j) (⟨⟨2, ![R, W]⟩, x⟩ :: q :: xs) hs c hc = g (pre + c) := by
  intro hs c hc
  rw [concatenateAt_cons]
  split
  · rename_i h
    exact (congrArg x (by funext a; match a with | ⟨0, _⟩ => rfl | ⟨1, _⟩ => rfl)).trans (hx c h)
  · rename_i h
    have h' : W ≤ c := Nat.le_of_not_lt h
    exact (hr _ _ _).trans (congrArg g (show pre + W + (c - W) = pre + c by omega))
theorem cat_last {R T W : ℕ} {φ : FTy} (i : Fin R) (j : Fin T) (x : FVec Ideal ⟨2, ![R, W]⟩ φ) (g : ℕ → EReal) (pre : ℕ)
    (hx : ∀ (c : ℕ) (h : c < W), x (ix2 i ⟨c, h⟩) = g (pre + c)) :
    ∀ hs (c : ℕ) hc, concatenateAt (⟨2, ![R, T]⟩ : Shape) 1 (ix2 i j) [⟨⟨2, ![R, W]⟩, x⟩] hs c hc = g (pre + c) := by
  intro hs c hc
  rw [concatenateAt_singleton]
  have h : c < W := by rw [axisSizes_cons _ _ _ _ (hs _ List.mem_cons_self)] at hc; simpa using hc
  exact (congrArg x (by funext a; match a with | ⟨0, _⟩ => rfl | ⟨1, _⟩ => rfl)).trans (hx c h)
theorem slice_at {R N W s : ℕ} {φ : FTy} (w : FVec Ideal ⟨2, ![R, N]⟩ φ) (hs : (⟨2, ![R, N]⟩ : Shape).Slices ![0, s] ⟨2, ![R, W]⟩) (i : Fin R) (c : ℕ) (h : c < W)
    (hn : s + c < N) : extractStridedSlice ⟨2, ![R, W]⟩ ![0, s] w hs (ix2 i ⟨c, h⟩) = w (ix2 i ⟨s + c, hn⟩) := by
  unfold extractStridedSlice
  exact congrArg w (by funext a; match a with | ⟨0, _⟩ => exact Fin.ext (Nat.zero_add _) | ⟨1, _⟩ => exact Fin.ext rfl)

/-- The weights' wide layout. -/
def PADW (z : FVec Ideal S_ .bf16) (w : FVec Ideal S2048x16408 .bf16) : FVec Ideal S2048x16896 .bf16 := concatenate S2048x16896 1 [⟨S2048x768, extractStridedSlice S2048x768 ![0, 0] w slices_S2048x16408_S2048x768_0_0⟩, ⟨S2048x768, extractStridedSlice S2048x768 ![0, 768] w slices_S2048x16408_S2048x768_0_768⟩, ⟨S2048x768, extractStridedSlice S2048x768 ![0, 1536] w slices_S2048x16408_S2048x768_0_1536⟩, ⟨S2048x768, extractStridedSlice S2048x768 ![0, 2304] w slices_S2048x16408_S2048x768_0_2304⟩, ⟨S2048x768, extractStridedSlice S2048x768 ![0, 3072] w slices_S2048x16408_S2048x768_0_3072⟩, ⟨S2048x512, pad S2048x512 ![0, 0] ![0, 488] ![0, 0] (extractStridedSlice S2048x24 ![0, 3840] w slices_S2048x16408_S2048x24_0_3840) z pads_S2048x24_S2048x512_000_04880 h_S_⟩, ⟨S2048x768, extractStridedSlice S2048x768 ![0, 3864] w slices_S2048x16408_S2048x768_0_3864⟩, ⟨S2048x1024, extractStridedSlice S2048x1024 ![0, 4632] w slices_S2048x16408_S2048x1024_0_4632⟩, ⟨S2048x256, extractStridedSlice S2048x256 ![0, 5656] w slices_S2048x16408_S2048x256_0_5656⟩, ⟨S2048x256, extractStridedSlice S2048x256 ![0, 5912] w slices_S2048x16408_S2048x256_0_5912⟩, ⟨S2048x1024, extractStridedSlice S2048x1024 ![0, 6168] w slices_S2048x16408_S2048x1024_0_6168⟩, ⟨S2048x512, extractStridedSlice S2048x512 ![0, 7192] w slices_S2048x16408_S2048x512_0_7192⟩, ⟨S2048x512, extractStridedSlice S2048x512 ![0, 7704] w slices_S2048x16408_S2048x512_0_7704⟩, ⟨S2048x8192, extractStridedSlice S2048x8192 ![0, 8216] w slices_S2048x16408_S2048x8192_0_8216⟩]
  concatenates_S2048x768_S2048x768_S2048x768_S2048x768_S2048x768_S2048x512_S2048x768_S2048x1024_S2048x256_S2048x256_S2048x1024_S2048x512_S2048x512_S2048x8192_S2048x16896_d1
/-- The gradient's wide layout. -/
def PADD (z : FVec Ideal S_ .f32) (w : FVec Ideal S8192x16408 .f32) : FVec Ideal S8192x16896 .f32 := concatenate S8192x16896 1 [⟨S8192x768, extractStridedSlice S8192x768 ![0, 0] w slices_S8192x16408_S8192x768_0_0⟩, ⟨S8192x768, extractStridedSlice S8192x768 ![0, 768] w slices_S8192x16408_S8192x768_0_768⟩, ⟨S8192x768, extractStridedSlice S8192x768 ![0, 1536] w slices_S8192x16408_S8192x768_0_1536⟩, ⟨S8192x768, extractStridedSlice S8192x768 ![0, 2304] w slices_S8192x16408_S8192x768_0_2304⟩, ⟨S8192x768, extractStridedSlice S8192x768 ![0, 3072] w slices_S8192x16408_S8192x768_0_3072⟩, ⟨S8192x512, pad S8192x512 ![0, 0] ![0, 488] ![0, 0] (extractStridedSlice S8192x24 ![0, 3840] w slices_S8192x16408_S8192x24_0_3840) z pads_S8192x24_S8192x512_000_04880 h_S_⟩, ⟨S8192x768, extractStridedSlice S8192x768 ![0, 3864] w slices_S8192x16408_S8192x768_0_3864⟩, ⟨S8192x1024, extractStridedSlice S8192x1024 ![0, 4632] w slices_S8192x16408_S8192x1024_0_4632⟩, ⟨S8192x256, extractStridedSlice S8192x256 ![0, 5656] w slices_S8192x16408_S8192x256_0_5656⟩, ⟨S8192x256, extractStridedSlice S8192x256 ![0, 5912] w slices_S8192x16408_S8192x256_0_5912⟩, ⟨S8192x1024, extractStridedSlice S8192x1024 ![0, 6168] w slices_S8192x16408_S8192x1024_0_6168⟩, ⟨S8192x512, extractStridedSlice S8192x512 ![0, 7192] w slices_S8192x16408_S8192x512_0_7192⟩, ⟨S8192x512, extractStridedSlice S8192x512 ![0, 7704] w slices_S8192x16408_S8192x512_0_7704⟩, ⟨S8192x8192, extractStridedSlice S8192x8192 ![0, 8216] w slices_S8192x16408_S8192x8192_0_8216⟩]
  concatenates_S8192x768_S8192x768_S8192x768_S8192x768_S8192x768_S8192x512_S8192x768_S8192x1024_S8192x256_S8192x256_S8192x1024_S8192x512_S8192x512_S8192x8192_S8192x16896_d1
theorem narrow2048 (z : FVec Ideal S_ .bf16) (hz : ∀ i, z i = 0) (w : FVec Ideal S2048x16408 .bf16) (i : Fin 2048) (c : ℕ) (h : c < 512) :
    pad S2048x512 ![0, 0] ![0, 488] ![0, 0] (extractStridedSlice S2048x24 ![0, 3840] w slices_S2048x16408_S2048x24_0_3840) z pads_S2048x24_S2048x512_000_04880 h_S_ (ix2 i ⟨c, h⟩)
      = wide (fun a => w (ix2 i a)) (3840 + c) := by
  unfold wide
  pointwise
  split_ifs <;> first | omega | exact hz _ | rfl
theorem narrow8192 (z : FVec Ideal S_ .f32) (hz : ∀ i, z i = 0) (w : FVec Ideal S8192x16408 .f32) (i : Fin 8192) (c : ℕ) (h : c < 512) :
    pad S8192x512 ![0, 0] ![0, 488] ![0, 0] (extractStridedSlice S8192x24 ![0, 3840] w slices_S8192x16408_S8192x24_0_3840) z pads_S8192x24_S8192x512_000_04880 h_S_ (ix2 i ⟨c, h⟩)
      = wide (fun a => w (ix2 i a)) (3840 + c) := by
  unfold wide
  pointwise
  split_ifs <;> first | omega | exact hz _ | rfl
theorem PADW_at (z : FVec Ideal S_ .bf16) (hz : ∀ i, z i = 0) (w : FVec Ideal S2048x16408 .bf16) (i : Fin 2048) (j : Fin 16896) :
    PADW z w (ix2 i j) = wide (fun a => w (ix2 i a)) j.val := by
  unfold PADW
  refine (concatenate_apply _ _ _ _ _).trans (Eq.trans (b := wide (fun a => w (ix2 i a)) (0 + j.val)) ?_ (congrArg _ (Nat.zero_add _)))
  refine (cat_cons i j _ _ _ _ 0 (fun c h => (slice_at w _ i c h (by omega)).trans (by unfold wide; rw [if_pos (by omega), dif_pos (by omega)]))
    (cat_cons i j _ _ _ _ 768 (fun c h => (slice_at w _ i c h (by omega)).trans (by unfold wide; rw [if_pos (by omega), dif_pos (by omega)]))
    (cat_cons i j _ _ _ _ 1536 (fun c h => (slice_at w _ i c h (by omega)).trans (by unfold wide; rw [if_pos (by omega), dif_pos (by omega)]))
    (cat_cons i j _ _ _ _ 2304 (fun c h => (slice_at w _ i c h (by omega)).trans (by unfold wide; rw [if_pos (by omega), dif_pos (by omega)]))
    (cat_cons i j _ _ _ _ 3072 (fun c h => (slice_at w _ i c h (by omega)).trans (by unfold wide; rw [if_pos (by omega), dif_pos (by omega)]))
    (cat_cons i j _ _ _ _ 3840 (fun c h => narrow2048 z hz w i c h)
    (cat_cons i j _ _ _ _ 4352 (fun c h => (slice_at w _ i c h (by omega)).trans (by unfold wide; rw [if_neg (by omega), if_neg (by omega), dif_pos (by omega)]; exact congrArg w (congrArg (ix2 i) (Fin.ext (show 3864 + c = 4352 + c - 488 by omega)))))
    (cat_cons i j _ _ _ _ 5120 (fun c h => (slice_at w _ i c h (by omega)).trans (by unfold wide; rw [if_neg (by omega), if_neg (by omega), dif_pos (by omega)]; exact congrArg w (congrArg (ix2 i) (Fin.ext (show 4632 + c = 5120 + c - 488 by omega)))))
    (cat_cons i j _ _ _ _ 6144 (fun c h => (slice_at w _ i c h (by omega)).trans (by unfold wide; rw [if_neg (by omega), if_neg (by omega), dif_pos (by omega)]; exact congrArg w (congrArg (ix2 i) (Fin.ext (show 5656 + c = 6144 + c - 488 by omega)))))
    (cat_cons i j _ _ _ _ 6400 (fun c h => (slice_at w _ i c h (by omega)).trans (by unfold wide; rw [if_neg (by omega), if_neg (by omega), dif_pos (by omega)]; exact congrArg w (congrArg (ix2 i) (Fin.ext (show 5912 + c = 6400 + c - 488 by omega)))))
    (cat_cons i j _ _ _ _ 6656 (fun c h => (slice_at w _ i c h (by omega)).trans (by unfold wide; rw [if_neg (by omega), if_neg (by omega), dif_pos (by omega)]; exact congrArg w (congrArg (ix2 i) (Fin.ext (show 6168 + c = 6656 + c - 488 by omega)))))
    (cat_cons i j _ _ _ _ 7680 (fun c h => (slice_at w _ i c h (by omega)).trans (by unfold wide; rw [if_neg (by omega), if_neg (by omega), dif_pos (by omega)]; exact congrArg w (congrArg (ix2 i) (Fin.ext (show 7192 + c = 7680 + c - 488 by omega)))))
    (cat_cons i j _ _ _ _ 8192 (fun c h => (slice_at w _ i c h (by omega)).trans (by unfold wide; rw [if_neg (by omega), if_neg (by omega), dif_pos (by omega)]; exact congrArg w (congrArg (ix2 i) (Fin.ext (show 7704 + c = 8192 + c - 488 by omega)))))
    (cat_last i j _ _ 8704 (fun c h => (slice_at w _ i c h (by omega)).trans (by unfold wide; rw [if_neg (by omega), if_neg (by omega), dif_pos (by omega)]; exact congrArg w (congrArg (ix2 i) (Fin.ext (show 8216 + c = 8704 + c - 488 by omega))))))))))))))))))) _ _ _
theorem PADD_at (z : FVec Ideal S_ .f32) (hz : ∀ i, z i = 0) (w : FVec Ideal S8192x16408 .f32) (i : Fin 8192) (j : Fin 16896) :
    PADD z w (ix2 i j) = wide (fun a => w (ix2 i a)) j.val := by
  unfold PADD
  refine (concatenate_apply _ _ _ _ _).trans (Eq.trans (b := wide (fun a => w (ix2 i a)) (0 + j.val)) ?_ (congrArg _ (Nat.zero_add _)))
  refine (cat_cons i j _ _ _ _ 0 (fun c h => (slice_at w _ i c h (by omega)).trans (by unfold wide; rw [if_pos (by omega), dif_pos (by omega)]))
    (cat_cons i j _ _ _ _ 768 (fun c h => (slice_at w _ i c h (by omega)).trans (by unfold wide; rw [if_pos (by omega), dif_pos (by omega)]))
    (cat_cons i j _ _ _ _ 1536 (fun c h => (slice_at w _ i c h (by omega)).trans (by unfold wide; rw [if_pos (by omega), dif_pos (by omega)]))
    (cat_cons i j _ _ _ _ 2304 (fun c h => (slice_at w _ i c h (by omega)).trans (by unfold wide; rw [if_pos (by omega), dif_pos (by omega)]))
    (cat_cons i j _ _ _ _ 3072 (fun c h => (slice_at w _ i c h (by omega)).trans (by unfold wide; rw [if_pos (by omega), dif_pos (by omega)]))
    (cat_cons i j _ _ _ _ 3840 (fun c h => narrow8192 z hz w i c h)
    (cat_cons i j _ _ _ _ 4352 (fun c h => (slice_at w _ i c h (by omega)).trans (by unfold wide; rw [if_neg (by omega), if_neg (by omega), dif_pos (by omega)]; exact congrArg w (congrArg (ix2 i) (Fin.ext (show 3864 + c = 4352 + c - 488 by omega)))))
    (cat_cons i j _ _ _ _ 5120 (fun c h => (slice_at w _ i c h (by omega)).trans (by unfold wide; rw [if_neg (by omega), if_neg (by omega), dif_pos (by omega)]; exact congrArg w (congrArg (ix2 i) (Fin.ext (show 4632 + c = 5120 + c - 488 by omega)))))
    (cat_cons i j _ _ _ _ 6144 (fun c h => (slice_at w _ i c h (by omega)).trans (by unfold wide; rw [if_neg (by omega), if_neg (by omega), dif_pos (by omega)]; exact congrArg w (congrArg (ix2 i) (Fin.ext (show 5656 + c = 6144 + c - 488 by omega)))))
    (cat_cons i j _ _ _ _ 6400 (fun c h => (slice_at w _ i c h (by omega)).trans (by unfold wide; rw [if_neg (by omega), if_neg (by omega), dif_pos (by omega)]; exact congrArg w (congrArg (ix2 i) (Fin.ext (show 5912 + c = 6400 + c - 488 by omega)))))
    (cat_cons i j _ _ _ _ 6656 (fun c h => (slice_at w _ i c h (by omega)).trans (by unfold wide; rw [if_neg (by omega), if_neg (by omega), dif_pos (by omega)]; exact congrArg w (congrArg (ix2 i) (Fin.ext (show 6168 + c = 6656 + c - 488 by omega)))))
    (cat_cons i j _ _ _ _ 7680 (fun c h => (slice_at w _ i c h (by omega)).trans (by unfold wide; rw [if_neg (by omega), if_neg (by omega), dif_pos (by omega)]; exact congrArg w (congrArg (ix2 i) (Fin.ext (show 7192 + c = 7680 + c - 488 by omega)))))
    (cat_cons i j _ _ _ _ 8192 (fun c h => (slice_at w _ i c h (by omega)).trans (by unfold wide; rw [if_neg (by omega), if_neg (by omega), dif_pos (by omega)]; exact congrArg w (congrArg (ix2 i) (Fin.ext (show 7704 + c = 8192 + c - 488 by omega)))))
    (cat_last i j _ _ 8704 (fun c h => (slice_at w _ i c h (by omega)).trans (by unfold wide; rw [if_neg (by omega), if_neg (by omega), dif_pos (by omega)]; exact congrArg w (congrArg (ix2 i) (Fin.ext (show 8216 + c = 8704 + c - 488 by omega))))))))))))))))))) _ _ _
/-- The references' wide layout: three pieces. -/
def WIDE (h : FVec Ideal S8192x16408 .f32) : FVec Ideal S8192x16896 .f32 :=
  concatenate Cert.Reference4Ideal.S8192x16896 1 [⟨Cert.Reference4Ideal.S8192x3864, extractStridedSlice Cert.Reference4Ideal.S8192x3864 ![0, 0] h Cert.Reference4Ideal.Gen.slices_S8192x16408_S8192x3864_0_0⟩,
    ⟨Cert.Reference4Ideal.S8192x488, broadcastInDim Cert.Reference4Ideal.S8192x488 ![] Cert.Reference4Ideal.Gen.bcast_S_S8192x488 (constant Cert.Reference4Ideal.S_ .f32 0x00000000#32)⟩,
    ⟨Cert.Reference4Ideal.S8192x12544, extractStridedSlice Cert.Reference4Ideal.S8192x12544 ![0, 3864] h Cert.Reference4Ideal.Gen.slices_S8192x16408_S8192x12544_0_3864⟩]
    Cert.Reference4Ideal.Gen.concatenates_S8192x3864_S8192x488_S8192x12544_S8192x16896_d1
theorem zeros8192 (i : Fin 8192) (c : ℕ) (h : c < 488) : broadcastInDim Cert.Reference4Ideal.S8192x488 ![] Cert.Reference4Ideal.Gen.bcast_S_S8192x488 (constant (F := Ideal) Cert.Reference4Ideal.S_ .f32 0x00000000#32) (ix2 i ⟨c, h⟩) = (0 : EReal) := by
  pointwise
theorem WIDE_at (w : FVec Ideal S8192x16408 .f32) (i : Fin 8192) (j : Fin 16896) : WIDE w (ix2 i j) = wide (fun a => w (ix2 i a)) j.val := by
  unfold WIDE
  refine (concatenate_apply _ _ _ _ _).trans (Eq.trans (b := wide (fun a => w (ix2 i a)) (0 + j.val)) ?_ (congrArg _ (Nat.zero_add _)))
  refine (cat_cons i j _ _ _ _ 0 (fun c h => (slice_at w _ i c h (by omega)).trans (by unfold wide; rw [if_pos (by omega), dif_pos (by omega)]))
    (cat_cons i j _ _ _ _ 3864 (fun c h => (zeros8192 i c h).trans (by unfold wide; rw [if_neg (by omega), if_pos (by omega)]))
    (cat_last i j _ _ 4352 (fun c h => (slice_at w _ i c h (by omega)).trans (by unfold wide; rw [if_neg (by omega), if_neg (by omega), dif_pos (by omega)]; exact congrArg w (congrArg (ix2 i) (Fin.ext (show 3864 + c = 4352 + c - 488 by omega)))))))) _ _ _
/-- The same, of the weights' gradient. -/
def WIDEW (h : FVec Ideal S2048x16408 .f32) : FVec Ideal S2048x16896 .f32 :=
  concatenate Cert.Reference5Ideal.S2048x16896 1 [⟨Cert.Reference5Ideal.S2048x3864, extractStridedSlice Cert.Reference5Ideal.S2048x3864 ![0, 0] h Cert.Reference5Ideal.Gen.slices_S2048x16408_S2048x3864_0_0⟩,
    ⟨Cert.Reference5Ideal.S2048x488, broadcastInDim Cert.Reference5Ideal.S2048x488 ![] Cert.Reference5Ideal.Gen.bcast_S_S2048x488 (constant Cert.Reference5Ideal.S_ .f32 0x00000000#32)⟩,
    ⟨Cert.Reference5Ideal.S2048x12544, extractStridedSlice Cert.Reference5Ideal.S2048x12544 ![0, 3864] h Cert.Reference5Ideal.Gen.slices_S2048x16408_S2048x12544_0_3864⟩]
    Cert.Reference5Ideal.Gen.concatenates_S2048x3864_S2048x488_S2048x12544_S2048x16896_d1
theorem zeros2048 (i : Fin 2048) (c : ℕ) (h : c < 488) : broadcastInDim Cert.Reference5Ideal.S2048x488 ![] Cert.Reference5Ideal.Gen.bcast_S_S2048x488 (constant (F := Ideal) Cert.Reference5Ideal.S_ .f32 0x00000000#32) (ix2 i ⟨c, h⟩) = (0 : EReal) := by
  pointwise
theorem WIDEW_at (w : FVec Ideal S2048x16408 .f32) (i : Fin 2048) (j : Fin 16896) : WIDEW w (ix2 i j) = wide (fun a => w (ix2 i a)) j.val := by
  unfold WIDEW
  refine (concatenate_apply _ _ _ _ _).trans (Eq.trans (b := wide (fun a => w (ix2 i a)) (0 + j.val)) ?_ (congrArg _ (Nat.zero_add _)))
  refine (cat_cons i j _ _ _ _ 0 (fun c h => (slice_at w _ i c h (by omega)).trans (by unfold wide; rw [if_pos (by omega), dif_pos (by omega)]))
    (cat_cons i j _ _ _ _ 3864 (fun c h => (zeros2048 i c h).trans (by unfold wide; rw [if_neg (by omega), if_pos (by omega)]))
    (cat_last i j _ _ 4352 (fun c h => (slice_at w _ i c h (by omega)).trans (by unfold wide; rw [if_neg (by omega), if_neg (by omega), dif_pos (by omega)]; exact congrArg w (congrArg (ix2 i) (Fin.ext (show 3864 + c = 4352 + c - 488 by omega)))))))) _ _ _
end Cert.Cols
end
-- ==== Proof.ProjFwd.lean ====
/-
  The combined input projection: the array the kernel leaves is the product, laid out wide.
-/
module
public import proofs.«01_k».proof.Proof.Columns
public import proofs.«01_k».proof.Proof.Gen.Kernel4Ideal.Value
public import proofs.«01_k».proof.Proof.Gen.Reference4Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel4Ideal.Value
open Cert.Kernel4Ideal Cert.Kernel4Ideal.Gen Cert.Cols
variable (m : (ℓ : Loc nD τ sig) → Buf (Elt Ideal) ℓ)

abbrev A0 (c : Dev nD) : FVec Ideal S8192x2048 .f32 := m ((c.tc : Thread nD τ).loc main_arg0)
abbrev A1 (c : Dev nD) : FVec Ideal S2048x16408 .f32 := m ((c.tc : Thread nD τ).loc main_arg1)
abbrev Z : FVec Ideal S_ .bf16 := sitofp .bf16 (constantI S_ 32 0#32)
theorem Z_at (i : S_.Idx) : Z i = 0 := by
  show ((((0#32 : BitVec 32).toInt : ℤ) : ℝ) : EReal) = 0
  simp

set_option maxHeartbeats 8000000 in
theorem V0 (c : Dev nD) : (show FVec Ideal S8192x2048 .bf16 from V m c main_v0) = A0 m c := by
  show StableHlo.after (List.flatten [hostOps0, hostOps0_1, hostOps0_2]) (fun b => m (c, b)) main_v0 = _
  simp only [List.flatten_cons, List.flatten_nil, List.append_nil]
  unfold hostOps0 hostOps0_1 hostOps0_2
  after_results_simp
  rfl
set_option maxHeartbeats 8000000 in
theorem V17 (c : Dev nD) : (show FVec Ideal S2048x16896 .bf16 from V m c main_v17) = PADW Z (A1 m c) := by
  show StableHlo.after (List.flatten [hostOps0, hostOps0_1, hostOps0_2]) (fun b => m (c, b)) main_v17 = _
  simp only [List.flatten_cons, List.flatten_nil, List.append_nil]
  unfold hostOps0 hostOps0_1 hostOps0_2
  after_results_simp
  rfl

theorem idx : ∀ t : Fin cfg0.N, win0_0.index t = ![t.val / 33, 0] ∧ win0_1.index t = ![0, t.val % 33] ∧ win0_2.index t = ![t.val / 33, t.val % 33] :=
  (by decide +kernel : ∀ t : Fin grid0.N, _)
theorem t_lt (t : Fin cfg0.N) : t.val < 132 := lt_of_lt_of_eq t.isLt (by decide +kernel)
abbrev X0 (c : Dev nD) : FVec Ideal S8192x2048 .f32 := V m c (Pipeline.arrRef spec0 0)
abbrev X1 (c : Dev nD) : FVec Ideal S2048x16896 .f32 := V m c (Pipeline.arrRef spec0 1)
theorem blk0 (c : Dev nD) (t : Fin cfg0.N) (z : Buf (Elt Ideal) ((c.tc : Thread nD τ).loc (Pipeline.arrRef spec0 0))) (i : Fin 2048) (x : Fin 2048) :
    (View.read (Elt Ideal) ((cfg0.win 0).blk t).view z : FVec Ideal S2048x2048 .bf16) (ix2 i x)
      = (z : FVec Ideal S8192x2048 .bf16) (ix2 ⟨t.val / 33 * 2048 + i.val, by have := t_lt t; omega⟩ x) := by
  have := t_lt t
  blk_point [idx t]
theorem B0 (c : Dev nD) (t : Fin cfg0.N) (i : Fin 2048) (x : Fin 2048) : (iblk m c 0 t : FVec Ideal S2048x2048 .bf16) (ix2 i x)
    = X0 m c (ix2 ⟨t.val / 33 * 2048 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 2048) (x : Fin 512) :
    (View.read (Elt Ideal) ((cfg0.win 1).blk t).view z : FVec Ideal S2048x512 .bf16) (ix2 i x)
      = (z : FVec Ideal S2048x16896 .bf16) (ix2 i ⟨t.val % 33 * 512 + x.val, by have := t_lt t; omega⟩) := by
  have := t_lt t
  blk_point [idx t]
theorem B1 (c : Dev nD) (t : Fin cfg0.N) (i : Fin 2048) (x : Fin 512) : (iblk m c 1 t : FVec Ideal S2048x512 .bf16) (ix2 i x)
    = X1 m c (ix2 i ⟨t.val % 33 * 512 + x.val, by have := t_lt t; omega⟩) :=
  blk1 c t (V m c (Pipeline.arrRef spec0 1)) i x
theorem pay_at (a : Vec Ideal S2048x2048 .bf16) (b : Vec Ideal S2048x512 .bf16) (i : Fin 2048) (x : Fin 512) :
    k0_pay1 (F := Ideal) a b (ix2 i x) = ∑ d : Fin 2048, a (ix2 i d) * b (ix2 d x) := by
  pointwise [k0_pay1]

/-- The product, laid out wide. -/
def PROJ (x : FVec Ideal S8192x2048 .f32) (w : FVec Ideal S2048x16408 .f32) : FVec Ideal S8192x16896 .f32 :=
  fun j => wide (fun a => ∑ d : Fin 2048, x (ix2 (⟨(j 0).val, (j 0).isLt⟩ : Fin 8192) d) * w (ix2 d a)) (j 1).val
theorem prod_at (c : Dev nD) (i : Fin 8192) (j : Fin 16896) : ∑ d : Fin 2048, X0 m c (ix2 i d) * X1 m c (ix2 d j) = PROJ (A0 m c) (A1 m c) (ix2 i j) := by
  rw [show X0 m c = A0 m c from V0 m c, show X1 m c = PADW Z (A1 m c) from V17 m c]
  generalize A0 m c = a0
  generalize A1 m c = a1
  refine (Finset.sum_congr rfl fun d _ => congrArg (_ * ·) (PADW_at Z Z_at a1 d j)).trans ?_
  exact wide_sum (fun d : Fin 2048 => a0 (ix2 i d)) (fun d a => a1 (ix2 d a)) j.val
theorem final2 (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v18).slice (win0_2.rect t)).emb y = ix2 (⟨t.val / 33 * 2048 + (y 0).val, by idx_bounds; omega⟩ : Fin 8192) (⟨t.val % 33 * 512 + (y 1).val, by idx_bounds; omega⟩ : Fin 16896) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel4Ideal.Value

namespace Cert.Proof
open Cert.Cols
/-- The reference's product with its columns of zeros. -/
theorem ref4 (x : FVec Ideal Cert.Kernel4Ideal.S8192x2048 .f32) (w : FVec Ideal Cert.Kernel4Ideal.S2048x16408 .f32) :
    WIDE (Host.dotGeneral Cert.Reference4Ideal.dot_S8192x2048_S2048x16408_S8192x16408_1_0_0_1_n_n none x w) = Cert.Kernel4Ideal.Value.PROJ x w := by
  funext j
  idx_vars j
  rw [WIDE_at]
  unfold Cert.Kernel4Ideal.Value.PROJ
  refine congrFun (congrArg wide ?_) _
  funext d
  pointwise

theorem proj4 : Cert.algebraic_Kernel4Ideal_Reference4Ideal := by
  intro m ρ m' ρ' hpre hag
  refine ⟨fun c => Cert.Kernel4Ideal.Value.PROJ (Cert.Kernel4Ideal.Value.A0 m c) (Cert.Kernel4Ideal.Value.A1 m c), (θ_run Cert.Kernel4Ideal.defs _ _).mono (fun r h c => ?_) (Cert.Kernel4Ideal.Value.run_blocks m ρ), (θ_run Cert.Reference4Ideal.defs _ _).mono (fun r h c => ?_) (Cert.Reference4Ideal.Value.run m' ρ')⟩
  · exact ⟨(h c).1.trans (Cert.Kernel4Ideal.Value.final2 m c), (h c).2⟩
  · obtain ⟨h, h0, h1⟩ := h c
    refine ⟨h.trans ?_, h0, h1⟩
    obtain ⟨g0, g1⟩ := hag c
    rw [g0, g1]
    exact ref4 _ _
end Cert.Proof
end
-- ==== Proof.ProjDw.lean ====
/-
  The weight gradient of the combined input projection: the array the kernel leaves is the product, laid out wide.
-/
module
public import proofs.«01_k».proof.Proof.Columns
public import proofs.«01_k».proof.Proof.Gen.Kernel5Ideal.Value
public import proofs.«01_k».proof.Proof.Gen.Reference5Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel5Ideal.Value
open Cert.Kernel5Ideal Cert.Kernel5Ideal.Gen Cert.Cols
variable (m : (ℓ : Loc nD τ sig) → Buf (Elt Ideal) ℓ)

abbrev A0 (c : Dev nD) : FVec Ideal S8192x2048 .f32 := m ((c.tc : Thread nD τ).loc main_arg0)
abbrev A1 (c : Dev nD) : FVec Ideal S8192x16408 .f32 := m ((c.tc : Thread nD τ).loc main_arg1)
abbrev Z : FVec Ideal S_ .bf16 := sitofp .bf16 (constantI S_ 32 0#32)
abbrev ZF : FVec Ideal S_ .f32 := sitofp .f32 (constantI S_ 32 0#32)
theorem Z_at (i : S_.Idx) : Z i = 0 := by
  show ((((0#32 : BitVec 32).toInt : ℤ) : ℝ) : EReal) = 0
  simp
theorem ZF_at (i : S_.Idx) : ZF i = 0 := by
  show ((((0#32 : BitVec 32).toInt : ℤ) : ℝ) : EReal) = 0
  simp
set_option maxHeartbeats 8000000 in
theorem V_v0 (c : Dev nD) : (show FVec Ideal S8192x2048 .bf16 from V m c main_v0) = A0 m c := by
  show StableHlo.after (List.flatten [hostOps0, hostOps0_1, hostOps0_2]) (fun b => m (c, b)) main_v0 = _
  simp only [List.flatten_cons, List.flatten_nil, List.append_nil]
  unfold hostOps0 hostOps0_1 hostOps0_2
  after_results_simp
  rfl
set_option maxHeartbeats 8000000 in
theorem V_v17 (c : Dev nD) : (show FVec Ideal S8192x16896 .bf16 from V m c main_v17) = PADD ZF (A1 m c) := by
  show StableHlo.after (List.flatten [hostOps0, hostOps0_1, hostOps0_2]) (fun b => m (c, b)) main_v17 = _
  simp only [List.flatten_cons, List.flatten_nil, List.append_nil]
  unfold hostOps0 hostOps0_1 hostOps0_2
  after_results_simp
  rfl

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem t_lt (t : Fin cfg0.N) : t.val < 264 := lt_of_lt_of_eq t.isLt (by decide +kernel)
abbrev X0 (c : Dev nD) : FVec Ideal S8192x2048 .f32 := V m c (Pipeline.arrRef spec0 0)
abbrev X1 (c : Dev nD) : FVec Ideal S8192x16896 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .bf16) (ix2 i x)
      = (z : FVec Ideal S8192x2048 .bf16) (ix2 ⟨t.val % 8 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .bf16) (ix2 i x)
    = X0 m c (ix2 ⟨t.val % 8 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 512) :
    (View.read (Elt Ideal) ((cfg0.win 1).blk t).view z : FVec Ideal S1024x512 .bf16) (ix2 i x)
      = (z : FVec Ideal S8192x16896 .bf16) (ix2 ⟨t.val % 8 * 1024 + i.val, by have := t_lt t; omega⟩ ⟨t.val / 8 * 512 + x.val, by have := t_lt t; omega⟩) := by
  have := t_lt t
  blk_point [idx t]
theorem B1 (c : Dev nD) (t : Fin cfg0.N) (i : Fin 1024) (x : Fin 512) : (iblk m c 1 t : FVec Ideal S1024x512 .bf16) (ix2 i x)
    = X1 m c (ix2 ⟨t.val % 8 * 1024 + i.val, by have := t_lt t; omega⟩ ⟨t.val / 8 * 512 + x.val, by have := t_lt t; omega⟩) :=
  blk1 c t (V m c (Pipeline.arrRef spec0 1)) i x
theorem pay_at (a : Vec Ideal S1024x2048 .bf16) (b : Vec Ideal S1024x512 .bf16) (i : Fin 2048) (x : Fin 512) :
    k0_pay1 (F := Ideal) a b (ix2 i x) = ∑ d : Fin 1024, a (ix2 d i) * b (ix2 d x) := by
  pointwise [k0_pay1]
theorem pay2_eq (a : Vec Ideal S1024x2048 .bf16) (b : Vec Ideal S1024x512 .bf16) (i : Fin 2048) (x : Fin 512) :
    k0_pay2 (F := Ideal) a b (ix2 i x) = k0_pay1 (F := Ideal) a b (ix2 i x) := by
  unfold k0_pay2
  generalize k0_pay1 (F := Ideal) a b = p
  pointwise
theorem pay3_eq (a : Vec Ideal S1024x2048 .bf16) (b : Vec Ideal S1024x512 .bf16) (v : Vec Ideal S2048x512 .f32) (i : Fin 2048) (x : Fin 512) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S2048x512.Idx) : EReal :=
  ∑ d : Fin 1024, X0 m c (ix2 ⟨t.val % 8 * 1024 + d.val, by have := t_lt t; omega⟩ (⟨(j 0).val, (j 0).isLt⟩ : Fin 2048)) * X1 m c (ix2 ⟨t.val % 8 * 1024 + d.val, by have := t_lt t; omega⟩ ⟨t.val / 8 * 512 + (j 1).val, by have := t_lt t; idx_bounds; omega⟩)
theorem pay_blk (c : Dev nD) (t : Fin cfg0.N) (i : Fin 2048) (x : Fin 512) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 8 = 0) (j : S2048x512.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 8 = 0) (h1 : ¬t.val % 8 = 7) (j : S2048x512.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 8 = 0) (h1 : t.val % 8 = 7) (j : S2048x512.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 8 = 0) (j : S2048x512.Idx) :
    (outsAt0 m c t.val t.isLt).2 j = (outsAt0 m c (t.val - 1) (Nat.lt_of_le_of_lt (Nat.sub_le _ _) t.isLt)).2 j + TP m c t j := by
  by_cases h1 : t.val % 8 = 7
  · exact step_C m c t h0 h1 j
  · exact step_B m c t h0 h1 j
theorem out_eq (c : Dev nD) (t : Fin cfg0.N) (h0 : ¬t.val % 8 = 0) (h1 : t.val % 8 = 7) (j : S2048x512.Idx) :
    (outsAt0 m c t.val t.isLt).1 j = (outsAt0 m c t.val t.isLt).2 j := by
  rw [outsAt0_C m c t h0 (by omega) h1]; frame_out

/-- The product, laid out wide. -/
def PROJ (a : FVec Ideal S8192x2048 .f32) (b : FVec Ideal S8192x16408 .f32) : FVec Ideal S2048x16896 .f32 :=
  fun j => wide (fun x => ∑ d : Fin 8192, a (ix2 d (⟨(j 0).val, (j 0).isLt⟩ : Fin 2048)) * b (ix2 d x)) (j 1).val
theorem prod_at (c : Dev nD) (i : Fin 2048) (x : Fin 16896) : ∑ d : Fin 8192, X0 m c (ix2 d i) * X1 m c (ix2 d x) = PROJ (A0 m c) (A1 m c) (ix2 i x) := by
  rw [show X0 m c = A0 m c from V_v0 m c, show X1 m c = PADD ZF (A1 m c) from V_v17 m c]
  generalize A0 m c = a0
  generalize A1 m c = a1
  refine (Finset.sum_congr rfl fun d _ => congrArg (_ * ·) (PADD_at ZF ZF_at a1 d x)).trans ?_
  exact wide_sum (fun d : Fin 8192 => a0 (ix2 d i)) (fun d a => a1 (ix2 d a)) x.val
theorem sum_at (t : Fin cfg0.N) (hl : t.val % 8 = 8 - 1) (c : Dev nD) (y0 : Fin 2048) (y1 : Fin 512) :
    ∑ s : Fin 8, TP m c ⟨8 * (t.val / 8) + s.val, Pipeline.run_point_lt_of_flush t hl s⟩ (ix2 y0 y1)
      = PROJ (A0 m c) (A1 m c) (ix2 y0 ⟨t.val / 8 * 512 + y1.val, by have := t_lt t; omega⟩) := by
  have ht := t_lt t
  have r0 : ((ix2 y0 y1 : S2048x512.Idx) 0).val = y0.val := rfl
  have r1 : ((ix2 y0 y1 : S2048x512.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 8 = 8 - 1 := (flush0_2 t).mp hf
  have ht := t_lt t
  blk_simp
  have e : ((View.whole main_v18).slice (win0_2.rect t)).emb y = ix2 (⟨(y 0).val, by idx_bounds; omega⟩ : Fin 2048) (⟨t.val / 8 * 512 + (y 1).val, by idx_bounds; omega⟩ : Fin 16896) := by
    funext a; fin_cases a <;> apply Fin.ext <;> blk_simp [idx t] <;> rfl
  rw [after0_2, out_eq m c t (by omega) hl, Pipeline.eq_sum_fin_of_reset_step_apply_of_flush (fun n h => (outsAt0 m c n h).2) 8 (fun _ => 0) (TP m c)
    (fun t h j => step_A m c t h j) (fun t h j => step m c t h j) t hl _, zero_add, e]
  exact sum_at m t hl c (y 0) (y 1)
end Cert.Kernel5Ideal.Value

namespace Cert.Proof
open Cert.Cols
/-- The reference's weight gradient with its columns of zeros. -/
theorem ref5 (a : FVec Ideal Cert.Kernel5Ideal.S8192x2048 .f32) (b : FVec Ideal Cert.Kernel5Ideal.S8192x16408 .f32) :
    WIDEW (transpose Cert.Reference5Ideal.S2048x16408 [1, 0] (Host.dotGeneral Cert.Reference5Ideal.dot_S8192x16408_S8192x2048_S16408x2048_0_0_1_1_n_n none b a) Cert.Reference5Ideal.Gen.transposes_S16408x2048_S2048x16408_1_0) = Cert.Kernel5Ideal.Value.PROJ a b := by
  funext j
  idx_vars j
  rw [WIDEW_at]
  unfold Cert.Kernel5Ideal.Value.PROJ
  refine congrFun (congrArg wide ?_) _
  funext x
  pointwise
  exact Finset.sum_congr (M := EReal) rfl fun d _ => mul_comm _ _

theorem proj5 : Cert.algebraic_Kernel5Ideal_Reference5Ideal := by
  intro m ρ m' ρ' hpre hag
  refine ⟨fun c => Cert.Kernel5Ideal.Value.PROJ (Cert.Kernel5Ideal.Value.A0 m c) (Cert.Kernel5Ideal.Value.A1 m c), (θ_run Cert.Kernel5Ideal.defs _ _).mono (fun r h c => ?_) (Cert.Kernel5Ideal.Value.run_blocks m ρ), (θ_run Cert.Reference5Ideal.defs _ _).mono (fun r h c => ?_) (Cert.Reference5Ideal.Value.run m' ρ')⟩
  · exact ⟨(h c).1.trans (Cert.Kernel5Ideal.Value.final_out m c), (h c).2⟩
  · obtain ⟨h, h0, h1⟩ := h c
    refine ⟨h.trans ?_, h0, h1⟩
    obtain ⟨g0, g1⟩ := hag c
    rw [g0, g1]
    exact ref5 _ _
end Cert.Proof
end
-- ==== Proof.ProjDx.lean ====
/-
  The input gradient of the combined input projection: the array the kernel leaves is the product.
-/
module
public import proofs.«01_k».proof.Proof.Columns
public import proofs.«01_k».proof.Proof.Gen.Kernel6Ideal.Value
public import proofs.«01_k».proof.Proof.Gen.Reference6Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel6Ideal.Value
open Cert.Kernel6Ideal Cert.Kernel6Ideal.Gen Cert.Cols
variable (m : (ℓ : Loc nD τ sig) → Buf (Elt Ideal) ℓ)

abbrev A0 (c : Dev nD) : FVec Ideal S2048x16408 .f32 := m ((c.tc : Thread nD τ).loc main_arg0)
abbrev A1 (c : Dev nD) : FVec Ideal S8192x16408 .f32 := m ((c.tc : Thread nD τ).loc main_arg1)
abbrev Z : FVec Ideal S_ .bf16 := sitofp .bf16 (constantI S_ 32 0#32)
abbrev ZF : FVec Ideal S_ .f32 := sitofp .f32 (constantI S_ 32 0#32)
theorem Z_at (i : S_.Idx) : Z i = 0 := by
  show ((((0#32 : BitVec 32).toInt : ℤ) : ℝ) : EReal) = 0
  simp
theorem ZF_at (i : S_.Idx) : ZF i = 0 := by
  show ((((0#32 : BitVec 32).toInt : ℤ) : ℝ) : EReal) = 0
  simp
set_option maxHeartbeats 8000000 in
theorem V_v16 (c : Dev nD) : (show FVec Ideal S8192x16896 .bf16 from V m c main_v16) = PADD ZF (A1 m c) := by
  show StableHlo.after (List.flatten [hostOps0, hostOps0_1, hostOps0_2, hostOps0_3, hostOps0_4]) (fun b => m (c, b)) main_v16 = _
  simp only [List.flatten_cons, List.flatten_nil, List.append_nil]
  unfold hostOps0 hostOps0_1 hostOps0_2 hostOps0_3 hostOps0_4
  after_results_simp
  rfl
set_option maxHeartbeats 8000000 in
theorem V_v33 (c : Dev nD) : (show FVec Ideal S2048x16896 .bf16 from V m c main_v33) = PADW Z (A0 m c) := by
  show StableHlo.after (List.flatten [hostOps0, hostOps0_1, hostOps0_2, hostOps0_3, hostOps0_4]) (fun b => m (c, b)) main_v33 = _
  simp only [List.flatten_cons, List.flatten_nil, List.append_nil]
  unfold hostOps0 hostOps0_1 hostOps0_2 hostOps0_3 hostOps0_4
  after_results_simp
  rfl

theorem idx : ∀ t : Fin cfg0.N, win0_0.index t = ![t.val / 22, t.val % 11] ∧ win0_1.index t = ![t.val / 11 % 2, t.val % 11] ∧ win0_2.index t = ![t.val / 22, t.val / 11 % 2] :=
  (by decide +kernel : ∀ t : Fin grid0.N, _)
theorem t_lt (t : Fin cfg0.N) : t.val < 176 := lt_of_lt_of_eq t.isLt (by decide +kernel)
abbrev X0 (c : Dev nD) : FVec Ideal S8192x16896 .f32 := V m c (Pipeline.arrRef spec0 0)
abbrev X1 (c : Dev nD) : FVec Ideal S2048x16896 .f32 := V m c (Pipeline.arrRef spec0 1)
theorem blk0 (c : Dev nD) (t : Fin cfg0.N) (z : Buf (Elt Ideal) ((c.tc : Thread nD τ).loc (Pipeline.arrRef spec0 0))) (i : Fin 1024) (x : Fin 1536) :
    (View.read (Elt Ideal) ((cfg0.win 0).blk t).view z : FVec Ideal S1024x1536 .bf16) (ix2 i x)
      = (z : FVec Ideal S8192x16896 .bf16) (ix2 ⟨t.val / 22 * 1024 + i.val, by have := t_lt t; omega⟩ ⟨t.val % 11 * 1536 + x.val, by have := t_lt t; omega⟩) := by
  have := t_lt t
  blk_point [idx t]
theorem B0 (c : Dev nD) (t : Fin cfg0.N) (i : Fin 1024) (x : Fin 1536) : (iblk m c 0 t : FVec Ideal S1024x1536 .bf16) (ix2 i x)
    = X0 m c (ix2 ⟨t.val / 22 * 1024 + i.val, by have := t_lt t; omega⟩ ⟨t.val % 11 * 1536 + x.val, by have := t_lt t; omega⟩) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 1536) :
    (View.read (Elt Ideal) ((cfg0.win 1).blk t).view z : FVec Ideal S1024x1536 .bf16) (ix2 i x)
      = (z : FVec Ideal S2048x16896 .bf16) (ix2 ⟨t.val / 11 % 2 * 1024 + i.val, by have := t_lt t; omega⟩ ⟨t.val % 11 * 1536 + x.val, by have := t_lt t; omega⟩) := by
  have := t_lt t
  blk_point [idx t]
theorem B1 (c : Dev nD) (t : Fin cfg0.N) (i : Fin 1024) (x : Fin 1536) : (iblk m c 1 t : FVec Ideal S1024x1536 .bf16) (ix2 i x)
    = X1 m c (ix2 ⟨t.val / 11 % 2 * 1024 + i.val, by have := t_lt t; omega⟩ ⟨t.val % 11 * 1536 + x.val, by have := t_lt t; omega⟩) :=
  blk1 c t (V m c (Pipeline.arrRef spec0 1)) i x
theorem pay_at (a : Vec Ideal S1024x1536 .bf16) (b : Vec Ideal S1024x1536 .bf16) (i : Fin 1024) (x : Fin 1024) :
    k0_pay1 (F := Ideal) a b (ix2 i x) = ∑ d : Fin 1536, a (ix2 i d) * b (ix2 x d) := by
  pointwise [k0_pay1]
theorem pay2_eq (a : Vec Ideal S1024x1536 .bf16) (b : Vec Ideal S1024x1536 .bf16) (i : Fin 1024) (x : Fin 1024) :
    k0_pay2 (F := Ideal) a b (ix2 i x) = k0_pay1 (F := Ideal) a b (ix2 i x) := by
  unfold k0_pay2
  generalize k0_pay1 (F := Ideal) a b = p
  pointwise
theorem pay3_eq (a : Vec Ideal S1024x1536 .bf16) (b : Vec Ideal S1024x1536 .bf16) (v : Vec Ideal S1024x1024 .f32) (i : Fin 1024) (x : Fin 1024) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S1024x1024.Idx) : EReal :=
  ∑ d : Fin 1536, X0 m c (ix2 ⟨t.val / 22 * 1024 + (j 0).val, by have := t_lt t; idx_bounds; omega⟩ ⟨t.val % 11 * 1536 + d.val, by have := t_lt t; omega⟩) * X1 m c (ix2 ⟨t.val / 11 % 2 * 1024 + (j 1).val, by have := t_lt t; idx_bounds; omega⟩ ⟨t.val % 11 * 1536 + d.val, by have := t_lt t; omega⟩)
theorem pay_blk (c : Dev nD) (t : Fin cfg0.N) (i : Fin 1024) (x : Fin 1024) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 11 = 0) (j : S1024x1024.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 11 = 0) (h1 : ¬t.val % 11 = 10) (j : S1024x1024.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 11 = 0) (h1 : t.val % 11 = 10) (j : S1024x1024.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 11 = 0) (j : S1024x1024.Idx) :
    (outsAt0 m c t.val t.isLt).2 j = (outsAt0 m c (t.val - 1) (Nat.lt_of_le_of_lt (Nat.sub_le _ _) t.isLt)).2 j + TP m c t j := by
  by_cases h1 : t.val % 11 = 10
  · exact step_C m c t h0 h1 j
  · exact step_B m c t h0 h1 j
theorem out_eq (c : Dev nD) (t : Fin cfg0.N) (h0 : ¬t.val % 11 = 0) (h1 : t.val % 11 = 10) (j : S1024x1024.Idx) :
    (outsAt0 m c t.val t.isLt).1 j = (outsAt0 m c t.val t.isLt).2 j := by
  rw [outsAt0_C m c t h0 (by omega) h1]; frame_out

/-- The product. -/
def PROJ (a : FVec Ideal S2048x16408 .f32) (b : FVec Ideal S8192x16408 .f32) : FVec Ideal S8192x2048 .f32 :=
  fun j => ∑ d : Fin 16408, b (ix2 (⟨(j 0).val, (j 0).isLt⟩ : Fin 8192) d) * a (ix2 (⟨(j 1).val, (j 1).isLt⟩ : Fin 2048) d)
theorem prod_at (c : Dev nD) (i : Fin 8192) (x : Fin 2048) : ∑ d : Fin 16896, X0 m c (ix2 i d) * X1 m c (ix2 x d) = PROJ (A0 m c) (A1 m c) (ix2 i x) := by
  rw [show X0 m c = PADD ZF (A1 m c) from V_v16 m c, show X1 m c = PADW Z (A0 m c) from V_v33 m c]
  generalize A0 m c = a0
  generalize A1 m c = a1
  refine (Finset.sum_congr rfl fun d _ => congrArg₂ (· * ·) (PADD_at ZF ZF_at a1 i d) (PADW_at Z Z_at a0 x d)).trans ?_
  exact wide_dot (fun d => a1 (ix2 i d)) (fun d => a0 (ix2 x d))
theorem sum_at (t : Fin cfg0.N) (hl : t.val % 11 = 11 - 1) (c : Dev nD) (y0 : Fin 1024) (y1 : Fin 1024) :
    ∑ s : Fin 11, TP m c ⟨11 * (t.val / 11) + s.val, Pipeline.run_point_lt_of_flush t hl s⟩ (ix2 y0 y1)
      = PROJ (A0 m c) (A1 m c) (ix2 ⟨t.val / 22 * 1024 + y0.val, by have := t_lt t; omega⟩ ⟨t.val / 11 % 2 * 1024 + y1.val, by have := t_lt t; omega⟩) := by
  have ht := t_lt t
  have r0 : ((ix2 y0 y1 : S1024x1024.Idx) 0).val = y0.val := rfl
  have r1 : ((ix2 y0 y1 : S1024x1024.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 11 = 11 - 1 := (flush0_2 t).mp hf
  have ht := t_lt t
  blk_simp
  have e : ((View.whole main_v34).slice (win0_2.rect t)).emb y = ix2 (⟨t.val / 22 * 1024 + (y 0).val, by idx_bounds; omega⟩ : Fin 8192) (⟨t.val / 11 % 2 * 1024 + (y 1).val, by idx_bounds; omega⟩ : Fin 2048) := by
    funext a; fin_cases a <;> apply Fin.ext <;> blk_simp [idx t] <;> rfl
  rw [after0_2, out_eq m c t (by omega) hl, Pipeline.eq_sum_fin_of_reset_step_apply_of_flush (fun n h => (outsAt0 m c n h).2) 11 (fun _ => 0) (TP m c)
    (fun t h j => step_A m c t h j) (fun t h j => step m c t h j) t hl _, zero_add, e]
  exact sum_at m t hl c (y 0) (y 1)
end Cert.Kernel6Ideal.Value

namespace Cert.Proof
open Cert.Cols
set_option maxRecDepth 65536 in
/-- The reference's input gradient. -/
theorem ref6 (a : FVec Ideal Cert.Kernel6Ideal.S2048x16408 .f32) (b : FVec Ideal Cert.Kernel6Ideal.S8192x16408 .f32) :
    Host.dotGeneral Cert.Reference6Ideal.dot_S8192x16408_S2048x16408_S8192x2048_1_1_0_0_n_n none b a = Cert.Kernel6Ideal.Value.PROJ a b := by
  funext j
  idx_vars j
  unfold Cert.Kernel6Ideal.Value.PROJ
  pointwise

theorem proj6 : Cert.algebraic_Kernel6Ideal_Reference6Ideal := by
  intro m ρ m' ρ' hpre hag
  refine ⟨fun c => Cert.Kernel6Ideal.Value.PROJ (Cert.Kernel6Ideal.Value.A0 m c) (Cert.Kernel6Ideal.Value.A1 m c), (θ_run Cert.Kernel6Ideal.defs _ _).mono (fun r h c => ?_) (Cert.Kernel6Ideal.Value.run_blocks m ρ), (θ_run Cert.Reference6Ideal.defs _ _).mono (fun r h c => ?_) (Cert.Reference6Ideal.Value.run m' ρ')⟩
  · exact ⟨(h c).1.trans (Cert.Kernel6Ideal.Value.final_out m c), (h c).2⟩
  · obtain ⟨h, h0, h1⟩ := h c
    refine ⟨h.trans ?_, h0, h1⟩
    obtain ⟨g0, g1⟩ := hag c
    rw [g0, g1]
    exact ref6 _ _
end Cert.Proof
end
-- ==== Proof.OutFwd.lean ====
/-
  The output projection's forward product.
-/
module
public import Idealize.ShloMosaic.Lib.Pipeline.ValueKit
public import proofs.«01_k».proof.Proof.Gen.Kernel7Ideal.Value
public import proofs.«01_k».proof.Proof.Gen.Reference7Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel7Ideal.Value
open Cert.Kernel7Ideal Cert.Kernel7Ideal.Gen
variable (m : (ℓ : Loc nD τ sig) → Buf (Elt Ideal) ℓ)

abbrev A0 (c : Dev nD) : FVec Ideal S8192x2048 .f32 := m ((c.tc : Thread nD τ).loc main_arg0)
abbrev A1 (c : Dev nD) : FVec Ideal S2048x2048 .f32 := m ((c.tc : Thread nD τ).loc main_arg1)
set_option maxHeartbeats 8000000 in
theorem V_v0 (c : Dev nD) : (show FVec Ideal S2048x2048 .bf16 from V m c main_v0) = A1 m c := by
  show StableHlo.after hostOps0 (fun b => m (c, b)) main_v0 = _
  unfold hostOps0
  after_results_simp
  rfl
set_option maxHeartbeats 8000000 in
theorem V_arg0 (c : Dev nD) : (show FVec Ideal S8192x2048 .f32 from V m c main_arg0) = A0 m c := by
  show StableHlo.after hostOps0 (fun b => m (c, b)) main_arg0 = _
  unfold hostOps0
  after_results_simp

theorem idx : ∀ t : Fin cfg0.N, win0_0.index t = ![t.val / 4, 0] ∧ win0_1.index t = ![0, t.val % 4] ∧ win0_2.index t = ![t.val / 4, t.val % 4] :=
  (by decide +kernel : ∀ t : Fin grid0.N, _)
theorem t_lt (t : Fin cfg0.N) : t.val < 32 := lt_of_lt_of_eq t.isLt (by decide +kernel)
abbrev X0 (c : Dev nD) : FVec Ideal S8192x2048 .f32 := V m c (Pipeline.arrRef spec0 0)
abbrev X1 (c : Dev nD) : FVec Ideal S2048x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val / 4 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val / 4 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 2048) (x : Fin 512) :
    (View.read (Elt Ideal) ((cfg0.win 1).blk t).view z : FVec Ideal S2048x512 .bf16) (ix2 i x)
      = (z : FVec Ideal S2048x2048 .bf16) (ix2 i ⟨t.val % 4 * 512 + x.val, by have := t_lt t; omega⟩) := by
  have := t_lt t
  blk_point [idx t]
theorem B1 (c : Dev nD) (t : Fin cfg0.N) (i : Fin 2048) (x : Fin 512) : (iblk m c 1 t : FVec Ideal S2048x512 .bf16) (ix2 i x)
    = X1 m c (ix2 i ⟨t.val % 4 * 512 + x.val, by have := t_lt t; omega⟩) :=
  blk1 c t (V m c (Pipeline.arrRef spec0 1)) i x
theorem pay_at (a : Vec Ideal S1024x2048 .f32) (b : Vec Ideal S2048x512 .bf16) (i : Fin 1024) (x : Fin 512) :
    k0_pay1 (F := Ideal) a b (ix2 i x) = ∑ d : Fin 2048, a (ix2 i d) * b (ix2 d x) := by
  pointwise [k0_pay1]

/-- The product. -/
def PROJ (a : FVec Ideal S8192x2048 .f32) (b : FVec Ideal S2048x2048 .f32) : FVec Ideal S8192x2048 .f32 :=
  fun j => ∑ d : Fin 2048, a (ix2 (⟨(j 0).val, (j 0).isLt⟩ : Fin 8192) d) * b (ix2 d (⟨(j 1).val, (j 1).isLt⟩ : Fin 2048))
theorem prod_at (c : Dev nD) (i : Fin 8192) (x : Fin 2048) : ∑ d : Fin 2048, X0 m c (ix2 i d) * X1 m c (ix2 d x) = PROJ (A0 m c) (A1 m c) (ix2 i x) := by
  rw [show X0 m c = A0 m c from V_arg0 m c, show X1 m c = A1 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 4 * 1024 + (y 0).val, by idx_bounds; omega⟩ : Fin 8192) (⟨t.val % 4 * 512 + (y 1).val, by idx_bounds; omega⟩ : Fin 2048) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel7Ideal.Value

namespace Cert.Proof
open Idealize.ShloMosaic
theorem ref7 (a : FVec Ideal Cert.Kernel7Ideal.S8192x2048 .f32) (b : FVec Ideal Cert.Kernel7Ideal.S2048x2048 .f32) :
    Host.dotGeneral Cert.Reference7Ideal.dot_S8192x2048_S2048x2048_S8192x2048_1_0_0_1_n_n none a b = Cert.Kernel7Ideal.Value.PROJ a b := by
  funext j
  idx_vars j
  unfold Cert.Kernel7Ideal.Value.PROJ
  pointwise

theorem proj7 : Cert.algebraic_Kernel7Ideal_Reference7Ideal := by
  intro m ρ m' ρ' hpre hag
  refine ⟨fun c => Cert.Kernel7Ideal.Value.PROJ (Cert.Kernel7Ideal.Value.A0 m c) (Cert.Kernel7Ideal.Value.A1 m c), (θ_run Cert.Kernel7Ideal.defs _ _).mono (fun r h c => ?_) (Cert.Kernel7Ideal.Value.run_blocks m ρ), (θ_run Cert.Reference7Ideal.defs _ _).mono (fun r h c => ?_) (Cert.Reference7Ideal.Value.run m' ρ')⟩
  · exact ⟨(h c).1.trans (Cert.Kernel7Ideal.Value.final_out m c), (h c).2⟩
  · obtain ⟨h, h0, h1⟩ := h c
    refine ⟨h.trans ?_, h0, h1⟩
    obtain ⟨g0, g1⟩ := hag c
    rw [g0, g1]
    exact ref7 _ _
end Cert.Proof
end
-- ==== Proof.OutDa.lean ====
/-
  The output projection's input gradient.
-/
module
public import Idealize.ShloMosaic.Lib.Pipeline.ValueKit
public import proofs.«01_k».proof.Proof.Gen.Kernel8Ideal.Value
public import proofs.«01_k».proof.Proof.Gen.Reference8Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel8Ideal.Value
open Cert.Kernel8Ideal Cert.Kernel8Ideal.Gen
variable (m : (ℓ : Loc nD τ sig) → Buf (Elt Ideal) ℓ)

abbrev A0 (c : Dev nD) : FVec Ideal S2048x2048 .f32 := m ((c.tc : Thread nD τ).loc main_arg0)
abbrev A1 (c : Dev nD) : FVec Ideal S8192x2048 .f32 := m ((c.tc : Thread nD τ).loc main_arg1)
set_option maxHeartbeats 8000000 in
theorem V_v0 (c : Dev nD) : (show FVec Ideal S2048x2048 .bf16 from V m c main_v0) = A0 m c := by
  show StableHlo.after hostOps0 (fun b => m (c, b)) main_v0 = _
  unfold hostOps0
  after_results_simp
  rfl
set_option maxHeartbeats 8000000 in
theorem V_arg1 (c : Dev nD) : (show FVec Ideal S8192x2048 .f32 from V m c main_arg1) = A1 m c := by
  show StableHlo.after hostOps0 (fun b => m (c, b)) main_arg1 = _
  unfold hostOps0
  after_results_simp

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)
theorem t_lt (t : Fin cfg0.N) : t.val < 32 := lt_of_lt_of_eq t.isLt (by decide +kernel)
abbrev X0 (c : Dev nD) : FVec Ideal S8192x2048 .f32 := V m c (Pipeline.arrRef spec0 0)
abbrev X1 (c : Dev nD) : FVec Ideal S2048x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val / 4 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val / 4 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 512) (x : Fin 2048) :
    (View.read (Elt Ideal) ((cfg0.win 1).blk t).view z : FVec Ideal S512x2048 .bf16) (ix2 i x)
      = (z : FVec Ideal S2048x2048 .bf16) (ix2 ⟨t.val % 4 * 512 + i.val, by have := t_lt t; omega⟩ x) := by
  have := t_lt t
  blk_point [idx t]
theorem B1 (c : Dev nD) (t : Fin cfg0.N) (i : Fin 512) (x : Fin 2048) : (iblk m c 1 t : FVec Ideal S512x2048 .bf16) (ix2 i x)
    = X1 m c (ix2 ⟨t.val % 4 * 512 + i.val, by have := t_lt t; omega⟩ x) :=
  blk1 c t (V m c (Pipeline.arrRef spec0 1)) i x
theorem pay_at (a : Vec Ideal S1024x2048 .f32) (b : Vec Ideal S512x2048 .bf16) (i : Fin 1024) (x : Fin 512) :
    k0_pay1 (F := Ideal) a b (ix2 i x) = ∑ d : Fin 2048, a (ix2 i d) * b (ix2 x d) := by
  pointwise [k0_pay1]

/-- The product. -/
def PROJ (a : FVec Ideal S2048x2048 .f32) (b : FVec Ideal S8192x2048 .f32) : FVec Ideal S8192x2048 .f32 :=
  fun j => ∑ d : Fin 2048, b (ix2 (⟨(j 0).val, (j 0).isLt⟩ : Fin 8192) d) * a (ix2 (⟨(j 1).val, (j 1).isLt⟩ : Fin 2048) d)
theorem prod_at (c : Dev nD) (i : Fin 8192) (x : Fin 2048) : ∑ d : Fin 2048, X0 m c (ix2 i d) * X1 m c (ix2 x d) = PROJ (A0 m c) (A1 m c) (ix2 i x) := by
  rw [show X0 m c = A1 m c from V_arg1 m c, show X1 m c = A0 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 4 * 1024 + (y 0).val, by idx_bounds; omega⟩ : Fin 8192) (⟨t.val % 4 * 512 + (y 1).val, by idx_bounds; omega⟩ : Fin 2048) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel8Ideal.Value

namespace Cert.Proof
open Idealize.ShloMosaic
theorem ref8 (a : FVec Ideal Cert.Kernel8Ideal.S2048x2048 .f32) (b : FVec Ideal Cert.Kernel8Ideal.S8192x2048 .f32) :
    Host.dotGeneral Cert.Reference8Ideal.dot_S8192x2048_S2048x2048_S8192x2048_1_1_0_0_n_n none b a = Cert.Kernel8Ideal.Value.PROJ a b := by
  funext j
  idx_vars j
  unfold Cert.Kernel8Ideal.Value.PROJ
  pointwise

theorem proj8 : Cert.algebraic_Kernel8Ideal_Reference8Ideal := by
  intro m ρ m' ρ' hpre hag
  refine ⟨fun c => Cert.Kernel8Ideal.Value.PROJ (Cert.Kernel8Ideal.Value.A0 m c) (Cert.Kernel8Ideal.Value.A1 m c), (θ_run Cert.Kernel8Ideal.defs _ _).mono (fun r h c => ?_) (Cert.Kernel8Ideal.Value.run_blocks m ρ), (θ_run Cert.Reference8Ideal.defs _ _).mono (fun r h c => ?_) (Cert.Reference8Ideal.Value.run m' ρ')⟩
  · exact ⟨(h c).1.trans (Cert.Kernel8Ideal.Value.final_out m c), (h c).2⟩
  · obtain ⟨h, h0, h1⟩ := h c
    refine ⟨h.trans ?_, h0, h1⟩
    obtain ⟨g0, g1⟩ := hag c
    rw [g0, g1]
    exact ref8 _ _
end Cert.Proof
end
-- ==== Proof.OutDb.lean ====
/-
  The output projection's weight gradient.
-/
module
public import Idealize.ShloMosaic.Lib.Pipeline.ValueKit
public import proofs.«01_k».proof.Proof.Gen.Kernel9Ideal.Value
public import proofs.«01_k».proof.Proof.Gen.Reference9Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel9Ideal.Value
open Cert.Kernel9Ideal Cert.Kernel9Ideal.Gen
variable (m : (ℓ : Loc nD τ sig) → Buf (Elt Ideal) ℓ)

abbrev A0 (c : Dev nD) : FVec Ideal S8192x2048 .f32 := m ((c.tc : Thread nD τ).loc main_arg0)
abbrev A1 (c : Dev nD) : FVec Ideal S8192x2048 .f32 := m ((c.tc : Thread nD τ).loc main_arg1)
theorem V_arg0 (c : Dev nD) : V m c main_arg0 = A0 m c := rfl
theorem V_arg1 (c : Dev nD) : V m c main_arg1 = A1 m c := rfl

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem t_lt (t : Fin cfg0.N) : t.val < 32 := lt_of_lt_of_eq t.isLt (by decide +kernel)
abbrev X0 (c : Dev nD) : FVec Ideal S8192x2048 .f32 := V m c (Pipeline.arrRef spec0 0)
abbrev X1 (c : Dev nD) : FVec Ideal S8192x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val % 8 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val % 8 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 512) :
    (View.read (Elt Ideal) ((cfg0.win 1).blk t).view z : FVec Ideal S1024x512 .f32) (ix2 i x)
      = (z : FVec Ideal S8192x2048 .f32) (ix2 ⟨t.val % 8 * 1024 + i.val, by have := t_lt t; omega⟩ ⟨t.val / 8 * 512 + x.val, by have := t_lt t; omega⟩) := by
  have := t_lt t
  blk_point [idx t]
theorem B1 (c : Dev nD) (t : Fin cfg0.N) (i : Fin 1024) (x : Fin 512) : (iblk m c 1 t : FVec Ideal S1024x512 .f32) (ix2 i x)
    = X1 m c (ix2 ⟨t.val % 8 * 1024 + i.val, by have := t_lt t; omega⟩ ⟨t.val / 8 * 512 + x.val, by have := t_lt t; omega⟩) :=
  blk1 c t (V m c (Pipeline.arrRef spec0 1)) i x
theorem pay_at (a : Vec Ideal S1024x2048 .f32) (b : Vec Ideal S1024x512 .f32) (i : Fin 2048) (x : Fin 512) :
    k0_pay1 (F := Ideal) a b (ix2 i x) = ∑ d : Fin 1024, a (ix2 d i) * b (ix2 d x) := by
  pointwise [k0_pay1]
theorem pay2_eq (a : Vec Ideal S1024x2048 .f32) (b : Vec Ideal S1024x512 .f32) (i : Fin 2048) (x : Fin 512) :
    k0_pay2 (F := Ideal) a b (ix2 i x) = k0_pay1 (F := Ideal) a b (ix2 i x) := by
  unfold k0_pay2
  generalize k0_pay1 (F := Ideal) a b = p
  pointwise
theorem pay3_eq (a : Vec Ideal S1024x2048 .f32) (b : Vec Ideal S1024x512 .f32) (v : Vec Ideal S2048x512 .f32) (i : Fin 2048) (x : Fin 512) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S2048x512.Idx) : EReal :=
  ∑ d : Fin 1024, X0 m c (ix2 ⟨t.val % 8 * 1024 + d.val, by have := t_lt t; omega⟩ (⟨(j 0).val, (j 0).isLt⟩ : Fin 2048)) * X1 m c (ix2 ⟨t.val % 8 * 1024 + d.val, by have := t_lt t; omega⟩ ⟨t.val / 8 * 512 + (j 1).val, by have := t_lt t; idx_bounds; omega⟩)
theorem pay_blk (c : Dev nD) (t : Fin cfg0.N) (i : Fin 2048) (x : Fin 512) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 8 = 0) (j : S2048x512.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 8 = 0) (h1 : ¬t.val % 8 = 7) (j : S2048x512.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 8 = 0) (h1 : t.val % 8 = 7) (j : S2048x512.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 8 = 0) (j : S2048x512.Idx) :
    (outsAt0 m c t.val t.isLt).2 j = (outsAt0 m c (t.val - 1) (Nat.lt_of_le_of_lt (Nat.sub_le _ _) t.isLt)).2 j + TP m c t j := by
  by_cases h1 : t.val % 8 = 7
  · exact step_C m c t h0 h1 j
  · exact step_B m c t h0 h1 j
theorem out_eq (c : Dev nD) (t : Fin cfg0.N) (h0 : ¬t.val % 8 = 0) (h1 : t.val % 8 = 7) (j : S2048x512.Idx) :
    (outsAt0 m c t.val t.isLt).1 j = (outsAt0 m c t.val t.isLt).2 j := by
  rw [outsAt0_C m c t h0 (by omega) h1]; frame_out

/-- The product. -/
def PROJ (a : FVec Ideal S8192x2048 .f32) (b : FVec Ideal S8192x2048 .f32) : FVec Ideal S2048x2048 .f32 :=
  fun j => ∑ d : Fin 8192, a (ix2 d (⟨(j 0).val, (j 0).isLt⟩ : Fin 2048)) * b (ix2 d (⟨(j 1).val, (j 1).isLt⟩ : Fin 2048))
theorem prod_at (c : Dev nD) (i : Fin 2048) (x : Fin 2048) : ∑ d : Fin 8192, X0 m c (ix2 d i) * X1 m c (ix2 d x) = PROJ (A0 m c) (A1 m c) (ix2 i x) := by
  rw [show X0 m c = A0 m c from V_arg0 m c, show X1 m c = A1 m c from V_arg1 m c]
  rfl
theorem sum_at (t : Fin cfg0.N) (hl : t.val % 8 = 8 - 1) (c : Dev nD) (y0 : Fin 2048) (y1 : Fin 512) :
    ∑ s : Fin 8, TP m c ⟨8 * (t.val / 8) + s.val, Pipeline.run_point_lt_of_flush t hl s⟩ (ix2 y0 y1)
      = PROJ (A0 m c) (A1 m c) (ix2 y0 ⟨t.val / 8 * 512 + y1.val, by have := t_lt t; omega⟩) := by
  have ht := t_lt t
  have r0 : ((ix2 y0 y1 : S2048x512.Idx) 0).val = y0.val := rfl
  have r1 : ((ix2 y0 y1 : S2048x512.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 8 = 8 - 1 := (flush0_2 t).mp hf
  have ht := t_lt t
  blk_simp
  have e : ((View.whole main_v0).slice (win0_2.rect t)).emb y = ix2 (⟨(y 0).val, by idx_bounds; omega⟩ : Fin 2048) (⟨t.val / 8 * 512 + (y 1).val, by idx_bounds; omega⟩ : Fin 2048) := by
    funext a; fin_cases a <;> apply Fin.ext <;> blk_simp [idx t] <;> rfl
  rw [after0_2, out_eq m c t (by omega) hl, Pipeline.eq_sum_fin_of_reset_step_apply_of_flush (fun n h => (outsAt0 m c n h).2) 8 (fun _ => 0) (TP m c)
    (fun t h j => step_A m c t h j) (fun t h j => step m c t h j) t hl _, zero_add, e]
  exact sum_at m t hl c (y 0) (y 1)
end Cert.Kernel9Ideal.Value

namespace Cert.Proof
open Idealize.ShloMosaic
theorem ref9 (a : FVec Ideal Cert.Kernel9Ideal.S8192x2048 .f32) (b : FVec Ideal Cert.Kernel9Ideal.S8192x2048 .f32) :
    transpose Cert.Reference9Ideal.S2048x2048 [1, 0] (Host.dotGeneral Cert.Reference9Ideal.dot_S8192x2048_S8192x2048_S2048x2048_0_0_1_1_n_n none b a) Cert.Reference9Ideal.Gen.transposes_S2048x2048_S2048x2048_1_0 = Cert.Kernel9Ideal.Value.PROJ a b := by
  funext j
  idx_vars j
  unfold Cert.Kernel9Ideal.Value.PROJ
  pointwise
  exact Finset.sum_congr (M := EReal) rfl fun d _ => mul_comm _ _

theorem proj9 : Cert.algebraic_Kernel9Ideal_Reference9Ideal := by
  intro m ρ m' ρ' hpre hag
  refine ⟨fun c => Cert.Kernel9Ideal.Value.PROJ (Cert.Kernel9Ideal.Value.A0 m c) (Cert.Kernel9Ideal.Value.A1 m c), (θ_run Cert.Kernel9Ideal.defs _ _).mono (fun r h c => ?_) (Cert.Kernel9Ideal.Value.run_blocks m ρ), (θ_run Cert.Reference9Ideal.defs _ _).mono (fun r h c => ?_) (Cert.Reference9Ideal.Value.run m' ρ')⟩
  · exact ⟨(h c).1.trans (Cert.Kernel9Ideal.Value.final_out m c), (h c).2⟩
  · obtain ⟨h, h0, h1⟩ := h c
    refine ⟨h.trans ?_, h0, h1⟩
    obtain ⟨g0, g1⟩ := hag c
    rw [g0, g1]
    exact ref9 _ _
end Cert.Proof
end
-- ==== Proof.SumSmall.lean ====
/-
  The sum of the devices' parts of the small gradients: the kernel adds the eight parts one by one, block of rows by block
  of rows; the reference sums over the device axis.
-/
module
public import Idealize.ShloMosaic.Lib.Pipeline.ValueKit
public import proofs.«01_k».proof.Proof.Gen.Kernel10Ideal.Value
public import proofs.«01_k».proof.Proof.Gen.Reference10Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel10Ideal.Value
open Cert.Kernel10Ideal Cert.Kernel10Ideal.Gen
variable (m : (ℓ : Loc nD τ sig) → Buf (Elt Ideal) ℓ)

abbrev A0 (c : Dev nD) : FVec Ideal S8x6656x128 .f32 := m ((c.tc : Thread nD τ).loc main_arg0)
theorem V_arg0 (c : Dev nD) : (show FVec Ideal S8x6656x128 .f32 from V m c main_arg0) = A0 m c := V_main_arg0 m c

theorem idx : ∀ t : Fin cfg0.N, win0_0.index t = ![0, t.val, 0] ∧ win0_1.index t = ![t.val, 0] :=
  (by decide +kernel : ∀ t : Fin grid0.N, _)
theorem t_lt (t : Fin cfg0.N) : t.val < 13 := lt_of_lt_of_eq t.isLt (by decide +kernel)
abbrev X0 (c : Dev nD) : FVec Ideal S8x6656x128 .f32 := V m c (Pipeline.arrRef spec0 0)
theorem blk0 (c : Dev nD) (t : Fin cfg0.N) (z : Buf (Elt Ideal) ((c.tc : Thread nD τ).loc (Pipeline.arrRef spec0 0))) (k : Fin 8) (i : Fin 512) (x : Fin 128) :
    (View.read (Elt Ideal) ((cfg0.win 0).blk t).view z : FVec Ideal S8x512x128 .f32) (ix3 k i x)
      = (z : FVec Ideal S8x6656x128 .f32) (ix3 k ⟨t.val * 512 + i.val, by have := t_lt t; omega⟩ x) := by
  have := t_lt t
  blk_point [idx t]
theorem B0 (c : Dev nD) (t : Fin cfg0.N) (k : Fin 8) (i : Fin 512) (x : Fin 128) : (iblk m c 0 t : FVec Ideal S8x512x128 .f32) (ix3 k i x)
    = X0 m c (ix3 k ⟨t.val * 512 + i.val, by have := t_lt t; omega⟩ x) :=
  blk0 c t (V m c (Pipeline.arrRef spec0 0)) k i x

/-- The sum over the devices. -/
def SUM (a : FVec Ideal S8x6656x128 .f32) : FVec Ideal S6656x128 .f32 :=
  fun j => ∑ d : Fin 8, a (ix3 d (⟨(j 0).val, (j 0).isLt⟩ : Fin 6656) (⟨(j 1).val, (j 1).isLt⟩ : Fin 128))
/-- What a grid point stores. -/
theorem pay_at (b : Vec Ideal S8x512x128 .f32) (i : Fin 512) (x : Fin 128) :
    k0_pay1 (F := Ideal) (View.ld b r0_0) (View.ld b r0_1) (View.ld b r0_2) (View.ld b r0_3) (View.ld b r0_4) (View.ld b r0_5) (View.ld b r0_6) (View.ld b r0_7) (ix2 i x)
      = ∑ d : Fin 8, b (ix3 d i x) := by
  rw [Fin.sum_univ_eight]
  pointwise [k0_pay1]

theorem final_out (c : Dev nD) : (dats m 0 c).arrAt 1 cfg0.N = SUM (A0 m c) := by
  refine (dats m 0 c).arrAt_eq_of_covers 1 _ (by decide +kernel) fun t hf y => ?_
  have ht := t_lt t
  blk_simp
  rw [after0_1]
  have e : ((View.whole main_v0).slice (win0_1.rect t)).emb y = ix2 (⟨t.val * 512 + (y 0).val, by idx_bounds; omega⟩ : Fin 6656) (⟨(y 1).val, by idx_bounds; omega⟩ : Fin 128) := by
    funext a; fin_cases a <;> apply Fin.ext <;> blk_simp [idx t] <;> rfl
  rw [e]
  unfold out0_1
  frame_out
  idx_vars y
  refine (pay_at _ _ _).trans ?_
  refine Eq.trans (Finset.sum_congr (M := EReal) rfl fun d _ => B0 m c t d _ _) ?_
  rw [show X0 m c = A0 m c from V_arg0 m c]
  rfl
end Cert.Kernel10Ideal.Value

namespace Cert.Proof
open Idealize.ShloMosaic
theorem ref10 (a : FVec Ideal Cert.Kernel10Ideal.S8x6656x128 .f32) :
    Host.reduceAdd a (constant Cert.Reference10Ideal.S_ .f32 0x00000000#32) Cert.Reference10Ideal.Gen.reducesTo_S8x6656x128_S6656x128_d0 Cert.Reference10Ideal.Gen.h_S_ = Cert.Kernel10Ideal.Value.SUM a := by
  funext j
  idx_vars j
  unfold Cert.Kernel10Ideal.Value.SUM
  pointwise

theorem sum10 : Cert.algebraic_Kernel10Ideal_Reference10Ideal := by
  intro m ρ m' ρ' hpre hag
  refine ⟨fun c => Cert.Kernel10Ideal.Value.SUM (Cert.Kernel10Ideal.Value.A0 m c), (θ_run Cert.Kernel10Ideal.defs _ _).mono (fun r h c => ?_) (Cert.Kernel10Ideal.Value.run_blocks m ρ), (θ_run Cert.Reference10Ideal.defs _ _).mono (fun r h c => ?_) (Cert.Reference10Ideal.Value.run m' ρ')⟩
  · exact ⟨(h c).1.trans (Cert.Kernel10Ideal.Value.final_out m c), (h c).2⟩
  · obtain ⟨h, h0⟩ := h c
    refine ⟨h.trans ?_, h0⟩
    rw [hag c]
    exact ref10 _
end Cert.Proof
end
-- ==== Proof.Packing.lean ====
/-
  Arrays laid one after another, padded to a whole number of rows: such a packing commutes with a function applied to every
  element, and padding at the end is the same as laying one more piece there.
-/
module
public import Idealize.ShloMosaic.Lib.Pipeline.ValueKit
@[expose] public section
set_option maxRecDepth 16384
noncomputable section
open Idealize.ShloMosaic
namespace Cert.Packing
variable {α β : Type}

/-- The pieces with a function applied to every element. -/
abbrev mapPieces (f : α → β) (xs : List ((s : Shape) × (s.Idx → α))) : List ((s : Shape) × (s.Idx → β)) :=
  xs.map fun p => ⟨p.1, fun i => f (p.2 i)⟩

theorem catAt_map (f : α → β) (t : Shape) (a : Fin t.rank) (j : t.Idx) :
    ∀ (xs : List ((s : Shape) × (s.Idx → α))) (h : ∀ s ∈ xs.map (·.1), s.FitsOff t a)
      (h' : ∀ s ∈ (mapPieces f xs).map (·.1), s.FitsOff t a) (n : Nat)
      (hn : n < (axisSizes t a xs).sum) (hn' : n < (axisSizes t a (mapPieces f xs)).sum),
      concatenateAt t a j (mapPieces f xs) h' n hn' = f (concatenateAt t a j xs h n hn)
  | [], _, _, _, hn, _ => absurd hn (Nat.not_lt_zero _)
  | [p], h, h', n, hn, hn' => by
      obtain ⟨s, x⟩ := p
      have e := concatenateAt_singleton a j x h n hn
      have e' := concatenateAt_singleton a j (fun i => f (x i)) h' n hn'
      exact e'.trans (congrArg f e.symm)
  | p :: q :: xs, h, h', n, hn, hn' => by
      obtain ⟨s, x⟩ := p
      have e := concatenateAt_cons a j x q xs h n hn
      have e' := concatenateAt_cons a j (fun i => f (x i)) ⟨q.1, fun i => f (q.2 i)⟩ (mapPieces f xs) h' n hn'
      refine e'.trans (Eq.trans ?_ (congrArg f e.symm))
      by_cases hlt : n < s.size (a.cast (h s List.mem_cons_self).rank_eq.symm)
      · rw [dif_pos hlt, dif_pos hlt]
      · rw [dif_neg hlt, dif_neg hlt]
        exact catAt_map f t a j (q :: xs) _ _ _ _ _

/-- Laying pieces one after another commutes with a function applied to every element. -/
theorem cat_map (f : α → β) (t : Shape) (a : Fin t.rank) (xs : List ((s : Shape) × (s.Idx → α)))
    (h : Shape.Concatenates (xs.map (·.1)) t a) (h' : Shape.Concatenates ((mapPieces f xs).map (·.1)) t a) :
    concatenate t a (mapPieces f xs) h' = fun j => f (concatenate t a xs h j) := by
  funext j
  rw [concatenate_apply t a xs h j, concatenate_apply t a (mapPieces f xs) h' j]
  exact catAt_map f t a j xs _ _ _ _ _

theorem pad_map (f : α → β) {s t u : Shape} (lo hi interior : Fin s.rank → Nat) (x : s.Idx → α) (v : u.Idx → α)
    (h : s.Pads lo hi interior t) (hu : 0 < u.numel) :
    pad t lo hi interior (fun i => f (x i)) (fun i => f (v i)) h hu = fun j => f (pad t lo hi interior x v h hu j) := by
  funext j
  rw [pad_apply, pad_apply]
  split_ifs <;> rfl

/-- Three pieces and a padding at the end are four pieces, the last of them constant. -/
theorem pad_three {A B C D M N K L : ℕ} (eM : M = B + C) (eN : N = A + M) (eK : K = B + C + D) (eL : L = N + D) (x : (⟨1, ![A]⟩ : Shape).Idx → α) (y : (⟨1, ![B]⟩ : Shape).Idx → α) (z : (⟨1, ![C]⟩ : Shape).Idx → α)
    {u : Shape} (v : u.Idx → α) (b : α) (hv : ∀ i, v i = b)
    (h1 : Shape.Concatenates [⟨1, ![B]⟩, ⟨1, ![C]⟩] ⟨1, ![M]⟩ 0)
    (h2 : Shape.Concatenates [⟨1, ![A]⟩, ⟨1, ![M]⟩] ⟨1, ![N]⟩ 0)
    (h3 : Shape.Pads ⟨1, ![N]⟩ ![0] ![D] ![0] ⟨1, ![L]⟩) (hu : 0 < u.numel)
    (h4 : Shape.Concatenates [⟨1, ![B]⟩, ⟨1, ![C]⟩, ⟨1, ![D]⟩] ⟨1, ![K]⟩ 0)
    (h5 : Shape.Concatenates [⟨1, ![A]⟩, ⟨1, ![K]⟩] ⟨1, ![L]⟩ 0) :
    pad (⟨1, ![L]⟩ : Shape) ![0] ![D] ![0]
        (concatenate (⟨1, ![N]⟩ : Shape) 0 [⟨⟨1, ![A]⟩, x⟩, ⟨⟨1, ![M]⟩, concatenate (⟨1, ![M]⟩ : Shape) 0 [⟨⟨1, ![B]⟩, y⟩, ⟨⟨1, ![C]⟩, z⟩] h1⟩] h2) v h3 hu
      = concatenate (⟨1, ![L]⟩ : Shape) 0 [⟨⟨1, ![A]⟩, x⟩, ⟨⟨1, ![K]⟩,
          concatenate (⟨1, ![K]⟩ : Shape) 0 [⟨⟨1, ![B]⟩, y⟩, ⟨⟨1, ![C]⟩, z⟩, ⟨⟨1, ![D]⟩, fun _ => b⟩] h4⟩] h5 := by
  funext j
  have hj : (j 0).val < L := (j 0).isLt
  rw [pad_apply, concatenate_pair_apply 0 x _ h5 j]
  by_cases hin : (j 0).val < N
  · rw [dif_pos (fun a => by
      have ea : a = 0 := Subsingleton.elim _ _
      subst ea
      exact ⟨Nat.zero_le _, Nat.mod_one _, by
        show ((j 0).val - 0) / (0 + 1) < N
        omega⟩)]
    rw [concatenate_pair_apply 0 x _ h2]
    have e0 : ((j 0).val - 0) / (0 + 1) = (j 0).val := by omega
    by_cases hx : (j 0).val < A
    · rw [dif_pos (by show ((j 0).val - 0) / (0 + 1) < A; omega), dif_pos (by show (j 0).val < A; omega)]
      refine congrArg x (funext fun a => Fin.ext ?_)
      have ea : a = 0 := Subsingleton.elim _ _
      subst ea
      exact e0
    · rw [dif_neg (by show ¬ ((j 0).val - 0) / (0 + 1) < A; omega), dif_neg (by show ¬ (j 0).val < A; omega)]
      rw [concatenate_pair_apply 0 y z h1, concatenate_apply, concatenateAt_cons]
      by_cases hy : (j 0).val - A < B
      · rw [dif_pos (by show ((j 0).val - 0) / (0 + 1) - A < B; omega), dif_pos (by show (j 0).val - A < B; omega)]
        refine congrArg y (funext fun a => Fin.ext ?_)
        have ea : a = 0 := Subsingleton.elim _ _
        subst ea
        show ((j 0).val - 0) / (0 + 1) - A = (j 0).val - A
        omega
      · rw [dif_neg (by show ¬ ((j 0).val - 0) / (0 + 1) - A < B; omega), dif_neg (by show ¬ (j 0).val - A < B; omega)]
        rw [concatenateAt_cons, dif_pos (by show (j 0).val - A - B < C; omega)]
        refine congrArg z (funext fun a => Fin.ext ?_)
        have ea : a = 0 := Subsingleton.elim _ _
        subst ea
        show ((j 0).val - 0) / (0 + 1) - A - B = (j 0).val - A - B
        omega
  · rw [dif_neg (fun hc => by
      have := (hc 0).2.2
      have h' : ((j 0).val - 0) / (0 + 1) < N := this
      omega), dif_neg (by show ¬ (j 0).val < A; omega), hv]
    rw [concatenate_apply, concatenateAt_cons, dif_neg (by show ¬ (j 0).val - A < B; omega), concatenateAt_cons,
      dif_neg (by show ¬ (j 0).val - A - B < C; omega), concatenateAt_singleton]
end Cert.Packing
end
-- ==== Proof.AdamPack.lean ====
/-
  The optimiser's step on the small weights: what one element becomes, and the packing of the eighteen weights.
-/
module
public import Idealize.ShloMosaic.Lib.Pipeline.ValueKit
public import proofs.«01_k».proof.Proof.Packing
public import proofs.«01_k».proof.Proof.Gen.Kernel11Ideal
public import proofs.«01_k».proof.Proof.Gen.Reference11Ideal
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Adam
open Cert.Kernel11Ideal Cert.Packing
/-- A gradient, its weight and its two running averages. -/
abbrev Quad := EReal × EReal × EReal × EReal
/-- The running average of the gradient. -/
def avg (p : Quad) : EReal :=
  FloatOps.addf (F := Ideal) (φ := .f32) (FloatOps.mulf (F := Ideal) (φ := .f32) (Scalar.ofBits .f32 0x3F666666#32) p.2.2.1)
    (FloatOps.mulf (F := Ideal) (φ := .f32) (Scalar.ofBits .f32 0x3DCCCCCD#32) p.1)
/-- The running average of the gradient's square. -/
def sqr (p : Quad) : EReal :=
  FloatOps.addf (F := Ideal) (φ := .f32) (FloatOps.mulf (F := Ideal) (φ := .f32) (Scalar.ofBits .f32 0x3F7FBE77#32) p.2.2.2)
    (FloatOps.mulf (F := Ideal) (φ := .f32) (Scalar.ofBits .f32 0x3A83126F#32) (FloatOps.mulf (F := Ideal) (φ := .f32) p.1 p.1))
/-- The step the weight takes. -/
def stp (p : Quad) : EReal :=
  FloatOps.mulf (F := Ideal) (φ := .f32) (Scalar.ofBits .f32 0xBA83126F#32)
    (FloatOps.addf (F := Ideal) (φ := .f32)
      (FloatOps.divf (F := Ideal) (φ := .f32)
        (FloatOps.divf (F := Ideal) (φ := .f32) (avg p) (Scalar.ofBits .f32 0x3F26BD02#32))
        (FloatOps.addf (F := Ideal) (φ := .f32)
          (FloatOps.sqrt (F := Ideal) (φ := .f32) (FloatOps.divf (F := Ideal) (φ := .f32) (sqr p) (Scalar.ofBits .f32 0x3C231ACC#32)))
          (Scalar.ofBits .f32 0x322BCC77#32)))
      (FloatOps.mulf (F := Ideal) (φ := .f32) (Scalar.ofBits .f32 0x3C23D70A#32) p.2.1))
/-- A weight's four arrays, flattened, entry by entry. -/
abbrev flat {s t : Shape} (h : s.ShapeCasts t) (g w a b : FVec Ideal s .f32) : t.Idx → Quad := fun i =>
  (shapeCast t g h i, shapeCast t w h i, shapeCast t a h i, shapeCast t b h i)
def nil : Quad := (0, 0, 0, 0)
theorem avg_nil : avg nil = 0 := by
  show (_ : EReal) * 0 + (_ : EReal) * 0 = 0
  rw [mul_zero, mul_zero, add_zero]
theorem sqr_nil : sqr nil = 0 := by
  show (_ : EReal) * 0 + (_ : EReal) * ((0 : EReal) * 0) = 0
  rw [mul_zero, mul_zero, mul_zero, add_zero]
theorem bias_pos : (Scalar.ofBits (F := Ideal) .f32 0x3F26BD02#32 : EReal) ≠ 0 := by
  show Ideal.ofBits .f32 _ ≠ 0
  simp [Ideal.ofBits, Ideal.ieee]
  try norm_num
theorem bias2_pos : (Scalar.ofBits (F := Ideal) .f32 0x3C231ACC#32 : EReal) ≠ 0 := by
  show Ideal.ofBits .f32 _ ≠ 0
  simp [Ideal.ofBits, Ideal.ieee]
  try norm_num
theorem tiny_pos : (Scalar.ofBits (F := Ideal) .f32 0x322BCC77#32 : EReal) ≠ 0 := by
  show Ideal.ofBits .f32 _ ≠ 0
  simp [Ideal.ofBits, Ideal.ieee]
  try norm_num
theorem zero_div' (y : EReal) (h : y ≠ 0) : Ideal.div 0 y = 0 := by
  unfold Ideal.div
  rw [if_neg h, zero_mul]
theorem sqrt_zero' : Ideal.sqrt 0 = 0 := by
  show Ideal.sqrt ((0 : ℝ) : EReal) = 0
  have h : ¬ ((0 : ℝ) < 0) := lt_irrefl _
  show (if (0 : ℝ) < 0 then (⊥ : EReal) else ((Real.sqrt 0 : ℝ) : EReal)) = 0
  rw [if_neg h, Real.sqrt_zero]
  rfl
theorem stp_nil : stp nil = 0 := by
  show (_ : EReal) * (Ideal.div (Ideal.div (avg nil) _) (Ideal.sqrt (Ideal.div (sqr nil) _) + _) + (_ : EReal) * 0) = 0
  rw [avg_nil, sqr_nil, zero_div' _ bias_pos, zero_div' _ bias2_pos, sqrt_zero', zero_add, zero_div' _ tiny_pos, mul_zero, add_zero, mul_zero]

section Pack
variable {α : Type}
/-- Eighteen arrays one after another and a constant at the end. -/
def tail (z : Cert.Reference11Ideal.S20880.Idx → α) (p0 : S4096.Idx → α) (p1 : S12288.Idx → α) (p2 : S12288.Idx → α) (p3 : S192.Idx → α) (p4 : S196608.Idx → α) (p5 : S196608.Idx → α) (p6 : S196608.Idx → α) (p7 : S196608.Idx → α) (p8 : S1536.Idx → α) (p9 : S1536.Idx → α) (p10 : S5760.Idx → α) (p11 : S24.Idx → α) (p12 : S24.Idx → α) (p13 : S256.Idx → α) (p14 : S256.Idx → α) (p15 : S256.Idx → α) (p16 : S4096.Idx → α) (p17 : S2048.Idx → α) : S851968.Idx → α :=
  (concatenate S851968 0 [⟨S824944, (concatenate S824944 0 [⟨S4096, p0⟩, ⟨S12288, p1⟩, ⟨S12288, p2⟩, ⟨S192, p3⟩, ⟨S196608, p4⟩, ⟨S196608, p5⟩, ⟨S196608, p6⟩, ⟨S196608, p7⟩, ⟨S1536, p8⟩, ⟨S1536, p9⟩, ⟨S5760, p10⟩, ⟨S24, p11⟩, ⟨S24, p12⟩, ⟨S256, p13⟩, ⟨S256, p14⟩, ⟨S256, p15⟩] Cert.Kernel11Ideal.Gen.concatenates_S4096_S12288_S12288_S192_S196608_S196608_S196608_S196608_S1536_S1536_S5760_S24_S24_S256_S256_S256_S824944_d0)⟩, ⟨Cert.Reference11Ideal.S27024, (concatenate Cert.Reference11Ideal.S27024 0 [⟨S4096, p16⟩, ⟨S2048, p17⟩, ⟨Cert.Reference11Ideal.S20880, z⟩] Cert.Reference11Ideal.Gen.concatenates_S4096_S2048_S20880_S27024_d0)⟩] Cert.Reference11Ideal.Gen.concatenates_S824944_S27024_S851968_d0)
/-- The same, as rows of 128 elements. -/
def packed (z : Cert.Reference11Ideal.S20880.Idx → α) (p0 : S4096.Idx → α) (p1 : S12288.Idx → α) (p2 : S12288.Idx → α) (p3 : S192.Idx → α) (p4 : S196608.Idx → α) (p5 : S196608.Idx → α) (p6 : S196608.Idx → α) (p7 : S196608.Idx → α) (p8 : S1536.Idx → α) (p9 : S1536.Idx → α) (p10 : S5760.Idx → α) (p11 : S24.Idx → α) (p12 : S24.Idx → α) (p13 : S256.Idx → α) (p14 : S256.Idx → α) (p15 : S256.Idx → α) (p16 : S4096.Idx → α) (p17 : S2048.Idx → α) : S6656x128.Idx → α :=
  shapeCast S6656x128 (tail z p0 p1 p2 p3 p4 p5 p6 p7 p8 p9 p10 p11 p12 p13 p14 p15 p16 p17) Cert.Kernel11Ideal.Gen.shapeCasts_S851968_S6656x128
end Pack

theorem tail_map (f : Quad → EReal) (z : Cert.Reference11Ideal.S20880.Idx → EReal) (hz : z = fun _ => f nil) (p0 : S4096.Idx → Quad) (p1 : S12288.Idx → Quad) (p2 : S12288.Idx → Quad) (p3 : S192.Idx → Quad) (p4 : S196608.Idx → Quad) (p5 : S196608.Idx → Quad) (p6 : S196608.Idx → Quad) (p7 : S196608.Idx → Quad) (p8 : S1536.Idx → Quad) (p9 : S1536.Idx → Quad) (p10 : S5760.Idx → Quad) (p11 : S24.Idx → Quad) (p12 : S24.Idx → Quad) (p13 : S256.Idx → Quad) (p14 : S256.Idx → Quad) (p15 : S256.Idx → Quad) (p16 : S4096.Idx → Quad) (p17 : S2048.Idx → Quad) :
    (concatenate S851968 0 [⟨S824944, (concatenate S824944 0 [⟨S4096, (fun i => f (p0 i))⟩, ⟨S12288, (fun i => f (p1 i))⟩, ⟨S12288, (fun i => f (p2 i))⟩, ⟨S192, (fun i => f (p3 i))⟩, ⟨S196608, (fun i => f (p4 i))⟩, ⟨S196608, (fun i => f (p5 i))⟩, ⟨S196608, (fun i => f (p6 i))⟩, ⟨S196608, (fun i => f (p7 i))⟩, ⟨S1536, (fun i => f (p8 i))⟩, ⟨S1536, (fun i => f (p9 i))⟩, ⟨S5760, (fun i => f (p10 i))⟩, ⟨S24, (fun i => f (p11 i))⟩, ⟨S24, (fun i => f (p12 i))⟩, ⟨S256, (fun i => f (p13 i))⟩, ⟨S256, (fun i => f (p14 i))⟩, ⟨S256, (fun i => f (p15 i))⟩] Cert.Kernel11Ideal.Gen.concatenates_S4096_S12288_S12288_S192_S196608_S196608_S196608_S196608_S1536_S1536_S5760_S24_S24_S256_S256_S256_S824944_d0)⟩, ⟨Cert.Reference11Ideal.S27024, (concatenate Cert.Reference11Ideal.S27024 0 [⟨S4096, (fun i => f (p16 i))⟩, ⟨S2048, (fun i => f (p17 i))⟩, ⟨Cert.Reference11Ideal.S20880, z⟩] Cert.Reference11Ideal.Gen.concatenates_S4096_S2048_S20880_S27024_d0)⟩] Cert.Reference11Ideal.Gen.concatenates_S824944_S27024_S851968_d0) = fun j => f (tail (fun _ => nil) p0 p1 p2 p3 p4 p5 p6 p7 p8 p9 p10 p11 p12 p13 p14 p15 p16 p17 j) := by
  subst hz
  have e16 : (concatenate S824944 0 [⟨S4096, (fun i => f (p0 i))⟩, ⟨S12288, (fun i => f (p1 i))⟩, ⟨S12288, (fun i => f (p2 i))⟩, ⟨S192, (fun i => f (p3 i))⟩, ⟨S196608, (fun i => f (p4 i))⟩, ⟨S196608, (fun i => f (p5 i))⟩, ⟨S196608, (fun i => f (p6 i))⟩, ⟨S196608, (fun i => f (p7 i))⟩, ⟨S1536, (fun i => f (p8 i))⟩, ⟨S1536, (fun i => f (p9 i))⟩, ⟨S5760, (fun i => f (p10 i))⟩, ⟨S24, (fun i => f (p11 i))⟩, ⟨S24, (fun i => f (p12 i))⟩, ⟨S256, (fun i => f (p13 i))⟩, ⟨S256, (fun i => f (p14 i))⟩, ⟨S256, (fun i => f (p15 i))⟩] Cert.Kernel11Ideal.Gen.concatenates_S4096_S12288_S12288_S192_S196608_S196608_S196608_S196608_S1536_S1536_S5760_S24_S24_S256_S256_S256_S824944_d0) = fun j => f ((concatenate S824944 0 [⟨S4096, p0⟩, ⟨S12288, p1⟩, ⟨S12288, p2⟩, ⟨S192, p3⟩, ⟨S196608, p4⟩, ⟨S196608, p5⟩, ⟨S196608, p6⟩, ⟨S196608, p7⟩, ⟨S1536, p8⟩, ⟨S1536, p9⟩, ⟨S5760, p10⟩, ⟨S24, p11⟩, ⟨S24, p12⟩, ⟨S256, p13⟩, ⟨S256, p14⟩, ⟨S256, p15⟩] Cert.Kernel11Ideal.Gen.concatenates_S4096_S12288_S12288_S192_S196608_S196608_S196608_S196608_S1536_S1536_S5760_S24_S24_S256_S256_S256_S824944_d0) j) :=
    cat_map f S824944 0 [⟨S4096, p0⟩, ⟨S12288, p1⟩, ⟨S12288, p2⟩, ⟨S192, p3⟩, ⟨S196608, p4⟩, ⟨S196608, p5⟩, ⟨S196608, p6⟩, ⟨S196608, p7⟩, ⟨S1536, p8⟩, ⟨S1536, p9⟩, ⟨S5760, p10⟩, ⟨S24, p11⟩, ⟨S24, p12⟩, ⟨S256, p13⟩, ⟨S256, p14⟩, ⟨S256, p15⟩] _ _
  have e3 : (concatenate Cert.Reference11Ideal.S27024 0 [⟨S4096, (fun i => f (p16 i))⟩, ⟨S2048, (fun i => f (p17 i))⟩, ⟨Cert.Reference11Ideal.S20880, (fun _ => f nil)⟩] Cert.Reference11Ideal.Gen.concatenates_S4096_S2048_S20880_S27024_d0) = fun j => f ((concatenate Cert.Reference11Ideal.S27024 0 [⟨S4096, p16⟩, ⟨S2048, p17⟩, ⟨Cert.Reference11Ideal.S20880, (fun _ => nil)⟩] Cert.Reference11Ideal.Gen.concatenates_S4096_S2048_S20880_S27024_d0) j) :=
    cat_map f Cert.Reference11Ideal.S27024 0 [⟨S4096, p16⟩, ⟨S2048, p17⟩, ⟨Cert.Reference11Ideal.S20880, fun _ => nil⟩] _ _
  rw [e16, e3]
  exact cat_map f S851968 0 [⟨S824944, (concatenate S824944 0 [⟨S4096, p0⟩, ⟨S12288, p1⟩, ⟨S12288, p2⟩, ⟨S192, p3⟩, ⟨S196608, p4⟩, ⟨S196608, p5⟩, ⟨S196608, p6⟩, ⟨S196608, p7⟩, ⟨S1536, p8⟩, ⟨S1536, p9⟩, ⟨S5760, p10⟩, ⟨S24, p11⟩, ⟨S24, p12⟩, ⟨S256, p13⟩, ⟨S256, p14⟩, ⟨S256, p15⟩] Cert.Kernel11Ideal.Gen.concatenates_S4096_S12288_S12288_S192_S196608_S196608_S196608_S196608_S1536_S1536_S5760_S24_S24_S256_S256_S256_S824944_d0)⟩, ⟨Cert.Reference11Ideal.S27024, (concatenate Cert.Reference11Ideal.S27024 0 [⟨S4096, p16⟩, ⟨S2048, p17⟩, ⟨Cert.Reference11Ideal.S20880, (fun _ => nil)⟩] Cert.Reference11Ideal.Gen.concatenates_S4096_S2048_S20880_S27024_d0)⟩] _ _

theorem packed_map (f : Quad → EReal) (z : Cert.Reference11Ideal.S20880.Idx → EReal) (hz : z = fun _ => f nil) (p0 : S4096.Idx → Quad) (p1 : S12288.Idx → Quad) (p2 : S12288.Idx → Quad) (p3 : S192.Idx → Quad) (p4 : S196608.Idx → Quad) (p5 : S196608.Idx → Quad) (p6 : S196608.Idx → Quad) (p7 : S196608.Idx → Quad) (p8 : S1536.Idx → Quad) (p9 : S1536.Idx → Quad) (p10 : S5760.Idx → Quad) (p11 : S24.Idx → Quad) (p12 : S24.Idx → Quad) (p13 : S256.Idx → Quad) (p14 : S256.Idx → Quad) (p15 : S256.Idx → Quad) (p16 : S4096.Idx → Quad) (p17 : S2048.Idx → Quad) :
    shapeCast S6656x128 (concatenate S851968 0 [⟨S824944, (concatenate S824944 0 [⟨S4096, (fun i => f (p0 i))⟩, ⟨S12288, (fun i => f (p1 i))⟩, ⟨S12288, (fun i => f (p2 i))⟩, ⟨S192, (fun i => f (p3 i))⟩, ⟨S196608, (fun i => f (p4 i))⟩, ⟨S196608, (fun i => f (p5 i))⟩, ⟨S196608, (fun i => f (p6 i))⟩, ⟨S196608, (fun i => f (p7 i))⟩, ⟨S1536, (fun i => f (p8 i))⟩, ⟨S1536, (fun i => f (p9 i))⟩, ⟨S5760, (fun i => f (p10 i))⟩, ⟨S24, (fun i => f (p11 i))⟩, ⟨S24, (fun i => f (p12 i))⟩, ⟨S256, (fun i => f (p13 i))⟩, ⟨S256, (fun i => f (p14 i))⟩, ⟨S256, (fun i => f (p15 i))⟩] Cert.Kernel11Ideal.Gen.concatenates_S4096_S12288_S12288_S192_S196608_S196608_S196608_S196608_S1536_S1536_S5760_S24_S24_S256_S256_S256_S824944_d0)⟩, ⟨Cert.Reference11Ideal.S27024, (concatenate Cert.Reference11Ideal.S27024 0 [⟨S4096, (fun i => f (p16 i))⟩, ⟨S2048, (fun i => f (p17 i))⟩, ⟨Cert.Reference11Ideal.S20880, z⟩] Cert.Reference11Ideal.Gen.concatenates_S4096_S2048_S20880_S27024_d0)⟩] Cert.Reference11Ideal.Gen.concatenates_S824944_S27024_S851968_d0) Cert.Kernel11Ideal.Gen.shapeCasts_S851968_S6656x128 = fun j => f (packed (fun _ => nil) p0 p1 p2 p3 p4 p5 p6 p7 p8 p9 p10 p11 p12 p13 p14 p15 p16 p17 j) :=
  congrArg (fun x => shapeCast S6656x128 x Cert.Kernel11Ideal.Gen.shapeCasts_S851968_S6656x128) (tail_map f z hz p0 p1 p2 p3 p4 p5 p6 p7 p8 p9 p10 p11 p12 p13 p14 p15 p16 p17)

theorem padded_map (f : Quad → EReal) (z : S_.Idx → EReal) (hz : ∀ i, z i = f nil) (p0 : S4096.Idx → Quad) (p1 : S12288.Idx → Quad) (p2 : S12288.Idx → Quad) (p3 : S192.Idx → Quad) (p4 : S196608.Idx → Quad) (p5 : S196608.Idx → Quad) (p6 : S196608.Idx → Quad) (p7 : S196608.Idx → Quad) (p8 : S1536.Idx → Quad) (p9 : S1536.Idx → Quad) (p10 : S5760.Idx → Quad) (p11 : S24.Idx → Quad) (p12 : S24.Idx → Quad) (p13 : S256.Idx → Quad) (p14 : S256.Idx → Quad) (p15 : S256.Idx → Quad) (p16 : S4096.Idx → Quad) (p17 : S2048.Idx → Quad) :
    shapeCast S6656x128 (pad S851968 ![0] ![20880] ![0] (concatenate S831088 0 [⟨S824944, (concatenate S824944 0 [⟨S4096, (fun i => f (p0 i))⟩, ⟨S12288, (fun i => f (p1 i))⟩, ⟨S12288, (fun i => f (p2 i))⟩, ⟨S192, (fun i => f (p3 i))⟩, ⟨S196608, (fun i => f (p4 i))⟩, ⟨S196608, (fun i => f (p5 i))⟩, ⟨S196608, (fun i => f (p6 i))⟩, ⟨S196608, (fun i => f (p7 i))⟩, ⟨S1536, (fun i => f (p8 i))⟩, ⟨S1536, (fun i => f (p9 i))⟩, ⟨S5760, (fun i => f (p10 i))⟩, ⟨S24, (fun i => f (p11 i))⟩, ⟨S24, (fun i => f (p12 i))⟩, ⟨S256, (fun i => f (p13 i))⟩, ⟨S256, (fun i => f (p14 i))⟩, ⟨S256, (fun i => f (p15 i))⟩] Cert.Kernel11Ideal.Gen.concatenates_S4096_S12288_S12288_S192_S196608_S196608_S196608_S196608_S1536_S1536_S5760_S24_S24_S256_S256_S256_S824944_d0)⟩, ⟨S6144, concatenate S6144 0 [⟨S4096, (fun i => f (p16 i))⟩, ⟨S2048, (fun i => f (p17 i))⟩] Cert.Kernel11Ideal.Gen.concatenates_S4096_S2048_S6144_d0⟩] Cert.Kernel11Ideal.Gen.concatenates_S824944_S6144_S831088_d0) z Cert.Kernel11Ideal.Gen.pads_S831088_S851968_0208800 Cert.Kernel11Ideal.Gen.h_S_) Cert.Kernel11Ideal.Gen.shapeCasts_S851968_S6656x128 = fun j => f (packed (fun _ => nil) p0 p1 p2 p3 p4 p5 p6 p7 p8 p9 p10 p11 p12 p13 p14 p15 p16 p17 j) := by
  refine Eq.trans (congrArg (fun x => shapeCast S6656x128 x Cert.Kernel11Ideal.Gen.shapeCasts_S851968_S6656x128)
    (pad_three (A := 824944) (B := 4096) (C := 2048) (D := 20880) (M := 6144) (N := 831088) (K := 27024) (L := 851968) rfl rfl rfl rfl
      _ _ _ z (f nil) hz _ _ _ _ Cert.Reference11Ideal.Gen.concatenates_S4096_S2048_S20880_S27024_d0 Cert.Reference11Ideal.Gen.concatenates_S824944_S27024_S851968_d0)) ?_
  exact packed_map f (fun _ => f nil) rfl p0 p1 p2 p3 p4 p5 p6 p7 p8 p9 p10 p11 p12 p13 p14 p15 p16 p17
end Cert.Adam
end
-- ==== Proof.AdamKer.lean ====
/-
  The optimiser's step on the small weights: the kernel works on rows of 512 × 128 elements of the packed arrays, the reference on each weight by itself.
-/
module
public import Idealize.ShloMosaic.Lib.Pipeline.ValueKit
public import proofs.«01_k».proof.Proof.AdamPack
public import proofs.«01_k».proof.Proof.Gen.Kernel11Ideal.Value
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel11Ideal.Value
open Cert.Kernel11Ideal Kernel11Ideal.Gen Cert.Adam
variable (m : (ℓ : Loc nD τ sig) → Buf (Elt Ideal) ℓ)
def P0 (c : Dev nD) : S4096.Idx → Quad := flat (s := S2x2048) Kernel11Ideal.Gen.shapeCasts_S2x2048_S4096 (m ((c.tc : Thread nD τ).loc main_arg0)) (m ((c.tc : Thread nD τ).loc main_arg18)) (m ((c.tc : Thread nD τ).loc main_arg36)) (m ((c.tc : Thread nD τ).loc main_arg54))
def P1 (c : Dev nD) : S12288.Idx → Quad := flat (s := S2x2x48x64) Kernel11Ideal.Gen.shapeCasts_S2x2x48x64_S12288 (m ((c.tc : Thread nD τ).loc main_arg1)) (m ((c.tc : Thread nD τ).loc main_arg19)) (m ((c.tc : Thread nD τ).loc main_arg37)) (m ((c.tc : Thread nD τ).loc main_arg55))
def P2 (c : Dev nD) : S12288.Idx → Quad := flat (s := S2x2x48x64) Kernel11Ideal.Gen.shapeCasts_S2x2x48x64_S12288 (m ((c.tc : Thread nD τ).loc main_arg2)) (m ((c.tc : Thread nD τ).loc main_arg20)) (m ((c.tc : Thread nD τ).loc main_arg38)) (m ((c.tc : Thread nD τ).loc main_arg56))
def P3 (c : Dev nD) : S192.Idx → Quad := flat (s := S2x2x48) Kernel11Ideal.Gen.shapeCasts_S2x2x48_S192 (m ((c.tc : Thread nD τ).loc main_arg3)) (m ((c.tc : Thread nD τ).loc main_arg21)) (m ((c.tc : Thread nD τ).loc main_arg39)) (m ((c.tc : Thread nD τ).loc main_arg57))
def P4 (c : Dev nD) : S196608.Idx → Quad := flat (s := S2x2x48x64x16) Kernel11Ideal.Gen.shapeCasts_S2x2x48x64x16_S196608 (m ((c.tc : Thread nD τ).loc main_arg4)) (m ((c.tc : Thread nD τ).loc main_arg22)) (m ((c.tc : Thread nD τ).loc main_arg40)) (m ((c.tc : Thread nD τ).loc main_arg58))
def P5 (c : Dev nD) : S196608.Idx → Quad := flat (s := S2x2x48x64x16) Kernel11Ideal.Gen.shapeCasts_S2x2x48x64x16_S196608 (m ((c.tc : Thread nD τ).loc main_arg5)) (m ((c.tc : Thread nD τ).loc main_arg23)) (m ((c.tc : Thread nD τ).loc main_arg41)) (m ((c.tc : Thread nD τ).loc main_arg59))
def P6 (c : Dev nD) : S196608.Idx → Quad := flat (s := S2x2x48x16x64) Kernel11Ideal.Gen.shapeCasts_S2x2x48x16x64_S196608 (m ((c.tc : Thread nD τ).loc main_arg6)) (m ((c.tc : Thread nD τ).loc main_arg24)) (m ((c.tc : Thread nD τ).loc main_arg42)) (m ((c.tc : Thread nD τ).loc main_arg60))
def P7 (c : Dev nD) : S196608.Idx → Quad := flat (s := S2x2x48x16x64) Kernel11Ideal.Gen.shapeCasts_S2x2x48x16x64_S196608 (m ((c.tc : Thread nD τ).loc main_arg7)) (m ((c.tc : Thread nD τ).loc main_arg25)) (m ((c.tc : Thread nD τ).loc main_arg43)) (m ((c.tc : Thread nD τ).loc main_arg61))
def P8 (c : Dev nD) : S1536.Idx → Quad := flat (s := S2x768) Kernel11Ideal.Gen.shapeCasts_S2x768_S1536 (m ((c.tc : Thread nD τ).loc main_arg8)) (m ((c.tc : Thread nD τ).loc main_arg26)) (m ((c.tc : Thread nD τ).loc main_arg44)) (m ((c.tc : Thread nD τ).loc main_arg62))
def P9 (c : Dev nD) : S1536.Idx → Quad := flat (s := S2x768) Kernel11Ideal.Gen.shapeCasts_S2x768_S1536 (m ((c.tc : Thread nD τ).loc main_arg9)) (m ((c.tc : Thread nD τ).loc main_arg27)) (m ((c.tc : Thread nD τ).loc main_arg45)) (m ((c.tc : Thread nD τ).loc main_arg63))
def P10 (c : Dev nD) : S5760.Idx → Quad := flat (s := S2x576x5) Kernel11Ideal.Gen.shapeCasts_S2x576x5_S5760 (m ((c.tc : Thread nD τ).loc main_arg10)) (m ((c.tc : Thread nD τ).loc main_arg28)) (m ((c.tc : Thread nD τ).loc main_arg46)) (m ((c.tc : Thread nD τ).loc main_arg64))
def P11 (c : Dev nD) : S24.Idx → Quad := flat (s := S2x2x6) Kernel11Ideal.Gen.shapeCasts_S2x2x6_S24 (m ((c.tc : Thread nD τ).loc main_arg11)) (m ((c.tc : Thread nD τ).loc main_arg29)) (m ((c.tc : Thread nD τ).loc main_arg47)) (m ((c.tc : Thread nD τ).loc main_arg65))
def P12 (c : Dev nD) : S24.Idx → Quad := flat (s := S2x2x6) Kernel11Ideal.Gen.shapeCasts_S2x2x6_S24 (m ((c.tc : Thread nD τ).loc main_arg12)) (m ((c.tc : Thread nD τ).loc main_arg30)) (m ((c.tc : Thread nD τ).loc main_arg48)) (m ((c.tc : Thread nD τ).loc main_arg66))
def P13 (c : Dev nD) : S256.Idx → Quad := flat (s := S2x128) Kernel11Ideal.Gen.shapeCasts_S2x128_S256 (m ((c.tc : Thread nD τ).loc main_arg13)) (m ((c.tc : Thread nD τ).loc main_arg31)) (m ((c.tc : Thread nD τ).loc main_arg49)) (m ((c.tc : Thread nD τ).loc main_arg67))
def P14 (c : Dev nD) : S256.Idx → Quad := flat (s := S2x128) Kernel11Ideal.Gen.shapeCasts_S2x128_S256 (m ((c.tc : Thread nD τ).loc main_arg14)) (m ((c.tc : Thread nD τ).loc main_arg32)) (m ((c.tc : Thread nD τ).loc main_arg50)) (m ((c.tc : Thread nD τ).loc main_arg68))
def P15 (c : Dev nD) : S256.Idx → Quad := flat (s := S2x128) Kernel11Ideal.Gen.shapeCasts_S2x128_S256 (m ((c.tc : Thread nD τ).loc main_arg15)) (m ((c.tc : Thread nD τ).loc main_arg33)) (m ((c.tc : Thread nD τ).loc main_arg51)) (m ((c.tc : Thread nD τ).loc main_arg69))
def P16 (c : Dev nD) : S4096.Idx → Quad := flat (s := S2x2048) Kernel11Ideal.Gen.shapeCasts_S2x2048_S4096 (m ((c.tc : Thread nD τ).loc main_arg16)) (m ((c.tc : Thread nD τ).loc main_arg34)) (m ((c.tc : Thread nD τ).loc main_arg52)) (m ((c.tc : Thread nD τ).loc main_arg70))
def P17 (c : Dev nD) : S2048.Idx → Quad := fun i =>
  ((show FVec Ideal S2048 .f32 from (m ((c.tc : Thread nD τ).loc main_arg17))) i, (show FVec Ideal S2048 .f32 from (m ((c.tc : Thread nD τ).loc main_arg35))) i, (show FVec Ideal S2048 .f32 from (m ((c.tc : Thread nD τ).loc main_arg53))) i, (show FVec Ideal S2048 .f32 from (m ((c.tc : Thread nD τ).loc main_arg71))) i)
/-- The packed quadruples. -/
def PK (c : Dev nD) : S6656x128.Idx → Quad := packed (fun _ => nil) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c)

set_option maxHeartbeats 8000000 in
theorem V21 (c : Dev nD) : (show FVec Ideal S6656x128 .f32 from V m c main_v21) = fun j => (fun p : Quad => p.1) (PK m c j) := by
  refine Eq.trans ?_ (padded_map (fun p : Quad => p.1) (sitofp (F := Ideal) .f32 (constantI S_ 32 0#32)) (fun i => ?_) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c))
  · show StableHlo.after (List.flatten [hostOps0, hostOps0_1, hostOps0_2, hostOps0_3, hostOps0_4, hostOps0_5, hostOps0_6, hostOps0_7, hostOps0_8]) (fun b => m (c, b)) main_v21 = _
    unfold hostOps0 hostOps0_1 hostOps0_2 hostOps0_3 hostOps0_4 hostOps0_5 hostOps0_6 hostOps0_7 hostOps0_8
    simp only [List.flatten_cons, List.flatten_nil, List.cons_append, List.nil_append, List.append_nil]
    after_results_simp
    rfl
  · show (((0#32 : BitVec 32).toInt : ℝ) : EReal) = 0
    simp

set_option maxHeartbeats 8000000 in
theorem V43 (c : Dev nD) : (show FVec Ideal S6656x128 .f32 from V m c main_v43) = fun j => (fun p : Quad => p.2.1) (PK m c j) := by
  refine Eq.trans ?_ (padded_map (fun p : Quad => p.2.1) (sitofp (F := Ideal) .f32 (constantI S_ 32 0#32)) (fun i => ?_) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c))
  · show StableHlo.after (List.flatten [hostOps0, hostOps0_1, hostOps0_2, hostOps0_3, hostOps0_4, hostOps0_5, hostOps0_6, hostOps0_7, hostOps0_8]) (fun b => m (c, b)) main_v43 = _
    unfold hostOps0 hostOps0_1 hostOps0_2 hostOps0_3 hostOps0_4 hostOps0_5 hostOps0_6 hostOps0_7 hostOps0_8
    simp only [List.flatten_cons, List.flatten_nil, List.cons_append, List.nil_append, List.append_nil]
    after_results_simp
    rfl
  · show (((0#32 : BitVec 32).toInt : ℝ) : EReal) = 0
    simp

set_option maxHeartbeats 8000000 in
theorem V65 (c : Dev nD) : (show FVec Ideal S6656x128 .f32 from V m c main_v65) = fun j => (fun p : Quad => p.2.2.1) (PK m c j) := by
  refine Eq.trans ?_ (padded_map (fun p : Quad => p.2.2.1) (sitofp (F := Ideal) .f32 (constantI S_ 32 0#32)) (fun i => ?_) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c))
  · show StableHlo.after (List.flatten [hostOps0, hostOps0_1, hostOps0_2, hostOps0_3, hostOps0_4, hostOps0_5, hostOps0_6, hostOps0_7, hostOps0_8]) (fun b => m (c, b)) main_v65 = _
    unfold hostOps0 hostOps0_1 hostOps0_2 hostOps0_3 hostOps0_4 hostOps0_5 hostOps0_6 hostOps0_7 hostOps0_8
    simp only [List.flatten_cons, List.flatten_nil, List.cons_append, List.nil_append, List.append_nil]
    after_results_simp
    rfl
  · show (((0#32 : BitVec 32).toInt : ℝ) : EReal) = 0
    simp

set_option maxHeartbeats 8000000 in
theorem V87 (c : Dev nD) : (show FVec Ideal S6656x128 .f32 from V m c main_v87) = fun j => (fun p : Quad => p.2.2.2) (PK m c j) := by
  refine Eq.trans ?_ (padded_map (fun p : Quad => p.2.2.2) (sitofp (F := Ideal) .f32 (constantI S_ 32 0#32)) (fun i => ?_) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c))
  · show StableHlo.after (List.flatten [hostOps0, hostOps0_1, hostOps0_2, hostOps0_3, hostOps0_4, hostOps0_5, hostOps0_6, hostOps0_7, hostOps0_8]) (fun b => m (c, b)) main_v87 = _
    unfold hostOps0 hostOps0_1 hostOps0_2 hostOps0_3 hostOps0_4 hostOps0_5 hostOps0_6 hostOps0_7 hostOps0_8
    simp only [List.flatten_cons, List.flatten_nil, List.cons_append, List.nil_append, List.append_nil]
    after_results_simp
    rfl
  · show (((0#32 : BitVec 32).toInt : ℝ) : EReal) = 0
    simp

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)
theorem t_lt (t : Fin cfg0.N) : t.val < 13 := lt_of_lt_of_eq t.isLt (by decide +kernel)
abbrev X0 (c : Dev nD) : FVec Ideal S6656x128 .f32 := V m c (Pipeline.arrRef spec0 0)
theorem blk0 (c : Dev nD) (t : Fin cfg0.N) (z : Buf (Elt Ideal) ((c.tc : Thread nD τ).loc (Pipeline.arrRef spec0 0))) (i : Fin 512) (x : Fin 128) :
    (View.read (Elt Ideal) ((cfg0.win 0).blk t).view z : FVec Ideal S512x128 .f32) (ix2 i x)
      = (z : FVec Ideal S6656x128 .f32) (ix2 ⟨t.val * 512 + i.val, by have := t_lt t; omega⟩ x) := by
  have := t_lt t
  blk_point [idx t]
theorem B0 (c : Dev nD) (t : Fin cfg0.N) (i : Fin 512) (x : Fin 128) : (iblk m c 0 t : FVec Ideal S512x128 .f32) (ix2 i x)
    = X0 m c (ix2 ⟨t.val * 512 + i.val, by have := t_lt t; omega⟩ x) :=
  blk0 c t (V m c (Pipeline.arrRef spec0 0)) i x
theorem Y0 (c : Dev nD) (t : Fin cfg0.N) (i : Fin 512) (x : Fin 128) : (iblk m c 0 t : FVec Ideal S512x128 .f32) (ix2 i x)
    = (fun p : Quad => p.1) (PK m c (ix2 (⟨t.val * 512 + i.val, by have := t_lt t; omega⟩ : Fin 6656) x)) :=
  (B0 m c t i x).trans (congrFun (V21 m c) _)
abbrev X1 (c : Dev nD) : FVec Ideal S6656x128 .f32 := V m c (Pipeline.arrRef spec0 1)
theorem blk1 (c : Dev nD) (t : Fin cfg0.N) (z : Buf (Elt Ideal) ((c.tc : Thread nD τ).loc (Pipeline.arrRef spec0 1))) (i : Fin 512) (x : Fin 128) :
    (View.read (Elt Ideal) ((cfg0.win 1).blk t).view z : FVec Ideal S512x128 .f32) (ix2 i x)
      = (z : FVec Ideal S6656x128 .f32) (ix2 ⟨t.val * 512 + i.val, by have := t_lt t; omega⟩ x) := by
  have := t_lt t
  blk_point [idx t]
theorem B1 (c : Dev nD) (t : Fin cfg0.N) (i : Fin 512) (x : Fin 128) : (iblk m c 1 t : FVec Ideal S512x128 .f32) (ix2 i x)
    = X1 m c (ix2 ⟨t.val * 512 + i.val, by have := t_lt t; omega⟩ x) :=
  blk1 c t (V m c (Pipeline.arrRef spec0 1)) i x
theorem Y1 (c : Dev nD) (t : Fin cfg0.N) (i : Fin 512) (x : Fin 128) : (iblk m c 1 t : FVec Ideal S512x128 .f32) (ix2 i x)
    = (fun p : Quad => p.2.1) (PK m c (ix2 (⟨t.val * 512 + i.val, by have := t_lt t; omega⟩ : Fin 6656) x)) :=
  (B1 m c t i x).trans (congrFun (V43 m c) _)
abbrev X2 (c : Dev nD) : FVec Ideal S6656x128 .f32 := V m c (Pipeline.arrRef spec0 2)
theorem blk2 (c : Dev nD) (t : Fin cfg0.N) (z : Buf (Elt Ideal) ((c.tc : Thread nD τ).loc (Pipeline.arrRef spec0 2))) (i : Fin 512) (x : Fin 128) :
    (View.read (Elt Ideal) ((cfg0.win 2).blk t).view z : FVec Ideal S512x128 .f32) (ix2 i x)
      = (z : FVec Ideal S6656x128 .f32) (ix2 ⟨t.val * 512 + i.val, by have := t_lt t; omega⟩ x) := by
  have := t_lt t
  blk_point [idx t]
theorem B2 (c : Dev nD) (t : Fin cfg0.N) (i : Fin 512) (x : Fin 128) : (iblk m c 2 t : FVec Ideal S512x128 .f32) (ix2 i x)
    = X2 m c (ix2 ⟨t.val * 512 + i.val, by have := t_lt t; omega⟩ x) :=
  blk2 c t (V m c (Pipeline.arrRef spec0 2)) i x
theorem Y2 (c : Dev nD) (t : Fin cfg0.N) (i : Fin 512) (x : Fin 128) : (iblk m c 2 t : FVec Ideal S512x128 .f32) (ix2 i x)
    = (fun p : Quad => p.2.2.1) (PK m c (ix2 (⟨t.val * 512 + i.val, by have := t_lt t; omega⟩ : Fin 6656) x)) :=
  (B2 m c t i x).trans (congrFun (V65 m c) _)
abbrev X3 (c : Dev nD) : FVec Ideal S6656x128 .f32 := V m c (Pipeline.arrRef spec0 3)
theorem blk3 (c : Dev nD) (t : Fin cfg0.N) (z : Buf (Elt Ideal) ((c.tc : Thread nD τ).loc (Pipeline.arrRef spec0 3))) (i : Fin 512) (x : Fin 128) :
    (View.read (Elt Ideal) ((cfg0.win 3).blk t).view z : FVec Ideal S512x128 .f32) (ix2 i x)
      = (z : FVec Ideal S6656x128 .f32) (ix2 ⟨t.val * 512 + i.val, by have := t_lt t; omega⟩ x) := by
  have := t_lt t
  blk_point [idx t]
theorem B3 (c : Dev nD) (t : Fin cfg0.N) (i : Fin 512) (x : Fin 128) : (iblk m c 3 t : FVec Ideal S512x128 .f32) (ix2 i x)
    = X3 m c (ix2 ⟨t.val * 512 + i.val, by have := t_lt t; omega⟩ x) :=
  blk3 c t (V m c (Pipeline.arrRef spec0 3)) i x
theorem Y3 (c : Dev nD) (t : Fin cfg0.N) (i : Fin 512) (x : Fin 128) : (iblk m c 3 t : FVec Ideal S512x128 .f32) (ix2 i x)
    = (fun p : Quad => p.2.2.2) (PK m c (ix2 (⟨t.val * 512 + i.val, by have := t_lt t; omega⟩ : Fin 6656) x)) :=
  (B3 m c t i x).trans (congrFun (V87 m c) _)

theorem pay4_at (g w a v : Vec Ideal S512x128 .f32) (j : S512x128.Idx) : k0_pay4 (F := Ideal) g w a v j = stp (g j, w j, a j, v j) := by
  pointwise [k0_pay4, k0_pay2, k0_pay3, k0_pay1]
  rfl
theorem pay2_at (g a : Vec Ideal S512x128 .f32) (w v : EReal) (j : S512x128.Idx) : k0_pay2 (F := Ideal) g a j = avg (g j, w, a j, v) := by
  pointwise [k0_pay2, k0_pay1]
  rfl
theorem pay3_at (g v : Vec Ideal S512x128 .f32) (w a : EReal) (j : S512x128.Idx) : k0_pay3 (F := Ideal) g v j = sqr (g j, w, a, v j) := by
  pointwise [k0_pay3, k0_pay1]
  rfl

theorem final4x (c : Dev nD) : (dats m 0 c).arrAt 4 cfg0.N = (fun j => stp (PK m c j) : FVec Ideal S6656x128 .f32) := by
  refine (dats m 0 c).arrAt_eq_of_covers 4 _ (by decide +kernel) fun t hf y => ?_
  have ht := t_lt t
  blk_simp
  rw [after0_4]
  have e : ((View.whole main_v88_0).slice (win0_4.rect t)).emb y = ix2 (⟨t.val * 512 + (y 0).val, by idx_bounds; omega⟩ : Fin 6656) (⟨(y 1).val, by idx_bounds; omega⟩ : Fin 128) := by
    funext a; fin_cases a <;> apply Fin.ext <;> blk_simp [idx t] <;> rfl
  rw [e]
  unfold out0_4
  frame_out
  idx_vars y
  refine (pay4_at _ _ _ _ _).trans ?_
  refine congrArg stp (Prod.ext (Y0 m c t _ _) (Prod.ext (Y1 m c t _ _) (Prod.ext (Y2 m c t _ _) (Y3 m c t _ _))))

theorem final5x (c : Dev nD) : (dats m 0 c).arrAt 5 cfg0.N = (fun j => avg (PK m c j) : FVec Ideal S6656x128 .f32) := by
  refine (dats m 0 c).arrAt_eq_of_covers 5 _ (by decide +kernel) fun t hf y => ?_
  have ht := t_lt t
  blk_simp
  rw [after0_5]
  have e : ((View.whole main_v88_1).slice (win0_5.rect t)).emb y = ix2 (⟨t.val * 512 + (y 0).val, by idx_bounds; omega⟩ : Fin 6656) (⟨(y 1).val, by idx_bounds; omega⟩ : Fin 128) := by
    funext a; fin_cases a <;> apply Fin.ext <;> blk_simp [idx t] <;> rfl
  rw [e]
  unfold out0_5
  frame_out
  idx_vars y
  refine (pay2_at _ _ (PK m c (ix2 (⟨t.val * 512 + y0.val, by omega⟩ : Fin 6656) y1)).2.1 (PK m c (ix2 (⟨t.val * 512 + y0.val, by omega⟩ : Fin 6656) y1)).2.2.2 _).trans ?_
  exact congrArg avg (Prod.ext (Y0 m c t _ _) (Prod.ext rfl (Prod.ext (Y2 m c t _ _) rfl)))

theorem final6x (c : Dev nD) : (dats m 0 c).arrAt 6 cfg0.N = (fun j => sqr (PK m c j) : FVec Ideal S6656x128 .f32) := by
  refine (dats m 0 c).arrAt_eq_of_covers 6 _ (by decide +kernel) fun t hf y => ?_
  have ht := t_lt t
  blk_simp
  rw [after0_6]
  have e : ((View.whole main_v88_2).slice (win0_6.rect t)).emb y = ix2 (⟨t.val * 512 + (y 0).val, by idx_bounds; omega⟩ : Fin 6656) (⟨(y 1).val, by idx_bounds; omega⟩ : Fin 128) := by
    funext a; fin_cases a <;> apply Fin.ext <;> blk_simp [idx t] <;> rfl
  rw [e]
  unfold out0_6
  frame_out
  idx_vars y
  refine (pay3_at _ _ (PK m c (ix2 (⟨t.val * 512 + y0.val, by omega⟩ : Fin 6656) y1)).2.1 (PK m c (ix2 (⟨t.val * 512 + y0.val, by omega⟩ : Fin 6656) y1)).2.2.1 _).trans ?_
  exact congrArg sqr (Prod.ext (Y0 m c t _ _) (Prod.ext rfl (Prod.ext rfl (Y3 m c t _ _))))

end Cert.Kernel11Ideal.Value
end
-- ==== Proof.AdamSmall.lean ====
/-
  The optimiser's step on the small weights: the kernel works on rows of 512 × 128 elements of the packed arrays, the reference on each weight by itself; both are the same function of every element.
-/
module
public import Idealize.ShloMosaic.Lib.Pipeline.ValueKit
public import proofs.«01_k».proof.Proof.AdamKer
public import proofs.«01_k».proof.Proof.Gen.Reference11Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Reference11Ideal.Value
open Cert.Reference11Ideal Reference11Ideal.Gen Cert.Adam
variable (m : (ℓ : Loc nD τ sig) → Buf (Elt Ideal) ℓ)
def P0 (c : Dev nD) : S4096.Idx → Quad := flat (s := S2x2048) Kernel11Ideal.Gen.shapeCasts_S2x2048_S4096 (m ((c.tc : Thread nD τ).loc main_arg0)) (m ((c.tc : Thread nD τ).loc main_arg18)) (m ((c.tc : Thread nD τ).loc main_arg36)) (m ((c.tc : Thread nD τ).loc main_arg54))
def P1 (c : Dev nD) : S12288.Idx → Quad := flat (s := S2x2x48x64) Kernel11Ideal.Gen.shapeCasts_S2x2x48x64_S12288 (m ((c.tc : Thread nD τ).loc main_arg1)) (m ((c.tc : Thread nD τ).loc main_arg19)) (m ((c.tc : Thread nD τ).loc main_arg37)) (m ((c.tc : Thread nD τ).loc main_arg55))
def P2 (c : Dev nD) : S12288.Idx → Quad := flat (s := S2x2x48x64) Kernel11Ideal.Gen.shapeCasts_S2x2x48x64_S12288 (m ((c.tc : Thread nD τ).loc main_arg2)) (m ((c.tc : Thread nD τ).loc main_arg20)) (m ((c.tc : Thread nD τ).loc main_arg38)) (m ((c.tc : Thread nD τ).loc main_arg56))
def P3 (c : Dev nD) : S192.Idx → Quad := flat (s := S2x2x48) Kernel11Ideal.Gen.shapeCasts_S2x2x48_S192 (m ((c.tc : Thread nD τ).loc main_arg3)) (m ((c.tc : Thread nD τ).loc main_arg21)) (m ((c.tc : Thread nD τ).loc main_arg39)) (m ((c.tc : Thread nD τ).loc main_arg57))
def P4 (c : Dev nD) : S196608.Idx → Quad := flat (s := S2x2x48x64x16) Kernel11Ideal.Gen.shapeCasts_S2x2x48x64x16_S196608 (m ((c.tc : Thread nD τ).loc main_arg4)) (m ((c.tc : Thread nD τ).loc main_arg22)) (m ((c.tc : Thread nD τ).loc main_arg40)) (m ((c.tc : Thread nD τ).loc main_arg58))
def P5 (c : Dev nD) : S196608.Idx → Quad := flat (s := S2x2x48x64x16) Kernel11Ideal.Gen.shapeCasts_S2x2x48x64x16_S196608 (m ((c.tc : Thread nD τ).loc main_arg5)) (m ((c.tc : Thread nD τ).loc main_arg23)) (m ((c.tc : Thread nD τ).loc main_arg41)) (m ((c.tc : Thread nD τ).loc main_arg59))
def P6 (c : Dev nD) : S196608.Idx → Quad := flat (s := S2x2x48x16x64) Kernel11Ideal.Gen.shapeCasts_S2x2x48x16x64_S196608 (m ((c.tc : Thread nD τ).loc main_arg6)) (m ((c.tc : Thread nD τ).loc main_arg24)) (m ((c.tc : Thread nD τ).loc main_arg42)) (m ((c.tc : Thread nD τ).loc main_arg60))
def P7 (c : Dev nD) : S196608.Idx → Quad := flat (s := S2x2x48x16x64) Kernel11Ideal.Gen.shapeCasts_S2x2x48x16x64_S196608 (m ((c.tc : Thread nD τ).loc main_arg7)) (m ((c.tc : Thread nD τ).loc main_arg25)) (m ((c.tc : Thread nD τ).loc main_arg43)) (m ((c.tc : Thread nD τ).loc main_arg61))
def P8 (c : Dev nD) : S1536.Idx → Quad := flat (s := S2x768) Kernel11Ideal.Gen.shapeCasts_S2x768_S1536 (m ((c.tc : Thread nD τ).loc main_arg8)) (m ((c.tc : Thread nD τ).loc main_arg26)) (m ((c.tc : Thread nD τ).loc main_arg44)) (m ((c.tc : Thread nD τ).loc main_arg62))
def P9 (c : Dev nD) : S1536.Idx → Quad := flat (s := S2x768) Kernel11Ideal.Gen.shapeCasts_S2x768_S1536 (m ((c.tc : Thread nD τ).loc main_arg9)) (m ((c.tc : Thread nD τ).loc main_arg27)) (m ((c.tc : Thread nD τ).loc main_arg45)) (m ((c.tc : Thread nD τ).loc main_arg63))
def P10 (c : Dev nD) : S5760.Idx → Quad := flat (s := S2x576x5) Kernel11Ideal.Gen.shapeCasts_S2x576x5_S5760 (m ((c.tc : Thread nD τ).loc main_arg10)) (m ((c.tc : Thread nD τ).loc main_arg28)) (m ((c.tc : Thread nD τ).loc main_arg46)) (m ((c.tc : Thread nD τ).loc main_arg64))
def P11 (c : Dev nD) : S24.Idx → Quad := flat (s := S2x2x6) Kernel11Ideal.Gen.shapeCasts_S2x2x6_S24 (m ((c.tc : Thread nD τ).loc main_arg11)) (m ((c.tc : Thread nD τ).loc main_arg29)) (m ((c.tc : Thread nD τ).loc main_arg47)) (m ((c.tc : Thread nD τ).loc main_arg65))
def P12 (c : Dev nD) : S24.Idx → Quad := flat (s := S2x2x6) Kernel11Ideal.Gen.shapeCasts_S2x2x6_S24 (m ((c.tc : Thread nD τ).loc main_arg12)) (m ((c.tc : Thread nD τ).loc main_arg30)) (m ((c.tc : Thread nD τ).loc main_arg48)) (m ((c.tc : Thread nD τ).loc main_arg66))
def P13 (c : Dev nD) : S256.Idx → Quad := flat (s := S2x128) Kernel11Ideal.Gen.shapeCasts_S2x128_S256 (m ((c.tc : Thread nD τ).loc main_arg13)) (m ((c.tc : Thread nD τ).loc main_arg31)) (m ((c.tc : Thread nD τ).loc main_arg49)) (m ((c.tc : Thread nD τ).loc main_arg67))
def P14 (c : Dev nD) : S256.Idx → Quad := flat (s := S2x128) Kernel11Ideal.Gen.shapeCasts_S2x128_S256 (m ((c.tc : Thread nD τ).loc main_arg14)) (m ((c.tc : Thread nD τ).loc main_arg32)) (m ((c.tc : Thread nD τ).loc main_arg50)) (m ((c.tc : Thread nD τ).loc main_arg68))
def P15 (c : Dev nD) : S256.Idx → Quad := flat (s := S2x128) Kernel11Ideal.Gen.shapeCasts_S2x128_S256 (m ((c.tc : Thread nD τ).loc main_arg15)) (m ((c.tc : Thread nD τ).loc main_arg33)) (m ((c.tc : Thread nD τ).loc main_arg51)) (m ((c.tc : Thread nD τ).loc main_arg69))
def P16 (c : Dev nD) : S4096.Idx → Quad := flat (s := S2x2048) Kernel11Ideal.Gen.shapeCasts_S2x2048_S4096 (m ((c.tc : Thread nD τ).loc main_arg16)) (m ((c.tc : Thread nD τ).loc main_arg34)) (m ((c.tc : Thread nD τ).loc main_arg52)) (m ((c.tc : Thread nD τ).loc main_arg70))
def P17 (c : Dev nD) : S2048.Idx → Quad := fun i =>
  ((show FVec Ideal S2048 .f32 from (m ((c.tc : Thread nD τ).loc main_arg17))) i, (show FVec Ideal S2048 .f32 from (m ((c.tc : Thread nD τ).loc main_arg35))) i, (show FVec Ideal S2048 .f32 from (m ((c.tc : Thread nD τ).loc main_arg53))) i, (show FVec Ideal S2048 .f32 from (m ((c.tc : Thread nD τ).loc main_arg71))) i)
/-- The packed quadruples. -/
def PK (c : Dev nD) : S6656x128.Idx → Quad := packed (fun _ => nil) (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c)
theorem zeros_eq : (broadcastInDim S20880 ![] bcast_S_S20880 (constant (F := Ideal) S_ .f32 0x00000000#32)) = fun _ => (0 : EReal) := by
  funext j
  show Ideal.ofBits .f32 0#32 = 0
  simp [Ideal.ofBits, Ideal.ieee]
theorem zeros_avg : (broadcastInDim S20880 ![] bcast_S_S20880 (constant (F := Ideal) S_ .f32 0x00000000#32)) = fun _ => avg nil := zeros_eq.trans (by rw [avg_nil])
theorem zeros_sqr : (broadcastInDim S20880 ![] bcast_S_S20880 (constant (F := Ideal) S_ .f32 0x00000000#32)) = fun _ => sqr nil := zeros_eq.trans (by rw [sqr_nil])
theorem zeros_stp : (broadcastInDim S20880 ![] bcast_S_S20880 (constant (F := Ideal) S_ .f32 0x00000000#32)) = fun _ => stp nil := zeros_eq.trans (by rw [stp_nil])
theorem avg0 (c : Dev nD) : (shapeCast S4096 (res_main_v4 (launchContents m c)) shapeCasts_S2x2048_S4096) = fun i => avg (P0 m c i) := rfl
theorem sqr0 (c : Dev nD) : (shapeCast S4096 (res_main_v10 (launchContents m c)) shapeCasts_S2x2048_S4096) = fun i => sqr (P0 m c i) := rfl
theorem stp0 (c : Dev nD) : (shapeCast S4096 (mulf (broadcastInDim S2x2048 ![] bcast_S_S2x2048 (constant S_ .f32 0xBA83126F#32)) (addf (Host.divf (Host.divf (res_main_v4 (launchContents m c)) (broadcastInDim S2x2048 ![] bcast_S_S2x2048 (constant S_ .f32 0x3F26BD02#32))) (addf (Host.sqrt (Host.divf (res_main_v10 (launchContents m c)) (broadcastInDim S2x2048 ![] bcast_S_S2x2048 (constant S_ .f32 0x3C231ACC#32)))) (broadcastInDim S2x2048 ![] bcast_S_S2x2048 (constant S_ .f32 0x322BCC77#32)))) (mulf (broadcastInDim S2x2048 ![] bcast_S_S2x2048 (constant S_ .f32 0x3C23D70A#32)) (launchContents m c (Proc.devRef .tc main_arg18))))) shapeCasts_S2x2048_S4096) = fun i => stp (P0 m c i) := rfl
theorem avg1 (c : Dev nD) : (shapeCast S12288 (res_main_v28 (launchContents m c)) shapeCasts_S2x2x48x64_S12288) = fun i => avg (P1 m c i) := rfl
theorem sqr1 (c : Dev nD) : (shapeCast S12288 (res_main_v34 (launchContents m c)) shapeCasts_S2x2x48x64_S12288) = fun i => sqr (P1 m c i) := rfl
theorem stp1 (c : Dev nD) : (shapeCast S12288 (mulf (broadcastInDim S2x2x48x64 ![] bcast_S_S2x2x48x64 (constant S_ .f32 0xBA83126F#32)) (addf (Host.divf (Host.divf (res_main_v28 (launchContents m c)) (broadcastInDim S2x2x48x64 ![] bcast_S_S2x2x48x64 (constant S_ .f32 0x3F26BD02#32))) (addf (Host.sqrt (Host.divf (res_main_v34 (launchContents m c)) (broadcastInDim S2x2x48x64 ![] bcast_S_S2x2x48x64 (constant S_ .f32 0x3C231ACC#32)))) (broadcastInDim S2x2x48x64 ![] bcast_S_S2x2x48x64 (constant S_ .f32 0x322BCC77#32)))) (mulf (broadcastInDim S2x2x48x64 ![] bcast_S_S2x2x48x64 (constant S_ .f32 0x3C23D70A#32)) (launchContents m c (Proc.devRef .tc main_arg19))))) shapeCasts_S2x2x48x64_S12288) = fun i => stp (P1 m c i) := rfl
theorem avg2 (c : Dev nD) : (shapeCast S12288 (res_main_v52 (launchContents m c)) shapeCasts_S2x2x48x64_S12288) = fun i => avg (P2 m c i) := rfl
theorem sqr2 (c : Dev nD) : (shapeCast S12288 (res_main_v58 (launchContents m c)) shapeCasts_S2x2x48x64_S12288) = fun i => sqr (P2 m c i) := rfl
theorem stp2 (c : Dev nD) : (shapeCast S12288 (mulf (broadcastInDim S2x2x48x64 ![] bcast_S_S2x2x48x64 (constant S_ .f32 0xBA83126F#32)) (addf (Host.divf (Host.divf (res_main_v52 (launchContents m c)) (broadcastInDim S2x2x48x64 ![] bcast_S_S2x2x48x64 (constant S_ .f32 0x3F26BD02#32))) (addf (Host.sqrt (Host.divf (res_main_v58 (launchContents m c)) (broadcastInDim S2x2x48x64 ![] bcast_S_S2x2x48x64 (constant S_ .f32 0x3C231ACC#32)))) (broadcastInDim S2x2x48x64 ![] bcast_S_S2x2x48x64 (constant S_ .f32 0x322BCC77#32)))) (mulf (broadcastInDim S2x2x48x64 ![] bcast_S_S2x2x48x64 (constant S_ .f32 0x3C23D70A#32)) (launchContents m c (Proc.devRef .tc main_arg20))))) shapeCasts_S2x2x48x64_S12288) = fun i => stp (P2 m c i) := rfl
theorem avg3 (c : Dev nD) : (shapeCast S192 (res_main_v76 (launchContents m c)) shapeCasts_S2x2x48_S192) = fun i => avg (P3 m c i) := rfl
theorem sqr3 (c : Dev nD) : (shapeCast S192 (res_main_v82 (launchContents m c)) shapeCasts_S2x2x48_S192) = fun i => sqr (P3 m c i) := rfl
theorem stp3 (c : Dev nD) : (shapeCast S192 (mulf (broadcastInDim S2x2x48 ![] bcast_S_S2x2x48 (constant S_ .f32 0xBA83126F#32)) (addf (Host.divf (Host.divf (res_main_v76 (launchContents m c)) (broadcastInDim S2x2x48 ![] bcast_S_S2x2x48 (constant S_ .f32 0x3F26BD02#32))) (addf (Host.sqrt (Host.divf (res_main_v82 (launchContents m c)) (broadcastInDim S2x2x48 ![] bcast_S_S2x2x48 (constant S_ .f32 0x3C231ACC#32)))) (broadcastInDim S2x2x48 ![] bcast_S_S2x2x48 (constant S_ .f32 0x322BCC77#32)))) (mulf (broadcastInDim S2x2x48 ![] bcast_S_S2x2x48 (constant S_ .f32 0x3C23D70A#32)) (launchContents m c (Proc.devRef .tc main_arg21))))) shapeCasts_S2x2x48_S192) = fun i => stp (P3 m c i) := rfl
theorem avg4 (c : Dev nD) : (shapeCast S196608 (res_main_v100 (launchContents m c)) shapeCasts_S2x2x48x64x16_S196608) = fun i => avg (P4 m c i) := rfl
theorem sqr4 (c : Dev nD) : (shapeCast S196608 (res_main_v106 (launchContents m c)) shapeCasts_S2x2x48x64x16_S196608) = fun i => sqr (P4 m c i) := rfl
theorem stp4 (c : Dev nD) : (shapeCast S196608 (mulf (broadcastInDim S2x2x48x64x16 ![] bcast_S_S2x2x48x64x16 (constant S_ .f32 0xBA83126F#32)) (addf (Host.divf (Host.divf (res_main_v100 (launchContents m c)) (broadcastInDim S2x2x48x64x16 ![] bcast_S_S2x2x48x64x16 (constant S_ .f32 0x3F26BD02#32))) (addf (Host.sqrt (Host.divf (res_main_v106 (launchContents m c)) (broadcastInDim S2x2x48x64x16 ![] bcast_S_S2x2x48x64x16 (constant S_ .f32 0x3C231ACC#32)))) (broadcastInDim S2x2x48x64x16 ![] bcast_S_S2x2x48x64x16 (constant S_ .f32 0x322BCC77#32)))) (mulf (broadcastInDim S2x2x48x64x16 ![] bcast_S_S2x2x48x64x16 (constant S_ .f32 0x3C23D70A#32)) (launchContents m c (Proc.devRef .tc main_arg22))))) shapeCasts_S2x2x48x64x16_S196608) = fun i => stp (P4 m c i) := rfl
theorem avg5 (c : Dev nD) : (shapeCast S196608 (res_main_v124 (launchContents m c)) shapeCasts_S2x2x48x64x16_S196608) = fun i => avg (P5 m c i) := rfl
theorem sqr5 (c : Dev nD) : (shapeCast S196608 (res_main_v130 (launchContents m c)) shapeCasts_S2x2x48x64x16_S196608) = fun i => sqr (P5 m c i) := rfl
theorem stp5 (c : Dev nD) : (shapeCast S196608 (mulf (broadcastInDim S2x2x48x64x16 ![] bcast_S_S2x2x48x64x16 (constant S_ .f32 0xBA83126F#32)) (addf (Host.divf (Host.divf (res_main_v124 (launchContents m c)) (broadcastInDim S2x2x48x64x16 ![] bcast_S_S2x2x48x64x16 (constant S_ .f32 0x3F26BD02#32))) (addf (Host.sqrt (Host.divf (res_main_v130 (launchContents m c)) (broadcastInDim S2x2x48x64x16 ![] bcast_S_S2x2x48x64x16 (constant S_ .f32 0x3C231ACC#32)))) (broadcastInDim S2x2x48x64x16 ![] bcast_S_S2x2x48x64x16 (constant S_ .f32 0x322BCC77#32)))) (mulf (broadcastInDim S2x2x48x64x16 ![] bcast_S_S2x2x48x64x16 (constant S_ .f32 0x3C23D70A#32)) (launchContents m c (Proc.devRef .tc main_arg23))))) shapeCasts_S2x2x48x64x16_S196608) = fun i => stp (P5 m c i) := rfl
theorem avg6 (c : Dev nD) : (shapeCast S196608 (res_main_v148 (launchContents m c)) shapeCasts_S2x2x48x16x64_S196608) = fun i => avg (P6 m c i) := rfl
theorem sqr6 (c : Dev nD) : (shapeCast S196608 (res_main_v154 (launchContents m c)) shapeCasts_S2x2x48x16x64_S196608) = fun i => sqr (P6 m c i) := rfl
theorem stp6 (c : Dev nD) : (shapeCast S196608 (mulf (broadcastInDim S2x2x48x16x64 ![] bcast_S_S2x2x48x16x64 (constant S_ .f32 0xBA83126F#32)) (addf (Host.divf (Host.divf (res_main_v148 (launchContents m c)) (broadcastInDim S2x2x48x16x64 ![] bcast_S_S2x2x48x16x64 (constant S_ .f32 0x3F26BD02#32))) (addf (Host.sqrt (Host.divf (res_main_v154 (launchContents m c)) (broadcastInDim S2x2x48x16x64 ![] bcast_S_S2x2x48x16x64 (constant S_ .f32 0x3C231ACC#32)))) (broadcastInDim S2x2x48x16x64 ![] bcast_S_S2x2x48x16x64 (constant S_ .f32 0x322BCC77#32)))) (mulf (broadcastInDim S2x2x48x16x64 ![] bcast_S_S2x2x48x16x64 (constant S_ .f32 0x3C23D70A#32)) (launchContents m c (Proc.devRef .tc main_arg24))))) shapeCasts_S2x2x48x16x64_S196608) = fun i => stp (P6 m c i) := rfl
theorem avg7 (c : Dev nD) : (shapeCast S196608 (res_main_v172 (launchContents m c)) shapeCasts_S2x2x48x16x64_S196608) = fun i => avg (P7 m c i) := rfl
theorem sqr7 (c : Dev nD) : (shapeCast S196608 (res_main_v178 (launchContents m c)) shapeCasts_S2x2x48x16x64_S196608) = fun i => sqr (P7 m c i) := rfl
theorem stp7 (c : Dev nD) : (shapeCast S196608 (mulf (broadcastInDim S2x2x48x16x64 ![] bcast_S_S2x2x48x16x64 (constant S_ .f32 0xBA83126F#32)) (addf (Host.divf (Host.divf (res_main_v172 (launchContents m c)) (broadcastInDim S2x2x48x16x64 ![] bcast_S_S2x2x48x16x64 (constant S_ .f32 0x3F26BD02#32))) (addf (Host.sqrt (Host.divf (res_main_v178 (launchContents m c)) (broadcastInDim S2x2x48x16x64 ![] bcast_S_S2x2x48x16x64 (constant S_ .f32 0x3C231ACC#32)))) (broadcastInDim S2x2x48x16x64 ![] bcast_S_S2x2x48x16x64 (constant S_ .f32 0x322BCC77#32)))) (mulf (broadcastInDim S2x2x48x16x64 ![] bcast_S_S2x2x48x16x64 (constant S_ .f32 0x3C23D70A#32)) (launchContents m c (Proc.devRef .tc main_arg25))))) shapeCasts_S2x2x48x16x64_S196608) = fun i => stp (P7 m c i) := rfl
theorem avg8 (c : Dev nD) : (shapeCast S1536 (res_main_v196 (launchContents m c)) shapeCasts_S2x768_S1536) = fun i => avg (P8 m c i) := rfl
theorem sqr8 (c : Dev nD) : (shapeCast S1536 (res_main_v202 (launchContents m c)) shapeCasts_S2x768_S1536) = fun i => sqr (P8 m c i) := rfl
theorem stp8 (c : Dev nD) : (shapeCast S1536 (mulf (broadcastInDim S2x768 ![] bcast_S_S2x768 (constant S_ .f32 0xBA83126F#32)) (addf (Host.divf (Host.divf (res_main_v196 (launchContents m c)) (broadcastInDim S2x768 ![] bcast_S_S2x768 (constant S_ .f32 0x3F26BD02#32))) (addf (Host.sqrt (Host.divf (res_main_v202 (launchContents m c)) (broadcastInDim S2x768 ![] bcast_S_S2x768 (constant S_ .f32 0x3C231ACC#32)))) (broadcastInDim S2x768 ![] bcast_S_S2x768 (constant S_ .f32 0x322BCC77#32)))) (mulf (broadcastInDim S2x768 ![] bcast_S_S2x768 (constant S_ .f32 0x3C23D70A#32)) (launchContents m c (Proc.devRef .tc main_arg26))))) shapeCasts_S2x768_S1536) = fun i => stp (P8 m c i) := rfl
theorem avg9 (c : Dev nD) : (shapeCast S1536 (res_main_v220 (launchContents m c)) shapeCasts_S2x768_S1536) = fun i => avg (P9 m c i) := rfl
theorem sqr9 (c : Dev nD) : (shapeCast S1536 (res_main_v226 (launchContents m c)) shapeCasts_S2x768_S1536) = fun i => sqr (P9 m c i) := rfl
theorem stp9 (c : Dev nD) : (shapeCast S1536 (mulf (broadcastInDim S2x768 ![] bcast_S_S2x768 (constant S_ .f32 0xBA83126F#32)) (addf (Host.divf (Host.divf (res_main_v220 (launchContents m c)) (broadcastInDim S2x768 ![] bcast_S_S2x768 (constant S_ .f32 0x3F26BD02#32))) (addf (Host.sqrt (Host.divf (res_main_v226 (launchContents m c)) (broadcastInDim S2x768 ![] bcast_S_S2x768 (constant S_ .f32 0x3C231ACC#32)))) (broadcastInDim S2x768 ![] bcast_S_S2x768 (constant S_ .f32 0x322BCC77#32)))) (mulf (broadcastInDim S2x768 ![] bcast_S_S2x768 (constant S_ .f32 0x3C23D70A#32)) (launchContents m c (Proc.devRef .tc main_arg27))))) shapeCasts_S2x768_S1536) = fun i => stp (P9 m c i) := rfl
theorem avg10 (c : Dev nD) : (shapeCast S5760 (res_main_v244 (launchContents m c)) shapeCasts_S2x576x5_S5760) = fun i => avg (P10 m c i) := rfl
theorem sqr10 (c : Dev nD) : (shapeCast S5760 (res_main_v250 (launchContents m c)) shapeCasts_S2x576x5_S5760) = fun i => sqr (P10 m c i) := rfl
theorem stp10 (c : Dev nD) : (shapeCast S5760 (mulf (broadcastInDim S2x576x5 ![] bcast_S_S2x576x5 (constant S_ .f32 0xBA83126F#32)) (addf (Host.divf (Host.divf (res_main_v244 (launchContents m c)) (broadcastInDim S2x576x5 ![] bcast_S_S2x576x5 (constant S_ .f32 0x3F26BD02#32))) (addf (Host.sqrt (Host.divf (res_main_v250 (launchContents m c)) (broadcastInDim S2x576x5 ![] bcast_S_S2x576x5 (constant S_ .f32 0x3C231ACC#32)))) (broadcastInDim S2x576x5 ![] bcast_S_S2x576x5 (constant S_ .f32 0x322BCC77#32)))) (mulf (broadcastInDim S2x576x5 ![] bcast_S_S2x576x5 (constant S_ .f32 0x3C23D70A#32)) (launchContents m c (Proc.devRef .tc main_arg28))))) shapeCasts_S2x576x5_S5760) = fun i => stp (P10 m c i) := rfl
theorem avg11 (c : Dev nD) : (shapeCast S24 (res_main_v268 (launchContents m c)) shapeCasts_S2x2x6_S24) = fun i => avg (P11 m c i) := rfl
theorem sqr11 (c : Dev nD) : (shapeCast S24 (res_main_v274 (launchContents m c)) shapeCasts_S2x2x6_S24) = fun i => sqr (P11 m c i) := rfl
theorem stp11 (c : Dev nD) : (shapeCast S24 (mulf (broadcastInDim S2x2x6 ![] bcast_S_S2x2x6 (constant S_ .f32 0xBA83126F#32)) (addf (Host.divf (Host.divf (res_main_v268 (launchContents m c)) (broadcastInDim S2x2x6 ![] bcast_S_S2x2x6 (constant S_ .f32 0x3F26BD02#32))) (addf (Host.sqrt (Host.divf (res_main_v274 (launchContents m c)) (broadcastInDim S2x2x6 ![] bcast_S_S2x2x6 (constant S_ .f32 0x3C231ACC#32)))) (broadcastInDim S2x2x6 ![] bcast_S_S2x2x6 (constant S_ .f32 0x322BCC77#32)))) (mulf (broadcastInDim S2x2x6 ![] bcast_S_S2x2x6 (constant S_ .f32 0x3C23D70A#32)) (launchContents m c (Proc.devRef .tc main_arg29))))) shapeCasts_S2x2x6_S24) = fun i => stp (P11 m c i) := rfl
theorem avg12 (c : Dev nD) : (shapeCast S24 (res_main_v292 (launchContents m c)) shapeCasts_S2x2x6_S24) = fun i => avg (P12 m c i) := rfl
theorem sqr12 (c : Dev nD) : (shapeCast S24 (res_main_v298 (launchContents m c)) shapeCasts_S2x2x6_S24) = fun i => sqr (P12 m c i) := rfl
theorem stp12 (c : Dev nD) : (shapeCast S24 (mulf (broadcastInDim S2x2x6 ![] bcast_S_S2x2x6 (constant S_ .f32 0xBA83126F#32)) (addf (Host.divf (Host.divf (res_main_v292 (launchContents m c)) (broadcastInDim S2x2x6 ![] bcast_S_S2x2x6 (constant S_ .f32 0x3F26BD02#32))) (addf (Host.sqrt (Host.divf (res_main_v298 (launchContents m c)) (broadcastInDim S2x2x6 ![] bcast_S_S2x2x6 (constant S_ .f32 0x3C231ACC#32)))) (broadcastInDim S2x2x6 ![] bcast_S_S2x2x6 (constant S_ .f32 0x322BCC77#32)))) (mulf (broadcastInDim S2x2x6 ![] bcast_S_S2x2x6 (constant S_ .f32 0x3C23D70A#32)) (launchContents m c (Proc.devRef .tc main_arg30))))) shapeCasts_S2x2x6_S24) = fun i => stp (P12 m c i) := rfl
theorem avg13 (c : Dev nD) : (shapeCast S256 (res_main_v316 (launchContents m c)) shapeCasts_S2x128_S256) = fun i => avg (P13 m c i) := rfl
theorem sqr13 (c : Dev nD) : (shapeCast S256 (res_main_v322 (launchContents m c)) shapeCasts_S2x128_S256) = fun i => sqr (P13 m c i) := rfl
theorem stp13 (c : Dev nD) : (shapeCast S256 (mulf (broadcastInDim S2x128 ![] bcast_S_S2x128 (constant S_ .f32 0xBA83126F#32)) (addf (Host.divf (Host.divf (res_main_v316 (launchContents m c)) (broadcastInDim S2x128 ![] bcast_S_S2x128 (constant S_ .f32 0x3F26BD02#32))) (addf (Host.sqrt (Host.divf (res_main_v322 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg31))))) shapeCasts_S2x128_S256) = fun i => stp (P13 m c i) := rfl
theorem avg14 (c : Dev nD) : (shapeCast S256 (res_main_v340 (launchContents m c)) shapeCasts_S2x128_S256) = fun i => avg (P14 m c i) := rfl
theorem sqr14 (c : Dev nD) : (shapeCast S256 (res_main_v346 (launchContents m c)) shapeCasts_S2x128_S256) = fun i => sqr (P14 m c i) := rfl
theorem stp14 (c : Dev nD) : (shapeCast S256 (mulf (broadcastInDim S2x128 ![] bcast_S_S2x128 (constant S_ .f32 0xBA83126F#32)) (addf (Host.divf (Host.divf (res_main_v340 (launchContents m c)) (broadcastInDim S2x128 ![] bcast_S_S2x128 (constant S_ .f32 0x3F26BD02#32))) (addf (Host.sqrt (Host.divf (res_main_v346 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg32))))) shapeCasts_S2x128_S256) = fun i => stp (P14 m c i) := rfl
theorem avg15 (c : Dev nD) : (shapeCast S256 (res_main_v364 (launchContents m c)) shapeCasts_S2x128_S256) = fun i => avg (P15 m c i) := rfl
theorem sqr15 (c : Dev nD) : (shapeCast S256 (res_main_v370 (launchContents m c)) shapeCasts_S2x128_S256) = fun i => sqr (P15 m c i) := rfl
theorem stp15 (c : Dev nD) : (shapeCast S256 (mulf (broadcastInDim S2x128 ![] bcast_S_S2x128 (constant S_ .f32 0xBA83126F#32)) (addf (Host.divf (Host.divf (res_main_v364 (launchContents m c)) (broadcastInDim S2x128 ![] bcast_S_S2x128 (constant S_ .f32 0x3F26BD02#32))) (addf (Host.sqrt (Host.divf (res_main_v370 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg33))))) shapeCasts_S2x128_S256) = fun i => stp (P15 m c i) := rfl
theorem avg16 (c : Dev nD) : (shapeCast S4096 (res_main_v388 (launchContents m c)) shapeCasts_S2x2048_S4096) = fun i => avg (P16 m c i) := rfl
theorem sqr16 (c : Dev nD) : (shapeCast S4096 (res_main_v394 (launchContents m c)) shapeCasts_S2x2048_S4096) = fun i => sqr (P16 m c i) := rfl
theorem stp16 (c : Dev nD) : (shapeCast S4096 (mulf (broadcastInDim S2x2048 ![] bcast_S_S2x2048 (constant S_ .f32 0xBA83126F#32)) (addf (Host.divf (Host.divf (res_main_v388 (launchContents m c)) (broadcastInDim S2x2048 ![] bcast_S_S2x2048 (constant S_ .f32 0x3F26BD02#32))) (addf (Host.sqrt (Host.divf (res_main_v394 (launchContents m c)) (broadcastInDim S2x2048 ![] bcast_S_S2x2048 (constant S_ .f32 0x3C231ACC#32)))) (broadcastInDim S2x2048 ![] bcast_S_S2x2048 (constant S_ .f32 0x322BCC77#32)))) (mulf (broadcastInDim S2x2048 ![] bcast_S_S2x2048 (constant S_ .f32 0x3C23D70A#32)) (launchContents m c (Proc.devRef .tc main_arg34))))) shapeCasts_S2x2048_S4096) = fun i => stp (P16 m c i) := rfl
theorem avg17 (c : Dev nD) : (res_main_v412 (launchContents m c)) = fun i => avg (P17 m c i) := rfl
theorem sqr17 (c : Dev nD) : (res_main_v418 (launchContents m c)) = fun i => sqr (P17 m c i) := rfl
theorem stp17 (c : Dev nD) : (mulf (broadcastInDim S2048 ![] bcast_S_S2048 (constant S_ .f32 0xBA83126F#32)) (addf (Host.divf (Host.divf (res_main_v412 (launchContents m c)) (broadcastInDim S2048 ![] bcast_S_S2048 (constant S_ .f32 0x3F26BD02#32))) (addf (Host.sqrt (Host.divf (res_main_v418 (launchContents m c)) (broadcastInDim S2048 ![] bcast_S_S2048 (constant S_ .f32 0x3C231ACC#32)))) (broadcastInDim S2048 ![] bcast_S_S2048 (constant S_ .f32 0x322BCC77#32)))) (mulf (broadcastInDim S2048 ![] bcast_S_S2048 (constant S_ .f32 0x3C23D70A#32)) (launchContents m c (Proc.devRef .tc main_arg35))))) = fun i => stp (P17 m c i) := rfl
theorem all_avg (c : Dev nD) : shapeCast S6656x128 (concatenate S851968 0 [⟨S824944, (concatenate S824944 0 [⟨S4096, (shapeCast S4096 (res_main_v4 (launchContents m c)) shapeCasts_S2x2048_S4096)⟩, ⟨S12288, (shapeCast S12288 (res_main_v28 (launchContents m c)) shapeCasts_S2x2x48x64_S12288)⟩, ⟨S12288, (shapeCast S12288 (res_main_v52 (launchContents m c)) shapeCasts_S2x2x48x64_S12288)⟩, ⟨S192, (shapeCast S192 (res_main_v76 (launchContents m c)) shapeCasts_S2x2x48_S192)⟩, ⟨S196608, (shapeCast S196608 (res_main_v100 (launchContents m c)) shapeCasts_S2x2x48x64x16_S196608)⟩, ⟨S196608, (shapeCast S196608 (res_main_v124 (launchContents m c)) shapeCasts_S2x2x48x64x16_S196608)⟩, ⟨S196608, (shapeCast S196608 (res_main_v148 (launchContents m c)) shapeCasts_S2x2x48x16x64_S196608)⟩, ⟨S196608, (shapeCast S196608 (res_main_v172 (launchContents m c)) shapeCasts_S2x2x48x16x64_S196608)⟩, ⟨S1536, (shapeCast S1536 (res_main_v196 (launchContents m c)) shapeCasts_S2x768_S1536)⟩, ⟨S1536, (shapeCast S1536 (res_main_v220 (launchContents m c)) shapeCasts_S2x768_S1536)⟩, ⟨S5760, (shapeCast S5760 (res_main_v244 (launchContents m c)) shapeCasts_S2x576x5_S5760)⟩, ⟨S24, (shapeCast S24 (res_main_v268 (launchContents m c)) shapeCasts_S2x2x6_S24)⟩, ⟨S24, (shapeCast S24 (res_main_v292 (launchContents m c)) shapeCasts_S2x2x6_S24)⟩, ⟨S256, (shapeCast S256 (res_main_v316 (launchContents m c)) shapeCasts_S2x128_S256)⟩, ⟨S256, (shapeCast S256 (res_main_v340 (launchContents m c)) shapeCasts_S2x128_S256)⟩, ⟨S256, (shapeCast S256 (res_main_v364 (launchContents m c)) shapeCasts_S2x128_S256)⟩] Kernel11Ideal.Gen.concatenates_S4096_S12288_S12288_S192_S196608_S196608_S196608_S196608_S1536_S1536_S5760_S24_S24_S256_S256_S256_S824944_d0)⟩, ⟨Reference11Ideal.S27024, (concatenate Reference11Ideal.S27024 0 [⟨S4096, (shapeCast S4096 (res_main_v388 (launchContents m c)) shapeCasts_S2x2048_S4096)⟩, ⟨S2048, (res_main_v412 (launchContents m c))⟩, ⟨Reference11Ideal.S20880, (broadcastInDim S20880 ![] bcast_S_S20880 (constant (F := Ideal) S_ .f32 0x00000000#32))⟩] Reference11Ideal.Gen.concatenates_S4096_S2048_S20880_S27024_d0)⟩] Reference11Ideal.Gen.concatenates_S824944_S27024_S851968_d0) Reference11Ideal.Gen.shapeCasts_S851968_S6656x128 = fun j => avg (PK m c j) := by
  simp only [avg0, avg1, avg2, avg3, avg4, avg5, avg6, avg7, avg8, avg9, avg10, avg11, avg12, avg13, avg14, avg15, avg16, avg17]
  exact packed_map avg _ zeros_avg (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c)
theorem all_sqr (c : Dev nD) : shapeCast S6656x128 (concatenate S851968 0 [⟨S824944, (concatenate S824944 0 [⟨S4096, (shapeCast S4096 (res_main_v10 (launchContents m c)) shapeCasts_S2x2048_S4096)⟩, ⟨S12288, (shapeCast S12288 (res_main_v34 (launchContents m c)) shapeCasts_S2x2x48x64_S12288)⟩, ⟨S12288, (shapeCast S12288 (res_main_v58 (launchContents m c)) shapeCasts_S2x2x48x64_S12288)⟩, ⟨S192, (shapeCast S192 (res_main_v82 (launchContents m c)) shapeCasts_S2x2x48_S192)⟩, ⟨S196608, (shapeCast S196608 (res_main_v106 (launchContents m c)) shapeCasts_S2x2x48x64x16_S196608)⟩, ⟨S196608, (shapeCast S196608 (res_main_v130 (launchContents m c)) shapeCasts_S2x2x48x64x16_S196608)⟩, ⟨S196608, (shapeCast S196608 (res_main_v154 (launchContents m c)) shapeCasts_S2x2x48x16x64_S196608)⟩, ⟨S196608, (shapeCast S196608 (res_main_v178 (launchContents m c)) shapeCasts_S2x2x48x16x64_S196608)⟩, ⟨S1536, (shapeCast S1536 (res_main_v202 (launchContents m c)) shapeCasts_S2x768_S1536)⟩, ⟨S1536, (shapeCast S1536 (res_main_v226 (launchContents m c)) shapeCasts_S2x768_S1536)⟩, ⟨S5760, (shapeCast S5760 (res_main_v250 (launchContents m c)) shapeCasts_S2x576x5_S5760)⟩, ⟨S24, (shapeCast S24 (res_main_v274 (launchContents m c)) shapeCasts_S2x2x6_S24)⟩, ⟨S24, (shapeCast S24 (res_main_v298 (launchContents m c)) shapeCasts_S2x2x6_S24)⟩, ⟨S256, (shapeCast S256 (res_main_v322 (launchContents m c)) shapeCasts_S2x128_S256)⟩, ⟨S256, (shapeCast S256 (res_main_v346 (launchContents m c)) shapeCasts_S2x128_S256)⟩, ⟨S256, (shapeCast S256 (res_main_v370 (launchContents m c)) shapeCasts_S2x128_S256)⟩] Kernel11Ideal.Gen.concatenates_S4096_S12288_S12288_S192_S196608_S196608_S196608_S196608_S1536_S1536_S5760_S24_S24_S256_S256_S256_S824944_d0)⟩, ⟨Reference11Ideal.S27024, (concatenate Reference11Ideal.S27024 0 [⟨S4096, (shapeCast S4096 (res_main_v394 (launchContents m c)) shapeCasts_S2x2048_S4096)⟩, ⟨S2048, (res_main_v418 (launchContents m c))⟩, ⟨Reference11Ideal.S20880, (broadcastInDim S20880 ![] bcast_S_S20880 (constant (F := Ideal) S_ .f32 0x00000000#32))⟩] Reference11Ideal.Gen.concatenates_S4096_S2048_S20880_S27024_d0)⟩] Reference11Ideal.Gen.concatenates_S824944_S27024_S851968_d0) Reference11Ideal.Gen.shapeCasts_S851968_S6656x128 = fun j => sqr (PK m c j) := by
  simp only [sqr0, sqr1, sqr2, sqr3, sqr4, sqr5, sqr6, sqr7, sqr8, sqr9, sqr10, sqr11, sqr12, sqr13, sqr14, sqr15, sqr16, sqr17]
  exact packed_map sqr _ zeros_sqr (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c)
theorem all_stp (c : Dev nD) : shapeCast S6656x128 (concatenate S851968 0 [⟨S824944, (concatenate S824944 0 [⟨S4096, (shapeCast S4096 (mulf (broadcastInDim S2x2048 ![] bcast_S_S2x2048 (constant S_ .f32 0xBA83126F#32)) (addf (Host.divf (Host.divf (res_main_v4 (launchContents m c)) (broadcastInDim S2x2048 ![] bcast_S_S2x2048 (constant S_ .f32 0x3F26BD02#32))) (addf (Host.sqrt (Host.divf (res_main_v10 (launchContents m c)) (broadcastInDim S2x2048 ![] bcast_S_S2x2048 (constant S_ .f32 0x3C231ACC#32)))) (broadcastInDim S2x2048 ![] bcast_S_S2x2048 (constant S_ .f32 0x322BCC77#32)))) (mulf (broadcastInDim S2x2048 ![] bcast_S_S2x2048 (constant S_ .f32 0x3C23D70A#32)) (launchContents m c (Proc.devRef .tc main_arg18))))) shapeCasts_S2x2048_S4096)⟩, ⟨S12288, (shapeCast S12288 (mulf (broadcastInDim S2x2x48x64 ![] bcast_S_S2x2x48x64 (constant S_ .f32 0xBA83126F#32)) (addf (Host.divf (Host.divf (res_main_v28 (launchContents m c)) (broadcastInDim S2x2x48x64 ![] bcast_S_S2x2x48x64 (constant S_ .f32 0x3F26BD02#32))) (addf (Host.sqrt (Host.divf (res_main_v34 (launchContents m c)) (broadcastInDim S2x2x48x64 ![] bcast_S_S2x2x48x64 (constant S_ .f32 0x3C231ACC#32)))) (broadcastInDim S2x2x48x64 ![] bcast_S_S2x2x48x64 (constant S_ .f32 0x322BCC77#32)))) (mulf (broadcastInDim S2x2x48x64 ![] bcast_S_S2x2x48x64 (constant S_ .f32 0x3C23D70A#32)) (launchContents m c (Proc.devRef .tc main_arg19))))) shapeCasts_S2x2x48x64_S12288)⟩, ⟨S12288, (shapeCast S12288 (mulf (broadcastInDim S2x2x48x64 ![] bcast_S_S2x2x48x64 (constant S_ .f32 0xBA83126F#32)) (addf (Host.divf (Host.divf (res_main_v52 (launchContents m c)) (broadcastInDim S2x2x48x64 ![] bcast_S_S2x2x48x64 (constant S_ .f32 0x3F26BD02#32))) (addf (Host.sqrt (Host.divf (res_main_v58 (launchContents m c)) (broadcastInDim S2x2x48x64 ![] bcast_S_S2x2x48x64 (constant S_ .f32 0x3C231ACC#32)))) (broadcastInDim S2x2x48x64 ![] bcast_S_S2x2x48x64 (constant S_ .f32 0x322BCC77#32)))) (mulf (broadcastInDim S2x2x48x64 ![] bcast_S_S2x2x48x64 (constant S_ .f32 0x3C23D70A#32)) (launchContents m c (Proc.devRef .tc main_arg20))))) shapeCasts_S2x2x48x64_S12288)⟩, ⟨S192, (shapeCast S192 (mulf (broadcastInDim S2x2x48 ![] bcast_S_S2x2x48 (constant S_ .f32 0xBA83126F#32)) (addf (Host.divf (Host.divf (res_main_v76 (launchContents m c)) (broadcastInDim S2x2x48 ![] bcast_S_S2x2x48 (constant S_ .f32 0x3F26BD02#32))) (addf (Host.sqrt (Host.divf (res_main_v82 (launchContents m c)) (broadcastInDim S2x2x48 ![] bcast_S_S2x2x48 (constant S_ .f32 0x3C231ACC#32)))) (broadcastInDim S2x2x48 ![] bcast_S_S2x2x48 (constant S_ .f32 0x322BCC77#32)))) (mulf (broadcastInDim S2x2x48 ![] bcast_S_S2x2x48 (constant S_ .f32 0x3C23D70A#32)) (launchContents m c (Proc.devRef .tc main_arg21))))) shapeCasts_S2x2x48_S192)⟩, ⟨S196608, (shapeCast S196608 (mulf (broadcastInDim S2x2x48x64x16 ![] bcast_S_S2x2x48x64x16 (constant S_ .f32 0xBA83126F#32)) (addf (Host.divf (Host.divf (res_main_v100 (launchContents m c)) (broadcastInDim S2x2x48x64x16 ![] bcast_S_S2x2x48x64x16 (constant S_ .f32 0x3F26BD02#32))) (addf (Host.sqrt (Host.divf (res_main_v106 (launchContents m c)) (broadcastInDim S2x2x48x64x16 ![] bcast_S_S2x2x48x64x16 (constant S_ .f32 0x3C231ACC#32)))) (broadcastInDim S2x2x48x64x16 ![] bcast_S_S2x2x48x64x16 (constant S_ .f32 0x322BCC77#32)))) (mulf (broadcastInDim S2x2x48x64x16 ![] bcast_S_S2x2x48x64x16 (constant S_ .f32 0x3C23D70A#32)) (launchContents m c (Proc.devRef .tc main_arg22))))) shapeCasts_S2x2x48x64x16_S196608)⟩, ⟨S196608, (shapeCast S196608 (mulf (broadcastInDim S2x2x48x64x16 ![] bcast_S_S2x2x48x64x16 (constant S_ .f32 0xBA83126F#32)) (addf (Host.divf (Host.divf (res_main_v124 (launchContents m c)) (broadcastInDim S2x2x48x64x16 ![] bcast_S_S2x2x48x64x16 (constant S_ .f32 0x3F26BD02#32))) (addf (Host.sqrt (Host.divf (res_main_v130 (launchContents m c)) (broadcastInDim S2x2x48x64x16 ![] bcast_S_S2x2x48x64x16 (constant S_ .f32 0x3C231ACC#32)))) (broadcastInDim S2x2x48x64x16 ![] bcast_S_S2x2x48x64x16 (constant S_ .f32 0x322BCC77#32)))) (mulf (broadcastInDim S2x2x48x64x16 ![] bcast_S_S2x2x48x64x16 (constant S_ .f32 0x3C23D70A#32)) (launchContents m c (Proc.devRef .tc main_arg23))))) shapeCasts_S2x2x48x64x16_S196608)⟩, ⟨S196608, (shapeCast S196608 (mulf (broadcastInDim S2x2x48x16x64 ![] bcast_S_S2x2x48x16x64 (constant S_ .f32 0xBA83126F#32)) (addf (Host.divf (Host.divf (res_main_v148 (launchContents m c)) (broadcastInDim S2x2x48x16x64 ![] bcast_S_S2x2x48x16x64 (constant S_ .f32 0x3F26BD02#32))) (addf (Host.sqrt (Host.divf (res_main_v154 (launchContents m c)) (broadcastInDim S2x2x48x16x64 ![] bcast_S_S2x2x48x16x64 (constant S_ .f32 0x3C231ACC#32)))) (broadcastInDim S2x2x48x16x64 ![] bcast_S_S2x2x48x16x64 (constant S_ .f32 0x322BCC77#32)))) (mulf (broadcastInDim S2x2x48x16x64 ![] bcast_S_S2x2x48x16x64 (constant S_ .f32 0x3C23D70A#32)) (launchContents m c (Proc.devRef .tc main_arg24))))) shapeCasts_S2x2x48x16x64_S196608)⟩, ⟨S196608, (shapeCast S196608 (mulf (broadcastInDim S2x2x48x16x64 ![] bcast_S_S2x2x48x16x64 (constant S_ .f32 0xBA83126F#32)) (addf (Host.divf (Host.divf (res_main_v172 (launchContents m c)) (broadcastInDim S2x2x48x16x64 ![] bcast_S_S2x2x48x16x64 (constant S_ .f32 0x3F26BD02#32))) (addf (Host.sqrt (Host.divf (res_main_v178 (launchContents m c)) (broadcastInDim S2x2x48x16x64 ![] bcast_S_S2x2x48x16x64 (constant S_ .f32 0x3C231ACC#32)))) (broadcastInDim S2x2x48x16x64 ![] bcast_S_S2x2x48x16x64 (constant S_ .f32 0x322BCC77#32)))) (mulf (broadcastInDim S2x2x48x16x64 ![] bcast_S_S2x2x48x16x64 (constant S_ .f32 0x3C23D70A#32)) (launchContents m c (Proc.devRef .tc main_arg25))))) shapeCasts_S2x2x48x16x64_S196608)⟩, ⟨S1536, (shapeCast S1536 (mulf (broadcastInDim S2x768 ![] bcast_S_S2x768 (constant S_ .f32 0xBA83126F#32)) (addf (Host.divf (Host.divf (res_main_v196 (launchContents m c)) (broadcastInDim S2x768 ![] bcast_S_S2x768 (constant S_ .f32 0x3F26BD02#32))) (addf (Host.sqrt (Host.divf (res_main_v202 (launchContents m c)) (broadcastInDim S2x768 ![] bcast_S_S2x768 (constant S_ .f32 0x3C231ACC#32)))) (broadcastInDim S2x768 ![] bcast_S_S2x768 (constant S_ .f32 0x322BCC77#32)))) (mulf (broadcastInDim S2x768 ![] bcast_S_S2x768 (constant S_ .f32 0x3C23D70A#32)) (launchContents m c (Proc.devRef .tc main_arg26))))) shapeCasts_S2x768_S1536)⟩, ⟨S1536, (shapeCast S1536 (mulf (broadcastInDim S2x768 ![] bcast_S_S2x768 (constant S_ .f32 0xBA83126F#32)) (addf (Host.divf (Host.divf (res_main_v220 (launchContents m c)) (broadcastInDim S2x768 ![] bcast_S_S2x768 (constant S_ .f32 0x3F26BD02#32))) (addf (Host.sqrt (Host.divf (res_main_v226 (launchContents m c)) (broadcastInDim S2x768 ![] bcast_S_S2x768 (constant S_ .f32 0x3C231ACC#32)))) (broadcastInDim S2x768 ![] bcast_S_S2x768 (constant S_ .f32 0x322BCC77#32)))) (mulf (broadcastInDim S2x768 ![] bcast_S_S2x768 (constant S_ .f32 0x3C23D70A#32)) (launchContents m c (Proc.devRef .tc main_arg27))))) shapeCasts_S2x768_S1536)⟩, ⟨S5760, (shapeCast S5760 (mulf (broadcastInDim S2x576x5 ![] bcast_S_S2x576x5 (constant S_ .f32 0xBA83126F#32)) (addf (Host.divf (Host.divf (res_main_v244 (launchContents m c)) (broadcastInDim S2x576x5 ![] bcast_S_S2x576x5 (constant S_ .f32 0x3F26BD02#32))) (addf (Host.sqrt (Host.divf (res_main_v250 (launchContents m c)) (broadcastInDim S2x576x5 ![] bcast_S_S2x576x5 (constant S_ .f32 0x3C231ACC#32)))) (broadcastInDim S2x576x5 ![] bcast_S_S2x576x5 (constant S_ .f32 0x322BCC77#32)))) (mulf (broadcastInDim S2x576x5 ![] bcast_S_S2x576x5 (constant S_ .f32 0x3C23D70A#32)) (launchContents m c (Proc.devRef .tc main_arg28))))) shapeCasts_S2x576x5_S5760)⟩, ⟨S24, (shapeCast S24 (mulf (broadcastInDim S2x2x6 ![] bcast_S_S2x2x6 (constant S_ .f32 0xBA83126F#32)) (addf (Host.divf (Host.divf (res_main_v268 (launchContents m c)) (broadcastInDim S2x2x6 ![] bcast_S_S2x2x6 (constant S_ .f32 0x3F26BD02#32))) (addf (Host.sqrt (Host.divf (res_main_v274 (launchContents m c)) (broadcastInDim S2x2x6 ![] bcast_S_S2x2x6 (constant S_ .f32 0x3C231ACC#32)))) (broadcastInDim S2x2x6 ![] bcast_S_S2x2x6 (constant S_ .f32 0x322BCC77#32)))) (mulf (broadcastInDim S2x2x6 ![] bcast_S_S2x2x6 (constant S_ .f32 0x3C23D70A#32)) (launchContents m c (Proc.devRef .tc main_arg29))))) shapeCasts_S2x2x6_S24)⟩, ⟨S24, (shapeCast S24 (mulf (broadcastInDim S2x2x6 ![] bcast_S_S2x2x6 (constant S_ .f32 0xBA83126F#32)) (addf (Host.divf (Host.divf (res_main_v292 (launchContents m c)) (broadcastInDim S2x2x6 ![] bcast_S_S2x2x6 (constant S_ .f32 0x3F26BD02#32))) (addf (Host.sqrt (Host.divf (res_main_v298 (launchContents m c)) (broadcastInDim S2x2x6 ![] bcast_S_S2x2x6 (constant S_ .f32 0x3C231ACC#32)))) (broadcastInDim S2x2x6 ![] bcast_S_S2x2x6 (constant S_ .f32 0x322BCC77#32)))) (mulf (broadcastInDim S2x2x6 ![] bcast_S_S2x2x6 (constant S_ .f32 0x3C23D70A#32)) (launchContents m c (Proc.devRef .tc main_arg30))))) shapeCasts_S2x2x6_S24)⟩, ⟨S256, (shapeCast S256 (mulf (broadcastInDim S2x128 ![] bcast_S_S2x128 (constant S_ .f32 0xBA83126F#32)) (addf (Host.divf (Host.divf (res_main_v316 (launchContents m c)) (broadcastInDim S2x128 ![] bcast_S_S2x128 (constant S_ .f32 0x3F26BD02#32))) (addf (Host.sqrt (Host.divf (res_main_v322 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg31))))) shapeCasts_S2x128_S256)⟩, ⟨S256, (shapeCast S256 (mulf (broadcastInDim S2x128 ![] bcast_S_S2x128 (constant S_ .f32 0xBA83126F#32)) (addf (Host.divf (Host.divf (res_main_v340 (launchContents m c)) (broadcastInDim S2x128 ![] bcast_S_S2x128 (constant S_ .f32 0x3F26BD02#32))) (addf (Host.sqrt (Host.divf (res_main_v346 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg32))))) shapeCasts_S2x128_S256)⟩, ⟨S256, (shapeCast S256 (mulf (broadcastInDim S2x128 ![] bcast_S_S2x128 (constant S_ .f32 0xBA83126F#32)) (addf (Host.divf (Host.divf (res_main_v364 (launchContents m c)) (broadcastInDim S2x128 ![] bcast_S_S2x128 (constant S_ .f32 0x3F26BD02#32))) (addf (Host.sqrt (Host.divf (res_main_v370 (launchContents m c)) (broadcastInDim S2x128 ![] bcast_S_S2x128 (constant S_ .f32 0x3C231ACC#32)))) (broadcastInDim S2x128 ![] bcast_S_S2x128 (constant S_ .f32 0x322BCC77#32)))) (mulf (broadcastInDim S2x128 ![] bcast_S_S2x128 (constant S_ .f32 0x3C23D70A#32)) (launchContents m c (Proc.devRef .tc main_arg33))))) shapeCasts_S2x128_S256)⟩] Kernel11Ideal.Gen.concatenates_S4096_S12288_S12288_S192_S196608_S196608_S196608_S196608_S1536_S1536_S5760_S24_S24_S256_S256_S256_S824944_d0)⟩, ⟨Reference11Ideal.S27024, (concatenate Reference11Ideal.S27024 0 [⟨S4096, (shapeCast S4096 (mulf (broadcastInDim S2x2048 ![] bcast_S_S2x2048 (constant S_ .f32 0xBA83126F#32)) (addf (Host.divf (Host.divf (res_main_v388 (launchContents m c)) (broadcastInDim S2x2048 ![] bcast_S_S2x2048 (constant S_ .f32 0x3F26BD02#32))) (addf (Host.sqrt (Host.divf (res_main_v394 (launchContents m c)) (broadcastInDim S2x2048 ![] bcast_S_S2x2048 (constant S_ .f32 0x3C231ACC#32)))) (broadcastInDim S2x2048 ![] bcast_S_S2x2048 (constant S_ .f32 0x322BCC77#32)))) (mulf (broadcastInDim S2x2048 ![] bcast_S_S2x2048 (constant S_ .f32 0x3C23D70A#32)) (launchContents m c (Proc.devRef .tc main_arg34))))) shapeCasts_S2x2048_S4096)⟩, ⟨S2048, (mulf (broadcastInDim S2048 ![] bcast_S_S2048 (constant S_ .f32 0xBA83126F#32)) (addf (Host.divf (Host.divf (res_main_v412 (launchContents m c)) (broadcastInDim S2048 ![] bcast_S_S2048 (constant S_ .f32 0x3F26BD02#32))) (addf (Host.sqrt (Host.divf (res_main_v418 (launchContents m c)) (broadcastInDim S2048 ![] bcast_S_S2048 (constant S_ .f32 0x3C231ACC#32)))) (broadcastInDim S2048 ![] bcast_S_S2048 (constant S_ .f32 0x322BCC77#32)))) (mulf (broadcastInDim S2048 ![] bcast_S_S2048 (constant S_ .f32 0x3C23D70A#32)) (launchContents m c (Proc.devRef .tc main_arg35)))))⟩, ⟨Reference11Ideal.S20880, (broadcastInDim S20880 ![] bcast_S_S20880 (constant (F := Ideal) S_ .f32 0x00000000#32))⟩] Reference11Ideal.Gen.concatenates_S4096_S2048_S20880_S27024_d0)⟩] Reference11Ideal.Gen.concatenates_S824944_S27024_S851968_d0) Reference11Ideal.Gen.shapeCasts_S851968_S6656x128 = fun j => stp (PK m c j) := by
  simp only [stp0, stp1, stp2, stp3, stp4, stp5, stp6, stp7, stp8, stp9, stp10, stp11, stp12, stp13, stp14, stp15, stp16, stp17]
  exact packed_map stp _ zeros_stp (P0 m c) (P1 m c) (P2 m c) (P3 m c) (P4 m c) (P5 m c) (P6 m c) (P7 m c) (P8 m c) (P9 m c) (P10 m c) (P11 m c) (P12 m c) (P13 m c) (P14 m c) (P15 m c) (P16 m c) (P17 m c)
end Cert.Reference11Ideal.Value
namespace Cert.Proof
open Idealize.ShloMosaic
theorem adam11 : Cert.algebraic_Kernel11Ideal_Reference11Ideal := by
  intro m ρ m' ρ' hpre hag
  have e : ∀ c, Cert.Reference11Ideal.Value.PK m' c = Cert.Kernel11Ideal.Value.PK m c := fun c => by
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71⟩ := hag c
    unfold Cert.Reference11Ideal.Value.PK Cert.Kernel11Ideal.Value.PK
    have e0 : Cert.Reference11Ideal.Value.P0 m' c = Cert.Kernel11Ideal.Value.P0 m c := by
      unfold Cert.Reference11Ideal.Value.P0 Cert.Kernel11Ideal.Value.P0
      rw [a0, a18, a36, a54]
    have e1 : Cert.Reference11Ideal.Value.P1 m' c = Cert.Kernel11Ideal.Value.P1 m c := by
      unfold Cert.Reference11Ideal.Value.P1 Cert.Kernel11Ideal.Value.P1
      rw [a1, a19, a37, a55]
    have e2 : Cert.Reference11Ideal.Value.P2 m' c = Cert.Kernel11Ideal.Value.P2 m c := by
      unfold Cert.Reference11Ideal.Value.P2 Cert.Kernel11Ideal.Value.P2
      rw [a2, a20, a38, a56]
    have e3 : Cert.Reference11Ideal.Value.P3 m' c = Cert.Kernel11Ideal.Value.P3 m c := by
      unfold Cert.Reference11Ideal.Value.P3 Cert.Kernel11Ideal.Value.P3
      rw [a3, a21, a39, a57]
    have e4 : Cert.Reference11Ideal.Value.P4 m' c = Cert.Kernel11Ideal.Value.P4 m c := by
      unfold Cert.Reference11Ideal.Value.P4 Cert.Kernel11Ideal.Value.P4
      rw [a4, a22, a40, a58]
    have e5 : Cert.Reference11Ideal.Value.P5 m' c = Cert.Kernel11Ideal.Value.P5 m c := by
      unfold Cert.Reference11Ideal.Value.P5 Cert.Kernel11Ideal.Value.P5
      rw [a5, a23, a41, a59]
    have e6 : Cert.Reference11Ideal.Value.P6 m' c = Cert.Kernel11Ideal.Value.P6 m c := by
      unfold Cert.Reference11Ideal.Value.P6 Cert.Kernel11Ideal.Value.P6
      rw [a6, a24, a42, a60]
    have e7 : Cert.Reference11Ideal.Value.P7 m' c = Cert.Kernel11Ideal.Value.P7 m c := by
      unfold Cert.Reference11Ideal.Value.P7 Cert.Kernel11Ideal.Value.P7
      rw [a7, a25, a43, a61]
    have e8 : Cert.Reference11Ideal.Value.P8 m' c = Cert.Kernel11Ideal.Value.P8 m c := by
      unfold Cert.Reference11Ideal.Value.P8 Cert.Kernel11Ideal.Value.P8
      rw [a8, a26, a44, a62]
    have e9 : Cert.Reference11Ideal.Value.P9 m' c = Cert.Kernel11Ideal.Value.P9 m c := by
      unfold Cert.Reference11Ideal.Value.P9 Cert.Kernel11Ideal.Value.P9
      rw [a9, a27, a45, a63]
    have e10 : Cert.Reference11Ideal.Value.P10 m' c = Cert.Kernel11Ideal.Value.P10 m c := by
      unfold Cert.Reference11Ideal.Value.P10 Cert.Kernel11Ideal.Value.P10
      rw [a10, a28, a46, a64]
    have e11 : Cert.Reference11Ideal.Value.P11 m' c = Cert.Kernel11Ideal.Value.P11 m c := by
      unfold Cert.Reference11Ideal.Value.P11 Cert.Kernel11Ideal.Value.P11
      rw [a11, a29, a47, a65]
    have e12 : Cert.Reference11Ideal.Value.P12 m' c = Cert.Kernel11Ideal.Value.P12 m c := by
      unfold Cert.Reference11Ideal.Value.P12 Cert.Kernel11Ideal.Value.P12
      rw [a12, a30, a48, a66]
    have e13 : Cert.Reference11Ideal.Value.P13 m' c = Cert.Kernel11Ideal.Value.P13 m c := by
      unfold Cert.Reference11Ideal.Value.P13 Cert.Kernel11Ideal.Value.P13
      rw [a13, a31, a49, a67]
    have e14 : Cert.Reference11Ideal.Value.P14 m' c = Cert.Kernel11Ideal.Value.P14 m c := by
      unfold Cert.Reference11Ideal.Value.P14 Cert.Kernel11Ideal.Value.P14
      rw [a14, a32, a50, a68]
    have e15 : Cert.Reference11Ideal.Value.P15 m' c = Cert.Kernel11Ideal.Value.P15 m c := by
      unfold Cert.Reference11Ideal.Value.P15 Cert.Kernel11Ideal.Value.P15
      rw [a15, a33, a51, a69]
    have e16 : Cert.Reference11Ideal.Value.P16 m' c = Cert.Kernel11Ideal.Value.P16 m c := by
      unfold Cert.Reference11Ideal.Value.P16 Cert.Kernel11Ideal.Value.P16
      rw [a16, a34, a52, a70]
    have e17 : Cert.Reference11Ideal.Value.P17 m' c = Cert.Kernel11Ideal.Value.P17 m c := by
      unfold Cert.Reference11Ideal.Value.P17 Cert.Kernel11Ideal.Value.P17
      rw [a17, a35, a53, a71]
    rw [e0, e1, e2, e3, e4, e5, e6, e7, e8, e9, e10, e11, e12, e13, e14, e15, e16, e17]
  refine ⟨fun c j => Cert.Adam.stp (Cert.Kernel11Ideal.Value.PK m c j), fun c j => Cert.Adam.avg (Cert.Kernel11Ideal.Value.PK m c j), fun c j => Cert.Adam.sqr (Cert.Kernel11Ideal.Value.PK m c j), (θ_run Cert.Kernel11Ideal.defs _ _).mono (fun r h c => ?_) (Cert.Kernel11Ideal.Value.run_blocks m ρ), (θ_run Cert.Reference11Ideal.defs _ _).mono (fun r h c => ?_) (Cert.Reference11Ideal.Value.run m' ρ')⟩
  · exact ⟨(h c).1.trans (Cert.Kernel11Ideal.Value.final4x m c), (h c).2.1.trans (Cert.Kernel11Ideal.Value.final5x m c), (h c).2.2.1.trans (Cert.Kernel11Ideal.Value.final6x m c), (h c).2.2.2⟩
  · obtain ⟨h1, h2, h3, h0⟩ := h c
    refine ⟨h1.trans ?_, h2.trans ?_, h3.trans ?_, h0⟩
    · refine (Cert.Reference11Ideal.Value.all_stp m' c).trans ?_
      rw [e c] <;> rfl
    · refine (Cert.Reference11Ideal.Value.all_avg m' c).trans ?_
      rw [e c] <;> rfl
    · refine (Cert.Reference11Ideal.Value.all_sqr m' c).trans ?_
      rw [e c] <;> rfl
end Cert.Proof
end
-- ==== Proof.BranchFwd768.lean ====
/-
  A branch projection 768 wide: the forward product.
-/
module
public import Idealize.ShloMosaic.Lib.Pipeline.ValueKit
public import proofs.«01_k».proof.Proof.Gen.Kernel12Ideal.Value
public import proofs.«01_k».proof.Proof.Gen.Reference12Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel12Ideal.Value
open Cert.Kernel12Ideal Cert.Kernel12Ideal.Gen
variable (m : (ℓ : Loc nD τ sig) → Buf (Elt Ideal) ℓ)

abbrev A0 (c : Dev nD) : FVec Ideal S8192x768 .f32 := m ((c.tc : Thread nD τ).loc main_arg0)
abbrev A1 (c : Dev nD) : FVec Ideal S768x2048 .f32 := m ((c.tc : Thread nD τ).loc main_arg1)
set_option maxHeartbeats 8000000 in
theorem V_v0 (c : Dev nD) : (show FVec Ideal S768x2048 .bf16 from V m c main_v0) = A1 m c := by
  show StableHlo.after hostOps0 (fun b => m (c, b)) main_v0 = _
  unfold hostOps0
  after_results_simp
  rfl
set_option maxHeartbeats 8000000 in
theorem V_arg0 (c : Dev nD) : (show FVec Ideal S8192x768 .f32 from V m c main_arg0) = A0 m c := by
  show StableHlo.after hostOps0 (fun b => m (c, b)) main_arg0 = _
  unfold hostOps0
  after_results_simp

theorem idx : ∀ t : Fin cfg0.N, win0_0.index t = ![t.val / 2, 0] ∧ win0_1.index t = ![0, t.val % 2] ∧ win0_2.index t = ![t.val / 2, t.val % 2] :=
  (by decide +kernel : ∀ t : Fin grid0.N, _)
theorem t_lt (t : Fin cfg0.N) : t.val < 16 := lt_of_lt_of_eq t.isLt (by decide +kernel)
abbrev X0 (c : Dev nD) : FVec Ideal S8192x768 .f32 := V m c (Pipeline.arrRef spec0 0)
abbrev X1 (c : Dev nD) : FVec Ideal S768x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 768) :
    (View.read (Elt Ideal) ((cfg0.win 0).blk t).view z : FVec Ideal S1024x768 .f32) (ix2 i x)
      = (z : FVec Ideal S8192x768 .f32) (ix2 ⟨t.val / 2 * 1024 + i.val, by have := t_lt t; omega⟩ x) := by
  have := t_lt t
  blk_point [idx t]
theorem B0 (c : Dev nD) (t : Fin cfg0.N) (i : Fin 1024) (x : Fin 768) : (iblk m c 0 t : FVec Ideal S1024x768 .f32) (ix2 i x)
    = X0 m c (ix2 ⟨t.val / 2 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 768) (x : Fin 1024) :
    (View.read (Elt Ideal) ((cfg0.win 1).blk t).view z : FVec Ideal S768x1024 .bf16) (ix2 i x)
      = (z : FVec Ideal S768x2048 .bf16) (ix2 i ⟨t.val % 2 * 1024 + x.val, by have := t_lt t; omega⟩) := by
  have := t_lt t
  blk_point [idx t]
theorem B1 (c : Dev nD) (t : Fin cfg0.N) (i : Fin 768) (x : Fin 1024) : (iblk m c 1 t : FVec Ideal S768x1024 .bf16) (ix2 i x)
    = X1 m c (ix2 i ⟨t.val % 2 * 1024 + x.val, by have := t_lt t; omega⟩) :=
  blk1 c t (V m c (Pipeline.arrRef spec0 1)) i x
theorem pay_at (a : Vec Ideal S1024x768 .f32) (b : Vec Ideal S768x1024 .bf16) (i : Fin 1024) (x : Fin 1024) :
    k0_pay1 (F := Ideal) a b (ix2 i x) = ∑ d : Fin 768, a (ix2 i d) * b (ix2 d x) := by
  pointwise [k0_pay1]

/-- The product. -/
def PROJ (a : FVec Ideal S8192x768 .f32) (b : FVec Ideal S768x2048 .f32) : FVec Ideal S8192x2048 .f32 :=
  fun j => ∑ d : Fin 768, a (ix2 (⟨(j 0).val, (j 0).isLt⟩ : Fin 8192) d) * b (ix2 d (⟨(j 1).val, (j 1).isLt⟩ : Fin 2048))
theorem prod_at (c : Dev nD) (i : Fin 8192) (x : Fin 2048) : ∑ d : Fin 768, X0 m c (ix2 i d) * X1 m c (ix2 d x) = PROJ (A0 m c) (A1 m c) (ix2 i x) := by
  rw [show X0 m c = A0 m c from V_arg0 m c, show X1 m c = A1 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 2 * 1024 + (y 0).val, by idx_bounds; omega⟩ : Fin 8192) (⟨t.val % 2 * 1024 + (y 1).val, by idx_bounds; omega⟩ : Fin 2048) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel12Ideal.Value

namespace Cert.Proof
open Idealize.ShloMosaic
theorem ref12 (a : FVec Ideal Cert.Kernel12Ideal.S8192x768 .f32) (b : FVec Ideal Cert.Kernel12Ideal.S768x2048 .f32) :
    Host.dotGeneral Cert.Reference12Ideal.dot_S8192x768_S768x2048_S8192x2048_1_0_0_1_n_n none a b = Cert.Kernel12Ideal.Value.PROJ a b := by
  funext j
  idx_vars j
  unfold Cert.Kernel12Ideal.Value.PROJ
  pointwise

theorem proj12 : Cert.algebraic_Kernel12Ideal_Reference12Ideal := by
  intro m ρ m' ρ' hpre hag
  refine ⟨fun c => Cert.Kernel12Ideal.Value.PROJ (Cert.Kernel12Ideal.Value.A0 m c) (Cert.Kernel12Ideal.Value.A1 m c), (θ_run Cert.Kernel12Ideal.defs _ _).mono (fun r h c => ?_) (Cert.Kernel12Ideal.Value.run_blocks m ρ), (θ_run Cert.Reference12Ideal.defs _ _).mono (fun r h c => ?_) (Cert.Reference12Ideal.Value.run m' ρ')⟩
  · exact ⟨(h c).1.trans (Cert.Kernel12Ideal.Value.final_out m c), (h c).2⟩
  · obtain ⟨h, h0, h1⟩ := h c
    refine ⟨h.trans ?_, h0, h1⟩
    obtain ⟨g0, g1⟩ := hag c
    rw [g0, g1]
    exact ref12 _ _
end Cert.Proof
end
-- ==== Proof.BranchDa768.lean ====
/-
  A branch projection 768 wide: the input gradient.
-/
module
public import Idealize.ShloMosaic.Lib.Pipeline.ValueKit
public import proofs.«01_k».proof.Proof.Gen.Kernel13Ideal.Value
public import proofs.«01_k».proof.Proof.Gen.Reference13Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel13Ideal.Value
open Cert.Kernel13Ideal Cert.Kernel13Ideal.Gen
variable (m : (ℓ : Loc nD τ sig) → Buf (Elt Ideal) ℓ)

abbrev A0 (c : Dev nD) : FVec Ideal S768x2048 .f32 := m ((c.tc : Thread nD τ).loc main_arg0)
abbrev A1 (c : Dev nD) : FVec Ideal S8192x2048 .f32 := m ((c.tc : Thread nD τ).loc main_arg1)
set_option maxHeartbeats 8000000 in
theorem V_v0 (c : Dev nD) : (show FVec Ideal S768x2048 .bf16 from V m c main_v0) = A0 m c := by
  show StableHlo.after hostOps0 (fun b => m (c, b)) main_v0 = _
  unfold hostOps0
  after_results_simp
  rfl
set_option maxHeartbeats 8000000 in
theorem V_arg1 (c : Dev nD) : (show FVec Ideal S8192x2048 .f32 from V m c main_arg1) = A1 m c := by
  show StableHlo.after hostOps0 (fun b => m (c, b)) main_arg1 = _
  unfold hostOps0
  after_results_simp

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)
theorem t_lt (t : Fin cfg0.N) : t.val < 16 := lt_of_lt_of_eq t.isLt (by decide +kernel)
abbrev X0 (c : Dev nD) : FVec Ideal S8192x2048 .f32 := V m c (Pipeline.arrRef spec0 0)
abbrev X1 (c : Dev nD) : FVec Ideal S768x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val / 2 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val / 2 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 384) (x : Fin 2048) :
    (View.read (Elt Ideal) ((cfg0.win 1).blk t).view z : FVec Ideal S384x2048 .bf16) (ix2 i x)
      = (z : FVec Ideal S768x2048 .bf16) (ix2 ⟨t.val % 2 * 384 + i.val, by have := t_lt t; omega⟩ x) := by
  have := t_lt t
  blk_point [idx t]
theorem B1 (c : Dev nD) (t : Fin cfg0.N) (i : Fin 384) (x : Fin 2048) : (iblk m c 1 t : FVec Ideal S384x2048 .bf16) (ix2 i x)
    = X1 m c (ix2 ⟨t.val % 2 * 384 + i.val, by have := t_lt t; omega⟩ x) :=
  blk1 c t (V m c (Pipeline.arrRef spec0 1)) i x
theorem pay_at (a : Vec Ideal S1024x2048 .f32) (b : Vec Ideal S384x2048 .bf16) (i : Fin 1024) (x : Fin 384) :
    k0_pay1 (F := Ideal) a b (ix2 i x) = ∑ d : Fin 2048, a (ix2 i d) * b (ix2 x d) := by
  pointwise [k0_pay1]

/-- The product. -/
def PROJ (a : FVec Ideal S768x2048 .f32) (b : FVec Ideal S8192x2048 .f32) : FVec Ideal S8192x768 .f32 :=
  fun j => ∑ d : Fin 2048, b (ix2 (⟨(j 0).val, (j 0).isLt⟩ : Fin 8192) d) * a (ix2 (⟨(j 1).val, (j 1).isLt⟩ : Fin 768) d)
theorem prod_at (c : Dev nD) (i : Fin 8192) (x : Fin 768) : ∑ d : Fin 2048, X0 m c (ix2 i d) * X1 m c (ix2 x d) = PROJ (A0 m c) (A1 m c) (ix2 i x) := by
  rw [show X0 m c = A1 m c from V_arg1 m c, show X1 m c = A0 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 2 * 1024 + (y 0).val, by idx_bounds; omega⟩ : Fin 8192) (⟨t.val % 2 * 384 + (y 1).val, by idx_bounds; omega⟩ : Fin 768) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel13Ideal.Value

namespace Cert.Proof
open Idealize.ShloMosaic
theorem ref13 (a : FVec Ideal Cert.Kernel13Ideal.S768x2048 .f32) (b : FVec Ideal Cert.Kernel13Ideal.S8192x2048 .f32) :
    Host.dotGeneral Cert.Reference13Ideal.dot_S8192x2048_S768x2048_S8192x768_1_1_0_0_n_n none b a = Cert.Kernel13Ideal.Value.PROJ a b := by
  funext j
  idx_vars j
  unfold Cert.Kernel13Ideal.Value.PROJ
  pointwise

theorem proj13 : Cert.algebraic_Kernel13Ideal_Reference13Ideal := by
  intro m ρ m' ρ' hpre hag
  refine ⟨fun c => Cert.Kernel13Ideal.Value.PROJ (Cert.Kernel13Ideal.Value.A0 m c) (Cert.Kernel13Ideal.Value.A1 m c), (θ_run Cert.Kernel13Ideal.defs _ _).mono (fun r h c => ?_) (Cert.Kernel13Ideal.Value.run_blocks m ρ), (θ_run Cert.Reference13Ideal.defs _ _).mono (fun r h c => ?_) (Cert.Reference13Ideal.Value.run m' ρ')⟩
  · exact ⟨(h c).1.trans (Cert.Kernel13Ideal.Value.final_out m c), (h c).2⟩
  · obtain ⟨h, h0, h1⟩ := h c
    refine ⟨h.trans ?_, h0, h1⟩
    obtain ⟨g0, g1⟩ := hag c
    rw [g0, g1]
    exact ref13 _ _
end Cert.Proof
end
-- ==== Proof.BranchDb768.lean ====
/-
  A branch projection 768 wide: the weight gradient.
-/
module
public import Idealize.ShloMosaic.Lib.Pipeline.ValueKit
public import proofs.«01_k».proof.Proof.Gen.Kernel14Ideal.Value
public import proofs.«01_k».proof.Proof.Gen.Reference14Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel14Ideal.Value
open Cert.Kernel14Ideal Cert.Kernel14Ideal.Gen
variable (m : (ℓ : Loc nD τ sig) → Buf (Elt Ideal) ℓ)

abbrev A0 (c : Dev nD) : FVec Ideal S8192x768 .f32 := m ((c.tc : Thread nD τ).loc main_arg0)
abbrev A1 (c : Dev nD) : FVec Ideal S8192x2048 .f32 := m ((c.tc : Thread nD τ).loc main_arg1)
theorem V_arg0 (c : Dev nD) : V m c main_arg0 = A0 m c := rfl
theorem V_arg1 (c : Dev nD) : V m c main_arg1 = A1 m c := rfl

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem t_lt (t : Fin cfg0.N) : t.val < 16 := lt_of_lt_of_eq t.isLt (by decide +kernel)
abbrev X0 (c : Dev nD) : FVec Ideal S8192x768 .f32 := V m c (Pipeline.arrRef spec0 0)
abbrev X1 (c : Dev nD) : FVec Ideal S8192x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 768) :
    (View.read (Elt Ideal) ((cfg0.win 0).blk t).view z : FVec Ideal S1024x768 .f32) (ix2 i x)
      = (z : FVec Ideal S8192x768 .f32) (ix2 ⟨t.val % 8 * 1024 + i.val, by have := t_lt t; omega⟩ x) := by
  have := t_lt t
  blk_point [idx t]
theorem B0 (c : Dev nD) (t : Fin cfg0.N) (i : Fin 1024) (x : Fin 768) : (iblk m c 0 t : FVec Ideal S1024x768 .f32) (ix2 i x)
    = X0 m c (ix2 ⟨t.val % 8 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 1024) :
    (View.read (Elt Ideal) ((cfg0.win 1).blk t).view z : FVec Ideal S1024x1024 .f32) (ix2 i x)
      = (z : FVec Ideal S8192x2048 .f32) (ix2 ⟨t.val % 8 * 1024 + i.val, by have := t_lt t; omega⟩ ⟨t.val / 8 * 1024 + x.val, by have := t_lt t; omega⟩) := by
  have := t_lt t
  blk_point [idx t]
theorem B1 (c : Dev nD) (t : Fin cfg0.N) (i : Fin 1024) (x : Fin 1024) : (iblk m c 1 t : FVec Ideal S1024x1024 .f32) (ix2 i x)
    = X1 m c (ix2 ⟨t.val % 8 * 1024 + i.val, by have := t_lt t; omega⟩ ⟨t.val / 8 * 1024 + x.val, by have := t_lt t; omega⟩) :=
  blk1 c t (V m c (Pipeline.arrRef spec0 1)) i x
theorem pay_at (a : Vec Ideal S1024x768 .f32) (b : Vec Ideal S1024x1024 .f32) (i : Fin 768) (x : Fin 1024) :
    k0_pay1 (F := Ideal) a b (ix2 i x) = ∑ d : Fin 1024, a (ix2 d i) * b (ix2 d x) := by
  pointwise [k0_pay1]
theorem pay2_eq (a : Vec Ideal S1024x768 .f32) (b : Vec Ideal S1024x1024 .f32) (i : Fin 768) (x : Fin 1024) :
    k0_pay2 (F := Ideal) a b (ix2 i x) = k0_pay1 (F := Ideal) a b (ix2 i x) := by
  unfold k0_pay2
  generalize k0_pay1 (F := Ideal) a b = p
  pointwise
theorem pay3_eq (a : Vec Ideal S1024x768 .f32) (b : Vec Ideal S1024x1024 .f32) (v : Vec Ideal S768x1024 .f32) (i : Fin 768) (x : Fin 1024) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S768x1024.Idx) : EReal :=
  ∑ d : Fin 1024, X0 m c (ix2 ⟨t.val % 8 * 1024 + d.val, by have := t_lt t; omega⟩ (⟨(j 0).val, (j 0).isLt⟩ : Fin 768)) * X1 m c (ix2 ⟨t.val % 8 * 1024 + d.val, by have := t_lt t; omega⟩ ⟨t.val / 8 * 1024 + (j 1).val, by have := t_lt t; idx_bounds; omega⟩)
theorem pay_blk (c : Dev nD) (t : Fin cfg0.N) (i : Fin 768) (x : Fin 1024) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 8 = 0) (j : S768x1024.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 8 = 0) (h1 : ¬t.val % 8 = 7) (j : S768x1024.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 8 = 0) (h1 : t.val % 8 = 7) (j : S768x1024.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 8 = 0) (j : S768x1024.Idx) :
    (outsAt0 m c t.val t.isLt).2 j = (outsAt0 m c (t.val - 1) (Nat.lt_of_le_of_lt (Nat.sub_le _ _) t.isLt)).2 j + TP m c t j := by
  by_cases h1 : t.val % 8 = 7
  · exact step_C m c t h0 h1 j
  · exact step_B m c t h0 h1 j
theorem out_eq (c : Dev nD) (t : Fin cfg0.N) (h0 : ¬t.val % 8 = 0) (h1 : t.val % 8 = 7) (j : S768x1024.Idx) :
    (outsAt0 m c t.val t.isLt).1 j = (outsAt0 m c t.val t.isLt).2 j := by
  rw [outsAt0_C m c t h0 (by omega) h1]; frame_out

/-- The product. -/
def PROJ (a : FVec Ideal S8192x768 .f32) (b : FVec Ideal S8192x2048 .f32) : FVec Ideal S768x2048 .f32 :=
  fun j => ∑ d : Fin 8192, a (ix2 d (⟨(j 0).val, (j 0).isLt⟩ : Fin 768)) * b (ix2 d (⟨(j 1).val, (j 1).isLt⟩ : Fin 2048))
theorem prod_at (c : Dev nD) (i : Fin 768) (x : Fin 2048) : ∑ d : Fin 8192, X0 m c (ix2 d i) * X1 m c (ix2 d x) = PROJ (A0 m c) (A1 m c) (ix2 i x) := by
  rw [show X0 m c = A0 m c from V_arg0 m c, show X1 m c = A1 m c from V_arg1 m c]
  rfl
theorem sum_at (t : Fin cfg0.N) (hl : t.val % 8 = 8 - 1) (c : Dev nD) (y0 : Fin 768) (y1 : Fin 1024) :
    ∑ s : Fin 8, TP m c ⟨8 * (t.val / 8) + s.val, Pipeline.run_point_lt_of_flush t hl s⟩ (ix2 y0 y1)
      = PROJ (A0 m c) (A1 m c) (ix2 y0 ⟨t.val / 8 * 1024 + y1.val, by have := t_lt t; omega⟩) := by
  have ht := t_lt t
  have r0 : ((ix2 y0 y1 : S768x1024.Idx) 0).val = y0.val := rfl
  have r1 : ((ix2 y0 y1 : S768x1024.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 8 = 8 - 1 := (flush0_2 t).mp hf
  have ht := t_lt t
  blk_simp
  have e : ((View.whole main_v0).slice (win0_2.rect t)).emb y = ix2 (⟨(y 0).val, by idx_bounds; omega⟩ : Fin 768) (⟨t.val / 8 * 1024 + (y 1).val, by idx_bounds; omega⟩ : Fin 2048) := by
    funext a; fin_cases a <;> apply Fin.ext <;> blk_simp [idx t] <;> rfl
  rw [after0_2, out_eq m c t (by omega) hl, Pipeline.eq_sum_fin_of_reset_step_apply_of_flush (fun n h => (outsAt0 m c n h).2) 8 (fun _ => 0) (TP m c)
    (fun t h j => step_A m c t h j) (fun t h j => step m c t h j) t hl _, zero_add, e]
  exact sum_at m t hl c (y 0) (y 1)
end Cert.Kernel14Ideal.Value

namespace Cert.Proof
open Idealize.ShloMosaic
theorem ref14 (a : FVec Ideal Cert.Kernel14Ideal.S8192x768 .f32) (b : FVec Ideal Cert.Kernel14Ideal.S8192x2048 .f32) :
    transpose Cert.Reference14Ideal.S768x2048 [1, 0] (Host.dotGeneral Cert.Reference14Ideal.dot_S8192x2048_S8192x768_S2048x768_0_0_1_1_n_n none b a) Cert.Reference14Ideal.Gen.transposes_S2048x768_S768x2048_1_0 = Cert.Kernel14Ideal.Value.PROJ a b := by
  funext j
  idx_vars j
  unfold Cert.Kernel14Ideal.Value.PROJ
  pointwise
  exact Finset.sum_congr (M := EReal) rfl fun d _ => mul_comm _ _

theorem proj14 : Cert.algebraic_Kernel14Ideal_Reference14Ideal := by
  intro m ρ m' ρ' hpre hag
  refine ⟨fun c => Cert.Kernel14Ideal.Value.PROJ (Cert.Kernel14Ideal.Value.A0 m c) (Cert.Kernel14Ideal.Value.A1 m c), (θ_run Cert.Kernel14Ideal.defs _ _).mono (fun r h c => ?_) (Cert.Kernel14Ideal.Value.run_blocks m ρ), (θ_run Cert.Reference14Ideal.defs _ _).mono (fun r h c => ?_) (Cert.Reference14Ideal.Value.run m' ρ')⟩
  · exact ⟨(h c).1.trans (Cert.Kernel14Ideal.Value.final_out m c), (h c).2⟩
  · obtain ⟨h, h0, h1⟩ := h c
    refine ⟨h.trans ?_, h0, h1⟩
    obtain ⟨g0, g1⟩ := hag c
    rw [g0, g1]
    exact ref14 _ _
end Cert.Proof
end
-- ==== Proof.BranchFwd1024.lean ====
/-
  A branch projection 1024 wide: the forward product.
-/
module
public import Idealize.ShloMosaic.Lib.Pipeline.ValueKit
public import proofs.«01_k».proof.Proof.Gen.Kernel15Ideal.Value
public import proofs.«01_k».proof.Proof.Gen.Reference15Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel15Ideal.Value
open Cert.Kernel15Ideal Cert.Kernel15Ideal.Gen
variable (m : (ℓ : Loc nD τ sig) → Buf (Elt Ideal) ℓ)

abbrev A0 (c : Dev nD) : FVec Ideal S8192x1024 .f32 := m ((c.tc : Thread nD τ).loc main_arg0)
abbrev A1 (c : Dev nD) : FVec Ideal S1024x2048 .f32 := m ((c.tc : Thread nD τ).loc main_arg1)
set_option maxHeartbeats 8000000 in
theorem V_v0 (c : Dev nD) : (show FVec Ideal S1024x2048 .bf16 from V m c main_v0) = A1 m c := by
  show StableHlo.after hostOps0 (fun b => m (c, b)) main_v0 = _
  unfold hostOps0
  after_results_simp
  rfl
set_option maxHeartbeats 8000000 in
theorem V_arg0 (c : Dev nD) : (show FVec Ideal S8192x1024 .f32 from V m c main_arg0) = A0 m c := by
  show StableHlo.after hostOps0 (fun b => m (c, b)) main_arg0 = _
  unfold hostOps0
  after_results_simp

theorem idx : ∀ t : Fin cfg0.N, win0_0.index t = ![t.val / 2, 0] ∧ win0_1.index t = ![0, t.val % 2] ∧ win0_2.index t = ![t.val / 2, t.val % 2] :=
  (by decide +kernel : ∀ t : Fin grid0.N, _)
theorem t_lt (t : Fin cfg0.N) : t.val < 16 := lt_of_lt_of_eq t.isLt (by decide +kernel)
abbrev X0 (c : Dev nD) : FVec Ideal S8192x1024 .f32 := V m c (Pipeline.arrRef spec0 0)
abbrev X1 (c : Dev nD) : FVec Ideal S1024x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 1024) :
    (View.read (Elt Ideal) ((cfg0.win 0).blk t).view z : FVec Ideal S1024x1024 .f32) (ix2 i x)
      = (z : FVec Ideal S8192x1024 .f32) (ix2 ⟨t.val / 2 * 1024 + i.val, by have := t_lt t; omega⟩ x) := by
  have := t_lt t
  blk_point [idx t]
theorem B0 (c : Dev nD) (t : Fin cfg0.N) (i : Fin 1024) (x : Fin 1024) : (iblk m c 0 t : FVec Ideal S1024x1024 .f32) (ix2 i x)
    = X0 m c (ix2 ⟨t.val / 2 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 1024) :
    (View.read (Elt Ideal) ((cfg0.win 1).blk t).view z : FVec Ideal S1024x1024 .bf16) (ix2 i x)
      = (z : FVec Ideal S1024x2048 .bf16) (ix2 i ⟨t.val % 2 * 1024 + x.val, by have := t_lt t; omega⟩) := by
  have := t_lt t
  blk_point [idx t]
theorem B1 (c : Dev nD) (t : Fin cfg0.N) (i : Fin 1024) (x : Fin 1024) : (iblk m c 1 t : FVec Ideal S1024x1024 .bf16) (ix2 i x)
    = X1 m c (ix2 i ⟨t.val % 2 * 1024 + x.val, by have := t_lt t; omega⟩) :=
  blk1 c t (V m c (Pipeline.arrRef spec0 1)) i x
theorem pay_at (a : Vec Ideal S1024x1024 .f32) (b : Vec Ideal S1024x1024 .bf16) (i : Fin 1024) (x : Fin 1024) :
    k0_pay1 (F := Ideal) a b (ix2 i x) = ∑ d : Fin 1024, a (ix2 i d) * b (ix2 d x) := by
  pointwise [k0_pay1]

/-- The product. -/
def PROJ (a : FVec Ideal S8192x1024 .f32) (b : FVec Ideal S1024x2048 .f32) : FVec Ideal S8192x2048 .f32 :=
  fun j => ∑ d : Fin 1024, a (ix2 (⟨(j 0).val, (j 0).isLt⟩ : Fin 8192) d) * b (ix2 d (⟨(j 1).val, (j 1).isLt⟩ : Fin 2048))
theorem prod_at (c : Dev nD) (i : Fin 8192) (x : Fin 2048) : ∑ d : Fin 1024, X0 m c (ix2 i d) * X1 m c (ix2 d x) = PROJ (A0 m c) (A1 m c) (ix2 i x) := by
  rw [show X0 m c = A0 m c from V_arg0 m c, show X1 m c = A1 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 2 * 1024 + (y 0).val, by idx_bounds; omega⟩ : Fin 8192) (⟨t.val % 2 * 1024 + (y 1).val, by idx_bounds; omega⟩ : Fin 2048) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel15Ideal.Value

namespace Cert.Proof
open Idealize.ShloMosaic
theorem ref15 (a : FVec Ideal Cert.Kernel15Ideal.S8192x1024 .f32) (b : FVec Ideal Cert.Kernel15Ideal.S1024x2048 .f32) :
    Host.dotGeneral Cert.Reference15Ideal.dot_S8192x1024_S1024x2048_S8192x2048_1_0_0_1_n_n none a b = Cert.Kernel15Ideal.Value.PROJ a b := by
  funext j
  idx_vars j
  unfold Cert.Kernel15Ideal.Value.PROJ
  pointwise

theorem proj15 : Cert.algebraic_Kernel15Ideal_Reference15Ideal := by
  intro m ρ m' ρ' hpre hag
  refine ⟨fun c => Cert.Kernel15Ideal.Value.PROJ (Cert.Kernel15Ideal.Value.A0 m c) (Cert.Kernel15Ideal.Value.A1 m c), (θ_run Cert.Kernel15Ideal.defs _ _).mono (fun r h c => ?_) (Cert.Kernel15Ideal.Value.run_blocks m ρ), (θ_run Cert.Reference15Ideal.defs _ _).mono (fun r h c => ?_) (Cert.Reference15Ideal.Value.run m' ρ')⟩
  · exact ⟨(h c).1.trans (Cert.Kernel15Ideal.Value.final_out m c), (h c).2⟩
  · obtain ⟨h, h0, h1⟩ := h c
    refine ⟨h.trans ?_, h0, h1⟩
    obtain ⟨g0, g1⟩ := hag c
    rw [g0, g1]
    exact ref15 _ _
end Cert.Proof
end
-- ==== Proof.BranchDa1024.lean ====
/-
  A branch projection 1024 wide: the input gradient.
-/
module
public import Idealize.ShloMosaic.Lib.Pipeline.ValueKit
public import proofs.«01_k».proof.Proof.Gen.Kernel16Ideal.Value
public import proofs.«01_k».proof.Proof.Gen.Reference16Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel16Ideal.Value
open Cert.Kernel16Ideal Cert.Kernel16Ideal.Gen
variable (m : (ℓ : Loc nD τ sig) → Buf (Elt Ideal) ℓ)

abbrev A0 (c : Dev nD) : FVec Ideal S1024x2048 .f32 := m ((c.tc : Thread nD τ).loc main_arg0)
abbrev A1 (c : Dev nD) : FVec Ideal S8192x2048 .f32 := m ((c.tc : Thread nD τ).loc main_arg1)
set_option maxHeartbeats 8000000 in
theorem V_v0 (c : Dev nD) : (show FVec Ideal S1024x2048 .bf16 from V m c main_v0) = A0 m c := by
  show StableHlo.after hostOps0 (fun b => m (c, b)) main_v0 = _
  unfold hostOps0
  after_results_simp
  rfl
set_option maxHeartbeats 8000000 in
theorem V_arg1 (c : Dev nD) : (show FVec Ideal S8192x2048 .f32 from V m c main_arg1) = A1 m c := by
  show StableHlo.after hostOps0 (fun b => m (c, b)) main_arg1 = _
  unfold hostOps0
  after_results_simp

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)
theorem t_lt (t : Fin cfg0.N) : t.val < 16 := lt_of_lt_of_eq t.isLt (by decide +kernel)
abbrev X0 (c : Dev nD) : FVec Ideal S8192x2048 .f32 := V m c (Pipeline.arrRef spec0 0)
abbrev X1 (c : Dev nD) : FVec Ideal S1024x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val / 2 * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val / 2 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 512) (x : Fin 2048) :
    (View.read (Elt Ideal) ((cfg0.win 1).blk t).view z : FVec Ideal S512x2048 .bf16) (ix2 i x)
      = (z : FVec Ideal S1024x2048 .bf16) (ix2 ⟨t.val % 2 * 512 + i.val, by have := t_lt t; omega⟩ x) := by
  have := t_lt t
  blk_point [idx t]
theorem B1 (c : Dev nD) (t : Fin cfg0.N) (i : Fin 512) (x : Fin 2048) : (iblk m c 1 t : FVec Ideal S512x2048 .bf16) (ix2 i x)
    = X1 m c (ix2 ⟨t.val % 2 * 512 + i.val, by have := t_lt t; omega⟩ x) :=
  blk1 c t (V m c (Pipeline.arrRef spec0 1)) i x
theorem pay_at (a : Vec Ideal S1024x2048 .f32) (b : Vec Ideal S512x2048 .bf16) (i : Fin 1024) (x : Fin 512) :
    k0_pay1 (F := Ideal) a b (ix2 i x) = ∑ d : Fin 2048, a (ix2 i d) * b (ix2 x d) := by
  pointwise [k0_pay1]

/-- The product. -/
def PROJ (a : FVec Ideal S1024x2048 .f32) (b : FVec Ideal S8192x2048 .f32) : FVec Ideal S8192x1024 .f32 :=
  fun j => ∑ d : Fin 2048, b (ix2 (⟨(j 0).val, (j 0).isLt⟩ : Fin 8192) d) * a (ix2 (⟨(j 1).val, (j 1).isLt⟩ : Fin 1024) d)
theorem prod_at (c : Dev nD) (i : Fin 8192) (x : Fin 1024) : ∑ d : Fin 2048, X0 m c (ix2 i d) * X1 m c (ix2 x d) = PROJ (A0 m c) (A1 m c) (ix2 i x) := by
  rw [show X0 m c = A1 m c from V_arg1 m c, show X1 m c = A0 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 2 * 1024 + (y 0).val, by idx_bounds; omega⟩ : Fin 8192) (⟨t.val % 2 * 512 + (y 1).val, by idx_bounds; omega⟩ : Fin 1024) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel16Ideal.Value

namespace Cert.Proof
open Idealize.ShloMosaic
theorem ref16 (a : FVec Ideal Cert.Kernel16Ideal.S1024x2048 .f32) (b : FVec Ideal Cert.Kernel16Ideal.S8192x2048 .f32) :
    Host.dotGeneral Cert.Reference16Ideal.dot_S8192x2048_S1024x2048_S8192x1024_1_1_0_0_n_n none b a = Cert.Kernel16Ideal.Value.PROJ a b := by
  funext j
  idx_vars j
  unfold Cert.Kernel16Ideal.Value.PROJ
  pointwise

theorem proj16 : Cert.algebraic_Kernel16Ideal_Reference16Ideal := by
  intro m ρ m' ρ' hpre hag
  refine ⟨fun c => Cert.Kernel16Ideal.Value.PROJ (Cert.Kernel16Ideal.Value.A0 m c) (Cert.Kernel16Ideal.Value.A1 m c), (θ_run Cert.Kernel16Ideal.defs _ _).mono (fun r h c => ?_) (Cert.Kernel16Ideal.Value.run_blocks m ρ), (θ_run Cert.Reference16Ideal.defs _ _).mono (fun r h c => ?_) (Cert.Reference16Ideal.Value.run m' ρ')⟩
  · exact ⟨(h c).1.trans (Cert.Kernel16Ideal.Value.final_out m c), (h c).2⟩
  · obtain ⟨h, h0, h1⟩ := h c
    refine ⟨h.trans ?_, h0, h1⟩
    obtain ⟨g0, g1⟩ := hag c
    rw [g0, g1]
    exact ref16 _ _
end Cert.Proof
end
-- ==== Proof.BranchDb1024.lean ====
/-
  A branch projection 1024 wide: the weight gradient.
-/
module
public import Idealize.ShloMosaic.Lib.Pipeline.ValueKit
public import proofs.«01_k».proof.Proof.Gen.Kernel17Ideal.Value
public import proofs.«01_k».proof.Proof.Gen.Reference17Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel17Ideal.Value
open Cert.Kernel17Ideal Cert.Kernel17Ideal.Gen
variable (m : (ℓ : Loc nD τ sig) → Buf (Elt Ideal) ℓ)

abbrev A0 (c : Dev nD) : FVec Ideal S8192x1024 .f32 := m ((c.tc : Thread nD τ).loc main_arg0)
abbrev A1 (c : Dev nD) : FVec Ideal S8192x2048 .f32 := m ((c.tc : Thread nD τ).loc main_arg1)
theorem V_arg0 (c : Dev nD) : V m c main_arg0 = A0 m c := rfl
theorem V_arg1 (c : Dev nD) : V m c main_arg1 = A1 m c := rfl

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem t_lt (t : Fin cfg0.N) : t.val < 16 := lt_of_lt_of_eq t.isLt (by decide +kernel)
abbrev X0 (c : Dev nD) : FVec Ideal S8192x1024 .f32 := V m c (Pipeline.arrRef spec0 0)
abbrev X1 (c : Dev nD) : FVec Ideal S8192x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 1024) :
    (View.read (Elt Ideal) ((cfg0.win 0).blk t).view z : FVec Ideal S1024x1024 .f32) (ix2 i x)
      = (z : FVec Ideal S8192x1024 .f32) (ix2 ⟨t.val % 8 * 1024 + i.val, by have := t_lt t; omega⟩ x) := by
  have := t_lt t
  blk_point [idx t]
theorem B0 (c : Dev nD) (t : Fin cfg0.N) (i : Fin 1024) (x : Fin 1024) : (iblk m c 0 t : FVec Ideal S1024x1024 .f32) (ix2 i x)
    = X0 m c (ix2 ⟨t.val % 8 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 1024) :
    (View.read (Elt Ideal) ((cfg0.win 1).blk t).view z : FVec Ideal S1024x1024 .f32) (ix2 i x)
      = (z : FVec Ideal S8192x2048 .f32) (ix2 ⟨t.val % 8 * 1024 + i.val, by have := t_lt t; omega⟩ ⟨t.val / 8 * 1024 + x.val, by have := t_lt t; omega⟩) := by
  have := t_lt t
  blk_point [idx t]
theorem B1 (c : Dev nD) (t : Fin cfg0.N) (i : Fin 1024) (x : Fin 1024) : (iblk m c 1 t : FVec Ideal S1024x1024 .f32) (ix2 i x)
    = X1 m c (ix2 ⟨t.val % 8 * 1024 + i.val, by have := t_lt t; omega⟩ ⟨t.val / 8 * 1024 + x.val, by have := t_lt t; omega⟩) :=
  blk1 c t (V m c (Pipeline.arrRef spec0 1)) i x
theorem pay_at (a : Vec Ideal S1024x1024 .f32) (b : Vec Ideal S1024x1024 .f32) (i : Fin 1024) (x : Fin 1024) :
    k0_pay1 (F := Ideal) a b (ix2 i x) = ∑ d : Fin 1024, a (ix2 d i) * b (ix2 d x) := by
  pointwise [k0_pay1]
theorem pay2_eq (a : Vec Ideal S1024x1024 .f32) (b : Vec Ideal S1024x1024 .f32) (i : Fin 1024) (x : Fin 1024) :
    k0_pay2 (F := Ideal) a b (ix2 i x) = k0_pay1 (F := Ideal) a b (ix2 i x) := by
  unfold k0_pay2
  generalize k0_pay1 (F := Ideal) a b = p
  pointwise
theorem pay3_eq (a : Vec Ideal S1024x1024 .f32) (b : Vec Ideal S1024x1024 .f32) (v : Vec Ideal S1024x1024 .f32) (i : Fin 1024) (x : Fin 1024) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S1024x1024.Idx) : EReal :=
  ∑ d : Fin 1024, X0 m c (ix2 ⟨t.val % 8 * 1024 + d.val, by have := t_lt t; omega⟩ (⟨(j 0).val, (j 0).isLt⟩ : Fin 1024)) * X1 m c (ix2 ⟨t.val % 8 * 1024 + d.val, by have := t_lt t; omega⟩ ⟨t.val / 8 * 1024 + (j 1).val, by have := t_lt t; idx_bounds; omega⟩)
theorem pay_blk (c : Dev nD) (t : Fin cfg0.N) (i : Fin 1024) (x : Fin 1024) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 8 = 0) (j : S1024x1024.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 8 = 0) (h1 : ¬t.val % 8 = 7) (j : S1024x1024.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 8 = 0) (h1 : t.val % 8 = 7) (j : S1024x1024.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 8 = 0) (j : S1024x1024.Idx) :
    (outsAt0 m c t.val t.isLt).2 j = (outsAt0 m c (t.val - 1) (Nat.lt_of_le_of_lt (Nat.sub_le _ _) t.isLt)).2 j + TP m c t j := by
  by_cases h1 : t.val % 8 = 7
  · exact step_C m c t h0 h1 j
  · exact step_B m c t h0 h1 j
theorem out_eq (c : Dev nD) (t : Fin cfg0.N) (h0 : ¬t.val % 8 = 0) (h1 : t.val % 8 = 7) (j : S1024x1024.Idx) :
    (outsAt0 m c t.val t.isLt).1 j = (outsAt0 m c t.val t.isLt).2 j := by
  rw [outsAt0_C m c t h0 (by omega) h1]; frame_out

/-- The product. -/
def PROJ (a : FVec Ideal S8192x1024 .f32) (b : FVec Ideal S8192x2048 .f32) : FVec Ideal S1024x2048 .f32 :=
  fun j => ∑ d : Fin 8192, a (ix2 d (⟨(j 0).val, (j 0).isLt⟩ : Fin 1024)) * b (ix2 d (⟨(j 1).val, (j 1).isLt⟩ : Fin 2048))
theorem prod_at (c : Dev nD) (i : Fin 1024) (x : Fin 2048) : ∑ d : Fin 8192, X0 m c (ix2 d i) * X1 m c (ix2 d x) = PROJ (A0 m c) (A1 m c) (ix2 i x) := by
  rw [show X0 m c = A0 m c from V_arg0 m c, show X1 m c = A1 m c from V_arg1 m c]
  rfl
theorem sum_at (t : Fin cfg0.N) (hl : t.val % 8 = 8 - 1) (c : Dev nD) (y0 : Fin 1024) (y1 : Fin 1024) :
    ∑ s : Fin 8, TP m c ⟨8 * (t.val / 8) + s.val, Pipeline.run_point_lt_of_flush t hl s⟩ (ix2 y0 y1)
      = PROJ (A0 m c) (A1 m c) (ix2 y0 ⟨t.val / 8 * 1024 + y1.val, by have := t_lt t; omega⟩) := by
  have ht := t_lt t
  have r0 : ((ix2 y0 y1 : S1024x1024.Idx) 0).val = y0.val := rfl
  have r1 : ((ix2 y0 y1 : S1024x1024.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 8 = 8 - 1 := (flush0_2 t).mp hf
  have ht := t_lt t
  blk_simp
  have e : ((View.whole main_v0).slice (win0_2.rect t)).emb y = ix2 (⟨(y 0).val, by idx_bounds; omega⟩ : Fin 1024) (⟨t.val / 8 * 1024 + (y 1).val, by idx_bounds; omega⟩ : Fin 2048) := by
    funext a; fin_cases a <;> apply Fin.ext <;> blk_simp [idx t] <;> rfl
  rw [after0_2, out_eq m c t (by omega) hl, Pipeline.eq_sum_fin_of_reset_step_apply_of_flush (fun n h => (outsAt0 m c n h).2) 8 (fun _ => 0) (TP m c)
    (fun t h j => step_A m c t h j) (fun t h j => step m c t h j) t hl _, zero_add, e]
  exact sum_at m t hl c (y 0) (y 1)
end Cert.Kernel17Ideal.Value

namespace Cert.Proof
open Idealize.ShloMosaic
theorem ref17 (a : FVec Ideal Cert.Kernel17Ideal.S8192x1024 .f32) (b : FVec Ideal Cert.Kernel17Ideal.S8192x2048 .f32) :
    transpose Cert.Reference17Ideal.S1024x2048 [1, 0] (Host.dotGeneral Cert.Reference17Ideal.dot_S8192x2048_S8192x1024_S2048x1024_0_0_1_1_n_n none b a) Cert.Reference17Ideal.Gen.transposes_S2048x1024_S1024x2048_1_0 = Cert.Kernel17Ideal.Value.PROJ a b := by
  funext j
  idx_vars j
  unfold Cert.Kernel17Ideal.Value.PROJ
  pointwise
  exact Finset.sum_congr (M := EReal) rfl fun d _ => mul_comm _ _

theorem proj17 : Cert.algebraic_Kernel17Ideal_Reference17Ideal := by
  intro m ρ m' ρ' hpre hag
  refine ⟨fun c => Cert.Kernel17Ideal.Value.PROJ (Cert.Kernel17Ideal.Value.A0 m c) (Cert.Kernel17Ideal.Value.A1 m c), (θ_run Cert.Kernel17Ideal.defs _ _).mono (fun r h c => ?_) (Cert.Kernel17Ideal.Value.run_blocks m ρ), (θ_run Cert.Reference17Ideal.defs _ _).mono (fun r h c => ?_) (Cert.Reference17Ideal.Value.run m' ρ')⟩
  · exact ⟨(h c).1.trans (Cert.Kernel17Ideal.Value.final_out m c), (h c).2⟩
  · obtain ⟨h, h0, h1⟩ := h c
    refine ⟨h.trans ?_, h0, h1⟩
    obtain ⟨g0, g1⟩ := hag c
    rw [g0, g1]
    exact ref17 _ _
end Cert.Proof
end
-- ==== Proof.BranchFwd512.lean ====
/-
  A branch projection 512 wide: the forward product.
-/
module
public import Idealize.ShloMosaic.Lib.Pipeline.ValueKit
public import proofs.«01_k».proof.Proof.Gen.Kernel18Ideal.Value
public import proofs.«01_k».proof.Proof.Gen.Reference18Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel18Ideal.Value
open Cert.Kernel18Ideal Cert.Kernel18Ideal.Gen
variable (m : (ℓ : Loc nD τ sig) → Buf (Elt Ideal) ℓ)

abbrev A0 (c : Dev nD) : FVec Ideal S8192x512 .f32 := m ((c.tc : Thread nD τ).loc main_arg0)
abbrev A1 (c : Dev nD) : FVec Ideal S512x2048 .f32 := m ((c.tc : Thread nD τ).loc main_arg1)
set_option maxHeartbeats 8000000 in
theorem V_v0 (c : Dev nD) : (show FVec Ideal S512x2048 .bf16 from V m c main_v0) = A1 m c := by
  show StableHlo.after hostOps0 (fun b => m (c, b)) main_v0 = _
  unfold hostOps0
  after_results_simp
  rfl
set_option maxHeartbeats 8000000 in
theorem V_arg0 (c : Dev nD) : (show FVec Ideal S8192x512 .f32 from V m c main_arg0) = A0 m c := by
  show StableHlo.after hostOps0 (fun b => m (c, b)) main_arg0 = _
  unfold hostOps0
  after_results_simp

theorem idx : ∀ t : Fin cfg0.N, win0_0.index t = ![t.val / 2, 0] ∧ win0_1.index t = ![0, t.val % 2] ∧ win0_2.index t = ![t.val / 2, t.val % 2] :=
  (by decide +kernel : ∀ t : Fin grid0.N, _)
theorem t_lt (t : Fin cfg0.N) : t.val < 16 := lt_of_lt_of_eq t.isLt (by decide +kernel)
abbrev X0 (c : Dev nD) : FVec Ideal S8192x512 .f32 := V m c (Pipeline.arrRef spec0 0)
abbrev X1 (c : Dev nD) : FVec Ideal S512x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 512) :
    (View.read (Elt Ideal) ((cfg0.win 0).blk t).view z : FVec Ideal S1024x512 .f32) (ix2 i x)
      = (z : FVec Ideal S8192x512 .f32) (ix2 ⟨t.val / 2 * 1024 + i.val, by have := t_lt t; omega⟩ x) := by
  have := t_lt t
  blk_point [idx t]
theorem B0 (c : Dev nD) (t : Fin cfg0.N) (i : Fin 1024) (x : Fin 512) : (iblk m c 0 t : FVec Ideal S1024x512 .f32) (ix2 i x)
    = X0 m c (ix2 ⟨t.val / 2 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 512) (x : Fin 1024) :
    (View.read (Elt Ideal) ((cfg0.win 1).blk t).view z : FVec Ideal S512x1024 .bf16) (ix2 i x)
      = (z : FVec Ideal S512x2048 .bf16) (ix2 i ⟨t.val % 2 * 1024 + x.val, by have := t_lt t; omega⟩) := by
  have := t_lt t
  blk_point [idx t]
theorem B1 (c : Dev nD) (t : Fin cfg0.N) (i : Fin 512) (x : Fin 1024) : (iblk m c 1 t : FVec Ideal S512x1024 .bf16) (ix2 i x)
    = X1 m c (ix2 i ⟨t.val % 2 * 1024 + x.val, by have := t_lt t; omega⟩) :=
  blk1 c t (V m c (Pipeline.arrRef spec0 1)) i x
theorem pay_at (a : Vec Ideal S1024x512 .f32) (b : Vec Ideal S512x1024 .bf16) (i : Fin 1024) (x : Fin 1024) :
    k0_pay1 (F := Ideal) a b (ix2 i x) = ∑ d : Fin 512, a (ix2 i d) * b (ix2 d x) := by
  pointwise [k0_pay1]

/-- The product. -/
def PROJ (a : FVec Ideal S8192x512 .f32) (b : FVec Ideal S512x2048 .f32) : FVec Ideal S8192x2048 .f32 :=
  fun j => ∑ d : Fin 512, a (ix2 (⟨(j 0).val, (j 0).isLt⟩ : Fin 8192) d) * b (ix2 d (⟨(j 1).val, (j 1).isLt⟩ : Fin 2048))
theorem prod_at (c : Dev nD) (i : Fin 8192) (x : Fin 2048) : ∑ d : Fin 512, X0 m c (ix2 i d) * X1 m c (ix2 d x) = PROJ (A0 m c) (A1 m c) (ix2 i x) := by
  rw [show X0 m c = A0 m c from V_arg0 m c, show X1 m c = A1 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val / 2 * 1024 + (y 0).val, by idx_bounds; omega⟩ : Fin 8192) (⟨t.val % 2 * 1024 + (y 1).val, by idx_bounds; omega⟩ : Fin 2048) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel18Ideal.Value

namespace Cert.Proof
open Idealize.ShloMosaic
theorem ref18 (a : FVec Ideal Cert.Kernel18Ideal.S8192x512 .f32) (b : FVec Ideal Cert.Kernel18Ideal.S512x2048 .f32) :
    Host.dotGeneral Cert.Reference18Ideal.dot_S8192x512_S512x2048_S8192x2048_1_0_0_1_n_n none a b = Cert.Kernel18Ideal.Value.PROJ a b := by
  funext j
  idx_vars j
  unfold Cert.Kernel18Ideal.Value.PROJ
  pointwise

theorem proj18 : Cert.algebraic_Kernel18Ideal_Reference18Ideal := by
  intro m ρ m' ρ' hpre hag
  refine ⟨fun c => Cert.Kernel18Ideal.Value.PROJ (Cert.Kernel18Ideal.Value.A0 m c) (Cert.Kernel18Ideal.Value.A1 m c), (θ_run Cert.Kernel18Ideal.defs _ _).mono (fun r h c => ?_) (Cert.Kernel18Ideal.Value.run_blocks m ρ), (θ_run Cert.Reference18Ideal.defs _ _).mono (fun r h c => ?_) (Cert.Reference18Ideal.Value.run m' ρ')⟩
  · exact ⟨(h c).1.trans (Cert.Kernel18Ideal.Value.final_out m c), (h c).2⟩
  · obtain ⟨h, h0, h1⟩ := h c
    refine ⟨h.trans ?_, h0, h1⟩
    obtain ⟨g0, g1⟩ := hag c
    rw [g0, g1]
    exact ref18 _ _
end Cert.Proof
end
-- ==== Proof.BranchDa512.lean ====
/-
  A branch projection 512 wide: the input gradient.
-/
module
public import Idealize.ShloMosaic.Lib.Pipeline.ValueKit
public import proofs.«01_k».proof.Proof.Gen.Kernel19Ideal.Value
public import proofs.«01_k».proof.Proof.Gen.Reference19Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel19Ideal.Value
open Cert.Kernel19Ideal Cert.Kernel19Ideal.Gen
variable (m : (ℓ : Loc nD τ sig) → Buf (Elt Ideal) ℓ)

abbrev A0 (c : Dev nD) : FVec Ideal S512x2048 .f32 := m ((c.tc : Thread nD τ).loc main_arg0)
abbrev A1 (c : Dev nD) : FVec Ideal S8192x2048 .f32 := m ((c.tc : Thread nD τ).loc main_arg1)
set_option maxHeartbeats 8000000 in
theorem V_v0 (c : Dev nD) : (show FVec Ideal S512x2048 .bf16 from V m c main_v0) = A0 m c := by
  show StableHlo.after hostOps0 (fun b => m (c, b)) main_v0 = _
  unfold hostOps0
  after_results_simp
  rfl
set_option maxHeartbeats 8000000 in
theorem V_arg1 (c : Dev nD) : (show FVec Ideal S8192x2048 .f32 from V m c main_arg1) = A1 m c := by
  show StableHlo.after hostOps0 (fun b => m (c, b)) main_arg1 = _
  unfold hostOps0
  after_results_simp

theorem idx : ∀ t : Fin cfg0.N, win0_0.index t = ![t.val, 0] ∧ win0_1.index t = ![0, 0] ∧ win0_2.index t = ![t.val, 0] :=
  (by decide +kernel : ∀ t : Fin grid0.N, _)
theorem t_lt (t : Fin cfg0.N) : t.val < 8 := lt_of_lt_of_eq t.isLt (by decide +kernel)
abbrev X0 (c : Dev nD) : FVec Ideal S8192x2048 .f32 := V m c (Pipeline.arrRef spec0 0)
abbrev X1 (c : Dev nD) : FVec Ideal S512x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 2048) :
    (View.read (Elt Ideal) ((cfg0.win 0).blk t).view z : FVec Ideal S1024x2048 .f32) (ix2 i x)
      = (z : FVec Ideal S8192x2048 .f32) (ix2 ⟨t.val * 1024 + i.val, by have := t_lt t; omega⟩ x) := by
  have := t_lt t
  blk_point [idx t]
theorem B0 (c : Dev nD) (t : Fin cfg0.N) (i : Fin 1024) (x : Fin 2048) : (iblk m c 0 t : FVec Ideal S1024x2048 .f32) (ix2 i x)
    = X0 m c (ix2 ⟨t.val * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 512) (x : Fin 2048) :
    (View.read (Elt Ideal) ((cfg0.win 1).blk t).view z : FVec Ideal S512x2048 .bf16) (ix2 i x)
      = (z : FVec Ideal S512x2048 .bf16) (ix2 i x) := by
  have := t_lt t
  blk_point [idx t]
theorem B1 (c : Dev nD) (t : Fin cfg0.N) (i : Fin 512) (x : Fin 2048) : (iblk m c 1 t : FVec Ideal S512x2048 .bf16) (ix2 i x)
    = X1 m c (ix2 i x) :=
  blk1 c t (V m c (Pipeline.arrRef spec0 1)) i x
theorem pay_at (a : Vec Ideal S1024x2048 .f32) (b : Vec Ideal S512x2048 .bf16) (i : Fin 1024) (x : Fin 512) :
    k0_pay1 (F := Ideal) a b (ix2 i x) = ∑ d : Fin 2048, a (ix2 i d) * b (ix2 x d) := by
  pointwise [k0_pay1]

/-- The product. -/
def PROJ (a : FVec Ideal S512x2048 .f32) (b : FVec Ideal S8192x2048 .f32) : FVec Ideal S8192x512 .f32 :=
  fun j => ∑ d : Fin 2048, b (ix2 (⟨(j 0).val, (j 0).isLt⟩ : Fin 8192) d) * a (ix2 (⟨(j 1).val, (j 1).isLt⟩ : Fin 512) d)
theorem prod_at (c : Dev nD) (i : Fin 8192) (x : Fin 512) : ∑ d : Fin 2048, X0 m c (ix2 i d) * X1 m c (ix2 x d) = PROJ (A0 m c) (A1 m c) (ix2 i x) := by
  rw [show X0 m c = A1 m c from V_arg1 m c, show X1 m c = A0 m c from V_v0 m c]
  rfl
theorem final_out (c : Dev nD) : (dats m 0 c).arrAt 2 cfg0.N = PROJ (A0 m c) (A1 m c) := by
  refine (dats m 0 c).arrAt_eq_of_covers 2 _ (by decide +kernel) fun t hf y => ?_
  have ht := t_lt t
  blk_simp
  rw [after0_2]
  have e : ((View.whole main_v1).slice (win0_2.rect t)).emb y = ix2 (⟨t.val * 1024 + (y 0).val, by idx_bounds; omega⟩ : Fin 8192) (⟨(y 1).val, by idx_bounds; omega⟩ : Fin 512) := by
    funext a; fin_cases a <;> apply Fin.ext <;> blk_simp [idx t] <;> rfl
  rw [e, ← prod_at]
  unfold out0_2
  frame_out
  idx_vars y
  refine (pay_at _ _ _ _).trans ?_
  exact Finset.sum_congr (M := EReal) rfl fun d _ => congrArg₂ (fun a b : EReal => a * b) (B0 m c t _ _) (B1 m c t _ _)
end Cert.Kernel19Ideal.Value

namespace Cert.Proof
open Idealize.ShloMosaic
theorem ref19 (a : FVec Ideal Cert.Kernel19Ideal.S512x2048 .f32) (b : FVec Ideal Cert.Kernel19Ideal.S8192x2048 .f32) :
    Host.dotGeneral Cert.Reference19Ideal.dot_S8192x2048_S512x2048_S8192x512_1_1_0_0_n_n none b a = Cert.Kernel19Ideal.Value.PROJ a b := by
  funext j
  idx_vars j
  unfold Cert.Kernel19Ideal.Value.PROJ
  pointwise

theorem proj19 : Cert.algebraic_Kernel19Ideal_Reference19Ideal := by
  intro m ρ m' ρ' hpre hag
  refine ⟨fun c => Cert.Kernel19Ideal.Value.PROJ (Cert.Kernel19Ideal.Value.A0 m c) (Cert.Kernel19Ideal.Value.A1 m c), (θ_run Cert.Kernel19Ideal.defs _ _).mono (fun r h c => ?_) (Cert.Kernel19Ideal.Value.run_blocks m ρ), (θ_run Cert.Reference19Ideal.defs _ _).mono (fun r h c => ?_) (Cert.Reference19Ideal.Value.run m' ρ')⟩
  · exact ⟨(h c).1.trans (Cert.Kernel19Ideal.Value.final_out m c), (h c).2⟩
  · obtain ⟨h, h0, h1⟩ := h c
    refine ⟨h.trans ?_, h0, h1⟩
    obtain ⟨g0, g1⟩ := hag c
    rw [g0, g1]
    exact ref19 _ _
end Cert.Proof
end
-- ==== Proof.BranchDb512.lean ====
/-
  A branch projection 512 wide: the weight gradient.
-/
module
public import Idealize.ShloMosaic.Lib.Pipeline.ValueKit
public import proofs.«01_k».proof.Proof.Gen.Kernel20Ideal.Value
public import proofs.«01_k».proof.Proof.Gen.Reference20Ideal.Run
public import proofs.«01_k».proof.Defs
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.Kernel20Ideal.Value
open Cert.Kernel20Ideal Cert.Kernel20Ideal.Gen
variable (m : (ℓ : Loc nD τ sig) → Buf (Elt Ideal) ℓ)

abbrev A0 (c : Dev nD) : FVec Ideal S8192x512 .f32 := m ((c.tc : Thread nD τ).loc main_arg0)
abbrev A1 (c : Dev nD) : FVec Ideal S8192x2048 .f32 := m ((c.tc : Thread nD τ).loc main_arg1)
theorem V_arg0 (c : Dev nD) : V m c main_arg0 = A0 m c := rfl
theorem V_arg1 (c : Dev nD) : V m c main_arg1 = A1 m c := rfl

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem t_lt (t : Fin cfg0.N) : t.val < 16 := lt_of_lt_of_eq t.isLt (by decide +kernel)
abbrev X0 (c : Dev nD) : FVec Ideal S8192x512 .f32 := V m c (Pipeline.arrRef spec0 0)
abbrev X1 (c : Dev nD) : FVec Ideal S8192x2048 .f32 := V m c (Pipeline.arrRef spec0 1)
theorem blk0 (c : Dev nD) (t : Fin cfg0.N) (z : Buf (Elt Ideal) ((c.tc : Thread nD τ).loc (Pipeline.arrRef spec0 0))) (i : Fin 1024) (x : Fin 512) :
    (View.read (Elt Ideal) ((cfg0.win 0).blk t).view z : FVec Ideal S1024x512 .f32) (ix2 i x)
      = (z : FVec Ideal S8192x512 .f32) (ix2 ⟨t.val % 8 * 1024 + i.val, by have := t_lt t; omega⟩ x) := by
  have := t_lt t
  blk_point [idx t]
theorem B0 (c : Dev nD) (t : Fin cfg0.N) (i : Fin 1024) (x : Fin 512) : (iblk m c 0 t : FVec Ideal S1024x512 .f32) (ix2 i x)
    = X0 m c (ix2 ⟨t.val % 8 * 1024 + i.val, by have := t_lt t; omega⟩ x) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 1024) :
    (View.read (Elt Ideal) ((cfg0.win 1).blk t).view z : FVec Ideal S1024x1024 .f32) (ix2 i x)
      = (z : FVec Ideal S8192x2048 .f32) (ix2 ⟨t.val % 8 * 1024 + i.val, by have := t_lt t; omega⟩ ⟨t.val / 8 * 1024 + x.val, by have := t_lt t; omega⟩) := by
  have := t_lt t
  blk_point [idx t]
theorem B1 (c : Dev nD) (t : Fin cfg0.N) (i : Fin 1024) (x : Fin 1024) : (iblk m c 1 t : FVec Ideal S1024x1024 .f32) (ix2 i x)
    = X1 m c (ix2 ⟨t.val % 8 * 1024 + i.val, by have := t_lt t; omega⟩ ⟨t.val / 8 * 1024 + x.val, by have := t_lt t; omega⟩) :=
  blk1 c t (V m c (Pipeline.arrRef spec0 1)) i x
theorem pay_at (a : Vec Ideal S1024x512 .f32) (b : Vec Ideal S1024x1024 .f32) (i : Fin 512) (x : Fin 1024) :
    k0_pay1 (F := Ideal) a b (ix2 i x) = ∑ d : Fin 1024, a (ix2 d i) * b (ix2 d x) := by
  pointwise [k0_pay1]
theorem pay2_eq (a : Vec Ideal S1024x512 .f32) (b : Vec Ideal S1024x1024 .f32) (i : Fin 512) (x : Fin 1024) :
    k0_pay2 (F := Ideal) a b (ix2 i x) = k0_pay1 (F := Ideal) a b (ix2 i x) := by
  unfold k0_pay2
  generalize k0_pay1 (F := Ideal) a b = p
  pointwise
theorem pay3_eq (a : Vec Ideal S1024x512 .f32) (b : Vec Ideal S1024x1024 .f32) (v : Vec Ideal S512x1024 .f32) (i : Fin 512) (x : Fin 1024) :
    k0_pay3 (F := Ideal) a b v (ix2 i x) = v (ix2 i x) + k0_pay1 (F := Ideal) a b (ix2 i x) := by
  unfold k0_pay3
  generalize k0_pay1 (F := Ideal) a b = p
  pointwise

/-- What one grid point adds to the running sum. -/
def TP (c : Dev nD) (t : Fin cfg0.N) (j : S512x1024.Idx) : EReal :=
  ∑ d : Fin 1024, X0 m c (ix2 ⟨t.val % 8 * 1024 + d.val, by have := t_lt t; omega⟩ (⟨(j 0).val, (j 0).isLt⟩ : Fin 512)) * X1 m c (ix2 ⟨t.val % 8 * 1024 + d.val, by have := t_lt t; omega⟩ ⟨t.val / 8 * 1024 + (j 1).val, by have := t_lt t; idx_bounds; omega⟩)
theorem pay_blk (c : Dev nD) (t : Fin cfg0.N) (i : Fin 512) (x : Fin 1024) :
    k0_pay1 (F := Ideal) (iblk m c 0 t) (iblk m c 1 t) (ix2 i x) = TP m c t (ix2 i x) := by
  refine (pay_at _ _ _ _).trans ?_
  exact Finset.sum_congr (M := EReal) rfl fun d _ => congrArg₂ (fun a b : EReal => a * b) (B0 m c t _ _) (B1 m c t _ _)
theorem step_A (c : Dev nD) (t : Fin cfg0.N) (h0 : t.val % 8 = 0) (j : S512x1024.Idx) :
    (outsAt0 m c t.val t.isLt).2 j = 0 + TP m c t j := by
  rw [outsAt0_A m c t h0 (by omega) (by omega)]; frame_out
  idx_vars j
  refine (pay2_eq _ _ _ _).trans ((pay_blk m c t _ _).trans (zero_add _).symm)
theorem step_B (c : Dev nD) (t : Fin cfg0.N) (h0 : ¬t.val % 8 = 0) (h1 : ¬t.val % 8 = 7) (j : S512x1024.Idx) :
    (outsAt0 m c t.val t.isLt).2 j = (outsAt0 m c (t.val - 1) (Nat.lt_of_le_of_lt (Nat.sub_le _ _) t.isLt)).2 j + TP m c t j := by
  rw [outsAt0_B m c t h0 (by omega) h1]; frame_out
  idx_vars j
  refine (pay3_eq _ _ _ _ _).trans (congrArg₂ (· + ·) (congrFun (Memref.IsWhole.read_unread _ _) _) (pay_blk m c t _ _))
theorem step_C (c : Dev nD) (t : Fin cfg0.N) (h0 : ¬t.val % 8 = 0) (h1 : t.val % 8 = 7) (j : S512x1024.Idx) :
    (outsAt0 m c t.val t.isLt).2 j = (outsAt0 m c (t.val - 1) (Nat.lt_of_le_of_lt (Nat.sub_le _ _) t.isLt)).2 j + TP m c t j := by
  rw [outsAt0_C m c t h0 (by omega) h1]; frame_out
  idx_vars j
  refine (pay3_eq _ _ _ _ _).trans (congrArg₂ (· + ·) (congrFun (Memref.IsWhole.read_unread _ _) _) (pay_blk m c t _ _))
theorem step (c : Dev nD) (t : Fin cfg0.N) (h0 : ¬t.val % 8 = 0) (j : S512x1024.Idx) :
    (outsAt0 m c t.val t.isLt).2 j = (outsAt0 m c (t.val - 1) (Nat.lt_of_le_of_lt (Nat.sub_le _ _) t.isLt)).2 j + TP m c t j := by
  by_cases h1 : t.val % 8 = 7
  · exact step_C m c t h0 h1 j
  · exact step_B m c t h0 h1 j
theorem out_eq (c : Dev nD) (t : Fin cfg0.N) (h0 : ¬t.val % 8 = 0) (h1 : t.val % 8 = 7) (j : S512x1024.Idx) :
    (outsAt0 m c t.val t.isLt).1 j = (outsAt0 m c t.val t.isLt).2 j := by
  rw [outsAt0_C m c t h0 (by omega) h1]; frame_out

/-- The product. -/
def PROJ (a : FVec Ideal S8192x512 .f32) (b : FVec Ideal S8192x2048 .f32) : FVec Ideal S512x2048 .f32 :=
  fun j => ∑ d : Fin 8192, a (ix2 d (⟨(j 0).val, (j 0).isLt⟩ : Fin 512)) * b (ix2 d (⟨(j 1).val, (j 1).isLt⟩ : Fin 2048))
theorem prod_at (c : Dev nD) (i : Fin 512) (x : Fin 2048) : ∑ d : Fin 8192, X0 m c (ix2 d i) * X1 m c (ix2 d x) = PROJ (A0 m c) (A1 m c) (ix2 i x) := by
  rw [show X0 m c = A0 m c from V_arg0 m c, show X1 m c = A1 m c from V_arg1 m c]
  rfl
theorem sum_at (t : Fin cfg0.N) (hl : t.val % 8 = 8 - 1) (c : Dev nD) (y0 : Fin 512) (y1 : Fin 1024) :
    ∑ s : Fin 8, TP m c ⟨8 * (t.val / 8) + s.val, Pipeline.run_point_lt_of_flush t hl s⟩ (ix2 y0 y1)
      = PROJ (A0 m c) (A1 m c) (ix2 y0 ⟨t.val / 8 * 1024 + y1.val, by have := t_lt t; omega⟩) := by
  have ht := t_lt t
  have r0 : ((ix2 y0 y1 : S512x1024.Idx) 0).val = y0.val := rfl
  have r1 : ((ix2 y0 y1 : S512x1024.Idx) 1).val = y1.val := rfl
  rw [← prod_at]
  generalize hx0 : X0 m c = x0
  generalize hx1 : X1 m c = x1
  refine Fin.sum_mul_add_congr fun s k hk => ?_
  rw [hx0, hx1]
  refine congrArg₂ (· * ·) (congrArg x0 ?_) (congrArg x1 ?_)
  all_goals
    refine congrArg₂ ix2 (Fin.ext ?_) (Fin.ext ?_)
    all_goals simp only <;> omega
theorem final_out (c : Dev nD) : (dats m 0 c).arrAt 2 cfg0.N = PROJ (A0 m c) (A1 m c) := by
  refine (dats m 0 c).arrAt_eq_of_covers 2 _ (by decide +kernel) fun t hf y => ?_
  have hl : t.val % 8 = 8 - 1 := (flush0_2 t).mp hf
  have ht := t_lt t
  blk_simp
  have e : ((View.whole main_v0).slice (win0_2.rect t)).emb y = ix2 (⟨(y 0).val, by idx_bounds; omega⟩ : Fin 512) (⟨t.val / 8 * 1024 + (y 1).val, by idx_bounds; omega⟩ : Fin 2048) := by
    funext a; fin_cases a <;> apply Fin.ext <;> blk_simp [idx t] <;> rfl
  rw [after0_2, out_eq m c t (by omega) hl, Pipeline.eq_sum_fin_of_reset_step_apply_of_flush (fun n h => (outsAt0 m c n h).2) 8 (fun _ => 0) (TP m c)
    (fun t h j => step_A m c t h j) (fun t h j => step m c t h j) t hl _, zero_add, e]
  exact sum_at m t hl c (y 0) (y 1)
end Cert.Kernel20Ideal.Value

namespace Cert.Proof
open Idealize.ShloMosaic
theorem ref20 (a : FVec Ideal Cert.Kernel20Ideal.S8192x512 .f32) (b : FVec Ideal Cert.Kernel20Ideal.S8192x2048 .f32) :
    transpose Cert.Reference20Ideal.S512x2048 [1, 0] (Host.dotGeneral Cert.Reference20Ideal.dot_S8192x2048_S8192x512_S2048x512_0_0_1_1_n_n none b a) Cert.Reference20Ideal.Gen.transposes_S2048x512_S512x2048_1_0 = Cert.Kernel20Ideal.Value.PROJ a b := by
  funext j
  idx_vars j
  unfold Cert.Kernel20Ideal.Value.PROJ
  pointwise
  exact Finset.sum_congr (M := EReal) rfl fun d _ => mul_comm _ _

theorem proj20 : Cert.algebraic_Kernel20Ideal_Reference20Ideal := by
  intro m ρ m' ρ' hpre hag
  refine ⟨fun c => Cert.Kernel20Ideal.Value.PROJ (Cert.Kernel20Ideal.Value.A0 m c) (Cert.Kernel20Ideal.Value.A1 m c), (θ_run Cert.Kernel20Ideal.defs _ _).mono (fun r h c => ?_) (Cert.Kernel20Ideal.Value.run_blocks m ρ), (θ_run Cert.Reference20Ideal.defs _ _).mono (fun r h c => ?_) (Cert.Reference20Ideal.Value.run m' ρ')⟩
  · exact ⟨(h c).1.trans (Cert.Kernel20Ideal.Value.final_out m c), (h c).2⟩
  · obtain ⟨h, h0, h1⟩ := h c
    refine ⟨h.trans ?_, h0, h1⟩
    obtain ⟨g0, g1⟩ := hag c
    rw [g0, g1]
    exact ref20 _ _
end Cert.Proof
end
-- ==== Proof.DqRuns.lean ====
/-
  The queries' gradient: what the runs of the body's three cases share — the grid's points in closed form, where each
  window is fetched, written back or idle, the staging memrefs and the frame's kit.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats 0 c).arrAt_in 5 rfl _).trans ((hA c 5).trans (V_main_arg3 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond0_0, k0_cond1, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Output 7 is stored at the first point of its block only; -/
theorem liveAt0_7_A : ∀ t : Fin cfg0.N, t.val % 8 = 0 → cfg0.idle 7 (grid0.coords t) = false := by decide +kernel
/-- at every other point it is idle, -/
theorem idleAt0_7 : ∀ t : Fin cfg0.N, ¬t.val % 8 = 0 → cfg0.idle 7 (grid0.coords t) = true := by decide +kernel
/-- it is written back at the block's last point only, -/
theorem noFlush0_7 : ∀ t : Fin cfg0.N, ¬t.val % 8 = 7 → (cfg0.win 7).flush t = false := by decide +kernel
theorem yesFlush0_7 : ∀ t : Fin cfg0.N, t.val % 8 = 7 → (cfg0.win 7).flush t = true := by decide +kernel
/-- and only at the block's first point the buffer holds nothing that the body stored. -/
theorem fresh0_7 : ∀ n : Fin (cfg0.N), cfg0.fresh 7 n.val = decide (n.val % 8 = 0) := fun n => by
  have h : ∀ n : ℕ, n ≤ cfg0.N → cfg0.fresh 7 n = decide (n % 8 = 0) := by
    intro n
    induction n with
    | zero => intro _; exact Pipeline.Cfg.fresh_zero cfg0 7
    | succ n ih =>
      intro hn
      rw [Pipeline.Cfg.fresh_succ cfg0 7 n hn, ih (Nat.le_of_lt hn)]
      exact (by decide +kernel : ∀ t : Fin cfg0.N, ((cfg0.win 7).flush t || (cfg0.idle 7 (grid0.coords t) && decide (t.val % 8 = 0)))
        = decide ((t.val + 1) % 8 = 0)) ⟨n, hn⟩
  exact h n.val (Nat.le_of_lt n.isLt)
/-- Output 8 is stored at the first point of its block only; -/
theorem liveAt0_8_A : ∀ t : Fin cfg0.N, t.val % 8 = 0 → cfg0.idle 8 (grid0.coords t) = false := by decide +kernel
/-- at every other point it is idle, -/
theorem idleAt0_8 : ∀ t : Fin cfg0.N, ¬t.val % 8 = 0 → cfg0.idle 8 (grid0.coords t) = true := by decide +kernel
/-- it is written back at the block's last point only, -/
theorem noFlush0_8 : ∀ t : Fin cfg0.N, ¬t.val % 8 = 7 → (cfg0.win 8).flush t = false := by decide +kernel
theorem yesFlush0_8 : ∀ t : Fin cfg0.N, t.val % 8 = 7 → (cfg0.win 8).flush t = true := by decide +kernel
/-- and only at the block's first point the buffer holds nothing that the body stored. -/
theorem fresh0_8 : ∀ n : Fin (cfg0.N), cfg0.fresh 8 n.val = decide (n.val % 8 = 0) := fun n => by
  have h : ∀ n : ℕ, n ≤ cfg0.N → cfg0.fresh 8 n = decide (n % 8 = 0) := by
    intro n
    induction n with
    | zero => intro _; exact Pipeline.Cfg.fresh_zero cfg0 8
    | succ n ih =>
      intro hn
      rw [Pipeline.Cfg.fresh_succ cfg0 8 n hn, ih (Nat.le_of_lt hn)]
      exact (by decide +kernel : ∀ t : Fin cfg0.N, ((cfg0.win 8).flush t || (cfg0.idle 8 (grid0.coords t) && decide (t.val % 8 = 0)))
        = decide ((t.val + 1) % 8 = 0)) ⟨n, hn⟩
  exact h n.val (Nat.le_of_lt n.isLt)
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S512x512 .f32 := (Memref.whole cc0_stg6_0 : Memref sig .tc .vmem S512x512 .f32).view
/-- One staging buffer of output window 7, through which its contents are stated (`View.read_writes_of_cover`: the
    choice does not matter). -/
abbrev VO0_7 : View sig .tc .vmem S512x512 .bf16 := (Memref.whole cc0_stg7_0 : Memref sig .tc .vmem S512x512 .bf16).view
/-- One staging buffer of output window 8, through which its contents are stated (`View.read_writes_of_cover`: the
    choice does not matter). -/
abbrev VO0_8 : View sig .tc .vmem S512x512 .f32 := (Memref.whole cc0_stg8_0 : Memref sig .tc .vmem S512x512 .f32).view
/-- Each window's current staging memref at point `t`, spelled as the pipeline passes it (`bodyAt0`), and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x128 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3
/-- The scratch `arg12` the kernel carries between points, as a view: what it holds is stated through it. -/
abbrev VS0_0 : View sig .tc .vmem S512x128 .f32 := scM0_0.view
/-- The scratch `arg13` the kernel carries between points, as a view: what it holds is stated through it. -/
abbrev VS0_1 : View sig .tc .vmem S512x128 .f32 := scM0_1.view
/-- The scratch `arg14` the kernel carries between points, as a view: what it holds is stated through it. -/
abbrev VS0_2 : View sig .tc .vmem S512x128 .f32 := scM0_2.view
/-- The scratch `arg15` the kernel carries between points, as a view: what it holds is stated through it. -/
abbrev VS0_3 : View sig .tc .vmem S512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.DqRunA.lean ====
/-
  The queries' gradient: the body's run at the first point of a block of queries.
-/
module

public import proofs.«01_k».proof.Proof.DqRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 248: 32 of 256), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) :
    Σ' (L6 : List (View.Piece (Elt F) S512x512 .f32)), Σ' (L7 : List (View.Piece (Elt F) S512x512 .bf16)), Σ' (L8 : List (View.Piece (Elt F) S512x512 .f32)), Σ' (LS0 : List (View.Piece (Elt F) S512x128 .f32)), Σ' (LS1 : List (View.Piece (Elt F) S512x128 .f32)), Σ' (LS2 : List (View.Piece (Elt F) S512x128 .f32)), { LS3 : List (View.Piece (Elt F) S512x128 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_flash_dq i arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, fun xi6 E K => ?run⟩
  case run =>
    simp only [cc0_flash_dq_eq_skeleton]; unfold cc0_flash_dq_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Gen

end
-- ==== Proof.DqRunB.lean ====
/-
  The queries' gradient: the body's run between the first and the last point of a block of queries.
-/
module

public import proofs.«01_k».proof.Proof.DqRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 254: 192 of 256), WITH the
    proof that on whole staging memrefs — the inputs' at their contents, the outputs it reads before covering (7, 8) at their running contents `xo·`, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) :
    Σ' (L6 : List (View.Piece (Elt F) S512x512 .f32)), Σ' (L7 : List (View.Piece (Elt F) S512x512 .bf16)), Σ' (L8 : List (View.Piece (Elt F) S512x512 .f32)), Σ' (LS0 : List (View.Piece (Elt F) S512x128 .f32)), Σ' (LS1 : List (View.Piece (Elt F) S512x128 .f32)), Σ' (LS2 : List (View.Piece (Elt F) S512x128 .f32)), { LS3 : List (View.Piece (Elt F) S512x128 .f32) //
      ∀ (xi6 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xo7 ∗ owns (c : Thread nD τ) arg11 fullShare xo8 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xo7 ∗ owns (c : Thread nD τ) arg11 fullShare xo8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_flash_dq i arg3 harg3 arg4 harg4 arg5 harg5 arg6 harg6 arg7 harg7 arg8 harg8 arg9 harg9 arg10 harg10 arg11 harg11 arg12 harg12 arg13 harg13 arg14 harg14 arg15 harg15) K } := by
  refine ⟨[], [], [], ?_, ?_, ?_, ?_, fun xi6 E K => ?run⟩
  case run =>
    simp only [cc0_flash_dq_eq_skeleton]; unfold cc0_flash_dq_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    isplitl [HS2]; · iexists _; iexact HS2
    iexists _; iexact HS3

end Cert.KernelIdeal.Gen

end
-- ==== Proof.DqRunC.lean ====
/-
  The queries' gradient: the body's run at the last point of a block of queries.
-/
module

public import proofs.«01_k».proof.Proof.DqRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 7, 15, … 255: 32 of 256), WITH the
    proof that on whole staging memrefs — the inputs' at their contents, the outputs it reads before covering (7, 8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) :
    Σ' (L6 : List (View.Piece (Elt F) S512x512 .f32)), Σ' (L7 : List (View.Piece (Elt F) S512x512 .bf16)), Σ' (L8 : List (View.Piece (Elt F) S512x512 .f32)), Σ' (LS0 : List (View.Piece (Elt F) S512x128 .f32)), Σ' (LS1 : List (View.Piece (Elt F) S512x128 .f32)), Σ' (LS2 : List (View.Piece (Elt F) S512x128 .f32)), { LS3 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ owns (c : Thread nD τ) arg11 fullShare xo8 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xo7 ∗ owns (c : Thread nD τ) arg11 fullShare xo8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_flash_dq i arg3 harg3 arg4 harg4 arg5 harg5 arg6 harg6 arg7 harg7 arg8 harg8 arg9 harg9 arg10 harg10 arg11 harg11 arg12 harg12 arg13 harg13 arg14 harg14 arg15 harg15) K } := by
  refine ⟨?_, [], [], ?_, ?_, ?_, ?_, fun E K => ?run⟩
  case run =>
    simp only [cc0_flash_dq_eq_skeleton]; unfold cc0_flash_dq_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    isplitl [HS1]; · iexists _; iexact HS1
    isplitl [HS2]; · iexists _; iexact HS2
    iexists _; iexact HS3

end Cert.KernelIdeal.Gen

end
-- ==== Proof.DqFrame.lean ====
/-
  The queries' gradient: what the outputs and the carried accumulators hold point by point, the body's obligation, the
  run and the frame. Two outputs (the narrowed cotangent and its row products) are stored at a block's first point and
  read back at the block's other points, where nothing is stored to them: there they keep what the first point stored.
-/
module

public import proofs.«01_k».proof.Proof.DqRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x512 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).1)

/-- Case A's pieces for output 7 tile its block (1 store of `S512x512`, checked by the kernel's evaluation: Lib/Ring.lean `Piece.tiledL`, linear in the pieces, through a loop's `@[irreducible]` trip theorem too), so they cover it. -/
theorem cover0_A_7 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1 S512x512.size (by sl_kernel_rfl) y

/-- What case A leaves in output 7's staging buffer: its pieces read back over junk. -/
def out0_A_7 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x512 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1)

/-- Case A's pieces for output 8 tile its block (4 stores of `S512x128`, checked by the kernel's evaluation: Lib/Ring.lean `Piece.tiledL`, linear in the pieces, through a loop's `@[irreducible]` trip theorem too), so they cover it. -/
theorem cover0_A_8 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1 S512x128.size (by sl_kernel_rfl) y

/-- What case A leaves in output 8's staging buffer: its pieces read back over junk. -/
def out0_A_8 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x512 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1)

/-- Case A's pieces for scratch `arg12`, which the kernel carries between points, cover it: 2 pieces of `S512x128` tiling it (Lib/Ring.lean `Piece.tiledL`). -/
theorem scover0_A_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1 S512x128.size (by sl_kernel_rfl) y

/-- What case A leaves in scratch `arg12`: its pieces read back over junk. -/
def sout0_A_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1)

/-- Case A's pieces for scratch `arg13`, which the kernel carries between points, cover it: 2 pieces of `S512x128` tiling it (Lib/Ring.lean `Piece.tiledL`). -/
theorem scover0_A_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1 S512x128.size (by sl_kernel_rfl) y

/-- What case A leaves in scratch `arg13`: its pieces read back over junk. -/
def sout0_A_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1)

/-- Case A's pieces for scratch `arg14`, which the kernel carries between points, cover it: 2 pieces of `S512x128` tiling it (Lib/Ring.lean `Piece.tiledL`). -/
theorem scover0_A_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1 S512x128.size (by sl_kernel_rfl) y

/-- What case A leaves in scratch `arg14`: its pieces read back over junk. -/
def sout0_A_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1)

/-- Case A's pieces for scratch `arg15`, which the kernel carries between points, cover it: 2 pieces of `S512x128` tiling it (Lib/Ring.lean `Piece.tiledL`). -/
theorem scover0_A_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (y : S512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1 S512x128.size (by sl_kernel_rfl) y

/-- What case A leaves in scratch `arg15`: its pieces read back over junk. -/
def sout0_A_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) : Vec F S512x128 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).1)

/-- Case B stores nothing into output 7, a live window: its staging buffer holds what the point before left. -/
def out0_B_7 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .bf16 := xo7

/-- Case B stores nothing into output 8, a live window: its staging buffer holds what the point before left. -/
def out0_B_8 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .f32 := xo8

/-- Case B's pieces for scratch `arg12`, which the kernel carries between points, cover it: 1 piece of `S512x128` tiling it (Lib/Ring.lean `Piece.tiledL`). -/
theorem scover0_B_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1 S512x128.size (by sl_kernel_rfl) y

/-- What case B leaves in scratch `arg12`: its pieces read back over junk. -/
def sout0_B_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1)

/-- Case B's pieces for scratch `arg13`, which the kernel carries between points, cover it: 1 piece of `S512x128` tiling it (Lib/Ring.lean `Piece.tiledL`). -/
theorem scover0_B_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1 S512x128.size (by sl_kernel_rfl) y

/-- What case B leaves in scratch `arg13`: its pieces read back over junk. -/
def sout0_B_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1)

/-- Case B's pieces for scratch `arg14`, which the kernel carries between points, cover it: 1 piece of `S512x128` tiling it (Lib/Ring.lean `Piece.tiledL`). -/
theorem scover0_B_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1 S512x128.size (by sl_kernel_rfl) y

/-- What case B leaves in scratch `arg14`: its pieces read back over junk. -/
def sout0_B_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1)

/-- Case B's pieces for scratch `arg15`, which the kernel carries between points, cover it: 1 piece of `S512x128` tiling it (Lib/Ring.lean `Piece.tiledL`). -/
theorem scover0_B_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1 S512x128.size (by sl_kernel_rfl) y

/-- What case B leaves in scratch `arg15`: its pieces read back over junk. -/
def sout0_B_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : ¬cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1)

/-- Case C's pieces for output 6 tile its block (4 stores of `S512x128`, checked by the kernel's evaluation: Lib/Ring.lean `Piece.tiledL`, linear in the pieces, through a loop's `@[irreducible]` trip theorem too), so they cover it. -/
theorem cover0_C_6 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).1 S512x128.size (by sl_kernel_rfl) y

/-- What case C leaves in output 6's staging buffer: its pieces read back over junk. -/
def out0_C_6 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).1)

/-- Case C stores nothing into output 7, a live window: its staging buffer holds what the point before left. -/
def out0_C_7 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .bf16 := xo7

/-- Case C stores nothing into output 8, a live window: its staging buffer holds what the point before left. -/
def out0_C_8 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x512 .f32 := xo8

/-- Case C's pieces for scratch `arg12`, which the kernel carries between points, cover it: 1 piece of `S512x128` tiling it (Lib/Ring.lean `Piece.tiledL`). -/
theorem scover0_C_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1 S512x128.size (by sl_kernel_rfl) y

/-- What case C leaves in scratch `arg12`: its pieces read back over junk. -/
def sout0_C_0 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.1)

/-- Case C's pieces for scratch `arg13`, which the kernel carries between points, cover it: 1 piece of `S512x128` tiling it (Lib/Ring.lean `Piece.tiledL`). -/
theorem scover0_C_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1 S512x128.size (by sl_kernel_rfl) y

/-- What case C leaves in scratch `arg13`: its pieces read back over junk. -/
def sout0_C_1 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.1)

/-- Case C's pieces for scratch `arg14`, which the kernel carries between points, cover it: 1 piece of `S512x128` tiling it (Lib/Ring.lean `Piece.tiledL`). -/
theorem scover0_C_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1 S512x128.size (by sl_kernel_rfl) y

/-- What case C leaves in scratch `arg14`: its pieces read back over junk. -/
def sout0_C_2 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.1)

/-- Case C's pieces for scratch `arg15`, which the kernel carries between points, cover it: 1 piece of `S512x128` tiling it (Lib/Ring.lean `Piece.tiledL`). -/
theorem scover0_C_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) (y : S512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1 S512x128.size (by sl_kernel_rfl) y

/-- What case C leaves in scratch `arg15`: its pieces read back over junk. -/
def sout0_C_3 (c : Dev nD) (i : grid0.Coords) (arg3 : Memref sig .tc .vmem S512x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (hc0 : ¬cond0_0 i) (hc1 : cond0_1 i)
    (x0 : Vec F S512x512 .bf16) (x1 : Vec F S1024x128 .bf16) (x2 : Vec F S1024x128 .bf16) (x3 : Vec F S512x512 .f32) (x4 : Vec F S512x512 .f32) (x5 : Vec F S512x512 .f32) (xo7 : Vec F S512x512 .bf16) (xo8 : Vec F S512x512 .f32) (xs0 : Vec F S512x128 .f32) (xs1 : Vec F S512x128 .f32) (xs2 : Vec F S512x128 .f32) (xs3 : Vec F S512x128 .f32) : Vec F S512x128 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xs0 xs1 xs2 xs3).2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .f32 × Vec F S512x512 .bf16 × Vec F S512x512 .f32 × Vec F S512x128 .f32 × Vec F S512x128 .f32 × Vec F S512x128 .f32 × Vec F S512x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by have hN : n + 1 < 256 := lt_of_lt_of_eq hn (show cfg0.N = 256 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 8 = 0) (h1 : ¬t.val % 8 = 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Through the idle points of a block output 7's buffer keeps what its first point stored: -/
theorem carry0_7 (c : Dev nD) (t : Fin cfg0.N) (h0 : ¬t.val % 8 = 0) :
    (dats m 0 c).after 7 t = (dats m 0 c).after 7 ⟨t.val - 1, by omega⟩ := by
  rw [after0_7, after0_7]
  by_cases h1 : t.val % 8 = 7
  · rw [outsAt0_C m c t h0 h1]; rfl
  · rw [outsAt0_B m c t h0 h1]; rfl
/-- so what the body finds there is what the point before is said to leave. -/
theorem before0_7_pos (c : Dev nD) (t : Fin cfg0.N) (h0 : ¬t.val % 8 = 0) (d) :
    (dats m 0 c).before 7 t d = (outsAt0 m c (t.val - 1) (Nat.lt_of_le_of_lt (Nat.sub_le _ _) t.isLt)).2.1 := by
  rw [Dat.before_out_traj (dats m 0 c) 7 rfl (fun _ _ => rfl)
    (fun t ht _ hf => carry0_7 m c t (fun h => by rw [fresh0_7 t, decide_eq_true h] at hf; exact absurd hf (by decide))) t.val t rfl d,
    fresh0_7 t, decide_eq_false h0, if_neg Bool.false_ne_true]
  exact after0_7 m c _
/-- Through the idle points of a block output 8's buffer keeps what its first point stored: -/
theorem carry0_8 (c : Dev nD) (t : Fin cfg0.N) (h0 : ¬t.val % 8 = 0) :
    (dats m 0 c).after 8 t = (dats m 0 c).after 8 ⟨t.val - 1, by omega⟩ := by
  rw [after0_8, after0_8]
  by_cases h1 : t.val % 8 = 7
  · rw [outsAt0_C m c t h0 h1]; rfl
  · rw [outsAt0_B m c t h0 h1]; rfl
/-- so what the body finds there is what the point before is said to leave. -/
theorem before0_8_pos (c : Dev nD) (t : Fin cfg0.N) (h0 : ¬t.val % 8 = 0) (d) :
    (dats m 0 c).before 8 t d = (outsAt0 m c (t.val - 1) (Nat.lt_of_le_of_lt (Nat.sub_le _ _) t.isLt)).2.2.1 := by
  rw [Dat.before_out_traj (dats m 0 c) 8 rfl (fun _ _ => rfl)
    (fun t ht _ hf => carry0_8 m c t (fun h => by rw [fresh0_8 t, decide_eq_true h] at hf; exact absurd hf (by decide))) t.val t rfl d,
    fresh0_8 t, decide_eq_false h0, if_neg Bool.false_ne_true]
  exact after0_8 m c _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7_A t h0], after0_7]
      rw [show (dats m 0 c).leavesExact 8 t = owns (c : Thread nD τ) (ms0_8 t) fullShare ((dats m 0 c).after 8 t) from by
      unfold Dat.leavesExact; rw [liveAt0_8_A t h0], after0_8]
      by_cases hz : t.val = 0
      · rw [PhiS_castSucc m c t, PhiS_zero m c _ _ hz, PhiA0_eq]
        rw [outsAt0_A m c t h0 h1]
        unfold out0_A_7 out0_A_8 sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        iintro ⟨H0, H1, H2, H3, H4, H5, H6, ⟨%e7, H7⟩, ⟨%e8, H8⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_7 out0_A_8 sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%e7, H7⟩, ⟨%e8, H8⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [idleAt0_7 t h0, yesFlush0_7 t h1], after0_7]
      rw [show (dats m 0 c).leavesExact 8 t = owns (c : Thread nD τ) (ms0_8 t) fullShare ((dats m 0 c).after 8 t) from by
      unfold Dat.leavesExact; rw [idleAt0_8 t h0, yesFlush0_8 t h1], after0_8]
      by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        simp only [before0_7_pos m c t h0, before0_8_pos m c t h0]
        unfold out0_C_6 out0_C_7 out0_C_8 sout0_C_0 sout0_C_1 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, ⟨%e6, H6⟩, H7, H8, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _ _ _ _)
        isplitl [H7]; · iexact H7
        iexact H8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7 t h0) (noFlush0_7 t h1)]
      rw [Dat.leavesExact_idle (dats m 0 c) 8 t (idleAt0_8 t h0) (noFlush0_8 t h1)]
      by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        simp only [before0_7_pos m c t h0, before0_8_pos m c t h0]
        unfold sout0_B_0 sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _).2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        iintro ⟨H0, H1, H2, H3, H4, H5, H6, H7, H8, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists d7; iexact H7
        iexists d8; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.DqPost.lean ====
/-
  The queries' gradient: the run with each output array named.
-/
module

public import proofs.«01_k».proof.Proof.DqFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v38_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v38_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v38_2) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v38_0) = (dats m 0 c).arrAt 6 cfg0.N
      ∧ r.2.mem ((c : Thread nD τ).loc main_v38_1) = (dats m 0 c).arrAt 7 cfg0.N
      ∧ r.2.mem ((c : Thread nD τ).loc main_v38_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      post8 m r h c,
      kept_main_arg0 m r h c,
      kept_main_arg1 m r h c,
      kept_main_arg2 m r h c,
      kept_main_arg3 m r h c⟩)
    (run_main m ρ)

end Cert.KernelIdeal.Value
end
-- ==== Proof.DqEntry.lean ====
/-
  The queries' gradient: the arrays the kernel is called with, as functions of the program's arguments.
-/
module
public import proofs.«01_k».proof.Proof.AttnHost
public import proofs.«01_k».proof.Proof.DqRuns
public import Idealize.ShloMosaic.Lib.Pipeline.ValueKit
@[expose] public section
set_option maxRecDepth 16384
noncomputable section
open Idealize.ShloMosaic Idealize.ShloMosaic.TcCoe Idealize.SL.Sem
open Idealize.ShloMosaic.StableHlo
namespace Cert.KernelIdeal.Value
open Cert.KernelIdeal Cert.KernelIdeal.Gen Cert.Attn
variable (m : (ℓ : Loc nD τ sig) → Buf (Elt Ideal) ℓ)

abbrev A0 (c : Dev nD) : Q2 := m ((c.tc : Thread nD τ).loc main_arg0)
abbrev A1 (c : Dev nD) : K2 := m ((c.tc : Thread nD τ).loc main_arg1)
abbrev A2 (c : Dev nD) : K2 := m ((c.tc : Thread nD τ).loc main_arg2)
abbrev A3 (c : Dev nD) : Q2 := m ((c.tc : Thread nD τ).loc main_arg3)

set_option maxHeartbeats 8000000 in
theorem V34 (c : Dev nD) : (show FVec Ideal S8192x1024 .f32 from V m c main_v34) = LSE (SC (A0 m c) (A1 m c)) := by
  show StableHlo.after hostOps0 (fun b => m (c, b)) main_v34 = _
  unfold hostOps0
  after_results_simp
  rfl
set_option maxHeartbeats 8000000 in
theorem V18 (c : Dev nD) : (show FVec Ideal S8192x1024 .f32 from V m c main_v18) = OUT (PR (EX (SC (A0 m c) (A1 m c)))) (A2 m c) := by
  show StableHlo.after hostOps0 (fun b => m (c, b)) main_v18 = _
  unfold hostOps0
  after_results_simp
  rfl
set_option maxHeartbeats 8000000 in
theorem V35 (c : Dev nD) : (show FVec Ideal S8192x1024 .bf16 from V m c main_v35) = A0 m c := by
  show StableHlo.after hostOps0 (fun b => m (c, b)) main_v35 = _
  unfold hostOps0
  after_results_simp
  rfl
set_option maxHeartbeats 8000000 in
theorem V36 (c : Dev nD) : (show FVec Ideal S8192x256 .bf16 from V m c main_v36) = A1 m c := by
  show StableHlo.after hostOps0 (fun b => m (c, b)) main_v36 = _
  unfold hostOps0
  after_results_simp
  rfl
set_option maxHeartbeats 8000000 in
theorem V37 (c : Dev nD) : (show FVec Ideal S8192x256 .bf16 from V m c main_v37) = A2 m c := by
  show StableHlo.after hostOps0 (fun b => m (c, b)) main_v37 = _
  unfold hostOps0
  after_results_simp
  rfl
theorem Varg3 (c : Dev nD) : (show FVec Ideal S8192x1024 .f32 from V m c main_arg3) = A3 m c := V_main_arg3 m c
end Cert.KernelIdeal.Value
end
-- ==== Proof.DqPay.lean ====
/-
  The queries' gradient: what one head's part of a block's body computes, read at an index.
-/
module
public import proofs.«01_k».proof.Proof.Gen.KernelIdeal.Skeleton
public import Idealize.ShloMosaic.Lib.Pipeline.ValueKit
@[expose] public section
set_option maxRecDepth 16384
noncomputable section
open Idealize.ShloMosaic Idealize.ShloMosaic.TcCoe Idealize.SL.Sem
namespace Cert.KernelIdeal.Value
open Cert.KernelIdeal Cert.KernelIdeal.Gen

section
variable (q w : FVec Ideal S512x128 .bf16) (k v : FVec Ideal S1024x128 .bf16) (l e a b : FVec Ideal S512x128 .f32) (y : FVec Ideal S512x512 .f32)
  (i : Fin 512) (d : Fin 128)
/-- One head's accumulator after a block of keys. -/
theorem pay11_at : k0_pay11 (F := Ideal) k q l w v e a (ix2 i d) = a (ix2 i d)
    + ∑ j : Fin 1024, (Ideal.exp ((∑ x : Fin 128, q (ix2 i x) * k (ix2 j x)) - l (ix2 i 0)) * ((∑ x : Fin 128, w (ix2 i x) * v (ix2 j x)) - e (ix2 i 0))) * k (ix2 j d) := by
  pointwise [k0_pay11]
/-- A row's product with the output, repeated over the head's lanes. -/
theorem pay7_at : k0_pay7 (F := Ideal) a b (ix2 i d) = ∑ x : Fin 128, a (ix2 i x) * b (ix2 i x) := by
  pointwise [k0_pay7]
theorem pay2_at : (k0_pay2 : FVec Ideal S512x128 .f32) (ix2 i d) = 0 := by
  pointwise [k0_pay2]
theorem pay3_eq : (k0_pay3 : FVec Ideal S512x128 .f32) = k0_pay2 := rfl
theorem pay4_eq : (k0_pay4 : FVec Ideal S512x128 .f32) = k0_pay2 := rfl
theorem pay5_eq : (k0_pay5 : FVec Ideal S512x128 .f32) = k0_pay2 := rfl
theorem pay6_eq : k0_pay6 (F := Ideal) y = y := rfl
/-! The other heads' parts are the same functions. -/
theorem pay8_eq : k0_pay8 (F := Ideal) a b = k0_pay7 (F := Ideal) a b := rfl
theorem pay9_eq : k0_pay9 (F := Ideal) a b = k0_pay7 (F := Ideal) a b := rfl
theorem pay10_eq : k0_pay10 (F := Ideal) a b = k0_pay7 (F := Ideal) a b := rfl
theorem pay12_eq : k0_pay12 (F := Ideal) k q l w v e a = k0_pay11 (F := Ideal) k q l w v e a := rfl
theorem pay15_eq : k0_pay15 (F := Ideal) (k0_pay13 k) (k0_pay14 k q) l w v e a = k0_pay11 (F := Ideal) k q l w v e a := rfl
theorem pay1_eq : k0_pay1 (F := Ideal) (k0_pay16 k) (k0_pay17 k q l) (k0_pay18 w) v e a = k0_pay11 (F := Ideal) k q l w v e a := rfl
end
end Cert.KernelIdeal.Value
end
-- ==== Proof.DqBlocks.lean ====
/-
  The queries' gradient: the blocks a grid point reads, as parts of the arrays the kernel is called with.
-/
module
public import proofs.«01_k».proof.Proof.DqRuns
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)
theorem idx : ∀ t : Fin cfg0.N, win0_0.index t = ![t.val / 8 % 16, t.val / 128] ∧ win0_1.index t = ![t.val % 8, t.val / 128] ∧ win0_2.index t = ![t.val % 8, t.val / 128] ∧ win0_3.index t = ![t.val / 8 % 16, t.val / 128] ∧ win0_4.index t = ![t.val / 8 % 16, t.val / 128] ∧ win0_5.index t = ![t.val / 8 % 16, t.val / 128] ∧ win0_6.index t = ![t.val / 8 % 16, t.val / 128] :=
  (by decide +kernel : ∀ t : Fin grid0.N, _)
abbrev X0 (c : Dev nD) : FVec Ideal S8192x1024 .f32 := V m c (Pipeline.arrRef spec0 0)
abbrev X1 (c : Dev nD) : FVec Ideal S8192x256 .f32 := V m c (Pipeline.arrRef spec0 1)
abbrev X2 (c : Dev nD) : FVec Ideal S8192x256 .f32 := V m c (Pipeline.arrRef spec0 2)
abbrev X3 (c : Dev nD) : FVec Ideal S8192x1024 .f32 := V m c (Pipeline.arrRef spec0 3)
abbrev X4 (c : Dev nD) : FVec Ideal S8192x1024 .f32 := V m c (Pipeline.arrRef spec0 4)
abbrev X5 (c : Dev nD) : FVec Ideal S8192x1024 .f32 := V m c (Pipeline.arrRef spec0 5)
theorem t_lt (t : Fin cfg0.N) : t.val < 256 := lt_of_lt_of_eq t.isLt (by decide +kernel)
theorem blk0 (c : Dev nD) (t : Fin cfg0.N) (z : Buf (Elt Ideal) ((c.tc : Thread nD τ).loc (Pipeline.arrRef spec0 0))) (i : Fin 512) (x : Fin 512) :
    (View.read (Elt Ideal) ((cfg0.win 0).blk t).view z : FVec Ideal S512x512 .bf16) (ix2 i x)
      = (z : FVec Ideal S8192x1024 .bf16) (ix2 ⟨t.val / 8 % 16 * 512 + i.val, by have := t_lt t; omega⟩ ⟨t.val / 128 * 512 + x.val, by have := t_lt t; omega⟩) := by
  have := t_lt t
  blk_point [idx t]
theorem B0 (c : Dev nD) (t : Fin cfg0.N) (i : Fin 512) (x : Fin 512) : (iblk m c 0 t : FVec Ideal S512x512 .bf16) (ix2 i x)
    = X0 m c (ix2 ⟨t.val / 8 % 16 * 512 + i.val, by have := t_lt t; omega⟩ ⟨t.val / 128 * 512 + x.val, by have := t_lt t; omega⟩) :=
  blk0 c t (V m c (Pipeline.arrRef spec0 0)) i x
theorem blk1 (c : Dev nD) (t : Fin cfg0.N) (z : Buf (Elt Ideal) ((c.tc : Thread nD τ).loc (Pipeline.arrRef spec0 1))) (i : Fin 1024) (x : Fin 128) :
    (View.read (Elt Ideal) ((cfg0.win 1).blk t).view z : FVec Ideal S1024x128 .bf16) (ix2 i x)
      = (z : FVec Ideal S8192x256 .bf16) (ix2 ⟨t.val % 8 * 1024 + i.val, by have := t_lt t; omega⟩ ⟨t.val / 128 * 128 + x.val, by have := t_lt t; omega⟩) := by
  have := t_lt t
  blk_point [idx t]
theorem B1 (c : Dev nD) (t : Fin cfg0.N) (i : Fin 1024) (x : Fin 128) : (iblk m c 1 t : FVec Ideal S1024x128 .bf16) (ix2 i x)
    = X1 m c (ix2 ⟨t.val % 8 * 1024 + i.val, by have := t_lt t; omega⟩ ⟨t.val / 128 * 128 + x.val, by have := t_lt t; omega⟩) :=
  blk1 c t (V m c (Pipeline.arrRef spec0 1)) i x
theorem blk2 (c : Dev nD) (t : Fin cfg0.N) (z : Buf (Elt Ideal) ((c.tc : Thread nD τ).loc (Pipeline.arrRef spec0 2))) (i : Fin 1024) (x : Fin 128) :
    (View.read (Elt Ideal) ((cfg0.win 2).blk t).view z : FVec Ideal S1024x128 .bf16) (ix2 i x)
      = (z : FVec Ideal S8192x256 .bf16) (ix2 ⟨t.val % 8 * 1024 + i.val, by have := t_lt t; omega⟩ ⟨t.val / 128 * 128 + x.val, by have := t_lt t; omega⟩) := by
  have := t_lt t
  blk_point [idx t]
theorem B2 (c : Dev nD) (t : Fin cfg0.N) (i : Fin 1024) (x : Fin 128) : (iblk m c 2 t : FVec Ideal S1024x128 .bf16) (ix2 i x)
    = X2 m c (ix2 ⟨t.val % 8 * 1024 + i.val, by have := t_lt t; omega⟩ ⟨t.val / 128 * 128 + x.val, by have := t_lt t; omega⟩) :=
  blk2 c t (V m c (Pipeline.arrRef spec0 2)) i x
theorem blk3 (c : Dev nD) (t : Fin cfg0.N) (z : Buf (Elt Ideal) ((c.tc : Thread nD τ).loc (Pipeline.arrRef spec0 3))) (i : Fin 512) (x : Fin 512) :
    (View.read (Elt Ideal) ((cfg0.win 3).blk t).view z : FVec Ideal S512x512 .f32) (ix2 i x)
      = (z : FVec Ideal S8192x1024 .f32) (ix2 ⟨t.val / 8 % 16 * 512 + i.val, by have := t_lt t; omega⟩ ⟨t.val / 128 * 512 + x.val, by have := t_lt t; omega⟩) := by
  have := t_lt t
  blk_point [idx t]
theorem B3 (c : Dev nD) (t : Fin cfg0.N) (i : Fin 512) (x : Fin 512) : (iblk m c 3 t : FVec Ideal S512x512 .f32) (ix2 i x)
    = X3 m c (ix2 ⟨t.val / 8 % 16 * 512 + i.val, by have := t_lt t; omega⟩ ⟨t.val / 128 * 512 + x.val, by have := t_lt t; omega⟩) :=
  blk3 c t (V m c (Pipeline.arrRef spec0 3)) i x
theorem blk4 (c : Dev nD) (t : Fin cfg0.N) (z : Buf (Elt Ideal) ((c.tc : Thread nD τ).loc (Pipeline.arrRef spec0 4))) (i : Fin 512) (x : Fin 512) :
    (View.read (Elt Ideal) ((cfg0.win 4).blk t).view z : FVec Ideal S512x512 .f32) (ix2 i x)
      = (z : FVec Ideal S8192x1024 .f32) (ix2 ⟨t.val / 8 % 16 * 512 + i.val, by have := t_lt t; omega⟩ ⟨t.val / 128 * 512 + x.val, by have := t_lt t; omega⟩) := by
  have := t_lt t
  blk_point [idx t]
theorem B4 (c : Dev nD) (t : Fin cfg0.N) (i : Fin 512) (x : Fin 512) : (iblk m c 4 t : FVec Ideal S512x512 .f32) (ix2 i x)
    = X4 m c (ix2 ⟨t.val / 8 % 16 * 512 + i.val, by have := t_lt t; omega⟩ ⟨t.val / 128 * 512 + x.val, by have := t_lt t; omega⟩) :=
  blk4 c t (V m c (Pipeline.arrRef spec0 4)) i x
theorem blk5 (c : Dev nD) (t : Fin cfg0.N) (z : Buf (Elt Ideal) ((c.tc : Thread nD τ).loc (Pipeline.arrRef spec0 5))) (i : Fin 512) (x : Fin 512) :
    (View.read (Elt Ideal) ((cfg0.win 5).blk t).view z : FVec Ideal S512x512 .f32) (ix2 i x)
      = (z : FVec Ideal S8192x1024 .f32) (ix2 ⟨t.val / 8 % 16 * 512 + i.val, by have := t_lt t; omega⟩ ⟨t.val / 128 * 512 + x.val, by have := t_lt t; omega⟩) := by
  have := t_lt t
  blk_point [idx t]
theorem B5 (c : Dev nD) (t : Fin cfg0.N) (i : Fin 512) (x : Fin 512) : (iblk m c 5 t : FVec Ideal S512x512 .f32) (ix2 i x)
    = X5 m c (ix2 ⟨t.val / 8 % 16 * 512 + i.val, by have := t_lt t; omega⟩ ⟨t.val / 128 * 512 + x.val, by have := t_lt t; omega⟩) :=
  blk5 c t (V m c (Pipeline.arrRef spec0 5)) i x
end Cert.KernelIdeal.Value
end
-- ==== Proof.DqStep.lean ====
/-
  The queries' gradient: one grid point adds, for each of the group's four heads, a sum over a block of keys to the head's
  accumulator; the first point of a run also stores the output's gradient and its row products with the output.
-/
module
public import proofs.«01_k».proof.Proof.DqPay
public import proofs.«01_k».proof.Proof.DqPost
public import proofs.«01_k».proof.Proof.DqBlocks
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- A row's product of the output's gradient and the output, of one head. -/
def RW (c : Dev nD) (r : Fin 8192) (g : Fin 2) (h : Fin 4) : EReal :=
  ∑ x : Fin 128, X5 m c (ix2 r ⟨↑g * 512 + ↑h * 128 + ↑x, by omega⟩) * X3 m c (ix2 r ⟨↑g * 512 + ↑h * 128 + ↑x, by omega⟩)
/-- One term of the queries' gradient. -/
def tq (c : Dev nD) (g : Fin 2) (h : Fin 4) (i j : Fin 8192) (d : Fin 128) : EReal :=
  (Ideal.exp ((∑ x : Fin 128, X0 m c (ix2 i ⟨↑g * 512 + ↑h * 128 + ↑x, by omega⟩) * X1 m c (ix2 j ⟨↑g * 128 + ↑x, by omega⟩)) - X4 m c (ix2 i ⟨↑g * 512 + ↑h * 128, by omega⟩))
    * ((∑ x : Fin 128, X5 m c (ix2 i ⟨↑g * 512 + ↑h * 128 + ↑x, by omega⟩) * X2 m c (ix2 j ⟨↑g * 128 + ↑x, by omega⟩)) - RW m c i g h))
    * X1 m c (ix2 j ⟨↑g * 128 + ↑d, by omega⟩)
/-- What a grid point adds to a head's accumulator. -/
def TQ (c : Dev nD) (h : Fin 4) (t : Fin cfg0.N) (j : S512x128.Idx) : EReal :=
  have := t_lt t
  ∑ k : Fin 1024, tq m c ⟨t.val / 128, by omega⟩ h ⟨t.val / 8 % 16 * 512 + (j 0).val, by idx_bounds; omega⟩ ⟨t.val % 8 * 1024 + k.val, by omega⟩ (j 1)

/-- A load of one head's lanes. -/
theorem ld_at {α : EltTy → Type} {e : EltTy} (b : S512x512.Idx → α e) (o : ℕ) (inb : ∀ a, (![0, o] : Fin 2 → ℕ) a + (![512, 128] : Fin 2 → ℕ) a ≤ S512x512.size a) (i : Fin 512) (x : Fin 128) (ho : o + x.val < 512) :
    View.ld b (Rect.unit ![0, o] ![512, 128] inb) (ix2 i x) = b (ix2 i ⟨o + x.val, ho⟩) := by
  refine congrArg b (funext fun a => Fin.ext ?_)
  fin_cases a
  · show 0 + 1 * i.val = i.val
    omega
  · show o + 1 * x.val = o + x.val
    omega

theorem acc_eq (c : Dev nD) (t : Fin cfg0.N) (h : Fin 4) (q w : FVec Ideal S512x128 .bf16) (l e a : FVec Ideal S512x128 .f32)
    (hq : ∀ i x, q (ix2 i x) = X0 m c (ix2 ⟨t.val / 8 % 16 * 512 + i.val, by have := t_lt t; omega⟩ ⟨t.val / 128 * 512 + h.val * 128 + x.val, by have := t_lt t; omega⟩))
    (hl : ∀ i, l (ix2 i 0) = X4 m c (ix2 ⟨t.val / 8 % 16 * 512 + i.val, by have := t_lt t; omega⟩ ⟨t.val / 128 * 512 + h.val * 128, by have := t_lt t; omega⟩))
    (hw : ∀ i x, w (ix2 i x) = X5 m c (ix2 ⟨t.val / 8 % 16 * 512 + i.val, by have := t_lt t; omega⟩ ⟨t.val / 128 * 512 + h.val * 128 + x.val, by have := t_lt t; omega⟩))
    (he : ∀ i : Fin 512, e (ix2 i 0) = RW m c ⟨t.val / 8 % 16 * 512 + i.val, by have := t_lt t; omega⟩ ⟨t.val / 128, by have := t_lt t; omega⟩ h)
    (i : Fin 512) (d : Fin 128) :
    k0_pay11 (F := Ideal) (iblk m c 1 t) q l w (iblk m c 2 t) e a (ix2 i d) = a (ix2 i d) + TQ m c h t (ix2 i d) := by
  rw [pay11_at]
  refine congrArg (_ + ·) ?_
  unfold TQ
  refine Finset.sum_congr (M := EReal) rfl fun k _ => ?_
  simp only [hq, hl, hw, he, B1, B2]
  rfl

theorem lq0 (c : Dev nD) (t : Fin cfg0.N) (i : Fin 512) (x : Fin 128) : View.ld (iblk m c 0 t) (Rect.unit ![0, 0] ![512, 128] inb_S512x512_S512x128_0_0) (ix2 i x) = X0 m c (ix2 ⟨t.val / 8 % 16 * 512 + i.val, by have := t_lt t; omega⟩ ⟨t.val / 128 * 512 + (0 : Fin 4).val * 128 + x.val, by have := t_lt t; have h4 : (0 : Fin 4).val = 0 := rfl; omega⟩) := by
  refine (ld_at _ 0 _ i x (by omega)).trans ((B0 m c t _ _).trans ?_)
  refine congrArg (X0 m c) (congrArg₂ ix2 rfl (Fin.ext ?_))
  show t.val / 128 * 512 + (0 + x.val) = t.val / 128 * 512 + 0 * 128 + x.val
  omega
theorem lw0 (c : Dev nD) (t : Fin cfg0.N) (i : Fin 512) (x : Fin 128) : View.ld (iblk m c 5 t) (Rect.unit ![0, 0] ![512, 128] inb_S512x512_S512x128_0_0) (ix2 i x) = X5 m c (ix2 ⟨t.val / 8 % 16 * 512 + i.val, by have := t_lt t; omega⟩ ⟨t.val / 128 * 512 + (0 : Fin 4).val * 128 + x.val, by have := t_lt t; have h4 : (0 : Fin 4).val = 0 := rfl; omega⟩) := by
  refine (ld_at _ 0 _ i x (by omega)).trans ((B5 m c t _ _).trans ?_)
  refine congrArg (X5 m c) (congrArg₂ ix2 rfl (Fin.ext ?_))
  show t.val / 128 * 512 + (0 + x.val) = t.val / 128 * 512 + 0 * 128 + x.val
  omega
theorem ll0 (c : Dev nD) (t : Fin cfg0.N) (i : Fin 512) : View.ld (iblk m c 4 t) (Rect.unit ![0, 0] ![512, 128] inb_S512x512_S512x128_0_0) (ix2 i 0) = X4 m c (ix2 ⟨t.val / 8 % 16 * 512 + i.val, by have := t_lt t; omega⟩ ⟨t.val / 128 * 512 + (0 : Fin 4).val * 128, by have := t_lt t; have h4 : (0 : Fin 4).val = 0 := rfl; omega⟩) := by
  refine (ld_at _ 0 _ i 0 (by decide)).trans ((B4 m c t _ _).trans ?_)
  refine congrArg (X4 m c) (congrArg₂ ix2 rfl (Fin.ext ?_))
  show t.val / 128 * 512 + (0 + 0) = t.val / 128 * 512 + 0 * 128
  omega
theorem lr0 (c : Dev nD) (t : Fin cfg0.N) (i : Fin 512) (d : Fin 128) :
    k0_pay7 (F := Ideal) (View.ld (iblk m c 5 t) (Rect.unit ![0, 0] ![512, 128] inb_S512x512_S512x128_0_0)) (View.ld (iblk m c 3 t) (Rect.unit ![0, 0] ![512, 128] inb_S512x512_S512x128_0_0)) (ix2 i d) = RW m c ⟨t.val / 8 % 16 * 512 + i.val, by have := t_lt t; omega⟩ ⟨t.val / 128, by have := t_lt t; omega⟩ 0 := by
  refine (pay7_at _ _ _ _).trans ?_
  refine Finset.sum_congr (M := EReal) rfl fun x _ => congrArg₂ (· * ·) (lw0 m c t i x) ?_
  refine (ld_at _ 0 _ i x (by omega)).trans ((B3 m c t _ _).trans ?_)
  refine congrArg (X3 m c) (congrArg₂ ix2 rfl (Fin.ext ?_))
  show t.val / 128 * 512 + (0 + x.val) = t.val / 128 * 512 + 0 * 128 + x.val
  omega
theorem lq1 (c : Dev nD) (t : Fin cfg0.N) (i : Fin 512) (x : Fin 128) : View.ld (iblk m c 0 t) (Rect.unit ![0, 128] ![512, 128] inb_S512x512_S512x128_0_128) (ix2 i x) = X0 m c (ix2 ⟨t.val / 8 % 16 * 512 + i.val, by have := t_lt t; omega⟩ ⟨t.val / 128 * 512 + (1 : Fin 4).val * 128 + x.val, by have := t_lt t; have h4 : (1 : Fin 4).val = 1 := rfl; omega⟩) := by
  refine (ld_at _ 128 _ i x (by omega)).trans ((B0 m c t _ _).trans ?_)
  refine congrArg (X0 m c) (congrArg₂ ix2 rfl (Fin.ext ?_))
  show t.val / 128 * 512 + (128 + x.val) = t.val / 128 * 512 + 1 * 128 + x.val
  omega
theorem lw1 (c : Dev nD) (t : Fin cfg0.N) (i : Fin 512) (x : Fin 128) : View.ld (iblk m c 5 t) (Rect.unit ![0, 128] ![512, 128] inb_S512x512_S512x128_0_128) (ix2 i x) = X5 m c (ix2 ⟨t.val / 8 % 16 * 512 + i.val, by have := t_lt t; omega⟩ ⟨t.val / 128 * 512 + (1 : Fin 4).val * 128 + x.val, by have := t_lt t; have h4 : (1 : Fin 4).val = 1 := rfl; omega⟩) := by
  refine (ld_at _ 128 _ i x (by omega)).trans ((B5 m c t _ _).trans ?_)
  refine congrArg (X5 m c) (congrArg₂ ix2 rfl (Fin.ext ?_))
  show t.val / 128 * 512 + (128 + x.val) = t.val / 128 * 512 + 1 * 128 + x.val
  omega
theorem ll1 (c : Dev nD) (t : Fin cfg0.N) (i : Fin 512) : View.ld (iblk m c 4 t) (Rect.unit ![0, 128] ![512, 128] inb_S512x512_S512x128_0_128) (ix2 i 0) = X4 m c (ix2 ⟨t.val / 8 % 16 * 512 + i.val, by have := t_lt t; omega⟩ ⟨t.val / 128 * 512 + (1 : Fin 4).val * 128, by have := t_lt t; have h4 : (1 : Fin 4).val = 1 := rfl; omega⟩) := by
  refine (ld_at _ 128 _ i 0 (by decide)).trans ((B4 m c t _ _).trans ?_)
  refine congrArg (X4 m c) (congrArg₂ ix2 rfl (Fin.ext ?_))
  show t.val / 128 * 512 + (128 + 0) = t.val / 128 * 512 + 1 * 128
  omega
theorem lr1 (c : Dev nD) (t : Fin cfg0.N) (i : Fin 512) (d : Fin 128) :
    k0_pay7 (F := Ideal) (View.ld (iblk m c 5 t) (Rect.unit ![0, 128] ![512, 128] inb_S512x512_S512x128_0_128)) (View.ld (iblk m c 3 t) (Rect.unit ![0, 128] ![512, 128] inb_S512x512_S512x128_0_128)) (ix2 i d) = RW m c ⟨t.val / 8 % 16 * 512 + i.val, by have := t_lt t; omega⟩ ⟨t.val / 128, by have := t_lt t; omega⟩ 1 := by
  refine (pay7_at _ _ _ _).trans ?_
  refine Finset.sum_congr (M := EReal) rfl fun x _ => congrArg₂ (· * ·) (lw1 m c t i x) ?_
  refine (ld_at _ 128 _ i x (by omega)).trans ((B3 m c t _ _).trans ?_)
  refine congrArg (X3 m c) (congrArg₂ ix2 rfl (Fin.ext ?_))
  show t.val / 128 * 512 + (128 + x.val) = t.val / 128 * 512 + 1 * 128 + x.val
  omega
theorem lq2 (c : Dev nD) (t : Fin cfg0.N) (i : Fin 512) (x : Fin 128) : View.ld (iblk m c 0 t) (Rect.unit ![0, 256] ![512, 128] inb_S512x512_S512x128_0_256) (ix2 i x) = X0 m c (ix2 ⟨t.val / 8 % 16 * 512 + i.val, by have := t_lt t; omega⟩ ⟨t.val / 128 * 512 + (2 : Fin 4).val * 128 + x.val, by have := t_lt t; have h4 : (2 : Fin 4).val = 2 := rfl; omega⟩) := by
  refine (ld_at _ 256 _ i x (by omega)).trans ((B0 m c t _ _).trans ?_)
  refine congrArg (X0 m c) (congrArg₂ ix2 rfl (Fin.ext ?_))
  show t.val / 128 * 512 + (256 + x.val) = t.val / 128 * 512 + 2 * 128 + x.val
  omega
theorem lw2 (c : Dev nD) (t : Fin cfg0.N) (i : Fin 512) (x : Fin 128) : View.ld (iblk m c 5 t) (Rect.unit ![0, 256] ![512, 128] inb_S512x512_S512x128_0_256) (ix2 i x) = X5 m c (ix2 ⟨t.val / 8 % 16 * 512 + i.val, by have := t_lt t; omega⟩ ⟨t.val / 128 * 512 + (2 : Fin 4).val * 128 + x.val, by have := t_lt t; have h4 : (2 : Fin 4).val = 2 := rfl; omega⟩) := by
  refine (ld_at _ 256 _ i x (by omega)).trans ((B5 m c t _ _).trans ?_)
  refine congrArg (X5 m c) (congrArg₂ ix2 rfl (Fin.ext ?_))
  show t.val / 128 * 512 + (256 + x.val) = t.val / 128 * 512 + 2 * 128 + x.val
  omega
theorem ll2 (c : Dev nD) (t : Fin cfg0.N) (i : Fin 512) : View.ld (iblk m c 4 t) (Rect.unit ![0, 256] ![512, 128] inb_S512x512_S512x128_0_256) (ix2 i 0) = X4 m c (ix2 ⟨t.val / 8 % 16 * 512 + i.val, by have := t_lt t; omega⟩ ⟨t.val / 128 * 512 + (2 : Fin 4).val * 128, by have := t_lt t; have h4 : (2 : Fin 4).val = 2 := rfl; omega⟩) := by
  refine (ld_at _ 256 _ i 0 (by decide)).trans ((B4 m c t _ _).trans ?_)
  refine congrArg (X4 m c) (congrArg₂ ix2 rfl (Fin.ext ?_))
  show t.val / 128 * 512 + (256 + 0) = t.val / 128 * 512 + 2 * 128
  omega
theorem lr2 (c : Dev nD) (t : Fin cfg0.N) (i : Fin 512) (d : Fin 128) :
    k0_pay7 (F := Ideal) (View.ld (iblk m c 5 t) (Rect.unit ![0, 256] ![512, 128] inb_S512x512_S512x128_0_256)) (View.ld (iblk m c 3 t) (Rect.unit ![0, 256] ![512, 128] inb_S512x512_S512x128_0_256)) (ix2 i d) = RW m c ⟨t.val / 8 % 16 * 512 + i.val, by have := t_lt t; omega⟩ ⟨t.val / 128, by have := t_lt t; omega⟩ 2 := by
  refine (pay7_at _ _ _ _).trans ?_
  refine Finset.sum_congr (M := EReal) rfl fun x _ => congrArg₂ (· * ·) (lw2 m c t i x) ?_
  refine (ld_at _ 256 _ i x (by omega)).trans ((B3 m c t _ _).trans ?_)
  refine congrArg (X3 m c) (congrArg₂ ix2 rfl (Fin.ext ?_))
  show t.val / 128 * 512 + (256 + x.val) = t.val / 128 * 512 + 2 * 128 + x.val
  omega
theorem lq3 (c : Dev nD) (t : Fin cfg0.N) (i : Fin 512) (x : Fin 128) : View.ld (iblk m c 0 t) (Rect.unit ![0, 384] ![512, 128] inb_S512x512_S512x128_0_384) (ix2 i x) = X0 m c (ix2 ⟨t.val / 8 % 16 * 512 + i.val, by have := t_lt t; omega⟩ ⟨t.val / 128 * 512 + (3 : Fin 4).val * 128 + x.val, by have := t_lt t; have h4 : (3 : Fin 4).val = 3 := rfl; omega⟩) := by
  refine (ld_at _ 384 _ i x (by omega)).trans ((B0 m c t _ _).trans ?_)
  refine congrArg (X0 m c) (congrArg₂ ix2 rfl (Fin.ext ?_))
  show t.val / 128 * 512 + (384 + x.val) = t.val / 128 * 512 + 3 * 128 + x.val
  omega
theorem lw3 (c : Dev nD) (t : Fin cfg0.N) (i : Fin 512) (x : Fin 128) : View.ld (iblk m c 5 t) (Rect.unit ![0, 384] ![512, 128] inb_S512x512_S512x128_0_384) (ix2 i x) = X5 m c (ix2 ⟨t.val / 8 % 16 * 512 + i.val, by have := t_lt t; omega⟩ ⟨t.val / 128 * 512 + (3 : Fin 4).val * 128 + x.val, by have := t_lt t; have h4 : (3 : Fin 4).val = 3 := rfl; omega⟩) := by
  refine (ld_at _ 384 _ i x (by omega)).trans ((B5 m c t _ _).trans ?_)
  refine congrArg (X5 m c) (congrArg₂ ix2 rfl (Fin.ext ?_))
  show t.val / 128 * 512 + (384 + x.val) = t.val / 128 * 512 + 3 * 128 + x.val
  omega
theorem ll3 (c : Dev nD) (t : Fin cfg0.N) (i : Fin 512) : View.ld (iblk m c 4 t) (Rect.unit ![0, 384] ![512, 128] inb_S512x512_S512x128_0_384) (ix2 i 0) = X4 m c (ix2 ⟨t.val / 8 % 16 * 512 + i.val, by have := t_lt t; omega⟩ ⟨t.val / 128 * 512 + (3 : Fin 4).val * 128, by have := t_lt t; have h4 : (3 : Fin 4).val = 3 := rfl; omega⟩) := by
  refine (ld_at _ 384 _ i 0 (by decide)).trans ((B4 m c t _ _).trans ?_)
  refine congrArg (X4 m c) (congrArg₂ ix2 rfl (Fin.ext ?_))
  show t.val / 128 * 512 + (384 + 0) = t.val / 128 * 512 + 3 * 128
  omega
theorem lr3 (c : Dev nD) (t : Fin cfg0.N) (i : Fin 512) (d : Fin 128) :
    k0_pay7 (F := Ideal) (View.ld (iblk m c 5 t) (Rect.unit ![0, 384] ![512, 128] inb_S512x512_S512x128_0_384)) (View.ld (iblk m c 3 t) (Rect.unit ![0, 384] ![512, 128] inb_S512x512_S512x128_0_384)) (ix2 i d) = RW m c ⟨t.val / 8 % 16 * 512 + i.val, by have := t_lt t; omega⟩ ⟨t.val / 128, by have := t_lt t; omega⟩ 3 := by
  refine (pay7_at _ _ _ _).trans ?_
  refine Finset.sum_congr (M := EReal) rfl fun x _ => congrArg₂ (· * ·) (lw3 m c t i x) ?_
  refine (ld_at _ 384 _ i x (by omega)).trans ((B3 m c t _ _).trans ?_)
  refine congrArg (X3 m c) (congrArg₂ ix2 rfl (Fin.ext ?_))
  show t.val / 128 * 512 + (384 + x.val) = t.val / 128 * 512 + 3 * 128 + x.val
  omega

/-- The stored output's gradient is the block of the output's gradient. -/
theorem W_at (c : Dev nD) : ∀ (n : ℕ) (hn : n < cfg0.N) (i x : Fin 512), (outsAt0 m c n hn).2.1 (ix2 i x)
    = X5 m c (ix2 ⟨n / 8 % 16 * 512 + i.val, by have := t_lt ⟨n, hn⟩; omega⟩ ⟨n / 128 * 512 + x.val, by have := t_lt ⟨n, hn⟩; simp only at this; omega⟩) := by
  intro n
  induction n using Nat.strong_induction_on with
  | _ n ih =>
    intro hn i x
    have hN := t_lt ⟨n, hn⟩
    simp only at hN
    by_cases h0 : n % 8 = 0
    · rw [outsAt0_A m c ⟨n, hn⟩ h0 (by simp only; omega)]; frame_out
      rw [pay6_eq]
      exact B5 m c ⟨n, hn⟩ i x
    · have e : (outsAt0 m c n hn).2.1 = (outsAt0 m c (n - 1) (by omega)).2.1 := by
        by_cases h1 : n % 8 = 7
        · rw [outsAt0_C m c ⟨n, hn⟩ h0 h1]; rfl
        · rw [outsAt0_B m c ⟨n, hn⟩ h0 h1]; rfl
      rw [e, ih (n - 1) (by omega) (by omega) i x]
      refine congrArg (X5 m c) (congrArg₂ ix2 (Fin.ext ?_) (Fin.ext ?_)) <;> simp only <;> omega

/-- The stored row products. -/
theorem D_at (c : Dev nD) : ∀ (n : ℕ) (hn : n < cfg0.N) (i x : Fin 512), (outsAt0 m c n hn).2.2.1 (ix2 i x)
    = RW m c ⟨n / 8 % 16 * 512 + i.val, by have := t_lt ⟨n, hn⟩; omega⟩ ⟨n / 128, by have := t_lt ⟨n, hn⟩; simp only at this; omega⟩ ⟨x.val / 128, by omega⟩ := by
  intro n
  induction n using Nat.strong_induction_on with
  | _ n ih =>
    intro hn i x
    have hN := t_lt ⟨n, hn⟩
    simp only at hN
    by_cases h0 : n % 8 = 0
    · have key : ∀ y : S512x512.Idx, (outsAt0 m c n hn).2.2.1 y = RW m c ⟨n / 8 % 16 * 512 + (y 0).val, by idx_bounds; omega⟩ ⟨n / 128, by omega⟩ ⟨(y 1).val / 128, by idx_bounds; omega⟩ := by
        intro y
        rw [outsAt0_A m c ⟨n, hn⟩ h0 (by simp only; omega)]; frame_out
        canon_tiles z hz
        case piece0 =>
          have e1 : (⟨(y 1).val / 128, by omega⟩ : Fin 4) = 3 := Fin.ext (by show (y 1).val / 128 = 3; omega)
          have e3 : (⟨n / 8 % 16 * 512 + (y 0).val, by omega⟩ : Fin 8192) = ⟨n / 8 % 16 * 512 + (z 0).val, by omega⟩ := Fin.ext (by simp only; omega)
          rw [e1, e3]
          idx_vars z
          exact lr3 m c ⟨n, hn⟩ z0 z1
        case piece1 =>
          have e1 : (⟨(y 1).val / 128, by omega⟩ : Fin 4) = 2 := Fin.ext (by show (y 1).val / 128 = 2; omega)
          have e3 : (⟨n / 8 % 16 * 512 + (y 0).val, by omega⟩ : Fin 8192) = ⟨n / 8 % 16 * 512 + (z 0).val, by omega⟩ := Fin.ext (by simp only; omega)
          rw [e1, e3]
          idx_vars z
          exact lr2 m c ⟨n, hn⟩ z0 z1
        case piece2 =>
          have e1 : (⟨(y 1).val / 128, by omega⟩ : Fin 4) = 1 := Fin.ext (by show (y 1).val / 128 = 1; omega)
          have e3 : (⟨n / 8 % 16 * 512 + (y 0).val, by omega⟩ : Fin 8192) = ⟨n / 8 % 16 * 512 + (z 0).val, by omega⟩ := Fin.ext (by simp only; omega)
          rw [e1, e3]
          idx_vars z
          exact lr1 m c ⟨n, hn⟩ z0 z1
        case piece3 =>
          have e1 : (⟨(y 1).val / 128, by omega⟩ : Fin 4) = 0 := Fin.ext (by show (y 1).val / 128 = 0; omega)
          have e3 : (⟨n / 8 % 16 * 512 + (y 0).val, by omega⟩ : Fin 8192) = ⟨n / 8 % 16 * 512 + (z 0).val, by omega⟩ := Fin.ext (by simp only; omega)
          rw [e1, e3]
          idx_vars z
          exact lr0 m c ⟨n, hn⟩ z0 z1
      exact key (ix2 i x)
    · have e : (outsAt0 m c n hn).2.2.1 = (outsAt0 m c (n - 1) (by omega)).2.2.1 := by
        by_cases h1 : n % 8 = 7
        · rw [outsAt0_C m c ⟨n, hn⟩ h0 h1]; rfl
        · rw [outsAt0_B m c ⟨n, hn⟩ h0 h1]; rfl
      rw [e, ih (n - 1) (by omega) (by omega) i x]
      have e1 : (⟨(n - 1) / 8 % 16 * 512 + i.val, by omega⟩ : Fin 8192) = ⟨n / 8 % 16 * 512 + i.val, by omega⟩ := Fin.ext (by simp only; omega)
      have e2 : (⟨(n - 1) / 128, by omega⟩ : Fin 2) = ⟨n / 128, by omega⟩ := Fin.ext (by simp only; omega)
      rw [e1, e2]

theorem W_pred (c : Dev nD) (t : Fin cfg0.N) (h0 : ¬ t.val % 8 = 0) (i x : Fin 512) : (outsAt0 m c (t.val - 1) (Nat.lt_of_le_of_lt (Nat.sub_le _ _) t.isLt)).2.1 (ix2 i x)
    = X5 m c (ix2 ⟨t.val / 8 % 16 * 512 + i.val, by have := t_lt t; omega⟩ ⟨t.val / 128 * 512 + x.val, by have := t_lt t; omega⟩) := by
  have := t_lt t
  refine (W_at m c _ _ i x).trans ?_
  refine congrArg (X5 m c) (congrArg₂ ix2 (Fin.ext ?_) (Fin.ext ?_)) <;> simp only <;> omega
theorem D_pred (c : Dev nD) (t : Fin cfg0.N) (h0 : ¬ t.val % 8 = 0) (i x : Fin 512) : (outsAt0 m c (t.val - 1) (Nat.lt_of_le_of_lt (Nat.sub_le _ _) t.isLt)).2.2.1 (ix2 i x)
    = RW m c ⟨t.val / 8 % 16 * 512 + i.val, by have := t_lt t; omega⟩ ⟨t.val / 128, by have := t_lt t; omega⟩ ⟨x.val / 128, by omega⟩ := by
  have := t_lt t
  refine (D_at m c _ _ i x).trans ?_
  have e1 : (⟨(t.val - 1) / 8 % 16 * 512 + i.val, by omega⟩ : Fin 8192) = ⟨t.val / 8 % 16 * 512 + i.val, by omega⟩ := Fin.ext (by simp only; omega)
  have e2 : (⟨(t.val - 1) / 128, by omega⟩ : Fin 2) = ⟨t.val / 128, by omega⟩ := Fin.ext (by simp only; omega)
  rw [e1, e2]
/-! What a grid point loads of one head's lanes. -/
theorem lp0 (c : Dev nD) (t : Fin cfg0.N) (h0 : ¬ t.val % 8 = 0) (i : Fin 512) (x : Fin 128) :
    View.ld (outsAt0 m c (t.val - 1) (Nat.lt_of_le_of_lt (Nat.sub_le _ _) t.isLt)).2.1 (Rect.unit ![0, 0] ![512, 128] inb_S512x512_S512x128_0_0) (ix2 i x) = X5 m c (ix2 ⟨t.val / 8 % 16 * 512 + i.val, by have := t_lt t; omega⟩ ⟨t.val / 128 * 512 + (0 : Fin 4).val * 128 + x.val, by have := t_lt t; have h4 : (0 : Fin 4).val = 0 := rfl; omega⟩) := by
  refine (ld_at _ 0 _ i x (by omega)).trans ((W_pred m c t h0 _ _).trans ?_)
  refine congrArg (X5 m c) (congrArg₂ ix2 rfl (Fin.ext ?_))
  show t.val / 128 * 512 + (0 + x.val) = t.val / 128 * 512 + 0 * 128 + x.val
  omega
theorem le0 (c : Dev nD) (t : Fin cfg0.N) (h0 : ¬ t.val % 8 = 0) (i : Fin 512) :
    View.ld (outsAt0 m c (t.val - 1) (Nat.lt_of_le_of_lt (Nat.sub_le _ _) t.isLt)).2.2.1 (Rect.unit ![0, 0] ![512, 128] inb_S512x512_S512x128_0_0) (ix2 i 0) = RW m c ⟨t.val / 8 % 16 * 512 + i.val, by have := t_lt t; omega⟩ ⟨t.val / 128, by have := t_lt t; omega⟩ 0 := by
  refine (ld_at _ 0 _ i 0 (by decide)).trans ((D_pred m c t h0 i ⟨0 + (0 : Fin 128).val, by decide⟩).trans ?_)
  have e1 : (⟨(0 + (0 : Fin 128).val) / 128, by decide⟩ : Fin 4) = 0 := by decide
  rw [e1]
theorem lp1 (c : Dev nD) (t : Fin cfg0.N) (h0 : ¬ t.val % 8 = 0) (i : Fin 512) (x : Fin 128) :
    View.ld (outsAt0 m c (t.val - 1) (Nat.lt_of_le_of_lt (Nat.sub_le _ _) t.isLt)).2.1 (Rect.unit ![0, 128] ![512, 128] inb_S512x512_S512x128_0_128) (ix2 i x) = X5 m c (ix2 ⟨t.val / 8 % 16 * 512 + i.val, by have := t_lt t; omega⟩ ⟨t.val / 128 * 512 + (1 : Fin 4).val * 128 + x.val, by have := t_lt t; have h4 : (1 : Fin 4).val = 1 := rfl; omega⟩) := by
  refine (ld_at _ 128 _ i x (by omega)).trans ((W_pred m c t h0 _ _).trans ?_)
  refine congrArg (X5 m c) (congrArg₂ ix2 rfl (Fin.ext ?_))
  show t.val / 128 * 512 + (128 + x.val) = t.val / 128 * 512 + 1 * 128 + x.val
  omega
theorem le1 (c : Dev nD) (t : Fin cfg0.N) (h0 : ¬ t.val % 8 = 0) (i : Fin 512) :
    View.ld (outsAt0 m c (t.val - 1) (Nat.lt_of_le_of_lt (Nat.sub_le _ _) t.isLt)).2.2.1 (Rect.unit ![0, 128] ![512, 128] inb_S512x512_S512x128_0_128) (ix2 i 0) = RW m c ⟨t.val / 8 % 16 * 512 + i.val, by have := t_lt t; omega⟩ ⟨t.val / 128, by have := t_lt t; omega⟩ 1 := by
  refine (ld_at _ 128 _ i 0 (by decide)).trans ((D_pred m c t h0 i ⟨128 + (0 : Fin 128).val, by decide⟩).trans ?_)
  have e1 : (⟨(128 + (0 : Fin 128).val) / 128, by decide⟩ : Fin 4) = 1 := by decide
  rw [e1]
theorem lp2 (c : Dev nD) (t : Fin cfg0.N) (h0 : ¬ t.val % 8 = 0) (i : Fin 512) (x : Fin 128) :
    View.ld (outsAt0 m c (t.val - 1) (Nat.lt_of_le_of_lt (Nat.sub_le _ _) t.isLt)).2.1 (Rect.unit ![0, 256] ![512, 128] inb_S512x512_S512x128_0_256) (ix2 i x) = X5 m c (ix2 ⟨t.val / 8 % 16 * 512 + i.val, by have := t_lt t; omega⟩ ⟨t.val / 128 * 512 + (2 : Fin 4).val * 128 + x.val, by have := t_lt t; have h4 : (2 : Fin 4).val = 2 := rfl; omega⟩) := by
  refine (ld_at _ 256 _ i x (by omega)).trans ((W_pred m c t h0 _ _).trans ?_)
  refine congrArg (X5 m c) (congrArg₂ ix2 rfl (Fin.ext ?_))
  show t.val / 128 * 512 + (256 + x.val) = t.val / 128 * 512 + 2 * 128 + x.val
  omega
theorem le2 (c : Dev nD) (t : Fin cfg0.N) (h0 : ¬ t.val % 8 = 0) (i : Fin 512) :
    View.ld (outsAt0 m c (t.val - 1) (Nat.lt_of_le_of_lt (Nat.sub_le _ _) t.isLt)).2.2.1 (Rect.unit ![0, 256] ![512, 128] inb_S512x512_S512x128_0_256) (ix2 i 0) = RW m c ⟨t.val / 8 % 16 * 512 + i.val, by have := t_lt t; omega⟩ ⟨t.val / 128, by have := t_lt t; omega⟩ 2 := by
  refine (ld_at _ 256 _ i 0 (by decide)).trans ((D_pred m c t h0 i ⟨256 + (0 : Fin 128).val, by decide⟩).trans ?_)
  have e1 : (⟨(256 + (0 : Fin 128).val) / 128, by decide⟩ : Fin 4) = 2 := by decide
  rw [e1]
theorem lp3 (c : Dev nD) (t : Fin cfg0.N) (h0 : ¬ t.val % 8 = 0) (i : Fin 512) (x : Fin 128) :
    View.ld (outsAt0 m c (t.val - 1) (Nat.lt_of_le_of_lt (Nat.sub_le _ _) t.isLt)).2.1 (Rect.unit ![0, 384] ![512, 128] inb_S512x512_S512x128_0_384) (ix2 i x) = X5 m c (ix2 ⟨t.val / 8 % 16 * 512 + i.val, by have := t_lt t; omega⟩ ⟨t.val / 128 * 512 + (3 : Fin 4).val * 128 + x.val, by have := t_lt t; have h4 : (3 : Fin 4).val = 3 := rfl; omega⟩) := by
  refine (ld_at _ 384 _ i x (by omega)).trans ((W_pred m c t h0 _ _).trans ?_)
  refine congrArg (X5 m c) (congrArg₂ ix2 rfl (Fin.ext ?_))
  show t.val / 128 * 512 + (384 + x.val) = t.val / 128 * 512 + 3 * 128 + x.val
  omega
theorem le3 (c : Dev nD) (t : Fin cfg0.N) (h0 : ¬ t.val % 8 = 0) (i : Fin 512) :
    View.ld (outsAt0 m c (t.val - 1) (Nat.lt_of_le_of_lt (Nat.sub_le _ _) t.isLt)).2.2.1 (Rect.unit ![0, 384] ![512, 128] inb_S512x512_S512x128_0_384) (ix2 i 0) = RW m c ⟨t.val / 8 % 16 * 512 + i.val, by have := t_lt t; omega⟩ ⟨t.val / 128, by have := t_lt t; omega⟩ 3 := by
  refine (ld_at _ 384 _ i 0 (by decide)).trans ((D_pred m c t h0 i ⟨384 + (0 : Fin 128).val, by decide⟩).trans ?_)
  have e1 : (⟨(384 + (0 : Fin 128).val) / 128, by decide⟩ : Fin 4) = 3 := by decide
  rw [e1]
theorem stA0 (c : Dev nD) (t : Fin cfg0.N) (h0 : t.val % 8 = 0) (h1 : ¬ t.val % 8 = 7) (j : S512x128.Idx) :
   (outsAt0 m c t.val t.isLt).2.2.2.1 j = 0 + TQ m c 0 t j := by
  rw [outsAt0_A m c t h0 h1]; frame_out
  idx_vars j
  rw [View.readCov_fill _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  refine (acc_eq m c t 0 _ _ _ _ _ (lq0 m c t) (ll0 m c t) (lw0 m c t) (fun i => lr0 m c t i 0) _ _).trans ?_
  exact congrArg (· + _) (pay2_at _ _)
theorem stB0 (c : Dev nD) (t : Fin cfg0.N) (h0 : ¬ t.val % 8 = 0) (h1 : ¬ t.val % 8 = 7) (j : S512x128.Idx) :
   (outsAt0 m c t.val t.isLt).2.2.2.1 j = (outsAt0 m c (t.val - 1) (Nat.lt_of_le_of_lt (Nat.sub_le _ _) t.isLt)).2.2.2.1 j + TQ m c 0 t j := by
  rw [outsAt0_B m c t h0 h1]; frame_out
  idx_vars j
  refine (acc_eq m c t 0 _ _ _ _ _ (lq0 m c t) (ll0 m c t) (lp0 m c t h0) (le0 m c t h0) _ _).trans ?_
  exact congrArg (· + _) (congrFun (Memref.IsWhole.read_unread _ _) _)
theorem stC0 (c : Dev nD) (t : Fin cfg0.N) (h0 : ¬ t.val % 8 = 0) (h1 : t.val % 8 = 7) (j : S512x128.Idx) :
   (outsAt0 m c t.val t.isLt).2.2.2.1 j = (outsAt0 m c (t.val - 1) (Nat.lt_of_le_of_lt (Nat.sub_le _ _) t.isLt)).2.2.2.1 j + TQ m c 0 t j := by
  rw [outsAt0_C m c t h0 h1]; frame_out
  idx_vars j
  refine (acc_eq m c t 0 _ _ _ _ _ (lq0 m c t) (ll0 m c t) (lp0 m c t h0) (le0 m c t h0) _ _).trans ?_
  exact congrArg (· + _) (congrFun (Memref.IsWhole.read_unread _ _) _)
theorem s0 (c : Dev nD) (t : Fin cfg0.N) (h0 : ¬ t.val % 8 = 0) (j : S512x128.Idx) :
   (outsAt0 m c t.val t.isLt).2.2.2.1 j = (outsAt0 m c (t.val - 1) (Nat.lt_of_le_of_lt (Nat.sub_le _ _) t.isLt)).2.2.2.1 j + TQ m c 0 t j := by
  by_cases h1 : t.val % 8 = 7
  · exact stC0 m c t h0 h1 j
  · exact stB0 m c t h0 h1 j

theorem stA1 (c : Dev nD) (t : Fin cfg0.N) (h0 : t.val % 8 = 0) (h1 : ¬ t.val % 8 = 7) (j : S512x128.Idx) :
   (outsAt0 m c t.val t.isLt).2.2.2.2.1 j = 0 + TQ m c 1 t j := by
  rw [outsAt0_A m c t h0 h1]; frame_out
  idx_vars j
  rw [View.readCov_fill _ _ _ _ _ (by decide)]
  rw [View.readCov_skip _ _ _ _ _ (by decide)]
  rw [View.readCov_skip _ _ _ _ _ (by decide)]
  rw [View.readCov_cons_toLoadRect]
  rw [pay12_eq]
  refine (acc_eq m c t 1 _ _ _ _ _ (lq1 m c t) (ll1 m c t) (lw1 m c t) (fun i => lr1 m c t i 0) _ _).trans ?_
  exact congrArg (· + _) (pay2_at _ _)
theorem stB1 (c : Dev nD) (t : Fin cfg0.N) (h0 : ¬ t.val % 8 = 0) (h1 : ¬ t.val % 8 = 7) (j : S512x128.Idx) :
   (outsAt0 m c t.val t.isLt).2.2.2.2.1 j = (outsAt0 m c (t.val - 1) (Nat.lt_of_le_of_lt (Nat.sub_le _ _) t.isLt)).2.2.2.2.1 j + TQ m c 1 t j := by
  rw [outsAt0_B m c t h0 h1]; frame_out
  idx_vars j
  rw [pay12_eq]
  refine (acc_eq m c t 1 _ _ _ _ _ (lq1 m c t) (ll1 m c t) (lp1 m c t h0) (le1 m c t h0) _ _).trans ?_
  exact congrArg (· + _) (congrFun (Memref.IsWhole.read_unread _ _) _)
theorem stC1 (c : Dev nD) (t : Fin cfg0.N) (h0 : ¬ t.val % 8 = 0) (h1 : t.val % 8 = 7) (j : S512x128.Idx) :
   (outsAt0 m c t.val t.isLt).2.2.2.2.1 j = (outsAt0 m c (t.val - 1) (Nat.lt_of_le_of_lt (Nat.sub_le _ _) t.isLt)).2.2.2.2.1 j + TQ m c 1 t j := by
  rw [outsAt0_C m c t h0 h1]; frame_out
  idx_vars j
  rw [pay12_eq]
  refine (acc_eq m c t 1 _ _ _ _ _ (lq1 m c t) (ll1 m c t) (lp1 m c t h0) (le1 m c t h0) _ _).trans ?_
  exact congrArg (· + _) (congrFun (Memref.IsWhole.read_unread _ _) _)
theorem s1 (c : Dev nD) (t : Fin cfg0.N) (h0 : ¬ t.val % 8 = 0) (j : S512x128.Idx) :
   (outsAt0 m c t.val t.isLt).2.2.2.2.1 j = (outsAt0 m c (t.val - 1) (Nat.lt_of_le_of_lt (Nat.sub_le _ _) t.isLt)).2.2.2.2.1 j + TQ m c 1 t j := by
  by_cases h1 : t.val % 8 = 7
  · exact stC1 m c t h0 h1 j
  · exact stB1 m c t h0 h1 j

theorem stA2 (c : Dev nD) (t : Fin cfg0.N) (h0 : t.val % 8 = 0) (h1 : ¬ t.val % 8 = 7) (j : S512x128.Idx) :
   (outsAt0 m c t.val t.isLt).2.2.2.2.2.1 j = 0 + TQ m c 2 t j := by
  rw [outsAt0_A m c t h0 h1]; frame_out
  idx_vars j
  rw [View.readCov_fill _ _ _ _ _ (by decide)]
  rw [View.readCov_skip _ _ _ _ _ (by decide)]
  rw [View.readCov_cons_toLoadRect]
  rw [pay15_eq]
  refine (acc_eq m c t 2 _ _ _ _ _ (lq2 m c t) (ll2 m c t) (lw2 m c t) (fun i => lr2 m c t i 0) _ _).trans ?_
  exact congrArg (· + _) (pay2_at _ _)
theorem stB2 (c : Dev nD) (t : Fin cfg0.N) (h0 : ¬ t.val % 8 = 0) (h1 : ¬ t.val % 8 = 7) (j : S512x128.Idx) :
   (outsAt0 m c t.val t.isLt).2.2.2.2.2.1 j = (outsAt0 m c (t.val - 1) (Nat.lt_of_le_of_lt (Nat.sub_le _ _) t.isLt)).2.2.2.2.2.1 j + TQ m c 2 t j := by
  rw [outsAt0_B m c t h0 h1]; frame_out
  idx_vars j
  rw [pay15_eq]
  refine (acc_eq m c t 2 _ _ _ _ _ (lq2 m c t) (ll2 m c t) (lp2 m c t h0) (le2 m c t h0) _ _).trans ?_
  exact congrArg (· + _) (congrFun (Memref.IsWhole.read_unread _ _) _)
theorem stC2 (c : Dev nD) (t : Fin cfg0.N) (h0 : ¬ t.val % 8 = 0) (h1 : t.val % 8 = 7) (j : S512x128.Idx) :
   (outsAt0 m c t.val t.isLt).2.2.2.2.2.1 j = (outsAt0 m c (t.val - 1) (Nat.lt_of_le_of_lt (Nat.sub_le _ _) t.isLt)).2.2.2.2.2.1 j + TQ m c 2 t j := by
  rw [outsAt0_C m c t h0 h1]; frame_out
  idx_vars j
  rw [pay15_eq]
  refine (acc_eq m c t 2 _ _ _ _ _ (lq2 m c t) (ll2 m c t) (lp2 m c t h0) (le2 m c t h0) _ _).trans ?_
  exact congrArg (· + _) (congrFun (Memref.IsWhole.read_unread _ _) _)
theorem s2 (c : Dev nD) (t : Fin cfg0.N) (h0 : ¬ t.val % 8 = 0) (j : S512x128.Idx) :
   (outsAt0 m c t.val t.isLt).2.2.2.2.2.1 j = (outsAt0 m c (t.val - 1) (Nat.lt_of_le_of_lt (Nat.sub_le _ _) t.isLt)).2.2.2.2.2.1 j + TQ m c 2 t j := by
  by_cases h1 : t.val % 8 = 7
  · exact stC2 m c t h0 h1 j
  · exact stB2 m c t h0 h1 j

theorem stA3 (c : Dev nD) (t : Fin cfg0.N) (h0 : t.val % 8 = 0) (h1 : ¬ t.val % 8 = 7) (j : S512x128.Idx) :
   (outsAt0 m c t.val t.isLt).2.2.2.2.2.2 j = 0 + TQ m c 3 t j := by
  rw [outsAt0_A m c t h0 h1]; frame_out
  idx_vars j
  rw [View.readCov_fill _ _ _ _ _ (by decide)]

  rw [View.readCov_cons_toLoadRect]
  rw [pay1_eq]
  refine (acc_eq m c t 3 _ _ _ _ _ (lq3 m c t) (ll3 m c t) (lw3 m c t) (fun i => lr3 m c t i 0) _ _).trans ?_
  exact congrArg (· + _) (pay2_at _ _)
theorem stB3 (c : Dev nD) (t : Fin cfg0.N) (h0 : ¬ t.val % 8 = 0) (h1 : ¬ t.val % 8 = 7) (j : S512x128.Idx) :
   (outsAt0 m c t.val t.isLt).2.2.2.2.2.2 j = (outsAt0 m c (t.val - 1) (Nat.lt_of_le_of_lt (Nat.sub_le _ _) t.isLt)).2.2.2.2.2.2 j + TQ m c 3 t j := by
  rw [outsAt0_B m c t h0 h1]; frame_out
  idx_vars j
  rw [pay1_eq]
  refine (acc_eq m c t 3 _ _ _ _ _ (lq3 m c t) (ll3 m c t) (lp3 m c t h0) (le3 m c t h0) _ _).trans ?_
  exact congrArg (· + _) (congrFun (Memref.IsWhole.read_unread _ _) _)
theorem stC3 (c : Dev nD) (t : Fin cfg0.N) (h0 : ¬ t.val % 8 = 0) (h1 : t.val % 8 = 7) (j : S512x128.Idx) :
   (outsAt0 m c t.val t.isLt).2.2.2.2.2.2 j = (outsAt0 m c (t.val - 1) (Nat.lt_of_le_of_lt (Nat.sub_le _ _) t.isLt)).2.2.2.2.2.2 j + TQ m c 3 t j := by
  rw [outsAt0_C m c t h0 h1]; frame_out
  idx_vars j
  rw [pay1_eq]
  refine (acc_eq m c t 3 _ _ _ _ _ (lq3 m c t) (ll3 m c t) (lp3 m c t h0) (le3 m c t h0) _ _).trans ?_
  exact congrArg (· + _) (congrFun (Memref.IsWhole.read_unread _ _) _)
theorem s3 (c : Dev nD) (t : Fin cfg0.N) (h0 : ¬ t.val % 8 = 0) (j : S512x128.Idx) :
   (outsAt0 m c t.val t.isLt).2.2.2.2.2.2 j = (outsAt0 m c (t.val - 1) (Nat.lt_of_le_of_lt (Nat.sub_le _ _) t.isLt)).2.2.2.2.2.2 j + TQ m c 3 t j := by
  by_cases h1 : t.val % 8 = 7
  · exact stC3 m c t h0 h1 j
  · exact stB3 m c t h0 h1 j

/-- The last point of a run stores the accumulators, head by head. -/
theorem out_C (c : Dev nD) (t : Fin cfg0.N) (h0 : ¬ t.val % 8 = 0) (h1 : t.val % 8 = 7) (f : Fin 4 → S512x128.Idx → EReal)
    (f0 : ∀ j, f 0 j = (outsAt0 m c (t.val - 1) (Nat.lt_of_le_of_lt (Nat.sub_le _ _) t.isLt)).2.2.2.1 j + TQ m c 0 t j)
    (f1 : ∀ j, f 1 j = (outsAt0 m c (t.val - 1) (Nat.lt_of_le_of_lt (Nat.sub_le _ _) t.isLt)).2.2.2.2.1 j + TQ m c 1 t j)
    (f2 : ∀ j, f 2 j = (outsAt0 m c (t.val - 1) (Nat.lt_of_le_of_lt (Nat.sub_le _ _) t.isLt)).2.2.2.2.2.1 j + TQ m c 2 t j)
    (f3 : ∀ j, f 3 j = (outsAt0 m c (t.val - 1) (Nat.lt_of_le_of_lt (Nat.sub_le _ _) t.isLt)).2.2.2.2.2.2 j + TQ m c 3 t j)
    (y : S512x512.Idx) : (outsAt0 m c t.val t.isLt).1 y = f ⟨(y 1).val / 128, by idx_bounds; omega⟩ (ix2 (⟨(y 0).val, by idx_bounds; omega⟩ : Fin 512) (⟨(y 1).val % 128, by omega⟩ : Fin 128)) := by
  rw [outsAt0_C m c t h0 h1]; frame_out
  canon_tiles z hz
  case piece0 =>
    have e1 : (⟨(y 1).val / 128, by omega⟩ : Fin 4) = 3 := Fin.ext (by show (y 1).val / 128 = 3; omega)
    have e2 : (⟨(y 1).val % 128, by omega⟩ : Fin 128) = z 1 := Fin.ext (by show (y 1).val % 128 = (z 1).val; omega)
    have e3 : (⟨(y 0).val, by omega⟩ : Fin 512) = z 0 := Fin.ext hz0
    rw [e1, e2, e3, f3]
    idx_vars z
    rw [pay1_eq]
    refine (acc_eq m c t 3 _ _ _ _ _ (lq3 m c t) (ll3 m c t) (lp3 m c t h0) (le3 m c t h0) _ _).trans ?_
    exact congrArg (· + _) (congrFun (Memref.IsWhole.read_unread _ _) _)
  case piece1 =>
    have e1 : (⟨(y 1).val / 128, by omega⟩ : Fin 4) = 2 := Fin.ext (by show (y 1).val / 128 = 2; omega)
    have e2 : (⟨(y 1).val % 128, by omega⟩ : Fin 128) = z 1 := Fin.ext (by show (y 1).val % 128 = (z 1).val; omega)
    have e3 : (⟨(y 0).val, by omega⟩ : Fin 512) = z 0 := Fin.ext hz0
    rw [e1, e2, e3, f2]
    idx_vars z
    rw [pay15_eq]
    refine (acc_eq m c t 2 _ _ _ _ _ (lq2 m c t) (ll2 m c t) (lp2 m c t h0) (le2 m c t h0) _ _).trans ?_
    exact congrArg (· + _) (congrFun (Memref.IsWhole.read_unread _ _) _)
  case piece2 =>
    have e1 : (⟨(y 1).val / 128, by omega⟩ : Fin 4) = 1 := Fin.ext (by show (y 1).val / 128 = 1; omega)
    have e2 : (⟨(y 1).val % 128, by omega⟩ : Fin 128) = z 1 := Fin.ext (by show (y 1).val % 128 = (z 1).val; omega)
    have e3 : (⟨(y 0).val, by omega⟩ : Fin 512) = z 0 := Fin.ext hz0
    rw [e1, e2, e3, f1]
    idx_vars z
    rw [pay12_eq]
    refine (acc_eq m c t 1 _ _ _ _ _ (lq1 m c t) (ll1 m c t) (lp1 m c t h0) (le1 m c t h0) _ _).trans ?_
    exact congrArg (· + _) (congrFun (Memref.IsWhole.read_unread _ _) _)
  case piece3 =>
    have e1 : (⟨(y 1).val / 128, by omega⟩ : Fin 4) = 0 := Fin.ext (by show (y 1).val / 128 = 0; omega)
    have e2 : (⟨(y 1).val % 128, by omega⟩ : Fin 128) = z 1 := Fin.ext (by show (y 1).val % 128 = (z 1).val; omega)
    have e3 : (⟨(y 0).val, by omega⟩ : Fin 512) = z 0 := Fin.ext hz0
    rw [e1, e2, e3, f0]
    idx_vars z
    refine (acc_eq m c t 0 _ _ _ _ _ (lq0 m c t) (ll0 m c t) (lp0 m c t h0) (le0 m c t h0) _ _).trans ?_
    exact congrArg (· + _) (congrFun (Memref.IsWhole.read_unread _ _) _)
end Cert.KernelIdeal.Value
end
-- ==== Proof.DqFinal.lean ====
/-
  The queries' gradient: the array the kernel leaves is the reference's, for real arguments.
-/
module
public import proofs.«01_k».proof.Proof.Gen.ReferenceIdeal.Run
public import proofs.«01_k».proof.Proof.DqEntry
public import proofs.«01_k».proof.Proof.DqStep
public import proofs.«01_k».proof.Proof.AttnReal
@[expose] public section
set_option maxRecDepth 16384
noncomputable section
open Idealize.ShloMosaic Idealize.ShloMosaic.TcCoe Idealize.SL.Sem
open Idealize.ShloMosaic.Pipeline (Dat)
namespace Cert.Attn
section
open Cert.ReferenceIdeal Cert.ReferenceIdeal.Gen
/-- The queries' gradient of the scores' gradient and the keys. -/
def DQ (ds : S4) (k : K2) : Q2 := shapeCast _ (transpose S8192x2x4x128 [1, 0, 2, 3] (Host.dotGeneral dot_S2x8192x8192x4_S8192x2x128_S2x8192x4x128_1_0_23_2_0_1 none (transpose S2x8192x8192x4 [0, 3, 2, 1] ds transposes_S2x4x8192x8192_S2x8192x8192x4_0_3_2_1) (shapeCast _ k shapeCasts_S8192x256_S8192x2x128)) transposes_S2x8192x4x128_S8192x2x4x128_1_0_2_3) shapeCasts_S8192x2x4x128_S8192x1024
theorem DQ_at (ds : S4) (k : K2) (r : Fin 8192) (a : Fin 1024) : DQ ds k (ix2 r a)
    = ∑ j : Fin 8192, ds (ix4 ⟨↑a / 512, by omega⟩ ⟨↑a / 128 % 4, by omega⟩ r j) * k (ix2 j ⟨↑a / 512 * 128 + ↑a % 128, by omega⟩) := by
  pointwise [DQ]
theorem res_dq (m : (ℓ : Loc nD τ sig) → Buf (Elt Ideal) ℓ) (c : Dev nD) : Cert.ReferenceIdeal.Value.res_main_v60 (F := Ideal) m c =
   DQ (DS (DP (m ((c.tc : Thread nD τ).loc main_arg3)) (m ((c.tc : Thread nD τ).loc main_arg2))) (EX (SC (m ((c.tc : Thread nD τ).loc main_arg0)) (m ((c.tc : Thread nD τ).loc main_arg1))))) (m ((c.tc : Thread nD τ).loc main_arg1)) := rfl
end
end Cert.Attn
namespace Cert.KernelIdeal.Value
open Cert.KernelIdeal Cert.KernelIdeal.Gen Cert.Attn
variable (m : (ℓ : Loc nD τ sig) → Buf (Elt Ideal) ℓ)

theorem idx6 : ∀ t : Fin cfg0.N, win0_6.index t = ![t.val / 8 % 16, t.val / 128] :=
  (by decide +kernel : ∀ t : Fin grid0.N, _)
section
variable {Q W : Fin 8192 → Fin 1024 → ℝ} {K U : Fin 8192 → Fin 256 → ℝ} (c : Dev nD)
  (hq : ∀ i a, A0 m c (ix2 i a) = (Q i a : EReal)) (hk : ∀ i a, A1 m c (ix2 i a) = (K i a : EReal))
  (hv : ∀ i a, A2 m c (ix2 i a) = (U i a : EReal)) (hw : ∀ i a, A3 m c (ix2 i a) = (W i a : EReal))
  (g : Fin 2) (h : Fin 4) (i j : Fin 8192) (d : Fin 128)
include hq hk hv hw
theorem pq_real : Ideal.exp ((∑ x : Fin 128, A0 m c (ix2 i ⟨↑g * 512 + ↑h * 128 + ↑x, by omega⟩) * A1 m c (ix2 j ⟨↑g * 128 + ↑x, by omega⟩))
    - LSE (SC (A0 m c) (A1 m c)) (ix2 i ⟨↑g * 512 + ↑h * 128, by omega⟩)) = (pR Q K g h i j : EReal) := by
  generalize A0 m c = a0 at hq ⊢
  generalize A1 m c = a1 at hk ⊢
  rw [← p_of_lse g h i j a0 a1 hq hk 0]
  refine congrArg (fun z => Ideal.exp (z - _)) ((mul_sum_coe _ _ _ _ (fun x => hq _ _) (fun x => hk _ _)).trans (congrArg _ ?_))
  exact Finset.sum_congr rfl fun x _ => mul_comm _ _
theorem row_real : RW m c i g h = ((∑ y, dpR W U g h i y * pR Q K g h i y : ℝ) : EReal) := by
  have e := DELTA_real g h i (A0 m c) (A3 m c) (A1 m c) (A2 m c) hq hk hv hw 0
  rw [DELTA_at] at e
  rw [← e, RW, show X5 m c = A3 m c from Varg3 m c, show X3 m c = OUT (PR (EX (SC (A0 m c) (A1 m c)))) (A2 m c) from V18 m c]
  have e1 : ∀ z : Fin 128, (⟨(↑g * 512 + ↑h * 128 + ↑(0 : Fin 128)) / 128 * 128 + ↑z, by have : (0 : Fin 128).val = 0 := rfl; omega⟩ : Fin 1024) = ⟨↑g * 512 + ↑h * 128 + ↑z, by omega⟩ :=
    fun z => Fin.ext (by have : (0 : Fin 128).val = 0 := rfl; simp only; omega)
  exact Finset.sum_congr rfl fun z _ => by rw [e1 z]
theorem tq_real : tq m c g h i j d
    = DS (DP (A3 m c) (A2 m c)) (EX (SC (A0 m c) (A1 m c))) (ix4 g h i j) * A1 m c (ix2 j ⟨↑g * 128 + ↑d, by omega⟩) := by
  rw [tq, row_real m c hq hk hv hw g h i, show X0 m c = A0 m c from V35 m c, show X1 m c = A1 m c from V36 m c, show X2 m c = A2 m c from V37 m c,
    show X5 m c = A3 m c from Varg3 m c, show X4 m c = LSE (SC (A0 m c) (A1 m c)) from V34 m c, pq_real m c hq hk hv hw g h i j, DS_real g h i j (A0 m c) (A3 m c) (A1 m c) (A2 m c) hq hk hv hw]
  refine congrArg (· * _) ?_
  have e' := mul_sum_coe (fun x : Fin 128 => A3 m c (ix2 i ⟨↑g * 512 + ↑h * 128 + ↑x, by omega⟩)) (fun x => A2 m c (ix2 j ⟨↑g * 128 + ↑x, by omega⟩)) _ _ (fun x => hw _ _) (fun x => hv _ _)
  refine (congrArg (fun y => (pR Q K g h i j : EReal) * (y - _)) e').trans ?_
  rw [← EReal.coe_sub, ← EReal.coe_mul]
  rfl

/-- The eight blocks of keys give the whole product with the keys. -/
theorem sum_q (t : Fin cfg0.N) (hl : t.val % 8 = 8 - 1) (y0 y1 : Fin 512) :
    ∑ s : Fin 8, TQ m c ⟨y1.val / 128, by omega⟩ ⟨8 * (t.val / 8) + s.val, Pipeline.run_point_lt_of_flush t hl s⟩ (ix2 y0 ⟨y1.val % 128, by omega⟩)
      = DQ (DS (DP (A3 m c) (A2 m c)) (EX (SC (A0 m c) (A1 m c)))) (A1 m c)
          (ix2 ⟨t.val / 8 % 16 * 512 + y0.val, by omega⟩ ⟨t.val / 128 * 512 + y1.val, by have := t_lt t; omega⟩) := by
  have ht := t_lt t
  have hg : (⟨(t.val / 128 * 512 + y1.val) / 512, by omega⟩ : Fin 2) = ⟨t.val / 128, by omega⟩ := Fin.ext (by simp only; omega)
  have hh : (⟨(t.val / 128 * 512 + y1.val) / 128 % 4, by omega⟩ : Fin 4) = ⟨y1.val / 128, by omega⟩ := Fin.ext (by simp only; omega)
  have ha : (⟨(t.val / 128 * 512 + y1.val) / 512 * 128 + (t.val / 128 * 512 + y1.val) % 128, by omega⟩ : Fin 256)
      = ⟨t.val / 128 * 128 + y1.val % 128, by omega⟩ := Fin.ext (by simp only; omega)
  rw [DQ_at]
  simp only [hg, hh, ha]
  refine Eq.trans (b := ∑ s : Fin 8, ∑ k : Fin 1024, tq m c ⟨t.val / 128, by omega⟩ ⟨y1.val / 128, by omega⟩
      ⟨t.val / 8 % 16 * 512 + y0.val, by omega⟩ ⟨s.val * 1024 + k.val, by omega⟩ ⟨y1.val % 128, by omega⟩) ?_ ?_
  · refine Finset.sum_congr rfl fun s _ => Finset.sum_congr rfl fun k _ => ?_
    have e1 : (⟨(8 * (t.val / 8) + s.val) / 128, by omega⟩ : Fin 2) = ⟨t.val / 128, by omega⟩ := Fin.ext (by simp only; omega)
    have e2 : (⟨(8 * (t.val / 8) + s.val) % 8 * 1024 + k.val, by omega⟩ : Fin 8192) = ⟨s.val * 1024 + k.val, by omega⟩ := Fin.ext (by simp only; omega)
    have e3 : (⟨(8 * (t.val / 8) + s.val) / 8 % 16 * 512 + y0.val, by omega⟩ : Fin 8192) = ⟨t.val / 8 % 16 * 512 + y0.val, by omega⟩ := Fin.ext (by simp only; omega)
    show tq m c ⟨(8 * (t.val / 8) + s.val) / 128, by omega⟩ ⟨y1.val / 128, by omega⟩ ⟨(8 * (t.val / 8) + s.val) / 8 % 16 * 512 + y0.val, by omega⟩
      ⟨(8 * (t.val / 8) + s.val) % 8 * 1024 + k.val, by omega⟩ ⟨y1.val % 128, by omega⟩ = _
    rw [e1, e2, e3]
  · refine (Fin.sum_mul_add_congr (f := fun j => DS (DP (A3 m c) (A2 m c)) (EX (SC (A0 m c) (A1 m c))) (ix4 ⟨t.val / 128, by omega⟩ ⟨y1.val / 128, by omega⟩
      ⟨t.val / 8 % 16 * 512 + y0.val, by omega⟩ j) * A1 m c (ix2 j ⟨t.val / 128 * 128 + y1.val % 128, by omega⟩)) fun s k hl => ?_)
    exact tq_real m c hq hk hv hw _ _ _ _ _
theorem final_q : (dats m 0 c).arrAt 6 cfg0.N = DQ (DS (DP (A3 m c) (A2 m c)) (EX (SC (A0 m c) (A1 m c)))) (A1 m c) := by
  refine (dats m 0 c).arrAt_eq_of_covers 6 _ (by decide +kernel) fun t hf y => ?_
  have hl : t.val % 8 = 8 - 1 := (flush0_6 t).mp hf
  have ht := t_lt t
  blk_simp
  rw [after0_6, out_C m c t (by omega) hl (fun h j => ∑ s : Fin 8, TQ m c h ⟨8 * (t.val / 8) + s.val, Pipeline.run_point_lt_of_flush t hl s⟩ j)
    (fun j => ((zero_add _).symm.trans (Pipeline.eq_sum_fin_of_reset_step_apply_of_flush (fun n h => (outsAt0 m c n h).2.2.2.1) 8 (fun _ => 0) (TQ m c 0)
      (fun t h j => stA0 m c t h (by omega) j) (fun t h j => s0 m c t h j) t hl j).symm).trans (s0 m c t (by omega) j))
      (fun j => ((zero_add _).symm.trans (Pipeline.eq_sum_fin_of_reset_step_apply_of_flush (fun n h => (outsAt0 m c n h).2.2.2.2.1) 8 (fun _ => 0) (TQ m c 1)
      (fun t h j => stA1 m c t h (by omega) j) (fun t h j => s1 m c t h j) t hl j).symm).trans (s1 m c t (by omega) j))
      (fun j => ((zero_add _).symm.trans (Pipeline.eq_sum_fin_of_reset_step_apply_of_flush (fun n h => (outsAt0 m c n h).2.2.2.2.2.1) 8 (fun _ => 0) (TQ m c 2)
      (fun t h j => stA2 m c t h (by omega) j) (fun t h j => s2 m c t h j) t hl j).symm).trans (s2 m c t (by omega) j))
      (fun j => ((zero_add _).symm.trans (Pipeline.eq_sum_fin_of_reset_step_apply_of_flush (fun n h => (outsAt0 m c n h).2.2.2.2.2.2) 8 (fun _ => 0) (TQ m c 3)
      (fun t h j => stA3 m c t h (by omega) j) (fun t h j => s3 m c t h j) t hl j).symm).trans (s3 m c t (by omega) j))]
  have e : ((View.whole main_v38_0).slice (win0_6.rect t)).emb y = ix2 (⟨t.val / 8 % 16 * 512 + (y 0).val, by idx_bounds; omega⟩ : Fin 8192) (⟨t.val / 128 * 512 + (y 1).val, by idx_bounds; omega⟩ : Fin 1024) := by
    funext a; fin_cases a <;> apply Fin.ext <;> blk_simp [idx6 t] <;> rfl
  rw [e]
  exact sum_q m c hq hk hv hw t hl (y 0) (y 1)
end
end Cert.KernelIdeal.Value
end
-- ==== Proof.DqAlg.lean ====
/-
  The queries' gradient: kernel and reference leave equal results.
-/
module
public import proofs.«01_k».proof.Proof.Finite
public import proofs.«01_k».proof.Proof.DqPost
public import proofs.«01_k».proof.Proof.DqFinal
@[expose] public section
set_option maxRecDepth 16384
noncomputable section
open Idealize.ShloMosaic Idealize.ShloMosaic.TcCoe Idealize.SL.Sem
namespace Cert.Proof

theorem dq : Cert.algebraic_KernelIdeal_ReferenceIdeal_pre_finite (hPre_finite := Cert.Finite.facts) := by
  intro m ρ m' ρ' hpre hag
  refine ⟨fun c => (Cert.KernelIdeal.Gen.dats m 0 c).arrAt 6 Cert.KernelIdeal.cfg0.N, (θ_run Cert.KernelIdeal.defs _ _).mono (fun r h c => ⟨(h c).1, (h c).2.2.2⟩) (Cert.KernelIdeal.Value.run_blocks m ρ),
    (θ_run Cert.ReferenceIdeal.defs _ _).mono (fun r h c => ?_) (Cert.ReferenceIdeal.Value.run m' ρ')⟩
  obtain ⟨f0, f1, f2, f3⟩ := hpre c
  obtain ⟨g0, g1, g2, g3⟩ := hag c
  obtain ⟨Q, hQ⟩ := Cert.Finite.choose _ fun i j => Cert.Finite.a0 _ _ _ _ i j f0
  obtain ⟨K, hK⟩ := Cert.Finite.choose _ fun i j => Cert.Finite.a1 _ _ _ _ i j f1
  obtain ⟨U, hU⟩ := Cert.Finite.choose _ fun i j => Cert.Finite.a2 _ _ _ _ i j f2
  obtain ⟨W, hW⟩ := Cert.Finite.choose _ fun i j => Cert.Finite.a3 _ _ _ _ i j f3
  refine ⟨(h c).1.trans ((Cert.Attn.res_dq m' c).trans (Eq.trans ?_ (Cert.KernelIdeal.Value.final_q m c hQ hK hU hW).symm)), (h c).2⟩
  rw [g0, g1, g2, g3]
end Cert.Proof
end
-- ==== Proof.lean ====
/-
  The assembly: the frames are the generated certificates, the value claims are the theorems of the modules beside.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.DkvAlg
public import proofs.«01_k».proof.Proof.FwdFinal
public import proofs.«01_k».proof.Proof.ProjFwd
public import proofs.«01_k».proof.Proof.ProjDw
public import proofs.«01_k».proof.Proof.ProjDx
public import proofs.«01_k».proof.Proof.OutFwd
public import proofs.«01_k».proof.Proof.OutDa
public import proofs.«01_k».proof.Proof.OutDb
public import proofs.«01_k».proof.Proof.SumSmall
public import proofs.«01_k».proof.Proof.AdamSmall
public import proofs.«01_k».proof.Proof.BranchFwd768
public import proofs.«01_k».proof.Proof.BranchDa768
public import proofs.«01_k».proof.Proof.BranchDb768
public import proofs.«01_k».proof.Proof.BranchFwd1024
public import proofs.«01_k».proof.Proof.BranchDa1024
public import proofs.«01_k».proof.Proof.BranchDb1024
public import proofs.«01_k».proof.Proof.BranchFwd512
public import proofs.«01_k».proof.Proof.BranchDa512
public import proofs.«01_k».proof.Proof.BranchDb512
public import proofs.«01_k».proof.Proof.DqAlg
public import Idealize.ShloMosaic.Adequacy
public import Idealize.ShloMosaic.Init

@[expose] public section

noncomputable section

namespace Cert.Proof

open Idealize.ShloMosaic Idealize.SL.Sem

theorem frame_r2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_r10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_r11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_r12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_r13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_r14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_r15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_r16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_r17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_r18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_r19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_r20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 16384 in
set_option smartUnfolding false in
set_option maxHeartbeats 4000000 in
/-- The program and its idealization have the same text: one run, over any numbers, is both their frames. -/
theorem frame_kernel : Cert.quiescent_Kernel := fun m ρ _ => Cert.KernelIdeal.Gen.frame (F := Bits) m ρ

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel.Gen.facts, Cert.KernelIdeal.Gen.facts, Cert.ReferenceIdeal.Gen.facts, Cert.Finite.facts, Cert.Finite.facts_qk,
  fun m ρ _ => Cert.Kernel2.Gen.frame m ρ,
  fun m ρ _ => Cert.Kernel2Ideal.Gen.frame m ρ,
  fun m ρ _ => Cert.Kernel2Ideal.Gen.frame m ρ,
  frame_r2,
  fun m ρ _ => frame_r2 m ρ trivial,
  fun m ρ _ => Cert.Kernel3.Gen.frame m ρ,
  fun m ρ _ => Cert.Kernel3Ideal.Gen.frame m ρ,
  fun m ρ _ => Cert.Kernel3Ideal.Gen.frame m ρ,
  frame_r3,
  fun m ρ _ => frame_r3 m ρ trivial,
  fun m ρ _ => Cert.Kernel4.Gen.frame m ρ,
  fun m ρ _ => Cert.Kernel4Ideal.Gen.frame m ρ,
  frame_r4,
  fun m ρ _ => Cert.Kernel5.Gen.frame m ρ,
  fun m ρ _ => Cert.Kernel5Ideal.Gen.frame m ρ,
  frame_r5,
  fun m ρ _ => Cert.Kernel6.Gen.frame m ρ,
  fun m ρ _ => Cert.Kernel6Ideal.Gen.frame m ρ,
  frame_r6,
  fun m ρ _ => Cert.Kernel7.Gen.frame m ρ,
  fun m ρ _ => Cert.Kernel7Ideal.Gen.frame m ρ,
  frame_r7,
  fun m ρ _ => Cert.Kernel8.Gen.frame m ρ,
  fun m ρ _ => Cert.Kernel8Ideal.Gen.frame m ρ,
  frame_r8,
  fun m ρ _ => Cert.Kernel9.Gen.frame m ρ,
  fun m ρ _ => Cert.Kernel9Ideal.Gen.frame m ρ,
  frame_r9,
  fun m ρ _ => Cert.Kernel10.Gen.frame m ρ,
  fun m ρ _ => Cert.Kernel10Ideal.Gen.frame m ρ,
  frame_r10,
  fun m ρ _ => Cert.Kernel11.Gen.frame m ρ,
  fun m ρ _ => Cert.Kernel11Ideal.Gen.frame m ρ,
  frame_r11,
  fun m ρ _ => Cert.Kernel12.Gen.frame m ρ,
  fun m ρ _ => Cert.Kernel12Ideal.Gen.frame m ρ,
  frame_r12,
  fun m ρ _ => Cert.Kernel13.Gen.frame m ρ,
  fun m ρ _ => Cert.Kernel13Ideal.Gen.frame m ρ,
  frame_r13,
  fun m ρ _ => Cert.Kernel14.Gen.frame m ρ,
  fun m ρ _ => Cert.Kernel14Ideal.Gen.frame m ρ,
  frame_r14,
  fun m ρ _ => Cert.Kernel15.Gen.frame m ρ,
  fun m ρ _ => Cert.Kernel15Ideal.Gen.frame m ρ,
  frame_r15,
  fun m ρ _ => Cert.Kernel16.Gen.frame m ρ,
  fun m ρ _ => Cert.Kernel16Ideal.Gen.frame m ρ,
  frame_r16,
  fun m ρ _ => Cert.Kernel17.Gen.frame m ρ,
  fun m ρ _ => Cert.Kernel17Ideal.Gen.frame m ρ,
  frame_r17,
  fun m ρ _ => Cert.Kernel18.Gen.frame m ρ,
  fun m ρ _ => Cert.Kernel18Ideal.Gen.frame m ρ,
  frame_r18,
  fun m ρ _ => Cert.Kernel19.Gen.frame m ρ,
  fun m ρ _ => Cert.Kernel19Ideal.Gen.frame m ρ,
  frame_r19,
  fun m ρ _ => Cert.Kernel20.Gen.frame m ρ,
  fun m ρ _ => Cert.Kernel20Ideal.Gen.frame m ρ,
  frame_r20,
  frame_kernel,
  fun m ρ _ => Cert.KernelIdeal.Gen.frame m ρ,
  fun m ρ _ => Cert.KernelIdeal.Gen.frame m ρ,
  frame_r,
  fun m ρ _ => frame_r m ρ trivial,
  trivial,
  dkv,
  trivial,
  fwd,
  trivial,
  proj4,
  trivial,
  proj5,
  trivial,
  proj6,
  trivial,
  proj7,
  trivial,
  proj8,
  trivial,
  proj9,
  trivial,
  sum10,
  trivial,
  adam11,
  trivial,
  proj12,
  trivial,
  proj13,
  trivial,
  proj14,
  trivial,
  proj15,
  trivial,
  proj16,
  trivial,
  proj17,
  trivial,
  proj18,
  trivial,
  proj19,
  trivial,
  proj20,
  trivial,
  dq⟩

end Cert.Proof

end
